-- ==== Defs.lean ====
def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_KvCodes (m : (ℓ : Loc Cert.KvCodes.nD Cert.KvCodes.τ Cert.KvCodes.sig) → Buf (Elt Bits) ℓ) : Prop :=
  True

def Pre_KvCodesIdeal (m : (ℓ : Loc Cert.KvCodesIdeal.nD Cert.KvCodesIdeal.τ Cert.KvCodesIdeal.sig) → Buf (Elt Ideal) ℓ) : Prop :=
  True

def Pre_KvCodesRefIdeal (m : (ℓ : Loc Cert.KvCodesRefIdeal.nD Cert.KvCodesRefIdeal.τ Cert.KvCodesRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2)
      ∧ r.2.mem ((c.tc : Thread Cert.OProj.nD Cert.OProj.τ).loc Cert.OProj.main_arg3) = m ((c.tc : Thread Cert.OProj.nD Cert.OProj.τ).loc Cert.OProj.main_arg3)
      ∧ r.2.mem ((c.tc : Thread Cert.OProj.nD Cert.OProj.τ).loc Cert.OProj.main_arg4) = m ((c.tc : Thread Cert.OProj.nD Cert.OProj.τ).loc Cert.OProj.main_arg4)
      ∧ r.2.mem ((c.tc : Thread Cert.OProj.nD Cert.OProj.τ).loc Cert.OProj.main_arg5) = m ((c.tc : Thread Cert.OProj.nD Cert.OProj.τ).loc Cert.OProj.main_arg5))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
      ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
      ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2)
      ∧ r.2.mem ((c.tc : Thread Cert.OProjRefIdeal.nD Cert.OProjRefIdeal.τ).loc Cert.OProjRefIdeal.main_arg3) = m ((c.tc : Thread Cert.OProjRefIdeal.nD Cert.OProjRefIdeal.τ).loc Cert.OProjRefIdeal.main_arg3)
      ∧ r.2.mem ((c.tc : Thread Cert.OProjRefIdeal.nD Cert.OProjRefIdeal.τ).loc Cert.OProjRefIdeal.main_arg4) = m ((c.tc : Thread Cert.OProjRefIdeal.nD Cert.OProjRefIdeal.τ).loc Cert.OProjRefIdeal.main_arg4)
      ∧ r.2.mem ((c.tc : Thread Cert.OProjRefIdeal.nD Cert.OProjRefIdeal.τ).loc Cert.OProjRefIdeal.main_arg5) = m ((c.tc : Thread Cert.OProjRefIdeal.nD Cert.OProjRefIdeal.τ).loc Cert.OProjRefIdeal.main_arg5))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_KvCodes [hKvCodes : Cert.KvCodes.Facts] : Prop :=
  ∀ (m : (ℓ : Loc Cert.KvCodes.nD Cert.KvCodes.τ Cert.KvCodes.sig) → Buf (Elt Bits) ℓ) (g : Dev Cert.KvCodes.nD → PrngReg), Pre_KvCodes m →
    θ_run (Cert.KvCodes.defs (F := Bits)) (onTc (τ := Cert.KvCodes.τ) (Cert.KvCodes.main (F := Bits))) ⟨m, fun _ => 0, g⟩ (fun r => (∀ c : Dev Cert.KvCodes.nD,
      r.2.mem ((c.tc : Thread Cert.KvCodes.nD Cert.KvCodes.τ).loc Cert.KvCodes.main_arg0) = m ((c.tc : Thread Cert.KvCodes.nD Cert.KvCodes.τ).loc Cert.KvCodes.main_arg0)
      ∧ r.2.mem ((c.tc : Thread Cert.KvCodes.nD Cert.KvCodes.τ).loc Cert.KvCodes.main_arg1) = m ((c.tc : Thread Cert.KvCodes.nD Cert.KvCodes.τ).loc Cert.KvCodes.main_arg1)
      ∧ r.2.mem ((c.tc : Thread Cert.KvCodes.nD Cert.KvCodes.τ).loc Cert.KvCodes.main_arg2) = m ((c.tc : Thread Cert.KvCodes.nD Cert.KvCodes.τ).loc Cert.KvCodes.main_arg2)
      ∧ r.2.mem ((c.tc : Thread Cert.KvCodes.nD Cert.KvCodes.τ).loc Cert.KvCodes.main_arg3) = m ((c.tc : Thread Cert.KvCodes.nD Cert.KvCodes.τ).loc Cert.KvCodes.main_arg3)
      ∧ r.2.mem ((c.tc : Thread Cert.KvCodes.nD Cert.KvCodes.τ).loc Cert.KvCodes.main_arg4) = m ((c.tc : Thread Cert.KvCodes.nD Cert.KvCodes.τ).loc Cert.KvCodes.main_arg4)
      ∧ r.2.mem ((c.tc : Thread Cert.KvCodes.nD Cert.KvCodes.τ).loc Cert.KvCodes.main_arg5) = m ((c.tc : Thread Cert.KvCodes.nD Cert.KvCodes.τ).loc Cert.KvCodes.main_arg5))
      ∧ r.2.sem = fun _ => 0)

def quiescent_KvCodesIdeal [hKvCodesIdeal : Cert.KvCodesIdeal.Facts] : Prop :=
  ∀ (m : (ℓ : Loc Cert.KvCodesIdeal.nD Cert.KvCodesIdeal.τ Cert.KvCodesIdeal.sig) → Buf (Elt Ideal) ℓ) (g : Dev Cert.KvCodesIdeal.nD → PrngReg), Pre_KvCodesIdeal m →
    θ_run (Cert.KvCodesIdeal.defs (F := Ideal)) (onTc (τ := Cert.KvCodesIdeal.τ) (Cert.KvCodesIdeal.main (F := Ideal))) ⟨m, fun _ => 0, g⟩ (fun r => (∀ c : Dev Cert.KvCodesIdeal.nD,
      r.2.mem ((c.tc : Thread Cert.KvCodesIdeal.nD Cert.KvCodesIdeal.τ).loc Cert.KvCodesIdeal.main_arg0) = m ((c.tc : Thread Cert.KvCodesIdeal.nD Cert.KvCodesIdeal.τ).loc Cert.KvCodesIdeal.main_arg0)
      ∧ r.2.mem ((c.tc : Thread Cert.KvCodesIdeal.nD Cert.KvCodesIdeal.τ).loc Cert.KvCodesIdeal.main_arg1) = m ((c.tc : Thread Cert.KvCodesIdeal.nD Cert.KvCodesIdeal.τ).loc Cert.KvCodesIdeal.main_arg1)
      ∧ r.2.mem ((c.tc : Thread Cert.KvCodesIdeal.nD Cert.KvCodesIdeal.τ).loc Cert.KvCodesIdeal.main_arg2) = m ((c.tc : Thread Cert.KvCodesIdeal.nD Cert.KvCodesIdeal.τ).loc Cert.KvCodesIdeal.main_arg2)
      ∧ r.2.mem ((c.tc : Thread Cert.KvCodesIdeal.nD Cert.KvCodesIdeal.τ).loc Cert.KvCodesIdeal.main_arg3) = m ((c.tc : Thread Cert.KvCodesIdeal.nD Cert.KvCodesIdeal.τ).loc Cert.KvCodesIdeal.main_arg3)
      ∧ r.2.mem ((c.tc : Thread Cert.KvCodesIdeal.nD Cert.KvCodesIdeal.τ).loc Cert.KvCodesIdeal.main_arg4) = m ((c.tc : Thread Cert.KvCodesIdeal.nD Cert.KvCodesIdeal.τ).loc Cert.KvCodesIdeal.main_arg4)
      ∧ r.2.mem ((c.tc : Thread Cert.KvCodesIdeal.nD Cert.KvCodesIdeal.τ).loc Cert.KvCodesIdeal.main_arg5) = m ((c.tc : Thread Cert.KvCodesIdeal.nD Cert.KvCodesIdeal.τ).loc Cert.KvCodesIdeal.main_arg5))
      ∧ r.2.sem = fun _ => 0)

def quiescent_KvCodesRefIdeal [hKvCodesRefIdeal : Cert.KvCodesRefIdeal.Facts] : Prop :=
  ∀ (m : (ℓ : Loc Cert.KvCodesRefIdeal.nD Cert.KvCodesRefIdeal.τ Cert.KvCodesRefIdeal.sig) → Buf (Elt Ideal) ℓ) (g : Dev Cert.KvCodesRefIdeal.nD → PrngReg), Pre_KvCodesRefIdeal m →
    θ_run (Cert.KvCodesRefIdeal.defs (F := Ideal)) (onTc (τ := Cert.KvCodesRefIdeal.τ) (Cert.KvCodesRefIdeal.main (F := Ideal))) ⟨m, fun _ => 0, g⟩ (fun r => (∀ c : Dev Cert.KvCodesRefIdeal.nD,
      r.2.mem ((c.tc : Thread Cert.KvCodesRefIdeal.nD Cert.KvCodesRefIdeal.τ).loc Cert.KvCodesRefIdeal.main_arg0) = m ((c.tc : Thread Cert.KvCodesRefIdeal.nD Cert.KvCodesRefIdeal.τ).loc Cert.KvCodesRefIdeal.main_arg0)
      ∧ r.2.mem ((c.tc : Thread Cert.KvCodesRefIdeal.nD Cert.KvCodesRefIdeal.τ).loc Cert.KvCodesRefIdeal.main_arg1) = m ((c.tc : Thread Cert.KvCodesRefIdeal.nD Cert.KvCodesRefIdeal.τ).loc Cert.KvCodesRefIdeal.main_arg1)
      ∧ r.2.mem ((c.tc : Thread Cert.KvCodesRefIdeal.nD Cert.KvCodesRefIdeal.τ).loc Cert.KvCodesRefIdeal.main_arg2) = m ((c.tc : Thread Cert.KvCodesRefIdeal.nD Cert.KvCodesRefIdeal.τ).loc Cert.KvCodesRefIdeal.main_arg2)
      ∧ r.2.mem ((c.tc : Thread Cert.KvCodesRefIdeal.nD Cert.KvCodesRefIdeal.τ).loc Cert.KvCodesRefIdeal.main_arg3) = m ((c.tc : Thread Cert.KvCodesRefIdeal.nD Cert.KvCodesRefIdeal.τ).loc Cert.KvCodesRefIdeal.main_arg3)
      ∧ r.2.mem ((c.tc : Thread Cert.KvCodesRefIdeal.nD Cert.KvCodesRefIdeal.τ).loc Cert.KvCodesRefIdeal.main_arg4) = m ((c.tc : Thread Cert.KvCodesRefIdeal.nD Cert.KvCodesRefIdeal.τ).loc Cert.KvCodesRefIdeal.main_arg4)
      ∧ r.2.mem ((c.tc : Thread Cert.KvCodesRefIdeal.nD Cert.KvCodesRefIdeal.τ).loc Cert.KvCodesRefIdeal.main_arg5) = m ((c.tc : Thread Cert.KvCodesRefIdeal.nD Cert.KvCodesRefIdeal.τ).loc Cert.KvCodesRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7))
      ∧ r.2.sem = fun _ => 0)

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)
      ∧ m' ((c.tc : Thread Cert.OProjRefIdeal.nD Cert.OProjRefIdeal.τ).loc Cert.OProjRefIdeal.main_arg3) = m ((c.tc : Thread Cert.OProjIdeal.nD Cert.OProjIdeal.τ).loc Cert.OProjIdeal.main_arg3)
      ∧ m' ((c.tc : Thread Cert.OProjRefIdeal.nD Cert.OProjRefIdeal.τ).loc Cert.OProjRefIdeal.main_arg4) = m ((c.tc : Thread Cert.OProjIdeal.nD Cert.OProjIdeal.τ).loc Cert.OProjIdeal.main_arg4)
      ∧ m' ((c.tc : Thread Cert.OProjRefIdeal.nD Cert.OProjRefIdeal.τ).loc Cert.OProjRefIdeal.main_arg5) = m ((c.tc : Thread Cert.OProjIdeal.nD Cert.OProjIdeal.τ).loc Cert.OProjIdeal.main_arg5)) →
    ∃ (v0 : (c : Dev Cert.OProjIdeal.nD) → Buf (Elt Ideal) ((c.tc : Thread Cert.OProjIdeal.nD Cert.OProjIdeal.τ).loc Cert.OProjIdeal.main_v0_0)) (v1 : (c : Dev Cert.OProjIdeal.nD) → Buf (Elt Ideal) ((c.tc : Thread Cert.OProjIdeal.nD Cert.OProjIdeal.τ).loc Cert.OProjIdeal.main_v0_1)) (v2 : (c : Dev Cert.OProjIdeal.nD) → Buf (Elt Ideal) ((c.tc : Thread Cert.OProjIdeal.nD Cert.OProjIdeal.τ).loc Cert.OProjIdeal.main_v0_2)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v0_0) = v0 c
          ∧ r.2.mem ((c.tc : Thread Cert.OProjIdeal.nD Cert.OProjIdeal.τ).loc Cert.OProjIdeal.main_v0_1) = v1 c
          ∧ r.2.mem ((c.tc : Thread Cert.OProjIdeal.nD Cert.OProjIdeal.τ).loc Cert.OProjIdeal.main_v0_2) = v2 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
          ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
          ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
          ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v0_0) = v0 c
          ∧ r.2.mem ((c.tc : Thread Cert.OProjRefIdeal.nD Cert.OProjRefIdeal.τ).loc Cert.OProjRefIdeal.main_v0_1) = v1 c
          ∧ r.2.mem ((c.tc : Thread Cert.OProjRefIdeal.nD Cert.OProjRefIdeal.τ).loc Cert.OProjRefIdeal.main_v0_2) = v2 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2)
          ∧ r.2.mem ((c.tc : Thread Cert.OProjRefIdeal.nD Cert.OProjRefIdeal.τ).loc Cert.OProjRefIdeal.main_arg3) = m' ((c.tc : Thread Cert.OProjRefIdeal.nD Cert.OProjRefIdeal.τ).loc Cert.OProjRefIdeal.main_arg3)
          ∧ r.2.mem ((c.tc : Thread Cert.OProjRefIdeal.nD Cert.OProjRefIdeal.τ).loc Cert.OProjRefIdeal.main_arg4) = m' ((c.tc : Thread Cert.OProjRefIdeal.nD Cert.OProjRefIdeal.τ).loc Cert.OProjRefIdeal.main_arg4)
          ∧ r.2.mem ((c.tc : Thread Cert.OProjRefIdeal.nD Cert.OProjRefIdeal.τ).loc Cert.OProjRefIdeal.main_arg5) = m' ((c.tc : Thread Cert.OProjRefIdeal.nD Cert.OProjRefIdeal.τ).loc Cert.OProjRefIdeal.main_arg5))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v0_0) = v0 c
          ∧ r.2.mem ((c.tc : Thread Cert.GateUpRefIdeal.nD Cert.GateUpRefIdeal.τ).loc Cert.GateUpRefIdeal.main_v0_1) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_KvCodes_KvCodesIdeal : Prop :=
  True

def algebraic_KvCodesIdeal_KvCodesRefIdeal [hKvCodesIdeal : Cert.KvCodesIdeal.Facts] [hKvCodesRefIdeal : Cert.KvCodesRefIdeal.Facts] : Prop :=
  ∀ (m : (ℓ : Loc Cert.KvCodesIdeal.nD Cert.KvCodesIdeal.τ Cert.KvCodesIdeal.sig) → Buf (Elt Ideal) ℓ) (g : Dev Cert.KvCodesIdeal.nD → PrngReg)
    (m' : (ℓ : Loc Cert.KvCodesRefIdeal.nD Cert.KvCodesRefIdeal.τ Cert.KvCodesRefIdeal.sig) → Buf (Elt Ideal) ℓ) (g' : Dev Cert.KvCodesRefIdeal.nD → PrngReg), Pre_KvCodesIdeal m →
    (∀ c : Dev Cert.KvCodesIdeal.nD,
      m' ((c.tc : Thread Cert.KvCodesRefIdeal.nD Cert.KvCodesRefIdeal.τ).loc Cert.KvCodesRefIdeal.main_arg0) = m ((c.tc : Thread Cert.KvCodesIdeal.nD Cert.KvCodesIdeal.τ).loc Cert.KvCodesIdeal.main_arg0)
      ∧ m' ((c.tc : Thread Cert.KvCodesRefIdeal.nD Cert.KvCodesRefIdeal.τ).loc Cert.KvCodesRefIdeal.main_arg1) = m ((c.tc : Thread Cert.KvCodesIdeal.nD Cert.KvCodesIdeal.τ).loc Cert.KvCodesIdeal.main_arg1)
      ∧ m' ((c.tc : Thread Cert.KvCodesRefIdeal.nD Cert.KvCodesRefIdeal.τ).loc Cert.KvCodesRefIdeal.main_arg2) = m ((c.tc : Thread Cert.KvCodesIdeal.nD Cert.KvCodesIdeal.τ).loc Cert.KvCodesIdeal.main_arg2)
      ∧ m' ((c.tc : Thread Cert.KvCodesRefIdeal.nD Cert.KvCodesRefIdeal.τ).loc Cert.KvCodesRefIdeal.main_arg3) = m ((c.tc : Thread Cert.KvCodesIdeal.nD Cert.KvCodesIdeal.τ).loc Cert.KvCodesIdeal.main_arg3)
      ∧ m' ((c.tc : Thread Cert.KvCodesRefIdeal.nD Cert.KvCodesRefIdeal.τ).loc Cert.KvCodesRefIdeal.main_arg4) = m ((c.tc : Thread Cert.KvCodesIdeal.nD Cert.KvCodesIdeal.τ).loc Cert.KvCodesIdeal.main_arg4)
      ∧ m' ((c.tc : Thread Cert.KvCodesRefIdeal.nD Cert.KvCodesRefIdeal.τ).loc Cert.KvCodesRefIdeal.main_arg5) = m ((c.tc : Thread Cert.KvCodesIdeal.nD Cert.KvCodesIdeal.τ).loc Cert.KvCodesIdeal.main_arg5)) →
    ∃ (v0 : (c : Dev Cert.KvCodesIdeal.nD) → Buf (Elt Ideal) ((c.tc : Thread Cert.KvCodesIdeal.nD Cert.KvCodesIdeal.τ).loc Cert.KvCodesIdeal.main_v0_0)) (v1 : (c : Dev Cert.KvCodesIdeal.nD) → Buf (Elt Ideal) ((c.tc : Thread Cert.KvCodesIdeal.nD Cert.KvCodesIdeal.τ).loc Cert.KvCodesIdeal.main_v0_1)) (v2 : (c : Dev Cert.KvCodesIdeal.nD) → Buf (Elt Ideal) ((c.tc : Thread Cert.KvCodesIdeal.nD Cert.KvCodesIdeal.τ).loc Cert.KvCodesIdeal.main_v0_2)) (v3 : (c : Dev Cert.KvCodesIdeal.nD) → Buf (Elt Ideal) ((c.tc : Thread Cert.KvCodesIdeal.nD Cert.KvCodesIdeal.τ).loc Cert.KvCodesIdeal.main_v0_5)) (v4 : (c : Dev Cert.KvCodesIdeal.nD) → Buf (Elt Ideal) ((c.tc : Thread Cert.KvCodesIdeal.nD Cert.KvCodesIdeal.τ).loc Cert.KvCodesIdeal.main_v0_6)),
      θ_run (Cert.KvCodesIdeal.defs (F := Ideal)) (onTc (τ := Cert.KvCodesIdeal.τ) (Cert.KvCodesIdeal.main (F := Ideal))) ⟨m, fun _ => 0, g⟩ (fun r => ∀ c : Dev Cert.KvCodesIdeal.nD,
          r.2.mem ((c.tc : Thread Cert.KvCodesIdeal.nD Cert.KvCodesIdeal.τ).loc Cert.KvCodesIdeal.main_v0_0) = v0 c
          ∧ r.2.mem ((c.tc : Thread Cert.KvCodesIdeal.nD Cert.KvCodesIdeal.τ).loc Cert.KvCodesIdeal.main_v0_1) = v1 c
          ∧ r.2.mem ((c.tc : Thread Cert.KvCodesIdeal.nD Cert.KvCodesIdeal.τ).loc Cert.KvCodesIdeal.main_v0_2) = v2 c
          ∧ r.2.mem ((c.tc : Thread Cert.KvCodesIdeal.nD Cert.KvCodesIdeal.τ).loc Cert.KvCodesIdeal.main_v0_5) = v3 c
          ∧ r.2.mem ((c.tc : Thread Cert.KvCodesIdeal.nD Cert.KvCodesIdeal.τ).loc Cert.KvCodesIdeal.main_v0_6) = v4 c
          ∧ r.2.mem ((c.tc : Thread Cert.KvCodesIdeal.nD Cert.KvCodesIdeal.τ).loc Cert.KvCodesIdeal.main_arg0) = m ((c.tc : Thread Cert.KvCodesIdeal.nD Cert.KvCodesIdeal.τ).loc Cert.KvCodesIdeal.main_arg0)
          ∧ r.2.mem ((c.tc : Thread Cert.KvCodesIdeal.nD Cert.KvCodesIdeal.τ).loc Cert.KvCodesIdeal.main_arg1) = m ((c.tc : Thread Cert.KvCodesIdeal.nD Cert.KvCodesIdeal.τ).loc Cert.KvCodesIdeal.main_arg1)
          ∧ r.2.mem ((c.tc : Thread Cert.KvCodesIdeal.nD Cert.KvCodesIdeal.τ).loc Cert.KvCodesIdeal.main_arg2) = m ((c.tc : Thread Cert.KvCodesIdeal.nD Cert.KvCodesIdeal.τ).loc Cert.KvCodesIdeal.main_arg2)
          ∧ r.2.mem ((c.tc : Thread Cert.KvCodesIdeal.nD Cert.KvCodesIdeal.τ).loc Cert.KvCodesIdeal.main_arg3) = m ((c.tc : Thread Cert.KvCodesIdeal.nD Cert.KvCodesIdeal.τ).loc Cert.KvCodesIdeal.main_arg3)
          ∧ r.2.mem ((c.tc : Thread Cert.KvCodesIdeal.nD Cert.KvCodesIdeal.τ).loc Cert.KvCodesIdeal.main_arg4) = m ((c.tc : Thread Cert.KvCodesIdeal.nD Cert.KvCodesIdeal.τ).loc Cert.KvCodesIdeal.main_arg4)
          ∧ r.2.mem ((c.tc : Thread Cert.KvCodesIdeal.nD Cert.KvCodesIdeal.τ).loc Cert.KvCodesIdeal.main_arg5) = m ((c.tc : Thread Cert.KvCodesIdeal.nD Cert.KvCodesIdeal.τ).loc Cert.KvCodesIdeal.main_arg5))
      ∧ θ_run (Cert.KvCodesRefIdeal.defs (F := Ideal)) (onTc (τ := Cert.KvCodesRefIdeal.τ) (Cert.KvCodesRefIdeal.main (F := Ideal))) ⟨m', fun _ => 0, g'⟩ (fun r => ∀ c : Dev Cert.KvCodesRefIdeal.nD,
          r.2.mem ((c.tc : Thread Cert.KvCodesRefIdeal.nD Cert.KvCodesRefIdeal.τ).loc Cert.KvCodesRefIdeal.main_v0_0) = v0 c
          ∧ r.2.mem ((c.tc : Thread Cert.KvCodesRefIdeal.nD Cert.KvCodesRefIdeal.τ).loc Cert.KvCodesRefIdeal.main_v0_1) = v1 c
          ∧ r.2.mem ((c.tc : Thread Cert.KvCodesRefIdeal.nD Cert.KvCodesRefIdeal.τ).loc Cert.KvCodesRefIdeal.main_v0_2) = v2 c
          ∧ r.2.mem ((c.tc : Thread Cert.KvCodesRefIdeal.nD Cert.KvCodesRefIdeal.τ).loc Cert.KvCodesRefIdeal.main_v0_3) = v3 c
          ∧ r.2.mem ((c.tc : Thread Cert.KvCodesRefIdeal.nD Cert.KvCodesRefIdeal.τ).loc Cert.KvCodesRefIdeal.main_v0_4) = v4 c
          ∧ r.2.mem ((c.tc : Thread Cert.KvCodesRefIdeal.nD Cert.KvCodesRefIdeal.τ).loc Cert.KvCodesRefIdeal.main_arg0) = m' ((c.tc : Thread Cert.KvCodesRefIdeal.nD Cert.KvCodesRefIdeal.τ).loc Cert.KvCodesRefIdeal.main_arg0)
          ∧ r.2.mem ((c.tc : Thread Cert.KvCodesRefIdeal.nD Cert.KvCodesRefIdeal.τ).loc Cert.KvCodesRefIdeal.main_arg1) = m' ((c.tc : Thread Cert.KvCodesRefIdeal.nD Cert.KvCodesRefIdeal.τ).loc Cert.KvCodesRefIdeal.main_arg1)
          ∧ r.2.mem ((c.tc : Thread Cert.KvCodesRefIdeal.nD Cert.KvCodesRefIdeal.τ).loc Cert.KvCodesRefIdeal.main_arg2) = m' ((c.tc : Thread Cert.KvCodesRefIdeal.nD Cert.KvCodesRefIdeal.τ).loc Cert.KvCodesRefIdeal.main_arg2)
          ∧ r.2.mem ((c.tc : Thread Cert.KvCodesRefIdeal.nD Cert.KvCodesRefIdeal.τ).loc Cert.KvCodesRefIdeal.main_arg3) = m' ((c.tc : Thread Cert.KvCodesRefIdeal.nD Cert.KvCodesRefIdeal.τ).loc Cert.KvCodesRefIdeal.main_arg3)
          ∧ r.2.mem ((c.tc : Thread Cert.KvCodesRefIdeal.nD Cert.KvCodesRefIdeal.τ).loc Cert.KvCodesRefIdeal.main_arg4) = m' ((c.tc : Thread Cert.KvCodesRefIdeal.nD Cert.KvCodesRefIdeal.τ).loc Cert.KvCodesRefIdeal.main_arg4)
          ∧ r.2.mem ((c.tc : Thread Cert.KvCodesRefIdeal.nD Cert.KvCodesRefIdeal.τ).loc Cert.KvCodesRefIdeal.main_arg5) = m' ((c.tc : Thread Cert.KvCodesRefIdeal.nD Cert.KvCodesRefIdeal.τ).loc Cert.KvCodesRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)) →
    ∃ (v0 : (c : Dev Cert.QkvIdeal.nD) → Buf (Elt Ideal) ((c.tc : Thread Cert.QkvIdeal.nD Cert.QkvIdeal.τ).loc Cert.QkvIdeal.main_v0_0)) (v1 : (c : Dev Cert.QkvIdeal.nD) → Buf (Elt Ideal) ((c.tc : Thread Cert.QkvIdeal.nD Cert.QkvIdeal.τ).loc Cert.QkvIdeal.main_v0_1)) (v2 : (c : Dev Cert.QkvIdeal.nD) → Buf (Elt Ideal) ((c.tc : Thread Cert.QkvIdeal.nD Cert.QkvIdeal.τ).loc Cert.QkvIdeal.main_v0_2)) (v3 : (c : Dev Cert.QkvIdeal.nD) → Buf (Elt Ideal) ((c.tc : Thread Cert.QkvIdeal.nD Cert.QkvIdeal.τ).loc Cert.QkvIdeal.main_v0_3)) (v4 : (c : Dev Cert.QkvIdeal.nD) → Buf (Elt Ideal) ((c.tc : Thread Cert.QkvIdeal.nD Cert.QkvIdeal.τ).loc Cert.QkvIdeal.main_v0_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0_0) = v0 c
          ∧ r.2.mem ((c.tc : Thread Cert.QkvIdeal.nD Cert.QkvIdeal.τ).loc Cert.QkvIdeal.main_v0_1) = v1 c
          ∧ r.2.mem ((c.tc : Thread Cert.QkvIdeal.nD Cert.QkvIdeal.τ).loc Cert.QkvIdeal.main_v0_2) = v2 c
          ∧ r.2.mem ((c.tc : Thread Cert.QkvIdeal.nD Cert.QkvIdeal.τ).loc Cert.QkvIdeal.main_v0_3) = v3 c
          ∧ r.2.mem ((c.tc : Thread Cert.QkvIdeal.nD Cert.QkvIdeal.τ).loc Cert.QkvIdeal.main_v0_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v0_0) = v0 c
          ∧ r.2.mem ((c.tc : Thread Cert.QkvRefIdeal.nD Cert.QkvRefIdeal.τ).loc Cert.QkvRefIdeal.main_v0_1) = v1 c
          ∧ r.2.mem ((c.tc : Thread Cert.QkvRefIdeal.nD Cert.QkvRefIdeal.τ).loc Cert.QkvRefIdeal.main_v0_2) = v2 c
          ∧ r.2.mem ((c.tc : Thread Cert.QkvRefIdeal.nD Cert.QkvRefIdeal.τ).loc Cert.QkvRefIdeal.main_v0_3) = v3 c
          ∧ r.2.mem ((c.tc : Thread Cert.QkvRefIdeal.nD Cert.QkvRefIdeal.τ).loc Cert.QkvRefIdeal.main_v0_4) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7))

def Claim : Prop :=
  ∃ (hOProj : Cert.OProj.Facts) (hOProjIdeal : Cert.OProjIdeal.Facts) (hOProjRefIdeal : Cert.OProjRefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hKvCodes : Cert.KvCodes.Facts) (hKvCodesIdeal : Cert.KvCodesIdeal.Facts) (hKvCodesRefIdeal : Cert.KvCodesRefIdeal.Facts) (hQkv : Cert.Qkv.Facts) (hQkvIdeal : Cert.QkvIdeal.Facts) (hQkvRefIdeal : Cert.QkvRefIdeal.Facts),
    quiescent_OProj (hOProj := hOProj)
    ∧ quiescent_OProjIdeal (hOProjIdeal := hOProjIdeal)
    ∧ quiescent_OProjRefIdeal (hOProjRefIdeal := hOProjRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_KvCodes (hKvCodes := hKvCodes)
    ∧ quiescent_KvCodesIdeal (hKvCodesIdeal := hKvCodesIdeal)
    ∧ quiescent_KvCodesRefIdeal (hKvCodesRefIdeal := hKvCodesRefIdeal)
    ∧ quiescent_Qkv (hQkv := hQkv)
    ∧ quiescent_QkvIdeal (hQkvIdeal := hQkvIdeal)
    ∧ quiescent_QkvRefIdeal (hQkvRefIdeal := hQkvRefIdeal)
    ∧ preserves_OProj_OProjIdeal
    ∧ algebraic_OProjIdeal_OProjRefIdeal (hOProjIdeal := hOProjIdeal) (hOProjRefIdeal := hOProjRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_KvCodes_KvCodesIdeal
    ∧ algebraic_KvCodesIdeal_KvCodesRefIdeal (hKvCodesIdeal := hKvCodesIdeal) (hKvCodesRefIdeal := hKvCodesRefIdeal)
    ∧ preserves_Qkv_QkvIdeal
    ∧ algebraic_QkvIdeal_QkvRefIdeal (hQkvIdeal := hQkvIdeal) (hQkvRefIdeal := hQkvRefIdeal)
-- ==== OProj.lean ====
abbrev S4x4096x1792 : Shape := ⟨3, ![4, 4096, 1792]⟩
abbrev S4x4096 : Shape := ⟨2, ![4, 4096]⟩
abbrev S1792x3584 : Shape := ⟨2, ![1792, 3584]⟩
abbrev S1x3584 : Shape := ⟨2, ![1, 3584]⟩
abbrev S4x4096x3584 : Shape := ⟨3, ![4, 4096, 3584]⟩
abbrev S1x256x1792 : Shape := ⟨3, ![1, 256, 1792]⟩
abbrev S1x256x3584 : Shape := ⟨3, ![1, 256, 3584]⟩
abbrev S4x256 : Shape := ⟨2, ![4, 256]⟩
abbrev S256 : Shape := ⟨1, ![256]⟩
abbrev S1x256 : Shape := ⟨2, ![1, 256]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S256x1 : Shape := ⟨2, ![256, 1]⟩
abbrev S256x1792 : Shape := ⟨2, ![256, 1792]⟩
abbrev S256x3584 : Shape := ⟨2, ![256, 3584]⟩

abbrev nBuf : Space → Nat
  | .hbm => 9
  | .vmem => 13
  | .smem => 0
  | _ => 0

abbrev bufTy : (tb : Table) → Fin (tcTables nBuf tb) → BufTy
  | .hbm, ⟨0, _⟩ => ⟨S4x4096x1792, .fp8e4m3⟩
  | .hbm, ⟨1, _⟩ => ⟨S4x4096, .f32⟩
  | .hbm, ⟨2, _⟩ => ⟨S1792x3584, .fp8e4m3⟩
  | .hbm, ⟨3, _⟩ => ⟨S1x3584, .f32⟩
  | .hbm, ⟨4, _⟩ => ⟨S4x4096x3584, .bf16⟩
  | .hbm, ⟨5, _⟩ => ⟨S1x3584, .f32⟩
  | .hbm, ⟨6, _⟩ => ⟨S4x4096x3584, .f32⟩
  | .hbm, ⟨7, _⟩ => ⟨S4x4096x3584, .fp8e4m3⟩
  | .hbm, ⟨8, _⟩ => ⟨S4x4096, .f32⟩
  | .local _ .vmem, ⟨0, _⟩ => ⟨S1x256x1792, .fp8e4m3⟩
  | .local _ .vmem, ⟨1, _⟩ => ⟨S1x256x1792, .fp8e4m3⟩
  | .local _ .vmem, ⟨2, _⟩ => ⟨S4x4096, .f32⟩
  | .local _ .vmem, ⟨3, _⟩ => ⟨S1792x3584, .fp8e4m3⟩
  | .local _ .vmem, ⟨4, _⟩ => ⟨S1x3584, .f32⟩
  | .local _ .vmem, ⟨5, _⟩ => ⟨S1x256x3584, .bf16⟩
  | .local _ .vmem, ⟨6, _⟩ => ⟨S1x256x3584, .bf16⟩
  | .local _ .vmem, ⟨7, _⟩ => ⟨S1x3584, .f32⟩
  | .local _ .vmem, ⟨8, _⟩ => ⟨S1x256x3584, .f32⟩
  | .local _ .vmem, ⟨9, _⟩ => ⟨S1x256x3584, .f32⟩
  | .local _ .vmem, ⟨10, _⟩ => ⟨S1x256x3584, .fp8e4m3⟩
  | .local _ .vmem, ⟨11, _⟩ => ⟨S1x256x3584, .fp8e4m3⟩
  | .local _ .vmem, ⟨12, _⟩ => ⟨S4x4096, .f32⟩
  | _, _ => ⟨S4x4096x1792, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 2 → Nat :=
  let c0 : Index := 0#32
  let arg1 : BitVec 32 := BitVec.ofNat 32 (i 1).val
  let c256_i32 : BitVec 32 := 256#32
  let v0 : BitVec 32 := Scalar.muli arg1 c256_i32
  let v1 : BitVec 32 := v0
  let v2 : Index := Scalar.indexCast v1
  ![0, v2.toNat]
def k0_mult2 (i : grid0.Coords) : BitVec 32 :=
  let arg1 : BitVec 32 := BitVec.ofNat 32 (i 1).val
  let c256_i32_34 : BitVec 32 := 256#32
  let v79 : BitVec 32 := Scalar.muli arg1 c256_i32_34
  v79
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1792 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1792x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x3584 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x3584 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S4x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== OProjRefIdeal.lean ====
abbrev S4x4096x1792 : Shape := ⟨3, ![4, 4096, 1792]⟩
abbrev S4x4096 : Shape := ⟨2, ![4, 4096]⟩
abbrev S1792x3584 : Shape := ⟨2, ![1792, 3584]⟩
abbrev S1x3584 : Shape := ⟨2, ![1, 3584]⟩
abbrev S4x4096x3584 : Shape := ⟨3, ![4, 4096, 3584]⟩
abbrev S3584 : Shape := ⟨1, ![3584]⟩
abbrev S4x4096x1 : Shape := ⟨3, ![4, 4096, 1]⟩
abbrev S1x1x3584 : Shape := ⟨3, ![1, 1, 3584]⟩

abbrev nBuf : Space → Nat
  | .hbm => 9
  | .vmem => 9
  | .smem => 0
  | _ => 0

abbrev bufTy : (tb : Table) → Fin (tcTables nBuf tb) → BufTy
  | .hbm, ⟨0, _⟩ => ⟨S4x4096x1792, .fp8e4m3⟩
  | .hbm, ⟨1, _⟩ => ⟨S4x4096, .f32⟩
  | .hbm, ⟨2, _⟩ => ⟨S1792x3584, .fp8e4m3⟩
  | .hbm, ⟨3, _⟩ => ⟨S1x3584, .f32⟩
  | .hbm, ⟨4, _⟩ => ⟨S4x4096x3584, .bf16⟩
  | .hbm, ⟨5, _⟩ => ⟨S1x3584, .f32⟩
  | .hbm, ⟨6, _⟩ => ⟨S4x4096x3584, .f32⟩
  | .hbm, ⟨7, _⟩ => ⟨S4x4096x3584, .fp8e4m3⟩
  | .hbm, ⟨8, _⟩ => ⟨S4x4096, .f32⟩
  | .local _ .vmem, ⟨0, _⟩ => ⟨S4x4096x1792, .fp8e4m3⟩
  | .local _ .vmem, ⟨1, _⟩ => ⟨S4x4096, .f32⟩
  | .local _ .vmem, ⟨2, _⟩ => ⟨S1792x3584, .fp8e4m3⟩
  | .local _ .vmem, ⟨3, _⟩ => ⟨S1x3584, .f32⟩
  | .local _ .vmem, ⟨4, _⟩ => ⟨S4x4096x3584, .bf16⟩
  | .local _ .vmem, ⟨5, _⟩ => ⟨S1x3584, .f32⟩
  | .local _ .vmem, ⟨6, _⟩ => ⟨S4x4096x3584, .f32⟩
  | .local _ .vmem, ⟨7, _⟩ => ⟨S4x4096x3584, .fp8e4m3⟩
  | .local _ .vmem, ⟨8, _⟩ => ⟨S4x4096, .f32⟩
  | _, _ => ⟨S4x4096x1792, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4x4096x1792 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1792x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x4096x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x4096x3584 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x4096x3584 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== GateUp.lean ====
abbrev S16384x3584 : Shape := ⟨2, ![16384, 3584]⟩
abbrev S4x4096 : Shape := ⟨2, ![4, 4096]⟩
abbrev S3584x18944 : Shape := ⟨2, ![3584, 18944]⟩
abbrev S1x18944 : Shape := ⟨2, ![1, 18944]⟩
abbrev S16384x9472 : Shape := ⟨2, ![16384, 9472]⟩
abbrev S512x3584 : Shape := ⟨2, ![512, 3584]⟩
abbrev S3584x256 : Shape := ⟨2, ![3584, 256]⟩
abbrev S1x256 : Shape := ⟨2, ![1, 256]⟩
abbrev S512x9472 : Shape := ⟨2, ![512, 9472]⟩
abbrev S37x512x256 : Shape := ⟨3, ![37, 512, 256]⟩
abbrev S512x128 : Shape := ⟨2, ![512, 128]⟩
abbrev S4x512 : Shape := ⟨2, ![4, 512]⟩
abbrev S512 : Shape := ⟨1, ![512]⟩
abbrev S1x512 : Shape := ⟨2, ![1, 512]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S512x1 : Shape := ⟨2, ![512, 1]⟩
abbrev S512x256 : Shape := ⟨2, ![512, 256]⟩
abbrev S1x512x256 : Shape := ⟨3, ![1, 512, 256]⟩

abbrev nBuf : Space → Nat
  | .hbm => 6
  | .vmem => 16
  | .smem => 0
  | _ => 0

abbrev bufTy : (tb : Table) → Fin (tcTables nBuf tb) → BufTy
  | .hbm, ⟨0, _⟩ => ⟨S16384x3584, .fp8e4m3⟩
  | .hbm, ⟨1, _⟩ => ⟨S4x4096, .f32⟩
  | .hbm, ⟨2, _⟩ => ⟨S3584x18944, .fp8e4m3⟩
  | .hbm, ⟨3, _⟩ => ⟨S1x18944, .f32⟩
  | .hbm, ⟨4, _⟩ => ⟨S16384x9472, .fp8e4m3⟩
  | .hbm, ⟨5, _⟩ => ⟨S4x4096, .f32⟩
  | .local _ .vmem, ⟨0, _⟩ => ⟨S512x3584, .fp8e4m3⟩
  | .local _ .vmem, ⟨1, _⟩ => ⟨S512x3584, .fp8e4m3⟩
  | .local _ .vmem, ⟨2, _⟩ => ⟨S4x4096, .f32⟩
  | .local _ .vmem, ⟨3, _⟩ => ⟨S3584x256, .fp8e4m3⟩
  | .local _ .vmem, ⟨4, _⟩ => ⟨S3584x256, .fp8e4m3⟩
  | .local _ .vmem, ⟨5, _⟩ => ⟨S3584x256, .fp8e4m3⟩
  | .local _ .vmem, ⟨6, _⟩ => ⟨S3584x256, .fp8e4m3⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S512x9472, .fp8e4m3⟩
  | .local _ .vmem, ⟨12, _⟩ => ⟨S512x9472, .fp8e4m3⟩
  | .local _ .vmem, ⟨13, _⟩ => ⟨S4x4096, .f32⟩
  | .local _ .vmem, ⟨14, _⟩ => ⟨S37x512x256, .f32⟩
  | .local _ .vmem, ⟨15, _⟩ => ⟨S512x128, .f32⟩
  | _, _ => ⟨S16384x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![32, 37], ![false, false]⟩

def k0_mult1 (i : grid0.Coords) : BitVec 32 :=
  let arg0 : BitVec 32 := BitVec.ofNat 32 (i 0).val
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32 : BitVec 32 := 512#32
  let v28 : BitVec 32 := Scalar.muli v26 c512_i32
  v28
def k0_off1 (i : grid0.Coords) : Fin 2 → Nat :=
  let c0_11 : Index := 0#32
  let arg0 : BitVec 32 := BitVec.ofNat 32 (i 0).val
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32 : BitVec 32 := 512#32
  let v28 : BitVec 32 := Scalar.muli v26 c512_i32
  let v29 : BitVec 32 := v28
  let v30 : Index := Scalar.indexCast v29
  ![0, v30.toNat]
def k0_off2 (i : grid0.Coords) : Fin 3 → Nat :=
  let arg1 : BitVec 32 := BitVec.ofNat 32 (i 1).val
  let v94 : Index := Scalar.indexCast arg1
  let c0_34 : Index := 0#32
  let c0_35 : Index := 0#32
  ![v94.toNat, 0, 0]
def k0_cond1 (i : grid0.Coords) : BitVec 1 :=
  let arg1 : BitVec 32 := BitVec.ofNat 32 (i 1).val
  let c36_i32 : BitVec 32 := 36#32
  let v110 : BitVec 1 := Scalar.cmpi .eq arg1 c36_i32
  let v111 : BitVec 32 := Scalar.extui v110
  let c0_i32_41 : BitVec 32 := 0#32
  let v112 : BitVec 1 := Scalar.cmpi .ne v111 c0_i32_41
  v112

def k0_mult2 (i : grid0.Coords) : BitVec 32 :=
  let arg0 : BitVec 32 := BitVec.ofNat 32 (i 0).val
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32_49 : BitVec 32 := 512#32
  let v126 : BitVec 32 := Scalar.muli v26 c512_i32_49
  v126
def k0_off3 (i : grid0.Coords) : Fin 2 → Nat :=
  let c0_50 : Index := 0#32
  let arg0 : BitVec 32 := BitVec.ofNat 32 (i 0).val
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32_49 : BitVec 32 := 512#32
  let v126 : BitVec 32 := Scalar.muli v26 c512_i32_49
  let v127 : BitVec 32 := v126
  let v128 : Index := Scalar.indexCast v127
  ![0, v128.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c37_i32 : BitVec 32 := 37#32
  let v0 : BitVec 32 := Scalar.addi arg1 c37_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c37_i32 : BitVec 32 := 37#32
  let v0 : BitVec 32 := Scalar.addi arg1 c37_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S3584x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3584x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x9472 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S4x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== GateUpRefIdeal.lean ====
abbrev S16384x3584 : Shape := ⟨2, ![16384, 3584]⟩
abbrev S4x4096 : Shape := ⟨2, ![4, 4096]⟩
abbrev S3584x18944 : Shape := ⟨2, ![3584, 18944]⟩
abbrev S1x18944 : Shape := ⟨2, ![1, 18944]⟩
abbrev S16384x9472 : Shape := ⟨2, ![16384, 9472]⟩
abbrev S16384 : Shape := ⟨1, ![16384]⟩
abbrev S18944 : Shape := ⟨1, ![18944]⟩
abbrev S16384x18944 : Shape := ⟨2, ![16384, 18944]⟩
abbrev S16384x1 : Shape := ⟨2, ![16384, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x3584, .fp8e4m3⟩
  | .hbm, ⟨1, _⟩ => ⟨S4x4096, .f32⟩
  | .hbm, ⟨2, _⟩ => ⟨S3584x18944, .fp8e4m3⟩
  | .hbm, ⟨3, _⟩ => ⟨S1x18944, .f32⟩
  | .hbm, ⟨4, _⟩ => ⟨S16384x9472, .fp8e4m3⟩
  | .hbm, ⟨5, _⟩ => ⟨S4x4096, .f32⟩
  | .local _ .vmem, ⟨0, _⟩ => ⟨S16384x3584, .fp8e4m3⟩
  | .local _ .vmem, ⟨1, _⟩ => ⟨S4x4096, .f32⟩
  | .local _ .vmem, ⟨2, _⟩ => ⟨S3584x18944, .fp8e4m3⟩
  | .local _ .vmem, ⟨3, _⟩ => ⟨S1x18944, .f32⟩
  | .local _ .vmem, ⟨4, _⟩ => ⟨S16384x9472, .fp8e4m3⟩
  | .local _ .vmem, ⟨5, _⟩ => ⟨S4x4096, .f32⟩
  | _, _ => ⟨S16384x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16384x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x18944 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x18944 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x9472 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Down.lean ====
abbrev S16384x9472 : Shape := ⟨2, ![16384, 9472]⟩
abbrev S4x4096 : Shape := ⟨2, ![4, 4096]⟩
abbrev S9472x3584 : Shape := ⟨2, ![9472, 3584]⟩
abbrev S1x3584 : Shape := ⟨2, ![1, 3584]⟩
abbrev S16384x3584 : Shape := ⟨2, ![16384, 3584]⟩
abbrev S512x9472 : Shape := ⟨2, ![512, 9472]⟩
abbrev S9472x512 : Shape := ⟨2, ![9472, 512]⟩
abbrev S1x512 : Shape := ⟨2, ![1, 512]⟩
abbrev S512x512 : Shape := ⟨2, ![512, 512]⟩
abbrev S4x512 : Shape := ⟨2, ![4, 512]⟩
abbrev S512 : Shape := ⟨1, ![512]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S16384x9472, .fp8e4m3⟩
  | .hbm, ⟨1, _⟩ => ⟨S4x4096, .f32⟩
  | .hbm, ⟨2, _⟩ => ⟨S9472x3584, .fp8e4m3⟩
  | .hbm, ⟨3, _⟩ => ⟨S1x3584, .f32⟩
  | .hbm, ⟨4, _⟩ => ⟨S16384x3584, .f32⟩
  | .hbm, ⟨5, _⟩ => ⟨S16384x3584, .bf16⟩
  | .local _ .vmem, ⟨0, _⟩ => ⟨S512x9472, .fp8e4m3⟩
  | .local _ .vmem, ⟨1, _⟩ => ⟨S512x9472, .fp8e4m3⟩
  | .local _ .vmem, ⟨2, _⟩ => ⟨S4x4096, .f32⟩
  | .local _ .vmem, ⟨3, _⟩ => ⟨S9472x512, .fp8e4m3⟩
  | .local _ .vmem, ⟨4, _⟩ => ⟨S9472x512, .fp8e4m3⟩
  | .local _ .vmem, ⟨5, _⟩ => ⟨S1x512, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | _, _ => ⟨S16384x9472, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 7], ![false, false]⟩

def k0_mult1 (i : grid0.Coords) : BitVec 32 :=
  let arg0 : BitVec 32 := BitVec.ofNat 32 (i 0).val
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32 : BitVec 32 := 512#32
  let v27 : BitVec 32 := Scalar.muli v26 c512_i32
  v27
def k0_off1 (i : grid0.Coords) : Fin 2 → Nat :=
  let c0 : Index := 0#32
  let arg0 : BitVec 32 := BitVec.ofNat 32 (i 0).val
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32 : BitVec 32 := 512#32
  let v27 : BitVec 32 := Scalar.muli v26 c512_i32
  let v28 : BitVec 32 := v27
  let v29 : Index := Scalar.indexCast v28
  ![0, v29.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x9472 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S9472x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownRefIdeal.lean ====
abbrev S16384x9472 : Shape := ⟨2, ![16384, 9472]⟩
abbrev S4x4096 : Shape := ⟨2, ![4, 4096]⟩
abbrev S9472x3584 : Shape := ⟨2, ![9472, 3584]⟩
abbrev S1x3584 : Shape := ⟨2, ![1, 3584]⟩
abbrev S16384x3584 : Shape := ⟨2, ![16384, 3584]⟩
abbrev S16384 : Shape := ⟨1, ![16384]⟩
abbrev S3584 : Shape := ⟨1, ![3584]⟩
abbrev S16384x1 : Shape := ⟨2, ![16384, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x9472, .fp8e4m3⟩
  | .hbm, ⟨1, _⟩ => ⟨S4x4096, .f32⟩
  | .hbm, ⟨2, _⟩ => ⟨S9472x3584, .fp8e4m3⟩
  | .hbm, ⟨3, _⟩ => ⟨S1x3584, .f32⟩
  | .hbm, ⟨4, _⟩ => ⟨S16384x3584, .f32⟩
  | .hbm, ⟨5, _⟩ => ⟨S16384x3584, .bf16⟩
  | .local _ .vmem, ⟨0, _⟩ => ⟨S16384x9472, .fp8e4m3⟩
  | .local _ .vmem, ⟨1, _⟩ => ⟨S4x4096, .f32⟩
  | .local _ .vmem, ⟨2, _⟩ => ⟨S9472x3584, .fp8e4m3⟩
  | .local _ .vmem, ⟨3, _⟩ => ⟨S1x3584, .f32⟩
  | .local _ .vmem, ⟨4, _⟩ => ⟨S16384x3584, .f32⟩
  | .local _ .vmem, ⟨5, _⟩ => ⟨S16384x3584, .bf16⟩
  | _, _ => ⟨S16384x9472, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16384x9472 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9472x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KvCodes.lean ====
abbrev S4 : Shape := ⟨1, ![4]⟩
abbrev S4x2x4096x128 : Shape := ⟨4, ![4, 2, 4096, 128]⟩
abbrev S4x2x128 : Shape := ⟨3, ![4, 2, 128]⟩
abbrev S4x14x32x128 : Shape := ⟨4, ![4, 14, 32, 128]⟩
abbrev S4x2x64 : Shape := ⟨3, ![4, 2, 64]⟩
abbrev S4x2x128x4096 : Shape := ⟨4, ![4, 2, 128, 4096]⟩
abbrev S4x2x4096 : Shape := ⟨3, ![4, 2, 4096]⟩
abbrev S4x14x32x4096 : Shape := ⟨4, ![4, 14, 32, 4096]⟩
abbrev S1x2x512x128 : Shape := ⟨4, ![1, 2, 512, 128]⟩
abbrev S1x2x128 : Shape := ⟨3, ![1, 2, 128]⟩
abbrev S1x14x32x128 : Shape := ⟨4, ![1, 14, 32, 128]⟩
abbrev S1x2x64 : Shape := ⟨3, ![1, 2, 64]⟩
abbrev S1x2x128x512 : Shape := ⟨4, ![1, 2, 128, 512]⟩
abbrev S1x2x512 : Shape := ⟨3, ![1, 2, 512]⟩
abbrev S1x14x32x512 : Shape := ⟨4, ![1, 14, 32, 512]⟩
abbrev S2x128 : Shape := ⟨2, ![2, 128]⟩
abbrev S1 : Shape := ⟨1, ![1]⟩
abbrev S8x64 : Shape := ⟨2, ![8, 64]⟩
abbrev S1x64 : Shape := ⟨2, ![1, 64]⟩
abbrev S8x512 : Shape := ⟨2, ![8, 512]⟩
abbrev S1x1x512x128 : Shape := ⟨4, ![1, 1, 512, 128]⟩
abbrev S512x128 : Shape := ⟨2, ![512, 128]⟩
abbrev S1x128 : Shape := ⟨2, ![1, 128]⟩
abbrev S8x64x128 : Shape := ⟨3, ![8, 64, 128]⟩
abbrev S8x128 : Shape := ⟨2, ![8, 128]⟩
abbrev S8 : Shape := ⟨1, ![8]⟩
abbrev S8x1 : Shape := ⟨2, ![8, 1]⟩
abbrev S8x1x1 : Shape := ⟨3, ![8, 1, 1]⟩
abbrev S128x512 : Shape := ⟨2, ![128, 512]⟩
abbrev S1x1x128x512 : Shape := ⟨4, ![1, 1, 128, 512]⟩
abbrev S64 : Shape := ⟨1, ![64]⟩
abbrev S1x1x64 : Shape := ⟨3, ![1, 1, 64]⟩
abbrev S512 : Shape := ⟨1, ![512]⟩
abbrev S1x512 : Shape := ⟨2, ![1, 512]⟩
abbrev S1x1x512 : Shape := ⟨3, ![1, 1, 512]⟩
abbrev S1x7x32x128 : Shape := ⟨4, ![1, 7, 32, 128]⟩
abbrev S7x32x128 : Shape := ⟨3, ![7, 32, 128]⟩
abbrev S224x128 : Shape := ⟨2, ![224, 128]⟩
abbrev S224x512 : Shape := ⟨2, ![224, 512]⟩
abbrev S7x32x512 : Shape := ⟨3, ![7, 32, 512]⟩
abbrev S1x7x32x512 : Shape := ⟨4, ![1, 7, 32, 512]⟩

abbrev nBuf : Space → Nat
  | .hbm => 13
  | .vmem => 26
  | .smem => 1
  | _ => 0

abbrev bufTy : (tb : Table) → Fin (tcTables nBuf tb) → BufTy
  | .hbm, ⟨0, _⟩ => ⟨S4x2x4096x128, .f32⟩
  | .hbm, ⟨1, _⟩ => ⟨S4x2x4096x128, .f32⟩
  | .hbm, ⟨2, _⟩ => ⟨S4x2x128, .f32⟩
  | .hbm, ⟨3, _⟩ => ⟨S4x2x128, .f32⟩
  | .hbm, ⟨4, _⟩ => ⟨S4x14x32x128, .f32⟩
  | .hbm, ⟨5, _⟩ => ⟨S4x2x128, .f32⟩
  | .hbm, ⟨6, _⟩ => ⟨S4x2x4096x128, .i8⟩
  | .hbm, ⟨7, _⟩ => ⟨S4x2x64, .f32⟩
  | .hbm, ⟨8, _⟩ => ⟨S4x2x128x4096, .bf16⟩
  | .hbm, ⟨9, _⟩ => ⟨S4x2x4096, .f32⟩
  | .hbm, ⟨10, _⟩ => ⟨S4x2x4096x128, .fp8e4m3⟩
  | .hbm, ⟨11, _⟩ => ⟨S4x2x128, .f32⟩
  | .hbm, ⟨12, _⟩ => ⟨S4x14x32x4096, .f32⟩
  | .local _ .vmem, ⟨0, _⟩ => ⟨S1x2x512x128, .f32⟩
  | .local _ .vmem, ⟨1, _⟩ => ⟨S1x2x512x128, .f32⟩
  | .local _ .vmem, ⟨2, _⟩ => ⟨S1x2x512x128, .f32⟩
  | .local _ .vmem, ⟨3, _⟩ => ⟨S1x2x512x128, .f32⟩
  | .local _ .vmem, ⟨4, _⟩ => ⟨S1x2x128, .f32⟩
  | .local _ .vmem, ⟨5, _⟩ => ⟨S1x2x128, .f32⟩
  | .local _ .vmem, ⟨6, _⟩ => ⟨S1x2x128, .f32⟩
  | .local _ .vmem, ⟨7, _⟩ => ⟨S1x2x128, .f32⟩
  | .local _ .vmem, ⟨8, _⟩ => ⟨S1x14x32x128, .f32⟩
  | .local _ .vmem, ⟨9, _⟩ => ⟨S1x14x32x128, .f32⟩
  | .local _ .vmem, ⟨10, _⟩ => ⟨S1x2x128, .f32⟩
  | .local _ .vmem, ⟨11, _⟩ => ⟨S1x2x128, .f32⟩
  | .local _ .vmem, ⟨12, _⟩ => ⟨S1x2x512x128, .i8⟩
  | .local _ .vmem, ⟨13, _⟩ => ⟨S1x2x512x128, .i8⟩
  | .local _ .vmem, ⟨14, _⟩ => ⟨S1x2x64, .f32⟩
  | .local _ .vmem, ⟨15, _⟩ => ⟨S1x2x64, .f32⟩
  | .local _ .vmem, ⟨16, _⟩ => ⟨S1x2x128x512, .bf16⟩
  | .local _ .vmem, ⟨17, _⟩ => ⟨S1x2x128x512, .bf16⟩
  | .local _ .vmem, ⟨18, _⟩ => ⟨S1x2x512, .f32⟩
  | .local _ .vmem, ⟨19, _⟩ => ⟨S1x2x512, .f32⟩
  | .local _ .vmem, ⟨20, _⟩ => ⟨S1x2x512x128, .fp8e4m3⟩
  | .local _ .vmem, ⟨21, _⟩ => ⟨S1x2x512x128, .fp8e4m3⟩
  | .local _ .vmem, ⟨22, _⟩ => ⟨S1x2x128, .f32⟩
  | .local _ .vmem, ⟨23, _⟩ => ⟨S1x2x128, .f32⟩
  | .local _ .vmem, ⟨24, _⟩ => ⟨S1x14x32x512, .f32⟩
  | .local _ .vmem, ⟨25, _⟩ => ⟨S1x14x32x512, .f32⟩
  | .local _ .smem, ⟨0, _⟩ => ⟨S4, .i32⟩
  | _, _ => ⟨S4x2x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev main_v0_7 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v2 : Index := Scalar.indexCast arg0
  ![v2.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x2x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x14x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x512x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x512x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x14x32x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KvCodesRefIdeal.lean ====
abbrev S4 : Shape := ⟨1, ![4]⟩
abbrev S4x2x4096x128 : Shape := ⟨4, ![4, 2, 4096, 128]⟩
abbrev S4x2x128 : Shape := ⟨3, ![4, 2, 128]⟩
abbrev S4x14x32x128 : Shape := ⟨4, ![4, 14, 32, 128]⟩
abbrev S4x2x64 : Shape := ⟨3, ![4, 2, 64]⟩
abbrev S4x1x1 : Shape := ⟨3, ![4, 1, 1]⟩
abbrev S4x2x1x128 : Shape := ⟨4, ![4, 2, 1, 128]⟩
abbrev S4x2x64x64x128 : Shape := ⟨5, ![4, 2, 64, 64, 128]⟩
abbrev S4x2x64x1x1 : Shape := ⟨5, ![4, 2, 64, 1, 1]⟩

abbrev nBuf : Space → Nat
  | .hbm => 11
  | .vmem => 10
  | .smem => 0
  | _ => 0

abbrev bufTy : (tb : Table) → Fin (tcTables nBuf tb) → BufTy
  | .hbm, ⟨0, _⟩ => ⟨S4, .i32⟩
  | .hbm, ⟨1, _⟩ => ⟨S4x2x4096x128, .f32⟩
  | .hbm, ⟨2, _⟩ => ⟨S4x2x4096x128, .f32⟩
  | .hbm, ⟨3, _⟩ => ⟨S4x2x128, .f32⟩
  | .hbm, ⟨4, _⟩ => ⟨S4x2x128, .f32⟩
  | .hbm, ⟨5, _⟩ => ⟨S4x14x32x128, .f32⟩
  | .hbm, ⟨6, _⟩ => ⟨S4x2x128, .f32⟩
  | .hbm, ⟨7, _⟩ => ⟨S4x2x4096x128, .i8⟩
  | .hbm, ⟨8, _⟩ => ⟨S4x2x64, .f32⟩
  | .hbm, ⟨9, _⟩ => ⟨S4x2x4096x128, .fp8e4m3⟩
  | .hbm, ⟨10, _⟩ => ⟨S4x2x128, .f32⟩
  | .local _ .vmem, ⟨0, _⟩ => ⟨S4, .i32⟩
  | .local _ .vmem, ⟨1, _⟩ => ⟨S4x2x4096x128, .f32⟩
  | .local _ .vmem, ⟨2, _⟩ => ⟨S4x2x4096x128, .f32⟩
  | .local _ .vmem, ⟨3, _⟩ => ⟨S4x2x128, .f32⟩
  | .local _ .vmem, ⟨4, _⟩ => ⟨S4x2x128, .f32⟩
  | .local _ .vmem, ⟨5, _⟩ => ⟨S4x2x128, .f32⟩
  | .local _ .vmem, ⟨6, _⟩ => ⟨S4x2x4096x128, .i8⟩
  | .local _ .vmem, ⟨7, _⟩ => ⟨S4x2x64, .f32⟩
  | .local _ .vmem, ⟨8, _⟩ => ⟨S4x2x4096x128, .fp8e4m3⟩
  | .local _ .vmem, ⟨9, _⟩ => ⟨S4x2x128, .f32⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2x4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2x4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x2x4096x128 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x2x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x2x4096x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Qkv.lean ====
abbrev S4 : Shape := ⟨1, ![4]⟩
abbrev S4x4096x3584 : Shape := ⟨3, ![4, 4096, 3584]⟩
abbrev S1x3584 : Shape := ⟨2, ![1, 3584]⟩
abbrev S3584x2304 : Shape := ⟨2, ![3584, 2304]⟩
abbrev S1x2304 : Shape := ⟨2, ![1, 2304]⟩
abbrev S4x64x4096 : Shape := ⟨3, ![4, 64, 4096]⟩
abbrev S4x4096 : Shape := ⟨2, ![4, 4096]⟩
abbrev S4x14x32x128 : Shape := ⟨4, ![4, 14, 32, 128]⟩
abbrev S4x14x4096x128 : Shape := ⟨4, ![4, 14, 4096, 128]⟩
abbrev S4x14x128 : Shape := ⟨3, ![4, 14, 128]⟩
abbrev S4x2x4096x128 : Shape := ⟨4, ![4, 2, 4096, 128]⟩
abbrev S4x2x128 : Shape := ⟨3, ![4, 2, 128]⟩
abbrev S1x512x3584 : Shape := ⟨3, ![1, 512, 3584]⟩
abbrev S1x64x512 : Shape := ⟨3, ![1, 64, 512]⟩
abbrev S1x14x32x128 : Shape := ⟨4, ![1, 14, 32, 128]⟩
abbrev S1x14x512x128 : Shape := ⟨4, ![1, 14, 512, 128]⟩
abbrev S1x14x128 : Shape := ⟨3, ![1, 14, 128]⟩
abbrev S1x2x512x128 : Shape := ⟨4, ![1, 2, 512, 128]⟩
abbrev S1x2x128 : Shape := ⟨3, ![1, 2, 128]⟩
abbrev S512x3584 : Shape := ⟨2, ![512, 3584]⟩
abbrev S512 : Shape := ⟨1, ![512]⟩
abbrev S512x1 : Shape := ⟨2, ![512, 1]⟩
abbrev S4x512 : Shape := ⟨2, ![4, 512]⟩
abbrev S128x128 : Shape := ⟨2, ![128, 128]⟩
abbrev S128x1 : Shape := ⟨2, ![128, 1]⟩
abbrev S128 : Shape := ⟨1, ![128]⟩
abbrev S1x128 : Shape := ⟨2, ![1, 128]⟩
abbrev S1x512 : Shape := ⟨2, ![1, 512]⟩
abbrev S512x2304 : Shape := ⟨2, ![512, 2304]⟩
abbrev S64x512 : Shape := ⟨2, ![64, 512]⟩
abbrev S128x512 : Shape := ⟨2, ![128, 512]⟩
abbrev S512x128 : Shape := ⟨2, ![512, 128]⟩
abbrev S16x128 : Shape := ⟨2, ![16, 128]⟩
abbrev S4x128x128 : Shape := ⟨3, ![4, 128, 128]⟩
abbrev S4x128 : Shape := ⟨2, ![4, 128]⟩
abbrev S4x1x128 : Shape := ⟨3, ![4, 1, 128]⟩
abbrev S16x32x128 : Shape := ⟨3, ![16, 32, 128]⟩
abbrev S1x1x4x128 : Shape := ⟨4, ![1, 1, 4, 128]⟩
abbrev S16 : Shape := ⟨1, ![16]⟩
abbrev S16x1 : Shape := ⟨2, ![16, 1]⟩
abbrev S16x1x1 : Shape := ⟨3, ![16, 1, 1]⟩
abbrev S1x1x512x128 : Shape := ⟨4, ![1, 1, 512, 128]⟩
abbrev S1x1x128 : Shape := ⟨3, ![1, 1, 128]⟩
abbrev S1 : Shape := ⟨1, ![1]⟩

abbrev nBuf : Space → Nat
  | .hbm => 16
  | .vmem => 27
  | .smem => 1
  | _ => 0

abbrev bufTy : (tb : Table) → Fin (tcTables nBuf tb) → BufTy
  | .hbm, ⟨0, _⟩ => ⟨S4x4096x3584, .bf16⟩
  | .hbm, ⟨1, _⟩ => ⟨S1x3584, .f32⟩
  | .hbm, ⟨2, _⟩ => ⟨S3584x2304, .fp8e4m3⟩
  | .hbm, ⟨3, _⟩ => ⟨S1x2304, .f32⟩
  | .hbm, ⟨4, _⟩ => ⟨S1x2304, .f32⟩
  | .hbm, ⟨5, _⟩ => ⟨S4x64x4096, .f32⟩
  | .hbm, ⟨6, _⟩ => ⟨S4x64x4096, .f32⟩
  | .hbm, ⟨7, _⟩ => ⟨S4x4096x3584, .fp8e4m3⟩
  | .hbm, ⟨8, _⟩ => ⟨S4x4096, .f32⟩
  | .hbm, ⟨9, _⟩ => ⟨S4x14x32x128, .f32⟩
  | .hbm, ⟨10, _⟩ => ⟨S4x14x4096x128, .i8⟩
  | .hbm, ⟨11, _⟩ => ⟨S4x14x128, .f32⟩
  | .hbm, ⟨12, _⟩ => ⟨S4x2x4096x128, .f32⟩
  | .hbm, ⟨13, _⟩ => ⟨S4x2x4096x128, .f32⟩
  | .hbm, ⟨14, _⟩ => ⟨S4x2x128, .f32⟩
  | .hbm, ⟨15, _⟩ => ⟨S4x2x128, .f32⟩
  | .local _ .vmem, ⟨0, _⟩ => ⟨S1x512x3584, .bf16⟩
  | .local _ .vmem, ⟨1, _⟩ => ⟨S1x512x3584, .bf16⟩
  | .local _ .vmem, ⟨2, _⟩ => ⟨S1x3584, .f32⟩
  | .local _ .vmem, ⟨3, _⟩ => ⟨S3584x2304, .fp8e4m3⟩
  | .local _ .vmem, ⟨4, _⟩ => ⟨S1x2304, .f32⟩
  | .local _ .vmem, ⟨5, _⟩ => ⟨S1x2304, .f32⟩
  | .local _ .vmem, ⟨6, _⟩ => ⟨S1x64x512, .f32⟩
  | .local _ .vmem, ⟨7, _⟩ => ⟨S1x64x512, .f32⟩
  | .local _ .vmem, ⟨8, _⟩ => ⟨S1x64x512, .f32⟩
  | .local _ .vmem, ⟨9, _⟩ => ⟨S1x64x512, .f32⟩
  | .local _ .vmem, ⟨10, _⟩ => ⟨S1x512x3584, .fp8e4m3⟩
  | .local _ .vmem, ⟨11, _⟩ => ⟨S1x512x3584, .fp8e4m3⟩
  | .local _ .vmem, ⟨12, _⟩ => ⟨S4x4096, .f32⟩
  | .local _ .vmem, ⟨13, _⟩ => ⟨S1x14x32x128, .f32⟩
  | .local _ .vmem, ⟨14, _⟩ => ⟨S1x14x32x128, .f32⟩
  | .local _ .vmem, ⟨15, _⟩ => ⟨S1x14x512x128, .i8⟩
  | .local _ .vmem, ⟨16, _⟩ => ⟨S1x14x512x128, .i8⟩
  | .local _ .vmem, ⟨17, _⟩ => ⟨S1x14x128, .f32⟩
  | .local _ .vmem, ⟨18, _⟩ => ⟨S1x14x128, .f32⟩
  | .local _ .vmem, ⟨19, _⟩ => ⟨S1x2x512x128, .f32⟩
  | .local _ .vmem, ⟨20, _⟩ => ⟨S1x2x512x128, .f32⟩
  | .local _ .vmem, ⟨21, _⟩ => ⟨S1x2x512x128, .f32⟩
  | .local _ .vmem, ⟨22, _⟩ => ⟨S1x2x512x128, .f32⟩
  | .local _ .vmem, ⟨23, _⟩ => ⟨S1x2x128, .f32⟩
  | .local _ .vmem, ⟨24, _⟩ => ⟨S1x2x128, .f32⟩
  | .local _ .vmem, ⟨25, _⟩ => ⟨S1x2x128, .f32⟩
  | .local _ .vmem, ⟨26, _⟩ => ⟨S1x2x128, .f32⟩
  | .local _ .smem, ⟨0, _⟩ => ⟨S4, .i32⟩
  | _, _ => ⟨S4x4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev main_v0_8 : Ref sig .tc := ⟨.hbm, 15, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![4, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_mult1 (i : grid0.Coords) : BitVec 32 :=
  let arg1 : BitVec 32 := BitVec.ofNat 32 (i 1).val
  let c512_i32 : BitVec 32 := 512#32
  let v37 : BitVec 32 := Scalar.muli arg1 c512_i32
  v37
def k0_off1 (i : grid0.Coords) : Fin 2 → Nat :=
  let c0_16 : Index := 0#32
  let arg1 : BitVec 32 := BitVec.ofNat 32 (i 1).val
  let c512_i32 : BitVec 32 := 512#32
  let v37 : BitVec 32 := Scalar.muli arg1 c512_i32
  let v38 : BitVec 32 := v37
  let v39 : Index := Scalar.indexCast v38
  ![0, v39.toNat]
def k0_off2 (i : grid0.Coords) : Fin 4 → Nat :=
  let c0_48 : Index := 0#32
  let c0_49 : Index := 0#32
  let arg1 : BitVec 32 := BitVec.ofNat 32 (i 1).val
  let c4_i32 : BitVec 32 := 4#32
  let v151 : BitVec 32 := Scalar.muli arg1 c4_i32
  let v152 : Index := Scalar.indexCast v151
  let c0_50 : Index := 0#32
  ![0, 0, v152.toNat, 0]
def k0_off3 (i : grid0.Coords) : Fin 4 → Nat :=
  let c0_75 : Index := 0#32
  let c1 : Index := 1#32
  let arg1 : BitVec 32 := BitVec.ofNat 32 (i 1).val
  let c4_i32_74 : BitVec 32 := 4#32
  let v207 : BitVec 32 := Scalar.muli arg1 c4_i32_74
  let v208 : Index := Scalar.indexCast v207
  let c0_76 : Index := 0#32
  ![0, 1, v208.toNat, 0]
def k0_off4 (i : grid0.Coords) : Fin 4 → Nat :=
  let c0_101 : Index := 0#32
  let c2 : Index := 2#32
  let arg1 : BitVec 32 := BitVec.ofNat 32 (i 1).val
  let c4_i32_100 : BitVec 32 := 4#32
  let v263 : BitVec 32 := Scalar.muli arg1 c4_i32_100
  let v264 : Index := Scalar.indexCast v263
  let c0_102 : Index := 0#32
  ![0, 2, v264.toNat, 0]
def k0_off5 (i : grid0.Coords) : Fin 4 → Nat :=
  let c0_127 : Index := 0#32
  let c3 : Index := 3#32
  let arg1 : BitVec 32 := BitVec.ofNat 32 (i 1).val
  let c4_i32_126 : BitVec 32 := 4#32
  let v319 : BitVec 32 := Scalar.muli arg1 c4_i32_126
  let v320 : Index := Scalar.indexCast v319
  let c0_128 : Index := 0#32
  ![0, 3, v320.toNat, 0]
def k0_off6 (i : grid0.Coords) : Fin 4 → Nat :=
  let c0_153 : Index := 0#32
  let c4 : Index := 4#32
  let arg1 : BitVec 32 := BitVec.ofNat 32 (i 1).val
  let c4_i32_152 : BitVec 32 := 4#32
  let v375 : BitVec 32 := Scalar.muli arg1 c4_i32_152
  let v376 : Index := Scalar.indexCast v375
  let c0_154 : Index := 0#32
  ![0, 4, v376.toNat, 0]
def k0_off7 (i : grid0.Coords) : Fin 4 → Nat :=
  let c0_179 : Index := 0#32
  let c5 : Index := 5#32
  let arg1 : BitVec 32 := BitVec.ofNat 32 (i 1).val
  let c4_i32_178 : BitVec 32 := 4#32
  let v431 : BitVec 32 := Scalar.muli arg1 c4_i32_178
  let v432 : Index := Scalar.indexCast v431
  let c0_180 : Index := 0#32
  ![0, 5, v432.toNat, 0]
def k0_off8 (i : grid0.Coords) : Fin 4 → Nat :=
  let c0_205 : Index := 0#32
  let c6 : Index := 6#32
  let arg1 : BitVec 32 := BitVec.ofNat 32 (i 1).val
  let c4_i32_204 : BitVec 32 := 4#32
  let v487 : BitVec 32 := Scalar.muli arg1 c4_i32_204
  let v488 : Index := Scalar.indexCast v487
  let c0_206 : Index := 0#32
  ![0, 6, v488.toNat, 0]
def k0_off9 (i : grid0.Coords) : Fin 4 → Nat :=
  let c0_231 : Index := 0#32
  let c7 : Index := 7#32
  let arg1 : BitVec 32 := BitVec.ofNat 32 (i 1).val
  let c4_i32_230 : BitVec 32 := 4#32
  let v543 : BitVec 32 := Scalar.muli arg1 c4_i32_230
  let v544 : Index := Scalar.indexCast v543
  let c0_232 : Index := 0#32
  ![0, 7, v544.toNat, 0]
def k0_off10 (i : grid0.Coords) : Fin 4 → Nat :=
  let c0_257 : Index := 0#32
  let c8 : Index := 8#32
  let arg1 : BitVec 32 := BitVec.ofNat 32 (i 1).val
  let c4_i32_256 : BitVec 32 := 4#32
  let v599 : BitVec 32 := Scalar.muli arg1 c4_i32_256
  let v600 : Index := Scalar.indexCast v599
  let c0_258 : Index := 0#32
  ![0, 8, v600.toNat, 0]
def k0_off11 (i : grid0.Coords) : Fin 4 → Nat :=
  let c0_283 : Index := 0#32
  let c9 : Index := 9#32
  let arg1 : BitVec 32 := BitVec.ofNat 32 (i 1).val
  let c4_i32_282 : BitVec 32 := 4#32
  let v655 : BitVec 32 := Scalar.muli arg1 c4_i32_282
  let v656 : Index := Scalar.indexCast v655
  let c0_284 : Index := 0#32
  ![0, 9, v656.toNat, 0]
def k0_off12 (i : grid0.Coords) : Fin 4 → Nat :=
  let c0_309 : Index := 0#32
  let c10 : Index := 10#32
  let arg1 : BitVec 32 := BitVec.ofNat 32 (i 1).val
  let c4_i32_308 : BitVec 32 := 4#32
  let v711 : BitVec 32 := Scalar.muli arg1 c4_i32_308
  let v712 : Index := Scalar.indexCast v711
  let c0_310 : Index := 0#32
  ![0, 10, v712.toNat, 0]
def k0_off13 (i : grid0.Coords) : Fin 4 → Nat :=
  let c0_335 : Index := 0#32
  let c11 : Index := 11#32
  let arg1 : BitVec 32 := BitVec.ofNat 32 (i 1).val
  let c4_i32_334 : BitVec 32 := 4#32
  let v767 : BitVec 32 := Scalar.muli arg1 c4_i32_334
  let v768 : Index := Scalar.indexCast v767
  let c0_336 : Index := 0#32
  ![0, 11, v768.toNat, 0]
def k0_off14 (i : grid0.Coords) : Fin 4 → Nat :=
  let c0_361 : Index := 0#32
  let c12 : Index := 12#32
  let arg1 : BitVec 32 := BitVec.ofNat 32 (i 1).val
  let c4_i32_360 : BitVec 32 := 4#32
  let v823 : BitVec 32 := Scalar.muli arg1 c4_i32_360
  let v824 : Index := Scalar.indexCast v823
  let c0_362 : Index := 0#32
  ![0, 12, v824.toNat, 0]
def k0_off15 (i : grid0.Coords) : Fin 4 → Nat :=
  let c0_387 : Index := 0#32
  let c13 : Index := 13#32
  let arg1 : BitVec 32 := BitVec.ofNat 32 (i 1).val
  let c4_i32_386 : BitVec 32 := 4#32
  let v879 : BitVec 32 := Scalar.muli arg1 c4_i32_386
  let v880 : Index := Scalar.indexCast v879
  let c0_388 : Index := 0#32
  ![0, 13, v880.toNat, 0]
def k0_off16 (i : grid0.Coords) : Fin 1 → Nat :=
  let arg0 : BitVec 32 := BitVec.ofNat 32 (i 0).val
  let v923 : Index := Scalar.indexCast arg0
  ![v923.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3584x2304 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x3584 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S4x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x14x32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x14x512x128 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x14x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x2x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x2x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== QkvRefIdeal.lean ====
abbrev S4 : Shape := ⟨1, ![4]⟩
abbrev S4x4096x3584 : Shape := ⟨3, ![4, 4096, 3584]⟩
abbrev S1x3584 : Shape := ⟨2, ![1, 3584]⟩
abbrev S3584x2304 : Shape := ⟨2, ![3584, 2304]⟩
abbrev S1x2304 : Shape := ⟨2, ![1, 2304]⟩
abbrev S4x64x4096 : Shape := ⟨3, ![4, 64, 4096]⟩
abbrev S4x4096 : Shape := ⟨2, ![4, 4096]⟩
abbrev S4x14x32x128 : Shape := ⟨4, ![4, 14, 32, 128]⟩
abbrev S4x14x4096x128 : Shape := ⟨4, ![4, 14, 4096, 128]⟩
abbrev S4x14x128 : Shape := ⟨3, ![4, 14, 128]⟩
abbrev S3584 : Shape := ⟨1, ![3584]⟩
abbrev S1x1x3584 : Shape := ⟨3, ![1, 1, 3584]⟩
abbrev S4x4096x1 : Shape := ⟨3, ![4, 4096, 1]⟩
abbrev S2304 : Shape := ⟨1, ![2304]⟩
abbrev S4x4096x2304 : Shape := ⟨3, ![4, 4096, 2304]⟩
abbrev S1x1x2304 : Shape := ⟨3, ![1, 1, 2304]⟩
abbrev S4x4096x18x128 : Shape := ⟨4, ![4, 4096, 18, 128]⟩
abbrev S4x4096x14x128 : Shape := ⟨4, ![4, 4096, 14, 128]⟩
abbrev S4x4096x64 : Shape := ⟨3, ![4, 4096, 64]⟩
abbrev S4x1x4096x64 : Shape := ⟨4, ![4, 1, 4096, 64]⟩
abbrev S4x14x4096x64 : Shape := ⟨4, ![4, 14, 4096, 64]⟩
abbrev S4x14x32x128x128 : Shape := ⟨5, ![4, 14, 32, 128, 128]⟩
abbrev S4x14x32x1x128 : Shape := ⟨5, ![4, 14, 32, 1, 128]⟩
abbrev S4x14x128x32x128 : Shape := ⟨5, ![4, 14, 128, 32, 128]⟩
abbrev S4x14x128x1x1 : Shape := ⟨5, ![4, 14, 128, 1, 1]⟩

abbrev nBuf : Space → Nat
  | .hbm => 13
  | .vmem => 12
  | .smem => 0
  | _ => 0

abbrev bufTy : (tb : Table) → Fin (tcTables nBuf tb) → BufTy
  | .hbm, ⟨0, _⟩ => ⟨S4, .i32⟩
  | .hbm, ⟨1, _⟩ => ⟨S4x4096x3584, .bf16⟩
  | .hbm, ⟨2, _⟩ => ⟨S1x3584, .f32⟩
  | .hbm, ⟨3, _⟩ => ⟨S3584x2304, .fp8e4m3⟩
  | .hbm, ⟨4, _⟩ => ⟨S1x2304, .f32⟩
  | .hbm, ⟨5, _⟩ => ⟨S1x2304, .f32⟩
  | .hbm, ⟨6, _⟩ => ⟨S4x64x4096, .f32⟩
  | .hbm, ⟨7, _⟩ => ⟨S4x64x4096, .f32⟩
  | .hbm, ⟨8, _⟩ => ⟨S4x4096x3584, .fp8e4m3⟩
  | .hbm, ⟨9, _⟩ => ⟨S4x4096, .f32⟩
  | .hbm, ⟨10, _⟩ => ⟨S4x14x32x128, .f32⟩
  | .hbm, ⟨11, _⟩ => ⟨S4x14x4096x128, .i8⟩
  | .hbm, ⟨12, _⟩ => ⟨S4x14x128, .f32⟩
  | .local _ .vmem, ⟨0, _⟩ => ⟨S4x4096x3584, .bf16⟩
  | .local _ .vmem, ⟨1, _⟩ => ⟨S1x3584, .f32⟩
  | .local _ .vmem, ⟨2, _⟩ => ⟨S3584x2304, .fp8e4m3⟩
  | .local _ .vmem, ⟨3, _⟩ => ⟨S1x2304, .f32⟩
  | .local _ .vmem, ⟨4, _⟩ => ⟨S1x2304, .f32⟩
  | .local _ .vmem, ⟨5, _⟩ => ⟨S4x64x4096, .f32⟩
  | .local _ .vmem, ⟨6, _⟩ => ⟨S4x64x4096, .f32⟩
  | .local _ .vmem, ⟨7, _⟩ => ⟨S4x4096x3584, .fp8e4m3⟩
  | .local _ .vmem, ⟨8, _⟩ => ⟨S4x4096, .f32⟩
  | .local _ .vmem, ⟨9, _⟩ => ⟨S4x14x32x128, .f32⟩
  | .local _ .vmem, ⟨10, _⟩ => ⟨S4x14x4096x128, .i8⟩
  | .local _ .vmem, ⟨11, _⟩ => ⟨S4x14x128, .f32⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S4x4096x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x2304 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x64x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x64x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x4096x3584 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x14x32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x14x4096x128 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x14x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.OProjBody.lean ====
/- ONE RUN OF THE OUTPUT PROJECTION'S BODY, in OProj. At a grid point (sequence i 0, row tile i 1) the body reads the tile of attention
   codes, the scales, the weights and the residual; it stores the tile of the residual sum, the tile's codes, and the tile's scales into
   the tile's span of the scales window. `run` gives the pieces stored into every buffer. -/
module

public import proofs.«01_k».proof.Proof.Gen.OProj.Frame
public import proofs.«01_k».proof.Proof.Gen.OProj.Skeleton
public import Idealize.ShloMosaic.Lib.Exec
public import Idealize.ShloMosaic.Lib.Pipeline.TableIdle

@[expose] public section

set_option maxRecDepth 16384

noncomputable section

namespace Cert.OProj.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OProj Cert.OProj.Gen

variable {F : FTy → Type} [FloatOps F]

local notation "𝕄" => MT nD τ sig Unit (Elt F) ℕ (UR sig nD τ) ℕ

-- (the run's proof term is large: the definition's epilogue walks it past the default budget)
set_option maxHeartbeats 2000000 in
/-- The run at a point: the pieces stored into the residual sum, the codes and the scales. -/
noncomputable def run (c : Dev nD) (i : grid0.Coords) (arg2 : Memref sig .tc .vmem S1x256x1792 .fp8e4m3) (harg2 : arg2.IsWhole) (arg3 : Memref sig .tc .vmem S4x4096 .f32) (harg3 : arg3.IsWhole) (arg4 : Memref sig .tc .vmem S1792x3584 .fp8e4m3) (harg4 : arg4.IsWhole) (arg5 : Memref sig .tc .vmem S1x3584 .f32) (harg5 : arg5.IsWhole) (arg6 : Memref sig .tc .vmem S1x256x3584 .bf16) (harg6 : arg6.IsWhole) (arg7 : Memref sig .tc .vmem S1x3584 .f32) (harg7 : arg7.IsWhole) (arg8 : Memref sig .tc .vmem S1x256x3584 .f32) (harg8 : arg8.IsWhole) (arg9 : Memref sig .tc .vmem S1x256x3584 .fp8e4m3) (harg9 : arg9.IsWhole) (arg10 : Memref sig .tc .vmem S4x4096 .f32) (harg10 : arg10.IsWhole)
    (x0 : Vec F S1x256x1792 .fp8e4m3) (x1 : Vec F S4x4096 .f32) (x2 : Vec F S1792x3584 .fp8e4m3) (x3 : Vec F S1x3584 .f32) (x4 : Vec F S1x256x3584 .bf16) (x5 : Vec F S1x3584 .f32) (y8 : Vec F S4x4096 .f32) :
    Σ' (L6 : List (View.Piece (Elt F) S1x256x3584 .f32)) (L7 : List (View.Piece (Elt F) S1x256x3584 .fp8e4m3)), { L8 : List (View.Piece (Elt F) S4x4096 .f32) //
      ∀ (y6 : Vec F S1x256x3584 .f32) (y7 : Vec F S1x256x3584 .fp8e4m3) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare y8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (arg8.view.loc (c : Thread nD τ) ↦[arg8.view.set]{fullShare} arg8.view.writes (Elt F) (harg8.unread y6) L6) ∗ (arg9.view.loc (c : Thread nD τ) ↦[arg9.view.set]{fullShare} arg9.view.writes (Elt F) (harg9.unread y7) L7) ∗ (arg10.view.loc (c : Thread nD τ) ↦[arg10.view.set]{fullShare} arg10.view.writes (Elt F) (harg10.unread y8) L8)) -∗ K ⟨⟩))
          ⊢ wp frame (wpE (defs₀ (F := F)) Variants.none c none) E (cc0_o_proj i arg2 harg2 arg3 harg3 arg4 harg4 arg5 harg5 arg6 harg6 arg7 harg7 arg8 harg8 arg9 harg9 arg10 harg10) K } := by
  refine ⟨?_, ?_, ?_, fun y6 y7 E K => ?run⟩
  case run =>
    simp only [cc0_o_proj_eq_skeleton]; unfold cc0_o_proj_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexact H6
    isplitl [H7]; · iexact H7
    iexact H8

end Cert.OProj.Hand

end
-- ==== Proof.OProjFrame.lean ====
/- THE OUTPUT PROJECTION'S RUN, in OProj. The pipeline's proof data are relational: of the scales window, whose one block stays in place
   for the whole grid and is written one row span at a time over unknown contents, and of the two other results, they say only that what
   a point leaves there meets a predicate. `Track` collects the predicates; `Track.Sound` says that the body keeps them; `run_track` is
   the run for every sound track, and `frame` is the frame claim, the track saying nothing. -/
module

public import proofs.«01_k».proof.Proof.OProjBody
public import Idealize.ShloMosaic.Lib.Pipeline.DatRel

@[expose] public section

set_option maxRecDepth 16384

noncomputable section

namespace Cert.OProj.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.OProj Cert.OProj.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves -/

/-- The run at point `t` on the input blocks there. -/
def at_ (c : Dev nD) (t : Fin cfg0.N) (y8 : Vec F S4x4096 .f32) :=
  run (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (iblk m c 0 t) (iblk m c 1 t) (iblk m c 2 t) (iblk m c 3 t) (iblk m c 4 t) (iblk m c 5 t) y8

/-- The residual sum after a point. -/
def sumOut (c : Dev nD) (t : Fin cfg0.N) (y6 : Vec F S1x256x3584 .f32) (y8 : Vec F S4x4096 .f32) : Vec F S1x256x3584 .f32 :=
  (win0_6.stage (cfg0.slots t 6)).view.read (Elt F) ((win0_6.stage (cfg0.slots t 6)).view.writes (Elt F) ((hstage0_6 ((cfg0.slots t 6).cast nbuf0_6)).unread y6) (at_ m c t y8).1)
/-- The codes after a point. -/
def codesOut (c : Dev nD) (t : Fin cfg0.N) (y7 : Vec F S1x256x3584 .fp8e4m3) (y8 : Vec F S4x4096 .f32) : Vec F S1x256x3584 .fp8e4m3 :=
  (win0_7.stage (cfg0.slots t 7)).view.read (Elt F) ((win0_7.stage (cfg0.slots t 7)).view.writes (Elt F) ((hstage0_7 ((cfg0.slots t 7).cast nbuf0_7)).unread y7) (at_ m c t y8).2.1)
/-- The scales after a point. -/
def scalesOut (c : Dev nD) (t : Fin cfg0.N) (y8 : Vec F S4x4096 .f32) : Vec F S4x4096 .f32 :=
  (win0_8.stage (cfg0.slots t 8)).view.read (Elt F) ((win0_8.stage (cfg0.slots t 8)).view.writes (Elt F) ((hstage0_8 ((cfg0.slots t 8).cast nbuf0_8)).unread y8) (at_ m c t y8).2.2.1)

/-! ## What is tracked -/

/-- What a point leaves in the residual sum, in the codes and in the scales. -/
structure Track (F : FTy → Type) [FloatOps F] where
  sum : Fin cfg0.N → Vec F S1x256x3584 .f32 → Prop
  codes : Fin cfg0.N → Vec F S1x256x3584 .fp8e4m3 → Prop
  scales : Fin cfg0.N → Vec F S4x4096 .f32 → Prop

/-- The body keeps what is tracked: at every point but the first the scales are what the point before left. -/
structure Track.Sound (T : Dev nD → Track F) : Prop where
  step : ∀ c (t : Fin cfg0.N) y6 y7 y8, (∀ h : t.val ≠ 0, (T c).scales ⟨t.val - 1, by omega⟩ y8) →
    (T c).sum t (sumOut m c t y6 y8) ∧ (T c).codes t (codesOut m c t y7 y8) ∧ (T c).scales t (scalesOut m c t y8)

/-! ## The proof data -/

variable (T : Dev nD → Track F)

/-- The windows held to a predicate: the results. -/
def held (w : Fin cfg0.W) : Bool := match w with
  | ⟨6, _⟩ => true
  | ⟨7, _⟩ => true
  | ⟨8, _⟩ => true
  | _ => false

/-- The predicates they are held to. -/
def rel (c : Dev nD) (w : Fin cfg0.W) : Fin cfg0.N → ((cfg0.win w).block.Idx → Elt F (cfg0.win w).elt) → Prop := match w with
  | ⟨6, _⟩ => (T c).sum
  | ⟨7, _⟩ => (T c).codes
  | ⟨8, _⟩ => (T c).scales
  | _ => fun _ _ => True

/-- The exact part of the proof data: each input's buffer at its block. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => Classical.arbitrary _
    | ⟨7, _⟩ => fun _ => Classical.arbitrary _
    | ⟨8, _⟩ => fun _ => Classical.arbitrary _
  Φ t := Pipeline.ΦA (Val := Elt F) spec0 c
  q _ := fullShare
  owed _ := 0

/-- The proof data of the run. -/
def rdat (c : Dev nD) : RDat τ (Elt F) Unit ℕ (UR sig nD τ) ℕ cfg0 c := (dat m c).toRRel held (rel T c)

theorem after0_0 (c : Dev nD) (t : Fin cfg0.N) : (dat m c).after 0 t = iblk m c 0 t := by dsimp only [dat]
theorem before0_0 (c : Dev nD) (t : Fin cfg0.N) (d) : (dat m c).before 0 t d = iblk m c 0 t :=
  before0_0_of m (dat m c) (by dsimp only [dat]) (after0_0 m c) t d
theorem after0_1 (c : Dev nD) (t : Fin cfg0.N) : (dat m c).after 1 t = iblk m c 1 t := by dsimp only [dat]
theorem before0_1 (c : Dev nD) (t : Fin cfg0.N) (d) : (dat m c).before 1 t d = iblk m c 1 t :=
  before0_1_of m (dat m c) (by dsimp only [dat]) (after0_1 m c) t d
theorem after0_2 (c : Dev nD) (t : Fin cfg0.N) : (dat m c).after 2 t = iblk m c 2 t := by dsimp only [dat]
theorem before0_2 (c : Dev nD) (t : Fin cfg0.N) (d) : (dat m c).before 2 t d = iblk m c 2 t :=
  before0_2_of m (dat m c) (by dsimp only [dat]) (after0_2 m c) t d
theorem after0_3 (c : Dev nD) (t : Fin cfg0.N) : (dat m c).after 3 t = iblk m c 3 t := by dsimp only [dat]
theorem before0_3 (c : Dev nD) (t : Fin cfg0.N) (d) : (dat m c).before 3 t d = iblk m c 3 t :=
  before0_3_of m (dat m c) (by dsimp only [dat]) (after0_3 m c) t d
theorem after0_4 (c : Dev nD) (t : Fin cfg0.N) : (dat m c).after 4 t = iblk m c 4 t := by dsimp only [dat]
theorem before0_4 (c : Dev nD) (t : Fin cfg0.N) (d) : (dat m c).before 4 t d = iblk m c 4 t :=
  before0_4_of m (dat m c) (by dsimp only [dat]) (after0_4 m c) t d
theorem after0_5 (c : Dev nD) (t : Fin cfg0.N) : (dat m c).after 5 t = iblk m c 5 t := by dsimp only [dat]
theorem before0_5 (c : Dev nD) (t : Fin cfg0.N) (d) : (dat m c).before 5 t d = iblk m c 5 t :=
  before0_5_of m (dat m c) (by dsimp only [dat]) (after0_5 m c) t d

/-- What the body finds in the scales window is what the point before left there. -/
theorem finds_scales (c : Dev nD) (t : Fin cfg0.N) (Y : Vec F S4x4096 .f32) (h : (rdat m T c).Finds 8 t Y) :
    ∀ h : t.val ≠ 0, (T c).scales ⟨t.val - 1, by omega⟩ Y := fun ht => by
  have hf : (cfg0.win 8).fetch t = false := Window.fetch_out _ rfl t
  rcases ((rdat m T c).finds_of_pos hf ht Y).mp h with hfl | hl
  · have := (flush0_8 _).mp hfl
    have hN : t.val < 64 := t.isLt
    simp only at this
    omega
  · exact (dat m c).toRRel_leaves (w := 8) rfl hl

/-! ## The body obligation -/

/-- What the body is called with at point `t`, -/
def bodyPre (c : Dev nD) (t : Fin cfg0.N) : sProp 𝕄 :=
  iprop((dat m c).Φ t.castSucc ∗ (dat m c).owesAt () t.castSucc
    ∗ (∃ d, owns (c : Thread nD τ) (win0_0.stage (cfg0.slots t 0)) fullShare ((dat m c).before 0 t d))
    ∗ (∃ d, owns (c : Thread nD τ) (win0_1.stage (cfg0.slots t 1)) fullShare ((dat m c).before 1 t d))
    ∗ (∃ d, owns (c : Thread nD τ) (win0_2.stage (cfg0.slots t 2)) fullShare ((dat m c).before 2 t d))
    ∗ (∃ d, owns (c : Thread nD τ) (win0_3.stage (cfg0.slots t 3)) fullShare ((dat m c).before 3 t d))
    ∗ (∃ d, owns (c : Thread nD τ) (win0_4.stage (cfg0.slots t 4)) fullShare ((dat m c).before 4 t d))
    ∗ (∃ d, owns (c : Thread nD τ) (win0_5.stage (cfg0.slots t 5)) fullShare ((dat m c).before 5 t d))
    ∗ (∃ Y, ⌜(rdat m T c).Finds 6 t Y⌝ ∗ owns (c : Thread nD τ) (win0_6.stage (cfg0.slots t 6)) fullShare Y)
    ∗ (∃ Y, ⌜(rdat m T c).Finds 7 t Y⌝ ∗ owns (c : Thread nD τ) (win0_7.stage (cfg0.slots t 7)) fullShare Y)
    ∗ (∃ Y, ⌜(rdat m T c).Finds 8 t Y⌝ ∗ owns (c : Thread nD τ) (win0_8.stage (cfg0.slots t 8)) fullShare Y))

/-- and what it returns. -/
def bodyPost (c : Dev nD) (t : Fin cfg0.N) : sProp 𝕄 :=
  iprop((dat m c).Φ t.succ ∗ (dat m c).owesAt () t.succ
    ∗ owns (c : Thread nD τ) (win0_0.stage (cfg0.slots t 0)) fullShare ((dat m c).after 0 t)
    ∗ owns (c : Thread nD τ) (win0_1.stage (cfg0.slots t 1)) fullShare ((dat m c).after 1 t)
    ∗ owns (c : Thread nD τ) (win0_2.stage (cfg0.slots t 2)) fullShare ((dat m c).after 2 t)
    ∗ owns (c : Thread nD τ) (win0_3.stage (cfg0.slots t 3)) fullShare ((dat m c).after 3 t)
    ∗ owns (c : Thread nD τ) (win0_4.stage (cfg0.slots t 4)) fullShare ((dat m c).after 4 t)
    ∗ owns (c : Thread nD τ) (win0_5.stage (cfg0.slots t 5)) fullShare ((dat m c).after 5 t)
    ∗ (∃ X, ⌜(T c).sum t X⌝ ∗ owns (c : Thread nD τ) (win0_6.stage (cfg0.slots t 6)) fullShare X)
    ∗ (∃ X, ⌜(T c).codes t X⌝ ∗ owns (c : Thread nD τ) (win0_7.stage (cfg0.slots t 7)) fullShare X)
    ∗ (∃ X, ⌜(T c).scales t X⌝ ∗ owns (c : Thread nD τ) (win0_8.stage (cfg0.slots t 8)) fullShare X))

/-- The body at any point, by its run. -/
theorem sound_body (hT : Track.Sound m T) (c : Dev nD) (t : Fin cfg0.N) :
    bodyPre m T c t ⊢ wp frame (wpE (defs₀ (F := F)) Variants.none c none) Set.univ (bodyAt0 t) (fun _ => bodyPost m T c t) := by
  unfold bodyPre bodyPost bodyAt0
  simp only [before0_0, after0_0, before0_1, after0_1, before0_2, after0_2, before0_3, after0_3, before0_4, after0_4, before0_5, after0_5]
  rw [show (dat m c).owesAt () t.succ = (dat m c).owesAt () t.castSucc from rfl,
    show (dat m c).Φ t.succ = (dat m c).Φ t.castSucc from rfl]
  iintro ⟨HΦ, Ho, ⟨%d0, H0⟩, ⟨%d1, H1⟩, ⟨%d2, H2⟩, ⟨%d3, H3⟩, ⟨%d4, H4⟩, ⟨%d5, H5⟩, ⟨%y6, %hy6, H6⟩, ⟨%y7, %hy7, H7⟩, ⟨%y8, %hy8, H8⟩⟩
  obtain ⟨h6, h7, h8⟩ := hT.step c t y6 y7 y8 (finds_scales m T c t y8 hy8)
  iapply ((run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (iblk m c 0 t) (iblk m c 1 t) (iblk m c 2 t) (iblk m c 3 t) (iblk m c 4 t) (iblk m c 5 t) y8).2.2.2 y6 y7 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns
  isplitl [H6]
  · iexists (sumOut m c t y6 y8); isplitr; · ipureintro; exact h6
    iexists _; isplitr; swap; · iexact H6
    ipureintro; rfl
  isplitl [H7]
  · iexists (codesOut m c t y7 y8); isplitr; · ipureintro; exact h7
    iexists _; isplitr; swap; · iexact H7
    ipureintro; rfl
  · iexists (scalesOut m c t y8); isplitr; · ipureintro; exact h8
    iexists _; isplitr; swap; · iexact H8
    ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (hT : Track.Sound m T) (c : Dev nD) :
    BodyObligationRel (dat m c) (defs₀ (F := F)) Variants.none () Set.univ held (rel T c) := fun t => by
  rw [bigSep_W0, bigSep_W0, defs₀_row]
  exact triple_restated (sound_body m T hT c t) rfl .rfl fun _ => .rfl

/-! ## The run and the frame -/

/-- No array is shared by several windows. -/
theorem share_full (c : Dev nD) : ∀ w, (rdat m T c).share w = fullShare := by
  intro w
  match w with
  | ⟨0, _⟩ | ⟨1, _⟩ | ⟨2, _⟩ | ⟨3, _⟩ | ⟨4, _⟩ | ⟨5, _⟩ | ⟨6, _⟩ | ⟨7, _⟩ | ⟨8, _⟩ => rfl

set_option backward.isDefEq.respectTransparency.types false in
/-- The run, for every sound track: every weakly fair execution of @main terminates, the arrays end at contents the proof data allow,
    and every semaphore counter is zero. -/
theorem run_track (hT : Track.Sound m T) : θ_run defs (onTc (τ := τ) (main (F := F))) (s₀ m ρ)
    (fun r => RDat.FramePost cfg0 (rdat m T) (V m) r ∧ r.2.sem = fun _ => 0) :=
  RDat.θ_run_frame_track (Q' := _) cfgs (0 : Fin 1) launch0 defs₀ Variants.none (rdat m T) m ρ main
    (hbody := fun c => (body_obligation m T hT c).toRRel) (hshare := fun c w => share_full m T c w)
    (howed := fun _ _ => rfl) (V := V m) (hmain := hmain m Variants.none) (hA := fun _ _ => rfl)
    (hin := fun c => .rfl) (hout := fun c => .rfl)

/-- The argument arrays end unchanged. -/
theorem args_of {r} (h : RDat.FramePost cfg0 (rdat m T) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨h.arr_in c 0 rfl, h.arr_in c 1 rfl, h.arr_in c 2 rfl, h.arr_in c 3 rfl, h.arr_in c 4 rfl, h.arr_in c 5 rfl⟩

/-- The track that says nothing. -/
def Track.nothing : Track F := ⟨fun _ _ => True, fun _ _ => True, fun _ _ => True⟩

theorem Track.nothing_sound : Track.Sound m fun _ => Track.nothing (F := F) :=
  ⟨fun _ _ _ _ _ _ => ⟨trivial, trivial, trivial⟩⟩

/-- THE FRAME: every weakly fair execution terminates, the argument arrays end unchanged, and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨args_of m _ h.1, h.2⟩) (run_track m ρ _ (Track.nothing_sound m))

end Cert.OProj.Hand

end
-- ==== Proof.OProjIdealBody.lean ====
/- ONE RUN OF THE OUTPUT PROJECTION'S BODY, in OProjIdeal. At a grid point (sequence i 0, row tile i 1) the body reads the tile of attention
   codes, the scales, the weights and the residual; it stores the tile of the residual sum, the tile's codes, and the tile's scales into
   the tile's span of the scales window. `run` gives the pieces stored into every buffer. -/
module

public import proofs.«01_k».proof.Proof.Gen.OProjIdeal.Frame
public import proofs.«01_k».proof.Proof.Gen.OProjIdeal.Skeleton
public import Idealize.ShloMosaic.Lib.Exec
public import Idealize.ShloMosaic.Lib.Pipeline.TableIdle

@[expose] public section

set_option maxRecDepth 16384

noncomputable section

namespace Cert.OProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OProjIdeal Cert.OProjIdeal.Gen

variable {F : FTy → Type} [FloatOps F]

local notation "𝕄" => MT nD τ sig Unit (Elt F) ℕ (UR sig nD τ) ℕ

-- (the run's proof term is large: the definition's epilogue walks it past the default budget)
set_option maxHeartbeats 2000000 in
/-- The run at a point: the pieces stored into the residual sum, the codes and the scales. -/
noncomputable def run (c : Dev nD) (i : grid0.Coords) (arg2 : Memref sig .tc .vmem S1x256x1792 .fp8e4m3) (harg2 : arg2.IsWhole) (arg3 : Memref sig .tc .vmem S4x4096 .f32) (harg3 : arg3.IsWhole) (arg4 : Memref sig .tc .vmem S1792x3584 .fp8e4m3) (harg4 : arg4.IsWhole) (arg5 : Memref sig .tc .vmem S1x3584 .f32) (harg5 : arg5.IsWhole) (arg6 : Memref sig .tc .vmem S1x256x3584 .bf16) (harg6 : arg6.IsWhole) (arg7 : Memref sig .tc .vmem S1x3584 .f32) (harg7 : arg7.IsWhole) (arg8 : Memref sig .tc .vmem S1x256x3584 .f32) (harg8 : arg8.IsWhole) (arg9 : Memref sig .tc .vmem S1x256x3584 .fp8e4m3) (harg9 : arg9.IsWhole) (arg10 : Memref sig .tc .vmem S4x4096 .f32) (harg10 : arg10.IsWhole)
    (x0 : Vec F S1x256x1792 .fp8e4m3) (x1 : Vec F S4x4096 .f32) (x2 : Vec F S1792x3584 .fp8e4m3) (x3 : Vec F S1x3584 .f32) (x4 : Vec F S1x256x3584 .bf16) (x5 : Vec F S1x3584 .f32) (y8 : Vec F S4x4096 .f32) :
    Σ' (L6 : List (View.Piece (Elt F) S1x256x3584 .f32)) (L7 : List (View.Piece (Elt F) S1x256x3584 .fp8e4m3)), { L8 : List (View.Piece (Elt F) S4x4096 .f32) //
      ∀ (y6 : Vec F S1x256x3584 .f32) (y7 : Vec F S1x256x3584 .fp8e4m3) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare y8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (arg8.view.loc (c : Thread nD τ) ↦[arg8.view.set]{fullShare} arg8.view.writes (Elt F) (harg8.unread y6) L6) ∗ (arg9.view.loc (c : Thread nD τ) ↦[arg9.view.set]{fullShare} arg9.view.writes (Elt F) (harg9.unread y7) L7) ∗ (arg10.view.loc (c : Thread nD τ) ↦[arg10.view.set]{fullShare} arg10.view.writes (Elt F) (harg10.unread y8) L8)) -∗ K ⟨⟩))
          ⊢ wp frame (wpE (defs₀ (F := F)) Variants.none c none) E (cc0_o_proj i arg2 harg2 arg3 harg3 arg4 harg4 arg5 harg5 arg6 harg6 arg7 harg7 arg8 harg8 arg9 harg9 arg10 harg10) K } := by
  refine ⟨?_, ?_, ?_, fun y6 y7 E K => ?run⟩
  case run =>
    simp only [cc0_o_proj_eq_skeleton]; unfold cc0_o_proj_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexact H6
    isplitl [H7]; · iexact H7
    iexact H8

end Cert.OProjIdeal.Hand

end
-- ==== Proof.OProjIdealFrame.lean ====
/- THE OUTPUT PROJECTION'S RUN, in OProjIdeal. The pipeline's proof data are relational: of the scales window, whose one block stays in place
   for the whole grid and is written one row span at a time over unknown contents, and of the two other results, they say only that what
   a point leaves there meets a predicate. `Track` collects the predicates; `Track.Sound` says that the body keeps them; `run_track` is
   the run for every sound track, and `frame` is the frame claim, the track saying nothing. -/
module

public import proofs.«01_k».proof.Proof.OProjIdealBody
public import Idealize.ShloMosaic.Lib.Pipeline.DatRel

@[expose] public section

set_option maxRecDepth 16384

noncomputable section

namespace Cert.OProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.OProjIdeal Cert.OProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves -/

/-- The run at point `t` on the input blocks there. -/
def at_ (c : Dev nD) (t : Fin cfg0.N) (y8 : Vec F S4x4096 .f32) :=
  run (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (iblk m c 0 t) (iblk m c 1 t) (iblk m c 2 t) (iblk m c 3 t) (iblk m c 4 t) (iblk m c 5 t) y8

/-- The residual sum after a point. -/
def sumOut (c : Dev nD) (t : Fin cfg0.N) (y6 : Vec F S1x256x3584 .f32) (y8 : Vec F S4x4096 .f32) : Vec F S1x256x3584 .f32 :=
  (win0_6.stage (cfg0.slots t 6)).view.read (Elt F) ((win0_6.stage (cfg0.slots t 6)).view.writes (Elt F) ((hstage0_6 ((cfg0.slots t 6).cast nbuf0_6)).unread y6) (at_ m c t y8).1)
/-- The codes after a point. -/
def codesOut (c : Dev nD) (t : Fin cfg0.N) (y7 : Vec F S1x256x3584 .fp8e4m3) (y8 : Vec F S4x4096 .f32) : Vec F S1x256x3584 .fp8e4m3 :=
  (win0_7.stage (cfg0.slots t 7)).view.read (Elt F) ((win0_7.stage (cfg0.slots t 7)).view.writes (Elt F) ((hstage0_7 ((cfg0.slots t 7).cast nbuf0_7)).unread y7) (at_ m c t y8).2.1)
/-- The scales after a point. -/
def scalesOut (c : Dev nD) (t : Fin cfg0.N) (y8 : Vec F S4x4096 .f32) : Vec F S4x4096 .f32 :=
  (win0_8.stage (cfg0.slots t 8)).view.read (Elt F) ((win0_8.stage (cfg0.slots t 8)).view.writes (Elt F) ((hstage0_8 ((cfg0.slots t 8).cast nbuf0_8)).unread y8) (at_ m c t y8).2.2.1)

/-! ## What is tracked -/

/-- What a point leaves in the residual sum, in the codes and in the scales. -/
structure Track (F : FTy → Type) [FloatOps F] where
  sum : Fin cfg0.N → Vec F S1x256x3584 .f32 → Prop
  codes : Fin cfg0.N → Vec F S1x256x3584 .fp8e4m3 → Prop
  scales : Fin cfg0.N → Vec F S4x4096 .f32 → Prop

/-- The body keeps what is tracked: at every point but the first the scales are what the point before left. -/
structure Track.Sound (T : Dev nD → Track F) : Prop where
  step : ∀ c (t : Fin cfg0.N) y6 y7 y8, (∀ h : t.val ≠ 0, (T c).scales ⟨t.val - 1, by omega⟩ y8) →
    (T c).sum t (sumOut m c t y6 y8) ∧ (T c).codes t (codesOut m c t y7 y8) ∧ (T c).scales t (scalesOut m c t y8)

/-! ## The proof data -/

variable (T : Dev nD → Track F)

/-- The windows held to a predicate: the results. -/
def held (w : Fin cfg0.W) : Bool := match w with
  | ⟨6, _⟩ => true
  | ⟨7, _⟩ => true
  | ⟨8, _⟩ => true
  | _ => false

/-- The predicates they are held to. -/
def rel (c : Dev nD) (w : Fin cfg0.W) : Fin cfg0.N → ((cfg0.win w).block.Idx → Elt F (cfg0.win w).elt) → Prop := match w with
  | ⟨6, _⟩ => (T c).sum
  | ⟨7, _⟩ => (T c).codes
  | ⟨8, _⟩ => (T c).scales
  | _ => fun _ _ => True

/-- The exact part of the proof data: each input's buffer at its block. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => Classical.arbitrary _
    | ⟨7, _⟩ => fun _ => Classical.arbitrary _
    | ⟨8, _⟩ => fun _ => Classical.arbitrary _
  Φ t := Pipeline.ΦA (Val := Elt F) spec0 c
  q _ := fullShare
  owed _ := 0

/-- The proof data of the run. -/
def rdat (c : Dev nD) : RDat τ (Elt F) Unit ℕ (UR sig nD τ) ℕ cfg0 c := (dat m c).toRRel held (rel T c)

theorem after0_0 (c : Dev nD) (t : Fin cfg0.N) : (dat m c).after 0 t = iblk m c 0 t := by dsimp only [dat]
theorem before0_0 (c : Dev nD) (t : Fin cfg0.N) (d) : (dat m c).before 0 t d = iblk m c 0 t :=
  before0_0_of m (dat m c) (by dsimp only [dat]) (after0_0 m c) t d
theorem after0_1 (c : Dev nD) (t : Fin cfg0.N) : (dat m c).after 1 t = iblk m c 1 t := by dsimp only [dat]
theorem before0_1 (c : Dev nD) (t : Fin cfg0.N) (d) : (dat m c).before 1 t d = iblk m c 1 t :=
  before0_1_of m (dat m c) (by dsimp only [dat]) (after0_1 m c) t d
theorem after0_2 (c : Dev nD) (t : Fin cfg0.N) : (dat m c).after 2 t = iblk m c 2 t := by dsimp only [dat]
theorem before0_2 (c : Dev nD) (t : Fin cfg0.N) (d) : (dat m c).before 2 t d = iblk m c 2 t :=
  before0_2_of m (dat m c) (by dsimp only [dat]) (after0_2 m c) t d
theorem after0_3 (c : Dev nD) (t : Fin cfg0.N) : (dat m c).after 3 t = iblk m c 3 t := by dsimp only [dat]
theorem before0_3 (c : Dev nD) (t : Fin cfg0.N) (d) : (dat m c).before 3 t d = iblk m c 3 t :=
  before0_3_of m (dat m c) (by dsimp only [dat]) (after0_3 m c) t d
theorem after0_4 (c : Dev nD) (t : Fin cfg0.N) : (dat m c).after 4 t = iblk m c 4 t := by dsimp only [dat]
theorem before0_4 (c : Dev nD) (t : Fin cfg0.N) (d) : (dat m c).before 4 t d = iblk m c 4 t :=
  before0_4_of m (dat m c) (by dsimp only [dat]) (after0_4 m c) t d
theorem after0_5 (c : Dev nD) (t : Fin cfg0.N) : (dat m c).after 5 t = iblk m c 5 t := by dsimp only [dat]
theorem before0_5 (c : Dev nD) (t : Fin cfg0.N) (d) : (dat m c).before 5 t d = iblk m c 5 t :=
  before0_5_of m (dat m c) (by dsimp only [dat]) (after0_5 m c) t d

/-- What the body finds in the scales window is what the point before left there. -/
theorem finds_scales (c : Dev nD) (t : Fin cfg0.N) (Y : Vec F S4x4096 .f32) (h : (rdat m T c).Finds 8 t Y) :
    ∀ h : t.val ≠ 0, (T c).scales ⟨t.val - 1, by omega⟩ Y := fun ht => by
  have hf : (cfg0.win 8).fetch t = false := Window.fetch_out _ rfl t
  rcases ((rdat m T c).finds_of_pos hf ht Y).mp h with hfl | hl
  · have := (flush0_8 _).mp hfl
    have hN : t.val < 64 := t.isLt
    simp only at this
    omega
  · exact (dat m c).toRRel_leaves (w := 8) rfl hl

/-! ## The body obligation -/

/-- What the body is called with at point `t`, -/
def bodyPre (c : Dev nD) (t : Fin cfg0.N) : sProp 𝕄 :=
  iprop((dat m c).Φ t.castSucc ∗ (dat m c).owesAt () t.castSucc
    ∗ (∃ d, owns (c : Thread nD τ) (win0_0.stage (cfg0.slots t 0)) fullShare ((dat m c).before 0 t d))
    ∗ (∃ d, owns (c : Thread nD τ) (win0_1.stage (cfg0.slots t 1)) fullShare ((dat m c).before 1 t d))
    ∗ (∃ d, owns (c : Thread nD τ) (win0_2.stage (cfg0.slots t 2)) fullShare ((dat m c).before 2 t d))
    ∗ (∃ d, owns (c : Thread nD τ) (win0_3.stage (cfg0.slots t 3)) fullShare ((dat m c).before 3 t d))
    ∗ (∃ d, owns (c : Thread nD τ) (win0_4.stage (cfg0.slots t 4)) fullShare ((dat m c).before 4 t d))
    ∗ (∃ d, owns (c : Thread nD τ) (win0_5.stage (cfg0.slots t 5)) fullShare ((dat m c).before 5 t d))
    ∗ (∃ Y, ⌜(rdat m T c).Finds 6 t Y⌝ ∗ owns (c : Thread nD τ) (win0_6.stage (cfg0.slots t 6)) fullShare Y)
    ∗ (∃ Y, ⌜(rdat m T c).Finds 7 t Y⌝ ∗ owns (c : Thread nD τ) (win0_7.stage (cfg0.slots t 7)) fullShare Y)
    ∗ (∃ Y, ⌜(rdat m T c).Finds 8 t Y⌝ ∗ owns (c : Thread nD τ) (win0_8.stage (cfg0.slots t 8)) fullShare Y))

/-- and what it returns. -/
def bodyPost (c : Dev nD) (t : Fin cfg0.N) : sProp 𝕄 :=
  iprop((dat m c).Φ t.succ ∗ (dat m c).owesAt () t.succ
    ∗ owns (c : Thread nD τ) (win0_0.stage (cfg0.slots t 0)) fullShare ((dat m c).after 0 t)
    ∗ owns (c : Thread nD τ) (win0_1.stage (cfg0.slots t 1)) fullShare ((dat m c).after 1 t)
    ∗ owns (c : Thread nD τ) (win0_2.stage (cfg0.slots t 2)) fullShare ((dat m c).after 2 t)
    ∗ owns (c : Thread nD τ) (win0_3.stage (cfg0.slots t 3)) fullShare ((dat m c).after 3 t)
    ∗ owns (c : Thread nD τ) (win0_4.stage (cfg0.slots t 4)) fullShare ((dat m c).after 4 t)
    ∗ owns (c : Thread nD τ) (win0_5.stage (cfg0.slots t 5)) fullShare ((dat m c).after 5 t)
    ∗ (∃ X, ⌜(T c).sum t X⌝ ∗ owns (c : Thread nD τ) (win0_6.stage (cfg0.slots t 6)) fullShare X)
    ∗ (∃ X, ⌜(T c).codes t X⌝ ∗ owns (c : Thread nD τ) (win0_7.stage (cfg0.slots t 7)) fullShare X)
    ∗ (∃ X, ⌜(T c).scales t X⌝ ∗ owns (c : Thread nD τ) (win0_8.stage (cfg0.slots t 8)) fullShare X))

/-- The body at any point, by its run. -/
theorem sound_body (hT : Track.Sound m T) (c : Dev nD) (t : Fin cfg0.N) :
    bodyPre m T c t ⊢ wp frame (wpE (defs₀ (F := F)) Variants.none c none) Set.univ (bodyAt0 t) (fun _ => bodyPost m T c t) := by
  unfold bodyPre bodyPost bodyAt0
  simp only [before0_0, after0_0, before0_1, after0_1, before0_2, after0_2, before0_3, after0_3, before0_4, after0_4, before0_5, after0_5]
  rw [show (dat m c).owesAt () t.succ = (dat m c).owesAt () t.castSucc from rfl,
    show (dat m c).Φ t.succ = (dat m c).Φ t.castSucc from rfl]
  iintro ⟨HΦ, Ho, ⟨%d0, H0⟩, ⟨%d1, H1⟩, ⟨%d2, H2⟩, ⟨%d3, H3⟩, ⟨%d4, H4⟩, ⟨%d5, H5⟩, ⟨%y6, %hy6, H6⟩, ⟨%y7, %hy7, H7⟩, ⟨%y8, %hy8, H8⟩⟩
  obtain ⟨h6, h7, h8⟩ := hT.step c t y6 y7 y8 (finds_scales m T c t y8 hy8)
  iapply ((run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (iblk m c 0 t) (iblk m c 1 t) (iblk m c 2 t) (iblk m c 3 t) (iblk m c 4 t) (iblk m c 5 t) y8).2.2.2 y6 y7 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns
  isplitl [H6]
  · iexists (sumOut m c t y6 y8); isplitr; · ipureintro; exact h6
    iexists _; isplitr; swap; · iexact H6
    ipureintro; rfl
  isplitl [H7]
  · iexists (codesOut m c t y7 y8); isplitr; · ipureintro; exact h7
    iexists _; isplitr; swap; · iexact H7
    ipureintro; rfl
  · iexists (scalesOut m c t y8); isplitr; · ipureintro; exact h8
    iexists _; isplitr; swap; · iexact H8
    ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (hT : Track.Sound m T) (c : Dev nD) :
    BodyObligationRel (dat m c) (defs₀ (F := F)) Variants.none () Set.univ held (rel T c) := fun t => by
  rw [bigSep_W0, bigSep_W0, defs₀_row]
  exact triple_restated (sound_body m T hT c t) rfl .rfl fun _ => .rfl

/-! ## The run and the frame -/

/-- No array is shared by several windows. -/
theorem share_full (c : Dev nD) : ∀ w, (rdat m T c).share w = fullShare := by
  intro w
  match w with
  | ⟨0, _⟩ | ⟨1, _⟩ | ⟨2, _⟩ | ⟨3, _⟩ | ⟨4, _⟩ | ⟨5, _⟩ | ⟨6, _⟩ | ⟨7, _⟩ | ⟨8, _⟩ => rfl

set_option backward.isDefEq.respectTransparency.types false in
/-- The run, for every sound track: every weakly fair execution of @main terminates, the arrays end at contents the proof data allow,
    and every semaphore counter is zero. -/
theorem run_track (hT : Track.Sound m T) : θ_run defs (onTc (τ := τ) (main (F := F))) (s₀ m ρ)
    (fun r => RDat.FramePost cfg0 (rdat m T) (V m) r ∧ r.2.sem = fun _ => 0) :=
  RDat.θ_run_frame_track (Q' := _) cfgs (0 : Fin 1) launch0 defs₀ Variants.none (rdat m T) m ρ main
    (hbody := fun c => (body_obligation m T hT c).toRRel) (hshare := fun c w => share_full m T c w)
    (howed := fun _ _ => rfl) (V := V m) (hmain := hmain m Variants.none) (hA := fun _ _ => rfl)
    (hin := fun c => .rfl) (hout := fun c => .rfl)

/-- The argument arrays end unchanged. -/
theorem args_of {r} (h : RDat.FramePost cfg0 (rdat m T) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨h.arr_in c 0 rfl, h.arr_in c 1 rfl, h.arr_in c 2 rfl, h.arr_in c 3 rfl, h.arr_in c 4 rfl, h.arr_in c 5 rfl⟩

/-- The track that says nothing. -/
def Track.nothing : Track F := ⟨fun _ _ => True, fun _ _ => True, fun _ _ => True⟩

theorem Track.nothing_sound : Track.Sound m fun _ => Track.nothing (F := F) :=
  ⟨fun _ _ _ _ _ _ => ⟨trivial, trivial, trivial⟩⟩

/-- THE FRAME: every weakly fair execution terminates, the argument arrays end unchanged, and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨args_of m _ h.1, h.2⟩) (run_track m ρ _ (Track.nothing_sound m))

end Cert.OProjIdeal.Hand

end
-- ==== Proof.Scales.lean ====
/- SMALL FACTS OF THE SCALES' LAYOUT. The kernels turn a row of scales into a column (and back) by a diagonal mask and a sum, pick a
   sequence's row of the scales by a mask and a sum, and number the sequence of a row tile by a signed quotient. -/
module

public import Idealize.ShloMosaic.PureOps.Ideal
public import Idealize.ShloMosaic.Lib.Pointwise
public import Mathlib.Algebra.BigOperators.Fin

@[expose] public section

noncomputable section

namespace Cert.Proof

open Idealize.ShloMosaic
open scoped BigOperators

/-- A word comparison at two numbers below 2³²: set exactly when the numbers are equal. -/
theorem cmpi_eq_ofNat {a b : ℕ} (ha : a < 2 ^ 32) (hb : b < 2 ^ 32) :
    IntOp.cmpi CmpIPredicate.eq (BitVec.ofNat 32 a) (BitVec.ofNat 32 b) = if a = b then 1#1 else 0#1 := by
  have e : (BitVec.ofNat 32 a = BitVec.ofNat 32 b) ↔ a = b := by
    constructor
    · intro h
      have := congrArg BitVec.toNat h
      simp only [BitVec.toNat_ofNat] at this
      rwa [Nat.mod_eq_of_lt ha, Nat.mod_eq_of_lt hb] at this
    · rintro rfl; rfl
  by_cases h : a = b
  · subst h; simp [IntOp.cmpi]
  · have h' : BitVec.ofNat 32 a ≠ BitVec.ofNat 32 b := fun hh => h (e.mp hh)
    simp only [IntOp.cmpi, beq_eq_false_iff_ne.mpr h', if_neg h]; rfl

/-- Selecting one of `n` numbers by a mask and adding up what is left and the zeros gives the number selected. -/
theorem sum_select {n : ℕ} (hn : n ≤ 2 ^ 32) (f : Fin n → EReal) (b : ℕ) (hb : b < n) :
    (∑ x : Fin n, Scalar.select (IntOp.cmpi CmpIPredicate.eq (BitVec.ofNat 32 x.val) (BitVec.ofNat 32 b)) (f x) 0)
      = f ⟨b, hb⟩ := by
  rw [Finset.sum_eq_single (⟨b, hb⟩ : Fin n)]
  · rw [cmpi_eq_ofNat (by omega) (by omega)]; simp [Scalar.select]
  · intro x _ hx
    have : x.val ≠ b := fun h => hx (Fin.ext h)
    rw [cmpi_eq_ofNat (by have := x.isLt; omega) (by omega), if_neg this]; simp [Scalar.select]
  · intro h; exact absurd (Finset.mem_univ _) h

/-- The same with the mask's two sides exchanged. -/
theorem sum_select' {n : ℕ} (hn : n ≤ 2 ^ 32) (f : Fin n → EReal) (b : ℕ) (hb : b < n) :
    (∑ x : Fin n, Scalar.select (IntOp.cmpi CmpIPredicate.eq (BitVec.ofNat 32 b) (BitVec.ofNat 32 x.val)) (f x) 0)
      = f ⟨b, hb⟩ := by
  rw [← sum_select hn f b hb]
  refine Finset.sum_congr rfl fun x _ => ?_
  rw [cmpi_eq_ofNat (by have := x.isLt; omega) (by omega), cmpi_eq_ofNat (by omega) (by have := x.isLt; omega)]
  simp only [eq_comm]

/-- The program's signed quotient by 8, rounded down, of a row tile's number below 32. -/
theorem tile_div (n : ℕ) (hn : n < 32) :
    (Scalar.select
      (Scalar.andi
        (Scalar.cmpi CmpIPredicate.ne
          (Scalar.subi (Scalar.extui (Scalar.cmpi CmpIPredicate.sgt (BitVec.ofNat 32 n) 0#32))
            (Scalar.extui (Scalar.cmpi CmpIPredicate.slt (BitVec.ofNat 32 n) 0#32)))
          (Scalar.subi (Scalar.extui (Scalar.cmpi CmpIPredicate.sgt 8#32 0#32))
            (Scalar.extui (Scalar.cmpi CmpIPredicate.slt 8#32 0#32))))
        (Scalar.cmpi CmpIPredicate.ne (Scalar.remsi (BitVec.ofNat 32 n) 8#32) 0#32))
      (Scalar.subi (Scalar.divsi (BitVec.ofNat 32 n) 8#32) 1#32)
      (Scalar.divsi (BitVec.ofNat 32 n) 8#32) : BitVec 32) = BitVec.ofNat 32 (n / 8) := by
  revert n
  decide

/-- The same with the sign of 8 already worked out. -/
theorem tile_div' (n : ℕ) (hn : n < 32) :
    (Scalar.select
      (Scalar.andi
        (Scalar.cmpi CmpIPredicate.ne
          (Scalar.subi (Scalar.extui (Scalar.cmpi CmpIPredicate.sgt (BitVec.ofNat 32 n) 0#32))
            (Scalar.extui (Scalar.cmpi CmpIPredicate.slt (BitVec.ofNat 32 n) 0#32)))
          1#32)
        (Scalar.cmpi CmpIPredicate.ne (Scalar.remsi (BitVec.ofNat 32 n) 8#32) 0#32))
      (Scalar.subi (Scalar.divsi (BitVec.ofNat 32 n) 8#32) 1#32)
      (Scalar.divsi (BitVec.ofNat 32 n) 8#32) : BitVec 32) = BitVec.ofNat 32 (n / 8) := by
  revert n
  decide

end Cert.Proof

end
-- ==== Proof.NormQuant.lean ====
/- QUANTISING A NORMALISED ROW, over the extended reals. A row h times its weights w is divided by its root mean square and quantised to
   codes with one scale. The kernels divide the largest magnitude once by the root, and multiply each element by the inverse of root
   times scale; the mathematics divides every element by the root, and again by the scale. The two agree: the root is positive. -/
module

public import Idealize.ShloMosaic.PureOps.Ideal
public import Idealize.ShloMosaic.Lib.Pointwise
public import Mathlib.Data.EReal.Inv

@[expose] public section

noncomputable section

namespace Cert.Proof

open Idealize.ShloMosaic
open scoped BigOperators

/-- The word of 448, -/
theorem ofBits_448 : Ideal.ofBits .f32 0x43E00000#32 = ((448 : ℝ) : EReal) := by
  simp [Ideal.ofBits, Ideal.ieee, -EReal.coe_mul]; norm_num
/-- of 3584, -/
theorem ofBits_3584 : Ideal.ofBits .f32 0x45600000#32 = ((3584 : ℝ) : EReal) := by
  simp [Ideal.ofBits, Ideal.ieee, -EReal.coe_mul]; norm_num
/-- and of the small number added to the mean square, which is positive. -/
theorem ofBits_eps : 0 < Ideal.ofBits .f32 0x358637BD#32 := by
  have : Ideal.ofBits .f32 0x358637BD#32 = ((8796093 / 8796093022208 : ℝ) : EReal) := by
    simp [Ideal.ofBits, Ideal.ieee, -EReal.coe_mul]; norm_num
  rw [this]
  exact_mod_cast (by norm_num : (0 : ℝ) < 8796093 / 8796093022208)

/-- The scale of a largest magnitude: 1 for zero, else its quotient by 448. -/
def scaleOf (a : EReal) : EReal := if a = 0 then 1 else Ideal.div a (Ideal.ofBits .f32 0x43E00000#32)

/-- A scale is never zero, -/
theorem scaleOf_ne (a : EReal) : scaleOf a ≠ 0 := by
  unfold scaleOf
  split_ifs with h
  · exact one_ne_zero
  · rw [ofBits_448, Ideal.div_coe (by norm_num : (448 : ℝ) ≠ 0)]
    refine mul_ne_zero h ?_
    exact_mod_cast (by norm_num : (1 / 448 : ℝ) ≠ 0)

/-- so multiplying by its inverse is dividing by it. -/
theorem mul_div_one (a s : EReal) (h : s ≠ 0) : a * Ideal.div 1 s = Ideal.div a s := by
  unfold Ideal.div
  rw [if_neg h, if_neg h, one_mul]

/-- The magnitude of an extended real. -/
def mag (a : EReal) : EReal := max a (-a)

theorem mag_nonneg (a : EReal) : 0 ≤ mag a := by
  unfold mag
  rcases le_total 0 a with h | h
  · exact le_max_of_le_left h
  · exact le_max_of_le_right (EReal.neg_nonneg.mpr h)

theorem mono_mul {c : EReal} (hc : 0 ≤ c) : Monotone fun a : EReal => a * c := fun _ _ hab => mul_le_mul_of_nonneg_right hab hc

/-- A nonnegative factor leaves a magnitude's product the product's magnitude. -/
theorem mag_mul (a : EReal) {c : EReal} (hc : 0 ≤ c) : mag (a * c) = mag a * c := by
  unfold mag
  rw [← EReal.neg_mul]
  exact ((mono_mul hc).map_max (a := a) (b := -a)).symm

section
variable {n : ℕ} (h w : Fin n → EReal)

/-- The root of a row's mean square. -/
def root : EReal := Ideal.sqrt (Ideal.div (∑ k, h k * h k) (Ideal.ofBits .f32 0x45600000#32) + Ideal.ofBits .f32 0x358637BD#32)
/-- A normalised element. -/
def normed (k : Fin n) : EReal := Ideal.div (h k * w k) (root h)
/-- The largest magnitude of a row. -/
def top (f : Fin n → EReal) : EReal := Finset.fold max (Ideal.ofBits .f32 0xFF800000#32) (fun k => mag (f k)) Finset.univ
/-- The code of an element at a scale. -/
def code (a s : EReal) : EReal := min (Ideal.ofBits .f32 0x43E00000#32) (max (Ideal.ofBits .f32 0xC3E00000#32) (Ideal.div a s))

theorem sqrt_pos {a : EReal} (ha : 0 < a) : 0 < Ideal.sqrt a := by
  induction a with
  | bot => exact absurd ha (by simp)
  | top => simp
  | coe r =>
    have hr : 0 < r := by exact_mod_cast ha
    rw [Ideal.sqrt_coe, if_neg (not_lt.mpr hr.le)]
    exact_mod_cast Real.sqrt_pos.mpr hr

theorem sq_nonneg (a : EReal) : 0 ≤ a * a := by
  rcases le_total 0 a with ha | ha
  · exact mul_nonneg ha ha
  · rw [← neg_mul_neg]
    exact mul_nonneg (EReal.neg_nonneg.mpr ha) (EReal.neg_nonneg.mpr ha)

/-- The root is positive, -/
theorem root_pos : 0 < root h := by
  refine sqrt_pos (lt_of_lt_of_le ofBits_eps ?_)
  refine le_add_of_nonneg_left ?_
  rw [ofBits_3584, Ideal.div_coe (by norm_num : (3584 : ℝ) ≠ 0)]
  refine mul_nonneg (Finset.sum_nonneg fun k _ => sq_nonneg _) ?_
  exact_mod_cast (by norm_num : (0 : ℝ) ≤ 1 / 3584)

theorem div_root (a : EReal) : Ideal.div a (root h) = a * (root h)⁻¹ := by
  unfold Ideal.div
  rw [if_neg (root_pos h).ne']

theorem inv_root_nonneg : 0 ≤ (root h)⁻¹ := EReal.inv_nonneg_of_nonneg (root_pos h).le

/-- The largest of nonnegative values may start from zero. -/
theorem fold_zero (hn : 0 < n) (f : Fin n → EReal) (hf : ∀ k, 0 ≤ f k) :
    Finset.fold max (Ideal.ofBits .f32 0xFF800000#32) f Finset.univ = Finset.fold max 0 f Finset.univ := by
  refine eq_of_forall_ge_iff fun c => ?_
  rw [Finset.fold_max_le, Finset.fold_max_le]
  have hb : Ideal.ofBits .f32 0xFF800000#32 = ⊥ := by simp [Ideal.ofBits, Ideal.ieee]
  rw [hb]
  exact ⟨fun H => ⟨(hf ⟨0, hn⟩).trans (H.2 _ (Finset.mem_univ _)), H.2⟩, fun H => ⟨bot_le, H.2⟩⟩

/-- so the largest magnitude over the root is the largest magnitude of the normalised row, -/
theorem top_div (hn : 0 < n) : Ideal.div (top fun k => h k * w k) (root h) = top (normed h w) := by
  rw [div_root]
  have hc := inv_root_nonneg h
  have e : normed h w = fun k => h k * w k * (root h)⁻¹ := funext fun k => div_root h _
  rw [e]
  unfold top
  simp only [mag_mul _ hc]
  have hf : ∀ k, 0 ≤ mag (h k * w k) := fun k => mag_nonneg _
  rw [fold_zero hn _ hf, fold_zero hn _ fun k => mul_nonneg (hf k) hc]
  have := Finset.fold_hom (op := max) (op' := max) (s := (Finset.univ : Finset (Fin n))) (f := fun k => mag (h k * w k)) (b := 0)
    (m := fun a => a * (root h)⁻¹) fun x y => (mono_mul hc).map_max
  rw [zero_mul] at this
  exact this.symm

/-- and an element's product by the inverse of root times scale is the normalised element over the scale. -/
theorem mul_inv_root (k : Fin n) {s : EReal} (hs : s ≠ 0) : h k * w k * Ideal.div 1 (root h * s) = Ideal.div (normed h w k) s := by
  unfold normed
  rw [mul_div_one _ _ (mul_ne_zero (root_pos h).ne' hs), div_root]
  unfold Ideal.div
  rw [if_neg (mul_ne_zero (root_pos h).ne' hs), if_neg hs, EReal.mul_inv, ← mul_assoc]

end

end Cert.Proof

end
-- ==== Proof.OProjBlock.lean ====
/- WHAT THE OUTPUT PROJECTION STORES FOR ONE TILE, read element by element: the residual sum, its rows' scales, its codes, and the slice
   of scales. -/
module

public import proofs.«01_k».proof.Proof.Gen.OProjIdeal.Skeleton
public import proofs.«01_k».proof.Proof.Scales
public import proofs.«01_k».proof.Proof.NormQuant

@[expose] public section

set_option maxRecDepth 16384

noncomputable section

namespace Cert.Proof.OProj

open Cert.OProjIdeal Cert.OProjIdeal.Gen Idealize.ShloMosaic
open scoped BigOperators

/-- The slice of the scales a row tile writes: its sequence's row takes the tile's scales, laid out along the columns; the others stay. -/
theorem pay1_apply (n : ℕ) (hn : n < 4) (s : FVec Ideal S256x1 .f32) (v : Vec Ideal S4x256 .f32) (b : Fin 4) (r : Fin 256) :
    k0_pay1 (F := Ideal) (BitVec.ofNat 32 n) s v (ix2 b r) = if b.val = n then s (ix2 r 0) else v (ix2 b r) := by
  have hr := r.isLt
  have hb := b.isLt
  pointwise [k0_pay1]
  rw [cmpi_eq_ofNat (by omega) (by omega)]
  by_cases hbn : b.val = n
  · rw [if_pos hbn, if_pos hbn]
    simp only [Scalar.select]
    rw [if_pos (show (1#1 : BitVec 1) = 1 from rfl)]
    split_ifs with h1
    · exact sum_select (by decide) (fun x : Fin 128 => s (ix2 ⟨x.val, by omega⟩ 0)) _ h1
    · refine (sum_select (by decide) (fun x : Fin 128 => s (ix2 ⟨128 + x.val, by omega⟩ 0)) _ (by omega)).trans ?_
      congr 2; refine Fin.ext ?_; simp only; omega
  · rw [if_neg hbn, if_neg hbn]
    simp [Scalar.select]

/-- The residual tile. -/
theorem pay2_apply (v : Vec Ideal S1x256x3584 .bf16) (r : Fin 256) (k : Fin 3584) : k0_pay2 (F := Ideal) v (ix2 r k) = v (ix3 0 r k) := by
  pointwise [k0_pay2]

/-- The product tile, scaled by rows: the sequence's row of the loaded scales is picked, and turned into a column. -/
theorem pay3_apply (i : grid0.Coords) (v3 : Vec Ideal S4x256 .f32) (v29 : Vec Ideal S1x256x1792 .fp8e4m3) (v31 : Vec Ideal S1792x3584 .fp8e4m3)
    (r : Fin 256) (k : Fin 3584) :
    k0_pay3 (F := Ideal) i v3 v29 v31 (ix2 r k)
      = (∑ j : Fin 1792, v29 (ix3 0 r j) * v31 (ix2 j k)) * v3 (ix2 ⟨(i 0).val, (i 0).isLt⟩ r) := by
  have hr := r.isLt
  have h : (i 0).val < 4 := (i 0).isLt
  pointwise [k0_pay3]
  congr 1
  split_ifs with h1
  · refine (sum_select' (by decide) (fun x : Fin 128 => _) _ h1).trans ?_
    exact sum_select (by decide) (fun x : Fin 4 => v3 (ix2 x r)) _ h
  · refine (sum_select' (by decide) (fun x : Fin 128 => _) (r.val - 128) (by omega)).trans ?_
    refine (sum_select (by decide) (fun x : Fin 4 => v3 (ix2 x ⟨128 + (r.val - 128), by omega⟩)) _ h).trans ?_
    congr 2; refine Fin.ext ?_; simp only; omega

variable (a p : FVec Ideal S256x3584 .f32) (ws ln : Vec Ideal S1x3584 .f32) (r : Fin 256) (k : Fin 3584)

/-- The residual sum, -/
theorem pay4_apply : k0_pay4 (F := Ideal) a p ws (ix2 r k) = a (ix2 r k) + p (ix2 r k) * ws (ix2 0 k) := by
  pointwise [k0_pay4]
/-- as it is stored. -/
theorem pay5_apply : k0_pay5 (F := Ideal) a p ws (ix3 0 r k) = k0_pay4 (F := Ideal) a p ws (ix2 r k) := by
  unfold k0_pay5
  generalize k0_pay4 (F := Ideal) a p ws = h
  pointwise []
/-- The root of a row's mean square. -/
theorem pay6_apply : k0_pay6 (F := Ideal) a p ws (ix2 r 0) = root fun k => k0_pay4 (F := Ideal) a p ws (ix2 r k) := by
  unfold k0_pay6
  generalize k0_pay4 (F := Ideal) a p ws = h
  pointwise [root]
/-- The sum times the norm's weights. -/
theorem pay7_apply : k0_pay7 (F := Ideal) a p ws ln (ix2 r k) = k0_pay4 (F := Ideal) a p ws (ix2 r k) * ln (ix2 0 k) := by
  unfold k0_pay7
  generalize k0_pay4 (F := Ideal) a p ws = h
  pointwise []
/-- A row's scale is the scale of the normalised row. -/
theorem pay8_apply : k0_pay8 (F := Ideal) a p ws ln (ix2 r 0)
    = scaleOf (top (normed (fun k => k0_pay4 (F := Ideal) a p ws (ix2 r k)) fun k => ln (ix2 0 k))) := by
  have e6 := pay6_apply a p ws r
  have e7 := fun k => pay7_apply a p ws ln r k
  unfold k0_pay8
  rw [← top_div _ _ (by decide), ← e6]
  simp only [← e7]
  generalize k0_pay6 (F := Ideal) a p ws = q
  generalize k0_pay7 (F := Ideal) a p ws ln = h
  pointwise [scaleOf, top, mag]
  rfl
/-- A code is the code of the normalised element at the row's scale. -/
theorem pay9_apply : k0_pay9 (F := Ideal) a p ws ln (ix3 0 r k)
    = code (normed (fun k => k0_pay4 (F := Ideal) a p ws (ix2 r k)) (fun k => ln (ix2 0 k)) k)
        (scaleOf (top (normed (fun k => k0_pay4 (F := Ideal) a p ws (ix2 r k)) fun k => ln (ix2 0 k)))) := by
  have e6 := pay6_apply a p ws r
  have e7 := pay7_apply a p ws ln r k
  have e8 := pay8_apply a p ws ln r
  unfold code
  rw [← mul_inv_root _ _ _ (scaleOf_ne _), ← e6, ← e7, ← e8]
  unfold k0_pay9
  generalize k0_pay6 (F := Ideal) a p ws = q
  generalize k0_pay7 (F := Ideal) a p ws ln = h
  generalize k0_pay8 (F := Ideal) a p ws ln = s
  pointwise []

end Cert.Proof.OProj

end
-- ==== Proof.OProjMath.lean ====
/- WHAT THE OUTPUT PROJECTION COMPUTES, as functions of its arguments, element by element: the residual sum, and the codes and scales of its
   normalised rows. -/
module

public import proofs.«01_k».proof.Proof.NormQuant
public import Idealize.ShloMosaic.Lib.Pointwise

@[expose] public section

noncomputable section

namespace Cert.Proof.OProj

open Idealize.ShloMosaic
open scoped BigOperators

/-- The arguments: attention codes and their scales by sequence and position, weights and their scales, the residual, the norm's weights. -/
structure Args where
  x : Vec Ideal ⟨3, ![4, 4096, 1792]⟩ .fp8e4m3
  xs : Vec Ideal ⟨2, ![4, 4096]⟩ .f32
  w : Vec Ideal ⟨2, ![1792, 3584]⟩ .fp8e4m3
  ws : Vec Ideal ⟨2, ![1, 3584]⟩ .f32
  res : Vec Ideal ⟨3, ![4, 4096, 3584]⟩ .bf16
  ln : Vec Ideal ⟨2, ![1, 3584]⟩ .f32

variable (A : Args) (b : Fin 4) (s : Fin 4096)

/-- The residual plus the projection. -/
def hid (k : Fin 3584) : EReal :=
  A.res (ix3 b s k) + (∑ j : Fin 1792, A.x (ix3 b s j) * A.w (ix2 j k)) * A.xs (ix2 b s) * A.ws (ix2 0 k)
/-- The normalised row. -/
def row : Fin 3584 → EReal := normed (hid A b s) fun k => A.ln (ix2 0 k)
/-- Its scale, -/
def scale : EReal := scaleOf (top (row A b s))
/-- and its codes. -/
def codeAt (k : Fin 3584) : EReal := code (row A b s k) (scale A b s)

/-- The three results as arrays. -/
def sumArr : Vec Ideal ⟨3, ![4, 4096, 3584]⟩ .f32 := fun y => hid A (y 0) (y 1) (y 2)
def codesArr : Vec Ideal ⟨3, ![4, 4096, 3584]⟩ .fp8e4m3 := fun y => codeAt A (y 0) (y 1) (y 2)
def scalesArr : Vec Ideal ⟨2, ![4, 4096]⟩ .f32 := fun y => scale A (y 0) (y 1)

end Cert.Proof.OProj

end
-- ==== Proof.OProjPoint.lean ====
/- WHAT ONE GRID POINT OF THE OUTPUT PROJECTION LEAVES: the residual sum and the codes of its 256 rows, and their scales in the rows' span of
   the scales window, whose other elements stay. -/
module

public import proofs.«01_k».proof.Proof.OProjIdealFrame
public import proofs.«01_k».proof.Proof.OProjBlock
public import proofs.«01_k».proof.Proof.OProjMath
public import Idealize.ShloMosaic.Lib.Pipeline.ValueKit
public import Idealize.ShloMosaic.Lib.Pipeline.Covers
public import Idealize.ShloMosaic.Lib.Pipeline.ReadBack
public import Idealize.ShloMosaic.Lib.Pointwise
public import Idealize.ShloMosaic.Lib.VecWindow

@[expose] public section

set_option maxRecDepth 16384

noncomputable section

namespace Cert.Proof.OProj

open Idealize.ShloMosaic Idealize.ShloMosaic.TcCoe Idealize.ShloMosaic.Tactic
open Cert.OProjIdeal Cert.OProjIdeal.Gen Cert.OProjIdeal.Hand
open Idealize.SL.Sem

variable (m : (ℓ : Loc nD τ sig) → Buf (Elt Ideal) ℓ)

/-- The grid's coordinates: the sequence and the row tile. -/
theorem lt0 (t : Fin cfg0.N) : (grid0.coords t 0).val < 4 := (grid0.coords t 0).isLt
theorem lt1 (t : Fin cfg0.N) : (grid0.coords t 1).val < 16 := (grid0.coords t 1).isLt
theorem coord0 : ∀ t : Fin cfg0.N, (grid0.coords t 0).val = t.val / 16 := by decide +kernel
theorem coord1 : ∀ t : Fin cfg0.N, (grid0.coords t 1).val = t.val % 16 := by decide +kernel

/-- The span of the scales that a row tile reads and writes starts at column 256 · tile. -/
theorem off1_eq (i : grid0.Coords) : k0_off1 i = ![0, (i 1).val * 256] := by
  have h : (i 1).val < 16 := (i 1).isLt
  unfold k0_off1
  try dsimp only
  generalize (i 1).val = n at h
  revert n
  decide

/-- Which block each window takes at a point. -/
theorem idx0 : ∀ t : Fin cfg0.N, win0_0.index t = ![(grid0.coords t 0).val, (grid0.coords t 1).val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![(grid0.coords t 0).val, (grid0.coords t 1).val, 0] := by decide +kernel
theorem idx5 : ∀ t : Fin cfg0.N, win0_5.index t = ![0, 0] := by decide +kernel
theorem idx6 : ∀ t : Fin cfg0.N, win0_6.index t = ![(grid0.coords t 0).val, (grid0.coords t 1).val, 0] := by decide +kernel
theorem idx7 : ∀ t : Fin cfg0.N, win0_7.index t = ![(grid0.coords t 0).val, (grid0.coords t 1).val, 0] := by decide +kernel
theorem idx8 : ∀ t : Fin cfg0.N, win0_8.index t = ![0, 0] := by decide +kernel

variable (c : Dev nD)

/-- The argument arrays, as the launch finds them. -/
def args : Args where
  x := m ((c : Thread nD τ).loc main_arg0)
  xs := m ((c : Thread nD τ).loc main_arg1)
  w := m ((c : Thread nD τ).loc main_arg2)
  ws := m ((c : Thread nD τ).loc main_arg3)
  res := m ((c : Thread nD τ).loc main_arg4)
  ln := m ((c : Thread nD τ).loc main_arg5)

variable (t : Fin cfg0.N)

/-- The sequence of a point, and the position of row `r` of its tile. -/
def seq : Fin 4 := ⟨(grid0.coords t 0).val, lt0 t⟩
def pos (r : Fin 256) : Fin 4096 := ⟨(grid0.coords t 1).val * 256 + r.val, by have := lt1 t; omega⟩

/-- The blocks the point finds, as parts of the argument arrays: codes, -/
theorem blk0 (r : Fin 256) (k : Fin 1792) : iblk m c 0 t (ix3 0 r k) = (args m c).x (ix3 (seq t) (pos t r) k) := by
  blk_simp [iblk]
  refine congrArg (m ((c : Thread nD τ).loc main_arg0)) (funext fun a => Fin.ext ?_)
  match a with
  | ⟨0, _⟩ => blk_simp [idx0]; rfl
  | ⟨1, _⟩ => blk_simp [idx0]; rfl
  | ⟨2, _⟩ => blk_simp [idx0]
/-- weights, -/
theorem blk2 (j : Fin 1792) (k : Fin 3584) : iblk m c 2 t (ix2 j k) = (args m c).w (ix2 j k) := by
  blk_simp [iblk]
  refine congrArg (m ((c : Thread nD τ).loc main_arg2)) (funext fun a => Fin.ext ?_)
  match a with
  | ⟨0, _⟩ => blk_simp [idx2]
  | ⟨1, _⟩ => blk_simp [idx2]
/-- their scales, -/
theorem blk3 (k : Fin 3584) : iblk m c 3 t (ix2 0 k) = (args m c).ws (ix2 0 k) := by
  blk_simp [iblk]
  refine congrArg (m ((c : Thread nD τ).loc main_arg3)) (funext fun a => Fin.ext ?_)
  match a with
  | ⟨0, _⟩ => blk_simp [idx3]
  | ⟨1, _⟩ => blk_simp [idx3]
/-- the residual, -/
theorem blk4 (r : Fin 256) (k : Fin 3584) : iblk m c 4 t (ix3 0 r k) = (args m c).res (ix3 (seq t) (pos t r) k) := by
  blk_simp [iblk]
  refine congrArg (m ((c : Thread nD τ).loc main_arg4)) (funext fun a => Fin.ext ?_)
  match a with
  | ⟨0, _⟩ => blk_simp [idx4]; rfl
  | ⟨1, _⟩ => blk_simp [idx4]; rfl
  | ⟨2, _⟩ => blk_simp [idx4]
/-- the norm's weights, -/
theorem blk5 (k : Fin 3584) : iblk m c 5 t (ix2 0 k) = (args m c).ln (ix2 0 k) := by
  blk_simp [iblk]
  refine congrArg (m ((c : Thread nD τ).loc main_arg5)) (funext fun a => Fin.ext ?_)
  match a with
  | ⟨0, _⟩ => blk_simp [idx5]
  | ⟨1, _⟩ => blk_simp [idx5]
/-- and the rows' scales. -/
theorem blk1 (r : Fin 256) (h) : View.ld (iblk m c 1 t) (Rect.unit (k0_off1 (grid0.coords t)) ![4, 256] h)
      (ix2 (seq t) r) = (args m c).xs (ix2 (seq t) (pos t r)) := by
  have := lt0 t
  blk_simp [iblk, View.ld_apply]
  refine congrArg (m ((c : Thread nD τ).loc main_arg1)) (funext fun a => Fin.ext ?_)
  match a with
  | ⟨0, _⟩ => blk_simp [idx1, Rect.idx_unit_val, off1_eq]
  | ⟨1, _⟩ => blk_simp [idx1, Rect.idx_unit_val, off1_eq]; simp [pos, off1_eq]

/-- The product tile, scaled by rows, and the residual tile. -/
def prod : FVec Ideal S256x3584 .f32 := k0_pay3 (grid0.coords t) (View.ld (iblk m c 1 t)
    (Rect.unit (k0_off1 (grid0.coords t)) ![4, 256] (k0_off1_inb (grid0.coords t)))) (iblk m c 0 t) (iblk m c 2 t)
def resid : FVec Ideal S256x3584 .f32 := k0_pay2 (iblk m c 4 t)

/-- The residual sum of the tile is the residual sum of its rows. -/
theorem tile_apply (r : Fin 256) (k : Fin 3584) :
    k0_pay4 (F := Ideal) (resid m c t) (prod m c t) (iblk m c 3 t) (ix2 r k) = hid (args m c) (seq t) (pos t r) k := by
  rw [pay4_apply, resid, pay2_apply, prod, pay3_apply, blk3, blk4]
  have := blk1 m c t r (k0_off1_inb (grid0.coords t))
  unfold seq at this
  rw [this]
  simp only [blk0, blk2]
  rfl

/-- The normalised row, -/
theorem row_eq (r : Fin 256) : normed (fun k => k0_pay4 (F := Ideal) (resid m c t) (prod m c t) (iblk m c 3 t) (ix2 r k))
    (fun k => iblk m c 5 t (ix2 0 k)) = row (args m c) (seq t) (pos t r) := by
  simp only [tile_apply, blk5]
  rfl

/-- The residual sum after a point. -/
theorem sumOut_apply (y6 y8) (r : Fin 256) (k : Fin 3584) : sumOut m c t y6 y8 (ix3 0 r k) = hid (args m c) (seq t) (pos t r) k := by
  have e : sumOut m c t y6 y8 = k0_pay5 (F := Ideal) (resid m c t) (prod m c t) (iblk m c 3 t) := by
    unfold sumOut at_
    frame_out
    exact View.read_writes_full _ _ _ _ _
  rw [e, pay5_apply, tile_apply]

/-- The codes after a point. -/
theorem codesOut_apply (y7 y8) (r : Fin 256) (k : Fin 3584) : codesOut m c t y7 y8 (ix3 0 r k) = codeAt (args m c) (seq t) (pos t r) k := by
  have e : codesOut m c t y7 y8 = k0_pay9 (F := Ideal) (resid m c t) (prod m c t) (iblk m c 3 t) (iblk m c 5 t) := by
    unfold codesOut at_
    frame_out
    exact View.read_writes_full _ _ _ _ _
  rw [e, pay9_apply, row_eq]
  rfl

/-- The scales after a point: the point's rows take their scales, the rest stays. -/
theorem scalesOut_apply (y8) (b : Fin 4) (s : Fin 4096) : scalesOut m c t y8 (ix2 b s)
    = if b.val = (grid0.coords t 0).val ∧ s.val / 256 = (grid0.coords t 1).val then scale (args m c) b s else y8 (ix2 b s) := by
  have h0 := lt0 t
  have hb := b.isLt
  have hd := s.isLt
  unfold scalesOut at_
  frame_out
  rw [View.read_writes_cons_unit _ _ _ _ _ _ (off1_eq (grid0.coords t)), View.writes_nil]
  split_ifs with h1 h2 h2
  · obtain ⟨e0, e1⟩ := h2
    have k1 := h1 1
    simp at k1
    have e : Rect.unitLocal (s := S4x4096) (ix2 b s) h1 = ix2 (n0 := 4) (n1 := 256) b ⟨s.val % 256, by omega⟩ := by
      refine funext fun a => Fin.ext ?_
      match a with
      | ⟨0, _⟩ => rfl
      | ⟨1, _⟩ => show s.val - _ = s.val % 256; simp; omega
    refine (congrArg _ e).trans ?_
    refine (pay1_apply _ h0 (k0_pay8 (F := Ideal) (resid m c t) (prod m c t) (iblk m c 3 t) (iblk m c 5 t)) _ b _).trans ?_
    rw [if_pos e0, pay8_apply, row_eq]
    have eb : seq t = b := Fin.ext e0.symm
    have es : pos t ⟨s.val % 256, by omega⟩ = s := Fin.ext (by show (grid0.coords t 1).val * 256 + s.val % 256 = s.val; omega)
    rw [eb, es]
    rfl
  · have k1 := h1 1
    simp at k1 h2
    have e : Rect.unitLocal (s := S4x4096) (ix2 b s) h1 = ix2 (n0 := 4) (n1 := 256) b ⟨s.val % 256, by omega⟩ := by
      refine funext fun a => Fin.ext ?_
      match a with
      | ⟨0, _⟩ => rfl
      | ⟨1, _⟩ => show s.val - _ = s.val % 256; simp; omega
    refine (congrArg _ e).trans ?_
    refine (pay1_apply _ h0 (k0_pay8 (F := Ideal) (resid m c t) (prod m c t) (iblk m c 3 t) (iblk m c 5 t)) _ b _).trans ?_
    rw [if_neg (fun hh => h2 hh (by omega))]
    refine congrArg y8 (funext fun a => Fin.ext ?_)
    match a with
    | ⟨0, _⟩ => simp [Rect.idx_unit_val, off1_eq]
    | ⟨1, _⟩ => simp [Rect.idx_unit_val, off1_eq]; omega
  · refine absurd (fun a => ?_) h1
    match a with
    | ⟨0, _⟩ => exact ⟨Nat.zero_le _, by simpa using hb⟩
    | ⟨1, _⟩ => simp; omega
  · exact congrFun (Memref.IsWhole.read_unread _ y8) _

end Cert.Proof.OProj

end
-- ==== Proof.OProjArray.lean ====
/- THE OUTPUT PROJECTION'S RESULTS: of the scales it is tracked that every row tile already done has its rows' scales, of the two other results
   that a point leaves its tile's part; so the arrays end as `sumArr`, `codesArr` and `scalesArr` of the arguments. -/
module

public import proofs.«01_k».proof.Proof.OProjPoint
public import Idealize.ShloMosaic.Lib.Pipeline.ArrRel

@[expose] public section

set_option maxRecDepth 16384

noncomputable section

namespace Cert.Proof.OProj

open Idealize.ShloMosaic Idealize.ShloMosaic.TcCoe Idealize.ShloMosaic.Pipeline Idealize.SL.Sem
open Cert.OProjIdeal Cert.OProjIdeal.Gen Cert.OProjIdeal.Hand

variable (m : (ℓ : Loc nD τ sig) → Buf (Elt Ideal) ℓ) (c : Dev nD)

/-- What is tracked. -/
def track : Track Ideal where
  sum t y := ∀ (r : Fin 256) (k : Fin 3584), y (ix3 0 r k) = hid (args m c) (seq t) (pos t r) k
  codes t y := ∀ (r : Fin 256) (k : Fin 3584), y (ix3 0 r k) = codeAt (args m c) (seq t) (pos t r) k
  scales t y := ∀ (b : Fin 4) (s : Fin 4096), b.val * 16 + s.val / 256 ≤ t.val → y (ix2 b s) = scale (args m c) b s

/-- The kernel's points keep what is tracked. -/
theorem sound : Track.Sound m (track m) where
  step c t y6 y7 y8 h := by
    refine ⟨fun r k => sumOut_apply m c t y6 y8 r k, fun r k => codesOut_apply m c t y7 y8 r k, fun b s hbs => ?_⟩
    rw [scalesOut_apply, coord0, coord1]
    split_ifs with e
    · rfl
    · exact h (by omega) b s (by simp only; omega)

/-- The results are covered by the blocks written back: the sum and the codes at each point, the scales at the very last point. -/
theorem covers6 : (cfg0.win 6).Covers := by decide +kernel
theorem covers7 : (cfg0.win 7).Covers := by decide +kernel
theorem covers8 : (cfg0.win 8).Covers := by decide +kernel
theorem flush8 : ∀ t : Fin cfg0.N, (cfg0.win 8).flush t = true → t.val = 63 := by decide +kernel

section
variable (after : (w' : Fin cfg0.W) → Fin cfg0.N → (cfg0.win w').block.Idx → Elt Ideal (cfg0.win w').elt)
  (ha : ∀ (w : Fin cfg0.W) (u : Fin cfg0.N), (cfg0.win w).flush u = true → (rdat m (track m) c).Leaves w u (after w u))
include ha

/-- The residual sum after the run. -/
theorem final6 : ((rdat m (track m) c).withAfter after).arrAt 6 cfg0.N = sumArr (args m c) := by
  refine ((rdat m (track m) c).withAfter after).arrAt_eq_of_covers 6 _ covers6 fun t hf y => ?_
  have hc : (track m c).sum t (after 6 t) := (dat m c).toRRel_leaves (w := 6) rfl (ha 6 t hf)
  blk_simp
  obtain ⟨z, r, k, rfl⟩ : ∃ (z : Fin 1) (r : Fin 256) (k : Fin 3584), y = ix3 z r k := ⟨y 0, y 1, y 2, eq_ix3 y⟩
  obtain rfl : z = 0 := Subsingleton.elim _ _
  have e : ((View.whole main_v0_0).slice (win0_6.rect t)).emb (ix3 0 r k) = ix3 (seq t) (pos t r) k := by
    refine funext fun a => Fin.ext ?_
    match a with
    | ⟨0, _⟩ => blk_simp [idx6]; rfl
    | ⟨1, _⟩ => blk_simp [idx6]; rfl
    | ⟨2, _⟩ => blk_simp [idx6]
  rw [e]
  exact hc r k

/-- The codes after the run. -/
theorem final7 : ((rdat m (track m) c).withAfter after).arrAt 7 cfg0.N = codesArr (args m c) := by
  refine ((rdat m (track m) c).withAfter after).arrAt_eq_of_covers 7 _ covers7 fun t hf y => ?_
  have hc : (track m c).codes t (after 7 t) := (dat m c).toRRel_leaves (w := 7) rfl (ha 7 t hf)
  blk_simp
  obtain ⟨z, r, k, rfl⟩ : ∃ (z : Fin 1) (r : Fin 256) (k : Fin 3584), y = ix3 z r k := ⟨y 0, y 1, y 2, eq_ix3 y⟩
  obtain rfl : z = 0 := Subsingleton.elim _ _
  have e : ((View.whole main_v0_1).slice (win0_7.rect t)).emb (ix3 0 r k) = ix3 (seq t) (pos t r) k := by
    refine funext fun a => Fin.ext ?_
    match a with
    | ⟨0, _⟩ => blk_simp [idx7]; rfl
    | ⟨1, _⟩ => blk_simp [idx7]; rfl
    | ⟨2, _⟩ => blk_simp [idx7]
  rw [e]
  exact hc r k

/-- The scales after the run. -/
theorem final8 : ((rdat m (track m) c).withAfter after).arrAt 8 cfg0.N = scalesArr (args m c) := by
  refine ((rdat m (track m) c).withAfter after).arrAt_eq_of_covers 8 _ covers8 fun t hf y => ?_
  have ht := flush8 t hf
  have hc : (track m c).scales t (after 8 t) := (dat m c).toRRel_leaves (w := 8) rfl (ha 8 t hf)
  blk_simp
  obtain ⟨b, s, rfl⟩ : ∃ (b : Fin 4) (s : Fin 4096), y = ix2 b s := ⟨y 0, y 1, eq_ix2 y⟩
  have e : ((View.whole main_v0_2).slice (win0_8.rect t)).emb (ix2 b s) = ix2 b s := by
    refine funext fun a => Fin.ext ?_
    match a with
    | ⟨0, _⟩ => blk_simp [idx8]
    | ⟨1, _⟩ => blk_simp [idx8]
  rw [e]
  exact hc b s (by omega)

end

/-- The run of the kernel, read: its results are the sum, the codes and the scales of its arguments, which stay as they were. -/
theorem run (ρ : Dev nD → PrngReg) : θ_run defs (onTc (τ := τ) (main (F := Ideal))) ⟨m, fun _ => 0, ρ⟩ fun r => ∀ c : Dev nD,
      r.2.mem ((c : Thread nD τ).loc main_v0_0) = sumArr (args m c)
      ∧ r.2.mem ((c : Thread nD τ).loc main_v0_1) = codesArr (args m c)
      ∧ r.2.mem ((c : Thread nD τ).loc main_v0_2) = scalesArr (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_) (run_track m ρ (track m) (sound m))
  obtain ⟨after, ha, hA⟩ := h.1.exists_exact c
  exact ⟨(hA 6).trans (final6 m c after ha), (hA 7).trans (final7 m c after ha), (hA 8).trans (final8 m c after ha), args_of m (track m) h.1 c⟩

end Cert.Proof.OProj

end
-- ==== Proof.OProjRef.lean ====
/- THE REFERENCE OF THE OUTPUT PROJECTION computes the functions of OProjMath.lean, and so does the kernel: the claim. -/
module

public import proofs.«01_k».proof.Proof.OProjArray
public import proofs.«01_k».proof.Defs
public import proofs.«01_k».proof.Proof.Gen.OProjRefIdeal.Value

@[expose] public section

noncomputable section

namespace Cert.Proof.OProj

open Idealize.ShloMosaic Cert.OProjRefIdeal Cert.OProjRefIdeal.Gen

/-- The largest of each row. -/
theorem row_max {a b d : ℕ} (v : FVec Ideal ⟨3, ![a, b, d]⟩ .f32) (h : (⟨3, ![a, b, d]⟩ : Shape).Reduces [2] ⟨2, ![a, b]⟩) (q : Fin a) (r : Fin b) :
    multiReduction (F := Ideal) .maximumf [2] ⟨2, ![a, b]⟩ v 0xFF800000#32 h (.inl rfl) rfl (ix2 q r)
      = Finset.fold max (Ideal.ofBits FTy.f32 0xFF800000#32) (fun x => v (ix3 q r x)) Finset.univ := by
  pointwise []
/-- The sum of each row. -/
theorem row_sum {a b d : ℕ} (v : FVec Ideal ⟨3, ![a, b, d]⟩ .f32) (h : (⟨3, ![a, b, d]⟩ : Shape).Reduces [2] ⟨2, ![a, b]⟩) (q : Fin a) (r : Fin b) :
    multiReduction (F := Ideal) .add [2] ⟨2, ![a, b]⟩ v 0x00000000#32 h (.inl rfl) rfl (ix2 q r) = ∑ x, v (ix3 q r x) := by
  pointwise []
/-- The scale of each maximum. -/
theorem scale_apply (M : FVec Ideal S4x4096 .f32) (b : Fin 4) (s : Fin 4096) :
    select (cmpf .oeq M (broadcast S4x4096 (Scalar.ofBits .f32 0x00000000#32))) (broadcast S4x4096 (Scalar.ofBits .f32 0x3F800000#32)) (divf M (broadcast S4x4096 (Scalar.ofBits .f32 0x43E00000#32))) (ix2 b s)
    = scaleOf (M (ix2 b s)) := by
  pointwise [scaleOf]
/-- A value per row, spread over the row. -/
theorem spread_apply (M : FVec Ideal S4x4096 .f32) (b : Fin 4) (s : Fin 4096) (k : Fin 3584) :
    broadcastTo S4x4096x3584 (shapeCast S4x4096x1 M shapeCasts_S4x4096_S4x4096x1) broadcasts_S4x4096x1_S4x4096x3584 (ix3 b s k) = M (ix2 b s) := by
  pointwise []
/-- A value per column, spread over the rows. -/
theorem cols_apply (v : Vec Ideal S1x3584 .f32) (b : Fin 4) (s : Fin 4096) (k : Fin 3584) :
    broadcastTo S4x4096x3584 (shapeCast S1x1x3584 (shapeCast S3584 v shapeCasts_S1x3584_S3584) shapeCasts_S3584_S1x1x3584) broadcasts_S1x1x3584_S4x4096x3584 (ix3 b s k)
      = v (ix2 0 k) := by
  pointwise []
/-- The rows' roots, spread over the rows. -/
theorem root_apply (M : FVec Ideal S4x4096 .f32) (b : Fin 4) (s : Fin 4096) (k : Fin 3584) :
    broadcastTo S4x4096x3584 (sqrt (addf (divf (shapeCast S4x4096x1 M shapeCasts_S4x4096_S4x4096x1) (broadcast S4x4096x1 (Scalar.ofBits .f32 0x45600000#32))) (broadcast S4x4096x1 (Scalar.ofBits .f32 0x358637BD#32)))) broadcasts_S4x4096x1_S4x4096x3584 (ix3 b s k)
      = Ideal.sqrt (Ideal.div (M (ix2 b s)) (Ideal.ofBits .f32 0x45600000#32) + Ideal.ofBits .f32 0x358637BD#32) := by
  pointwise []
/-- Codes: the quotient, clipped. -/
theorem clip_div {s : Shape} (A B : FVec Ideal s .f32) (y : s.Idx) :
    (truncf .fp8e4m3 (minimumf (broadcast s (Scalar.ofBits .f32 0x43E00000#32)) (maximumf (broadcast s (Scalar.ofBits .f32 0xC3E00000#32)) (divf A B))) bitsLt_fp8e4m3_f32 : FVec Ideal s .fp8e4m3) y
      = code (A y) (B y) := by
  pointwise [code]
/-- The quotient of a product. -/
theorem mul_div_apply {s : Shape} (A B C : FVec Ideal s .f32) (y : s.Idx) : divf (mulf A B) C y = Ideal.div (A y * B y) (C y) := by
  pointwise []

variable (A : Args) (b : Fin 4) (s : Fin 4096) (k : Fin 3584)

/-- The residual sum. -/
theorem ref_hid : k0_pay2 (F := Ideal) A.res A.x A.xs A.w A.ws (ix3 b s k) = hid A b s k := by
  pointwise [k0_pay2, hid]

/-- The normalised rows. -/
theorem ref_row : k0_pay3 (F := Ideal) A.res A.x A.xs A.w A.ws A.ln (ix3 b s k) = row A b s k := by
  have e := ref_hid A b s
  unfold k0_pay3
  generalize k0_pay2 (F := Ideal) A.res A.x A.xs A.w A.ws = h at e
  refine (mul_div_apply _ _ _ _).trans ?_
  rw [cols_apply, root_apply, row_sum, e]
  unfold row normed root
  simp only [← e]
  rfl

/-- The rows' scales. -/
theorem ref_scale : k0_pay4 (F := Ideal) A.res A.x A.xs A.w A.ws A.ln (ix2 b s) = scale A b s := by
  have e := ref_row A b s
  unfold k0_pay4
  generalize k0_pay3 (F := Ideal) A.res A.x A.xs A.w A.ws A.ln = h at e
  refine (scale_apply _ b s).trans ?_
  rw [row_max]
  unfold scale top mag
  simp only [← e]
  rfl

/-- The codes. -/
theorem ref_codes : k0_pay1 (F := Ideal) (k0_pay3 A.res A.x A.xs A.w A.ws A.ln) (k0_pay4 A.res A.x A.xs A.w A.ws A.ln) (ix3 b s k) = codeAt A b s k := by
  unfold k0_pay1
  refine (clip_div _ _ _).trans ?_
  rw [spread_apply, ref_scale, ref_row]
  rfl

/-- Loads of whole blocks read the blocks. -/
theorem pay5_eq : k0_pay5 (F := Ideal) A.x A.xs A.w A.ws A.res A.ln = k0_pay4 A.res A.x A.xs A.w A.ws A.ln := by
  unfold k0_pay5
  rw [View.ld_unit_zero (S := S4x4096x3584) Value.hz4 _ A.res, View.ld_unit_zero (S := S4x4096x1792) Value.hz0 _ A.x,
    View.ld_unit_zero (S := S4x4096) Value.hz1 _ A.xs, View.ld_unit_zero (S := S1792x3584) Value.hz2 _ A.w,
    View.ld_unit_zero (S := S1x3584) Value.hz3 _ A.ws, View.ld_unit_zero (S := S1x3584) Value.hz5 _ A.ln]

/-- The reference's three results. -/
theorem ref_sumArr : Cert.OProjRefIdeal.Value.G6 (F := Ideal) A.x A.xs A.w A.ws A.res A.ln = sumArr A := by
  funext y
  obtain ⟨b, s, k, rfl⟩ : ∃ (b : Fin 4) (s : Fin 4096) (k : Fin 3584), y = ix3 b s k := ⟨y 0, y 1, y 2, eq_ix3 y⟩
  exact ref_hid A b s k
theorem ref_codesArr : Cert.OProjRefIdeal.Value.G7 (F := Ideal) A.x A.xs A.w A.ws A.res A.ln = codesArr A := by
  funext y
  obtain ⟨b, s, k, rfl⟩ : ∃ (b : Fin 4) (s : Fin 4096) (k : Fin 3584), y = ix3 b s k := ⟨y 0, y 1, y 2, eq_ix3 y⟩
  show k0_pay1 (F := Ideal) (k0_pay3 A.res A.x A.xs A.w A.ws A.ln) (k0_pay5 A.x A.xs A.w A.ws A.res A.ln) (ix3 b s k) = _
  rw [pay5_eq]
  exact ref_codes A b s k
theorem ref_scalesArr : Cert.OProjRefIdeal.Value.G8 (F := Ideal) A.x A.xs A.w A.ws A.res A.ln = scalesArr A := by
  funext y
  obtain ⟨b, s, rfl⟩ : ∃ (b : Fin 4) (s : Fin 4096), y = ix2 b s := ⟨y 0, y 1, eq_ix2 y⟩
  show k0_pay5 (F := Ideal) A.x A.xs A.w A.ws A.res A.ln (ix2 b s) = _
  rw [pay5_eq]
  exact ref_scale A b s

open Idealize.ShloMosaic.TcCoe Idealize.SL.Sem in
/-- The kernel and the reference compute the same extended reals. -/
theorem algebraic : Cert.algebraic_OProjIdeal_OProjRefIdeal := by
  intro m ρ m' ρ' _ hagree
  refine ⟨_, _, _, run m ρ, ?_⟩
  refine (θ_run Cert.OProjRefIdeal.defs _ _).mono (fun _ h c => ⟨(h c).1.trans ?_, (h c).2.1.trans ?_, (h c).2.2.1.trans ?_, (h c).2.2.2⟩)
    (Cert.OProjRefIdeal.Value.run (F := Ideal) m' ρ')
  · obtain ⟨e0, e1, e2, e3, e4, e5⟩ := hagree c
    rw [e0, e1, e2, e3, e4, e5]
    exact ref_sumArr (args m c)
  · obtain ⟨e0, e1, e2, e3, e4, e5⟩ := hagree c
    rw [e0, e1, e2, e3, e4, e5]
    exact ref_codesArr (args m c)
  · obtain ⟨e0, e1, e2, e3, e4, e5⟩ := hagree c
    rw [e0, e1, e2, e3, e4, e5]
    exact ref_scalesArr (args m c)

end Cert.Proof.OProj

end
-- ==== Proof.GateUpBody.lean ====
/- ONE RUN OF THE GATE/UP KERNEL'S BODY, in GateUp. At a grid point (row tile i 0, column tile i 1) the body reads the row tile of
   activations, the scales, and one column tile of each weight half; it stores the tile of silu(gate) * up into its slab of the
   activation scratch and updates the running row maxima. At the last column tile it also stores the row tile's scales and its codes.
   `runA` is the run at the other column tiles, `runB` the run at the last one: each gives the pieces stored into every buffer. -/
module

public import proofs.«01_k».proof.Proof.Gen.GateUp.Frame
public import proofs.«01_k».proof.Proof.Gen.GateUp.Skeleton
public import Idealize.ShloMosaic.Lib.Exec
public import Idealize.ShloMosaic.Lib.Pipeline.TableIdle

@[expose] public section

set_option maxRecDepth 16384

noncomputable section

namespace Cert.GateUp.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUp Cert.GateUp.Gen

variable {F : FTy → Type} [FloatOps F]

local notation "𝕄" => MT nD τ sig Unit (Elt F) ℕ (UR sig nD τ) ℕ

-- (the run's proof term is large: the definition's epilogue walks it past the default budget)
set_option maxHeartbeats 2000000 in
/-- The run at a column tile that is not the last: the pieces stored into the activation scratch and the maxima; the codes and scales stay. -/
noncomputable def runA (c : Dev nD) (i : grid0.Coords) (hc : ¬ k0_cond1 i = 1#1) (arg2 : Memref sig .tc .vmem S512x3584 .fp8e4m3) (harg2 : arg2.IsWhole) (arg3 : Memref sig .tc .vmem S4x4096 .f32) (harg3 : arg3.IsWhole) (arg4 : Memref sig .tc .vmem S3584x256 .fp8e4m3) (harg4 : arg4.IsWhole) (arg5 : Memref sig .tc .vmem S3584x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x9472 .fp8e4m3) (harg8 : arg8.IsWhole) (arg9 : Memref sig .tc .vmem S4x4096 .f32) (harg9 : arg9.IsWhole) (arg10 : Memref sig .tc .vmem S37x512x256 .f32) (harg10 : arg10.IsWhole) (arg11 : Memref sig .tc .vmem S512x128 .f32) (harg11 : arg11.IsWhole)
    (x0 : Vec F S512x3584 .fp8e4m3) (x1 : Vec F S4x4096 .f32) (x2 : Vec F S3584x256 .fp8e4m3) (x3 : Vec F S3584x256 .fp8e4m3) (x4 : Vec F S1x256 .f32) (x5 : Vec F S1x256 .f32) (y9 : Vec F S512x128 .f32) :
    Σ' (L8 : List (View.Piece (Elt F) S37x512x256 .f32)), { L9 : List (View.Piece (Elt F) S512x128 .f32) //
      ∀ (y6 : Vec F S512x9472 .fp8e4m3) (y7 : Vec F S4x4096 .f32) (y8 : Vec F S37x512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare y8 ∗ owns (c : Thread nD τ) arg11 fullShare y9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ (arg10.view.loc (c : Thread nD τ) ↦[arg10.view.set]{fullShare} arg10.view.writes (Elt F) (harg10.unread y8) L8) ∗ (arg11.view.loc (c : Thread nD τ) ↦[arg11.view.set]{fullShare} arg11.view.writes (Elt F) (harg11.unread y9) L9)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K } := by
  refine ⟨?_, ?_, fun y6 y7 y8 E K => ?run⟩
  case run =>
    simp only [cc0_gate_up_eq_skeleton]; unfold cc0_gate_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexact H8
    iexact H9

-- (the run's proof term is large: the definition's epilogue walks it past the default budget)
set_option maxHeartbeats 2000000 in
/-- The run at the last column tile: the pieces stored into the codes, the scales, the activation scratch and the maxima. -/
noncomputable def runB (c : Dev nD) (i : grid0.Coords) (hc : k0_cond1 i = 1#1) (arg2 : Memref sig .tc .vmem S512x3584 .fp8e4m3) (harg2 : arg2.IsWhole) (arg3 : Memref sig .tc .vmem S4x4096 .f32) (harg3 : arg3.IsWhole) (arg4 : Memref sig .tc .vmem S3584x256 .fp8e4m3) (harg4 : arg4.IsWhole) (arg5 : Memref sig .tc .vmem S3584x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x9472 .fp8e4m3) (harg8 : arg8.IsWhole) (arg9 : Memref sig .tc .vmem S4x4096 .f32) (harg9 : arg9.IsWhole) (arg10 : Memref sig .tc .vmem S37x512x256 .f32) (harg10 : arg10.IsWhole) (arg11 : Memref sig .tc .vmem S512x128 .f32) (harg11 : arg11.IsWhole)
    (x0 : Vec F S512x3584 .fp8e4m3) (x1 : Vec F S4x4096 .f32) (x2 : Vec F S3584x256 .fp8e4m3) (x3 : Vec F S3584x256 .fp8e4m3) (x4 : Vec F S1x256 .f32) (x5 : Vec F S1x256 .f32) (y7 : Vec F S4x4096 .f32) (y8 : Vec F S37x512x256 .f32) (y9 : Vec F S512x128 .f32) :
    Σ' (L6 : List (View.Piece (Elt F) S512x9472 .fp8e4m3)) (L7 : List (View.Piece (Elt F) S4x4096 .f32)) (L8 : List (View.Piece (Elt F) S37x512x256 .f32)), { L9 : List (View.Piece (Elt F) S512x128 .f32) //
      ∀ (y6 : Vec F S512x9472 .fp8e4m3) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare y8 ∗ owns (c : Thread nD τ) arg11 fullShare y9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (arg8.view.loc (c : Thread nD τ) ↦[arg8.view.set]{fullShare} arg8.view.writes (Elt F) (harg8.unread y6) L6) ∗ (arg9.view.loc (c : Thread nD τ) ↦[arg9.view.set]{fullShare} arg9.view.writes (Elt F) (harg9.unread y7) L7) ∗ (arg10.view.loc (c : Thread nD τ) ↦[arg10.view.set]{fullShare} arg10.view.writes (Elt F) (harg10.unread y8) L8) ∗ (arg11.view.loc (c : Thread nD τ) ↦[arg11.view.set]{fullShare} arg11.view.writes (Elt F) (harg11.unread y9) L9)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K } := by
  refine ⟨?_, ?_, ?_, ?_, fun y6 E K => ?run⟩
  case run =>
    simp only [cc0_gate_up_eq_skeleton]; unfold cc0_gate_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexact H6
    isplitl [H7]; · iexact H7
    isplitl [H8]; · iexact H8
    iexact H9

end Cert.GateUp.Hand

end
-- ==== Proof.GateUpFrame.lean ====
/- THE GATE/UP KERNEL'S RUN, in GateUp. The pipeline's proof data are relational: of the scales window, whose one block stays in place
   for the whole grid and is written one row span at a time over unknown contents, and of the codes window, they say only that what a
   point leaves there meets a predicate. `Track` collects those predicates and the invariant of the two scratch buffers; `Track.Sound`
   says that the body keeps them; `run_track` is the run for every sound track, and `frame` is the frame claim, the track saying nothing. -/
module

public import proofs.«01_k».proof.Proof.GateUpBody
public import Idealize.ShloMosaic.Lib.Pipeline.DatRel

@[expose] public section

set_option maxRecDepth 16384

noncomputable section

namespace Cert.GateUp.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.GateUp Cert.GateUp.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves -/

/-- The run at point `t`, not the last column tile, on the input blocks there. -/
def atA (c : Dev nD) (t : Fin cfg0.N) (hc : ¬ k0_cond1 (grid0.coords t) = 1#1) (y9 : Vec F S512x128 .f32) :=
  runA (F := F) c (grid0.coords t) hc (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) y9

/-- The run at point `t`, the last column tile, on the input blocks there. -/
def atB (c : Dev nD) (t : Fin cfg0.N) (hc : k0_cond1 (grid0.coords t) = 1#1) (y7 : Vec F S4x4096 .f32) (y8 : Vec F S37x512x256 .f32) (y9 : Vec F S512x128 .f32) :=
  runB (F := F) c (grid0.coords t) hc (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) y7 y8 y9

/-- The activation scratch after a point that is not a last column tile. -/
def actA (c : Dev nD) (t : Fin cfg0.N) (hc : ¬ k0_cond1 (grid0.coords t) = 1#1) (y8 : Vec F S37x512x256 .f32) (y9 : Vec F S512x128 .f32) : Vec F S37x512x256 .f32 :=
  (Memref.whole cc0_scratch0).view.read (Elt F) ((Memref.whole cc0_scratch0).view.writes (Elt F) ((Memref.isWhole_whole cc0_scratch0).unread y8) (atA m c t hc y9).1)
/-- The row maxima after a point that is not a last column tile. -/
def topA (c : Dev nD) (t : Fin cfg0.N) (hc : ¬ k0_cond1 (grid0.coords t) = 1#1) (y9 : Vec F S512x128 .f32) : Vec F S512x128 .f32 :=
  (Memref.whole cc0_scratch1).view.read (Elt F) ((Memref.whole cc0_scratch1).view.writes (Elt F) ((Memref.isWhole_whole cc0_scratch1).unread y9) (atA m c t hc y9).2.1)
/-- The codes after a last column tile. -/
def codesB (c : Dev nD) (t : Fin cfg0.N) (hc : k0_cond1 (grid0.coords t) = 1#1) (y6 : Vec F S512x9472 .fp8e4m3) (y7 : Vec F S4x4096 .f32) (y8 : Vec F S37x512x256 .f32) (y9 : Vec F S512x128 .f32) : Vec F S512x9472 .fp8e4m3 :=
  (win0_6.stage (cfg0.slots t 6)).view.read (Elt F) ((win0_6.stage (cfg0.slots t 6)).view.writes (Elt F) ((hstage0_6 ((cfg0.slots t 6).cast nbuf0_6)).unread y6) (atB m c t hc y7 y8 y9).1)
/-- The scales after a last column tile. -/
def scalesB (c : Dev nD) (t : Fin cfg0.N) (hc : k0_cond1 (grid0.coords t) = 1#1) (y7 : Vec F S4x4096 .f32) (y8 : Vec F S37x512x256 .f32) (y9 : Vec F S512x128 .f32) : Vec F S4x4096 .f32 :=
  (win0_7.stage (cfg0.slots t 7)).view.read (Elt F) ((win0_7.stage (cfg0.slots t 7)).view.writes (Elt F) ((hstage0_7 ((cfg0.slots t 7).cast nbuf0_7)).unread y7) (atB m c t hc y7 y8 y9).2.1)
/-- The activation scratch after a last column tile. -/
def actB (c : Dev nD) (t : Fin cfg0.N) (hc : k0_cond1 (grid0.coords t) = 1#1) (y7 : Vec F S4x4096 .f32) (y8 : Vec F S37x512x256 .f32) (y9 : Vec F S512x128 .f32) : Vec F S37x512x256 .f32 :=
  (Memref.whole cc0_scratch0).view.read (Elt F) ((Memref.whole cc0_scratch0).view.writes (Elt F) ((Memref.isWhole_whole cc0_scratch0).unread y8) (atB m c t hc y7 y8 y9).2.2.1)
/-- The row maxima after a last column tile. -/
def topB (c : Dev nD) (t : Fin cfg0.N) (hc : k0_cond1 (grid0.coords t) = 1#1) (y7 : Vec F S4x4096 .f32) (y8 : Vec F S37x512x256 .f32) (y9 : Vec F S512x128 .f32) : Vec F S512x128 .f32 :=
  (Memref.whole cc0_scratch1).view.read (Elt F) ((Memref.whole cc0_scratch1).view.writes (Elt F) ((Memref.isWhole_whole cc0_scratch1).unread y9) (atB m c t hc y7 y8 y9).2.2.2.1)

/-! ## What is tracked -/

/-- The invariant of the two scratch buffers before point `n`, and what a point leaves in the codes and in the scales. -/
structure Track (F : FTy → Type) [FloatOps F] where
  inv : ℕ → Vec F S37x512x256 .f32 → Vec F S512x128 .f32 → Prop
  codes : Fin cfg0.N → Vec F S512x9472 .fp8e4m3 → Prop
  scales : Fin cfg0.N → Vec F S4x4096 .f32 → Prop

/-- The body keeps what is tracked. Before the first point nothing is known; at a later one the scales are what the point before left. -/
structure Track.Sound (T : Dev nD → Track F) : Prop where
  init : ∀ c a mx, (T c).inv 0 a mx
  stepA : ∀ c (t : Fin cfg0.N) hc y6 y7 a mx, (T c).inv t.val a mx → (∀ h : t.val ≠ 0, (T c).scales ⟨t.val - 1, by omega⟩ y7) →
    (T c).inv (t.val + 1) (actA m c t hc a mx) (topA m c t hc mx) ∧ (T c).codes t y6 ∧ (T c).scales t y7
  stepB : ∀ c (t : Fin cfg0.N) hc y6 y7 a mx, (T c).inv t.val a mx → (∀ h : t.val ≠ 0, (T c).scales ⟨t.val - 1, by omega⟩ y7) →
    (T c).inv (t.val + 1) (actB m c t hc y7 a mx) (topB m c t hc y7 a mx)
      ∧ (T c).codes t (codesB m c t hc y6 y7 a mx) ∧ (T c).scales t (scalesB m c t hc y7 a mx)

/-! ## The proof data -/

variable (T : Dev nD → Track F)

/-- The windows held to a predicate: the codes and the scales. -/
def held (w : Fin cfg0.W) : Bool := match w with
  | ⟨6, _⟩ => true
  | ⟨7, _⟩ => true
  | _ => false

/-- The predicates they are held to. -/
def rel (c : Dev nD) (w : Fin cfg0.W) : Fin cfg0.N → ((cfg0.win w).block.Idx → Elt F (cfg0.win w).elt) → Prop := match w with
  | ⟨6, _⟩ => (T c).codes
  | ⟨7, _⟩ => (T c).scales
  | _ => fun _ _ => True

/-- The exact part of the proof data: each input's buffer at its block; the invariant holds the scratch buffers. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => Classical.arbitrary _
    | ⟨7, _⟩ => fun _ => Classical.arbitrary _
  Φ t := iprop((∃ a mx, ⌜(T c).inv t.val a mx⌝ ∗ owns (c : Thread nD τ) (Memref.whole cc0_scratch0) fullShare a
      ∗ owns (c : Thread nD τ) (Memref.whole cc0_scratch1) fullShare mx) ∗ ∃ r, prngReg c r)
  q w := Pipeline.shareOf spec0 w
  owed _ := 0

/-- The proof data of the run. -/
def rdat (c : Dev nD) : RDat τ (Elt F) Unit ℕ (UR sig nD τ) ℕ cfg0 c := (dat m T c).toRRel held (rel T c)

theorem after0_0 (c : Dev nD) (t : Fin cfg0.N) : (dat m T c).after 0 t = iblk m c 0 t := by dsimp only [dat]
theorem before0_0 (c : Dev nD) (t : Fin cfg0.N) (d) : (dat m T c).before 0 t d = iblk m c 0 t :=
  before0_0_of m (dat m T c) (by dsimp only [dat]) (after0_0 m T c) t d
theorem after0_1 (c : Dev nD) (t : Fin cfg0.N) : (dat m T c).after 1 t = iblk m c 1 t := by dsimp only [dat]
theorem before0_1 (c : Dev nD) (t : Fin cfg0.N) (d) : (dat m T c).before 1 t d = iblk m c 1 t :=
  before0_1_of m (dat m T c) (by dsimp only [dat]) (after0_1 m T c) t d
theorem after0_2 (c : Dev nD) (t : Fin cfg0.N) : (dat m T c).after 2 t = iblk m c 2 t := by dsimp only [dat]
theorem before0_2 (c : Dev nD) (t : Fin cfg0.N) (d) : (dat m T c).before 2 t d = iblk m c 2 t :=
  before0_2_of m (dat m T c) (by dsimp only [dat]) (after0_2 m T c) t d
theorem after0_3 (c : Dev nD) (t : Fin cfg0.N) : (dat m T c).after 3 t = iblk m c 3 t := by dsimp only [dat]
theorem before0_3 (c : Dev nD) (t : Fin cfg0.N) (d) : (dat m T c).before 3 t d = iblk m c 3 t :=
  before0_3_of m (dat m T c) (by dsimp only [dat]) (after0_3 m T c) t d
theorem after0_4 (c : Dev nD) (t : Fin cfg0.N) : (dat m T c).after 4 t = iblk m c 4 t := by dsimp only [dat]
theorem before0_4 (c : Dev nD) (t : Fin cfg0.N) (d) : (dat m T c).before 4 t d = iblk m c 4 t :=
  before0_4_of m (dat m T c) (by dsimp only [dat]) (after0_4 m T c) t d
theorem after0_5 (c : Dev nD) (t : Fin cfg0.N) : (dat m T c).after 5 t = iblk m c 5 t := by dsimp only [dat]
theorem before0_5 (c : Dev nD) (t : Fin cfg0.N) (d) : (dat m T c).before 5 t d = iblk m c 5 t :=
  before0_5_of m (dat m T c) (by dsimp only [dat]) (after0_5 m T c) t d

/-- What the body finds in the scales window is what the point before left there. -/
theorem finds_scales (c : Dev nD) (t : Fin cfg0.N) (Y : Vec F S4x4096 .f32) (h : (rdat m T c).Finds 7 t Y) :
    ∀ h : t.val ≠ 0, (T c).scales ⟨t.val - 1, by omega⟩ Y := fun ht => by
  have hf : (cfg0.win 7).fetch t = false := Window.fetch_out _ rfl t
  rcases ((rdat m T c).finds_of_pos hf ht Y).mp h with hfl | hl
  · have := (flush0_7 _).mp hfl
    have hN : t.val < 1184 := t.isLt
    simp only at this
    omega
  · exact (dat m T c).toRRel_leaves (w := 7) rfl hl

/-! ## The body obligation -/

/-- What the body is called with at point `t`, -/
def bodyPre (c : Dev nD) (t : Fin cfg0.N) : sProp 𝕄 :=
  iprop((dat m T c).Φ t.castSucc ∗ (dat m T c).owesAt () t.castSucc
    ∗ (∃ d, owns (c : Thread nD τ) (win0_0.stage (cfg0.slots t 0)) fullShare ((dat m T c).before 0 t d))
    ∗ (∃ d, owns (c : Thread nD τ) (win0_1.stage (cfg0.slots t 1)) fullShare ((dat m T c).before 1 t d))
    ∗ (∃ d, owns (c : Thread nD τ) (win0_2.stage (cfg0.slots t 2)) fullShare ((dat m T c).before 2 t d))
    ∗ (∃ d, owns (c : Thread nD τ) (win0_3.stage (cfg0.slots t 3)) fullShare ((dat m T c).before 3 t d))
    ∗ (∃ d, owns (c : Thread nD τ) (win0_4.stage (cfg0.slots t 4)) fullShare ((dat m T c).before 4 t d))
    ∗ (∃ d, owns (c : Thread nD τ) (win0_5.stage (cfg0.slots t 5)) fullShare ((dat m T c).before 5 t d))
    ∗ (∃ Y, ⌜(rdat m T c).Finds 6 t Y⌝ ∗ owns (c : Thread nD τ) (win0_6.stage (cfg0.slots t 6)) fullShare Y)
    ∗ (∃ Y, ⌜(rdat m T c).Finds 7 t Y⌝ ∗ owns (c : Thread nD τ) (win0_7.stage (cfg0.slots t 7)) fullShare Y))

/-- and what it returns. -/
def bodyPost (c : Dev nD) (t : Fin cfg0.N) : sProp 𝕄 :=
  iprop((dat m T c).Φ t.succ ∗ (dat m T c).owesAt () t.succ
    ∗ owns (c : Thread nD τ) (win0_0.stage (cfg0.slots t 0)) fullShare ((dat m T c).after 0 t)
    ∗ owns (c : Thread nD τ) (win0_1.stage (cfg0.slots t 1)) fullShare ((dat m T c).after 1 t)
    ∗ owns (c : Thread nD τ) (win0_2.stage (cfg0.slots t 2)) fullShare ((dat m T c).after 2 t)
    ∗ owns (c : Thread nD τ) (win0_3.stage (cfg0.slots t 3)) fullShare ((dat m T c).after 3 t)
    ∗ owns (c : Thread nD τ) (win0_4.stage (cfg0.slots t 4)) fullShare ((dat m T c).after 4 t)
    ∗ owns (c : Thread nD τ) (win0_5.stage (cfg0.slots t 5)) fullShare ((dat m T c).after 5 t)
    ∗ (∃ X, ⌜(T c).codes t X⌝ ∗ owns (c : Thread nD τ) (win0_6.stage (cfg0.slots t 6)) fullShare X)
    ∗ (∃ X, ⌜(T c).scales t X⌝ ∗ owns (c : Thread nD τ) (win0_7.stage (cfg0.slots t 7)) fullShare X))

/-- The body at any point, by the run of its case. -/
theorem sound_body (hT : Track.Sound m T) (c : Dev nD) (t : Fin cfg0.N) :
    bodyPre m T c t ⊢ wp frame (wpE (defs₀ (F := F)) Variants.none c none) Set.univ (bodyAt0 t) (fun _ => bodyPost m T c t) := by
  unfold bodyPre bodyPost bodyAt0
  simp only [before0_0, after0_0, before0_1, after0_1, before0_2, after0_2, before0_3, after0_3, before0_4, after0_4, before0_5, after0_5]
  rw [show (dat m T c).owesAt () t.succ = (dat m T c).owesAt () t.castSucc from rfl]
  dsimp only [dat]
  iintro ⟨⟨⟨%a, %mx, %hinv, H8, H9⟩, Hr⟩, Ho, ⟨%d0, H0⟩, ⟨%d1, H1⟩, ⟨%d2, H2⟩, ⟨%d3, H3⟩, ⟨%d4, H4⟩, ⟨%d5, H5⟩, ⟨%y6, %hy6, H6⟩, ⟨%y7, %hy7, H7⟩⟩
  have h7 := finds_scales m T c t y7 hy7
  by_cases hc : k0_cond1 (grid0.coords t) = 1#1
  · obtain ⟨hi, h6', h7'⟩ := hT.stepB c t hc y6 y7 a mx hinv h7
    iapply ((runB c (grid0.coords t) hc (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _)
      (iblk m c 0 t) (iblk m c 1 t) (iblk m c 2 t) (iblk m c 3 t) (iblk m c 4 t) (iblk m c 5 t) y7 a mx).2.2.2.2 y6 Set.univ _)

    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, H8, H9⟩
    isplitl [H8 H9 Hr]
    · isplitl [H8 H9]
      · iexists (actB m c t hc y7 a mx); iexists (topB m c t hc y7 a mx)
        isplitr; · ipureintro; exact hi
        unfold owns
        isplitl [H8]
        · iexists _; isplitr; swap; · iexact H8
          ipureintro; rfl
        · iexists _; isplitr; swap; · iexact H9
          ipureintro; rfl
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns
    isplitl [H6]
    · iexists (codesB m c t hc y6 y7 a mx); isplitr; · ipureintro; exact h6'
      iexists _; isplitr; swap; · iexact H6
      ipureintro; rfl
    · iexists (scalesB m c t hc y7 a mx); isplitr; · ipureintro; exact h7'
      iexists _; isplitr; swap; · iexact H7
      ipureintro; rfl
  · obtain ⟨hi, h6', h7'⟩ := hT.stepA c t hc y6 y7 a mx hinv h7
    iapply ((runA c (grid0.coords t) hc (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _)
      (iblk m c 0 t) (iblk m c 1 t) (iblk m c 2 t) (iblk m c 3 t) (iblk m c 4 t) (iblk m c 5 t) mx).2.2 y6 y7 a Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, H8, H9⟩
    isplitl [H8 H9 Hr]
    · isplitl [H8 H9]
      · iexists (actA m c t hc a mx); iexists (topA m c t hc mx)
        isplitr; · ipureintro; exact hi
        unfold owns
        isplitl [H8]
        · iexists _; isplitr; swap; · iexact H8
          ipureintro; rfl
        · iexists _; isplitr; swap; · iexact H9
          ipureintro; rfl
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists y6; isplitr; · ipureintro; exact h6'
      iexact H6
    · iexists y7; isplitr; · ipureintro; exact h7'
      iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (hT : Track.Sound m T) (c : Dev nD) :
    BodyObligationRel (dat m T c) (defs₀ (F := F)) Variants.none () Set.univ held (rel T c) := fun t => by
  rw [bigSep_W0, bigSep_W0, defs₀_row]
  exact triple_restated (sound_body m T hT c t) rfl .rfl fun _ => .rfl

/-! ## The run and the frame -/

/-- The region is entered with the scratch buffers at any contents, -/
theorem enter (hT : Track.Sound m T) (c : Dev nD) : Pipeline.ΦA (Val := Elt F) spec0 c ⊢ (dat m T c).Φ 0 := by
  dsimp only [dat]
  unfold Pipeline.ΦA
  rw [scopedRest0_eq]
  iintro ⟨⟨⟨%f, H8⟩, ⟨%g, H9⟩⟩, Hr⟩
  isplitl [H8 H9]
  · iexists f; iexists g
    isplitr; · ipureintro; exact hT.init c f g
    rw [owns_whole, owns_whole]
    isplitl [H8]; · iexact H8
    iexact H9
  · iexact Hr

/-- and left so. -/
theorem leave (c : Dev nD) : (dat m T c).Φ (Fin.last cfg0.N) ⊢ Pipeline.ΦA (Val := Elt F) spec0 c := by
  dsimp only [dat]
  unfold Pipeline.ΦA
  rw [scopedRest0_eq]
  simp only [owns_whole]
  iintro ⟨⟨%a, %mx, -, H8, H9⟩, Hr⟩
  isplitl [H8 H9]
  · isplitl [H8]
    · iexists a; iexact H8
    · iexists mx; iexact H9
  · iexact Hr

set_option backward.isDefEq.respectTransparency.types false in
/-- The run, for every sound track: every weakly fair execution of @main terminates, the arrays end at contents the proof data allow,
    and every semaphore counter is zero. -/
theorem run_track (hT : Track.Sound m T) : θ_run defs (onTc (τ := τ) (main (F := F))) (s₀ m ρ)
    (fun r => RDat.FramePost cfg0 (rdat m T) (V m) r ∧ r.2.sem = fun _ => 0) :=
  RDat.θ_run_frame_track_shared (Q' := _) cfgs (0 : Fin 1) launch₀0 defs₀ Variants.none (rdat m T) m ρ main
    (hbody := fun c => (body_obligation m T hT c).toRRel) (hq := fun _ _ _ => rfl)
    (howed := fun _ _ => rfl) (V := V m) (hmain := hmain m Variants.none) (hA := fun _ _ => rfl)
    (hin := fun c => enter m T hT c) (hout := fun c => leave m T c)

/-- The argument arrays end unchanged. -/
theorem args_of {r} (h : RDat.FramePost cfg0 (rdat m T) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨h.arr_in c 0 rfl, h.arr_in c 1 rfl, h.arr_in c 3 rfl, h.arr_in c 5 rfl⟩

/-- The track that says nothing. -/
def Track.nothing : Track F := ⟨fun _ _ _ => True, fun _ _ => True, fun _ _ => True⟩

theorem Track.nothing_sound : Track.Sound m fun _ => Track.nothing (F := F) :=
  ⟨fun _ _ _ => trivial, fun _ _ _ _ _ _ _ _ _ => ⟨trivial, trivial, trivial⟩, fun _ _ _ _ _ _ _ _ _ => ⟨trivial, trivial, trivial⟩⟩

/-- THE FRAME: every weakly fair execution terminates, the argument arrays end unchanged, and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨args_of m _ h.1, h.2⟩) (run_track m ρ _ (Track.nothing_sound m))

end Cert.GateUp.Hand

end
-- ==== Proof.GateUpIdealBody.lean ====
/- ONE RUN OF THE GATE/UP KERNEL'S BODY, in GateUpIdeal. At a grid point (row tile i 0, column tile i 1) the body reads the row tile of
   activations, the scales, and one column tile of each weight half; it stores the tile of silu(gate) * up into its slab of the
   activation scratch and updates the running row maxima. At the last column tile it also stores the row tile's scales and its codes.
   `runA` is the run at the other column tiles, `runB` the run at the last one: each gives the pieces stored into every buffer. -/
module

public import proofs.«01_k».proof.Proof.Gen.GateUpIdeal.Frame
public import proofs.«01_k».proof.Proof.Gen.GateUpIdeal.Skeleton
public import Idealize.ShloMosaic.Lib.Exec
public import Idealize.ShloMosaic.Lib.Pipeline.TableIdle

@[expose] public section

set_option maxRecDepth 16384

noncomputable section

namespace Cert.GateUpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUpIdeal Cert.GateUpIdeal.Gen

variable {F : FTy → Type} [FloatOps F]

local notation "𝕄" => MT nD τ sig Unit (Elt F) ℕ (UR sig nD τ) ℕ

-- (the run's proof term is large: the definition's epilogue walks it past the default budget)
set_option maxHeartbeats 2000000 in
/-- The run at a column tile that is not the last: the pieces stored into the activation scratch and the maxima; the codes and scales stay. -/
noncomputable def runA (c : Dev nD) (i : grid0.Coords) (hc : ¬ k0_cond1 i = 1#1) (arg2 : Memref sig .tc .vmem S512x3584 .fp8e4m3) (harg2 : arg2.IsWhole) (arg3 : Memref sig .tc .vmem S4x4096 .f32) (harg3 : arg3.IsWhole) (arg4 : Memref sig .tc .vmem S3584x256 .fp8e4m3) (harg4 : arg4.IsWhole) (arg5 : Memref sig .tc .vmem S3584x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x9472 .fp8e4m3) (harg8 : arg8.IsWhole) (arg9 : Memref sig .tc .vmem S4x4096 .f32) (harg9 : arg9.IsWhole) (arg10 : Memref sig .tc .vmem S37x512x256 .f32) (harg10 : arg10.IsWhole) (arg11 : Memref sig .tc .vmem S512x128 .f32) (harg11 : arg11.IsWhole)
    (x0 : Vec F S512x3584 .fp8e4m3) (x1 : Vec F S4x4096 .f32) (x2 : Vec F S3584x256 .fp8e4m3) (x3 : Vec F S3584x256 .fp8e4m3) (x4 : Vec F S1x256 .f32) (x5 : Vec F S1x256 .f32) (y9 : Vec F S512x128 .f32) :
    Σ' (L8 : List (View.Piece (Elt F) S37x512x256 .f32)), { L9 : List (View.Piece (Elt F) S512x128 .f32) //
      ∀ (y6 : Vec F S512x9472 .fp8e4m3) (y7 : Vec F S4x4096 .f32) (y8 : Vec F S37x512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare y8 ∗ owns (c : Thread nD τ) arg11 fullShare y9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ (arg10.view.loc (c : Thread nD τ) ↦[arg10.view.set]{fullShare} arg10.view.writes (Elt F) (harg10.unread y8) L8) ∗ (arg11.view.loc (c : Thread nD τ) ↦[arg11.view.set]{fullShare} arg11.view.writes (Elt F) (harg11.unread y9) L9)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K } := by
  refine ⟨?_, ?_, fun y6 y7 y8 E K => ?run⟩
  case run =>
    simp only [cc0_gate_up_eq_skeleton]; unfold cc0_gate_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexact H8
    iexact H9

-- (the run's proof term is large: the definition's epilogue walks it past the default budget)
set_option maxHeartbeats 2000000 in
/-- The run at the last column tile: the pieces stored into the codes, the scales, the activation scratch and the maxima. -/
noncomputable def runB (c : Dev nD) (i : grid0.Coords) (hc : k0_cond1 i = 1#1) (arg2 : Memref sig .tc .vmem S512x3584 .fp8e4m3) (harg2 : arg2.IsWhole) (arg3 : Memref sig .tc .vmem S4x4096 .f32) (harg3 : arg3.IsWhole) (arg4 : Memref sig .tc .vmem S3584x256 .fp8e4m3) (harg4 : arg4.IsWhole) (arg5 : Memref sig .tc .vmem S3584x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x9472 .fp8e4m3) (harg8 : arg8.IsWhole) (arg9 : Memref sig .tc .vmem S4x4096 .f32) (harg9 : arg9.IsWhole) (arg10 : Memref sig .tc .vmem S37x512x256 .f32) (harg10 : arg10.IsWhole) (arg11 : Memref sig .tc .vmem S512x128 .f32) (harg11 : arg11.IsWhole)
    (x0 : Vec F S512x3584 .fp8e4m3) (x1 : Vec F S4x4096 .f32) (x2 : Vec F S3584x256 .fp8e4m3) (x3 : Vec F S3584x256 .fp8e4m3) (x4 : Vec F S1x256 .f32) (x5 : Vec F S1x256 .f32) (y7 : Vec F S4x4096 .f32) (y8 : Vec F S37x512x256 .f32) (y9 : Vec F S512x128 .f32) :
    Σ' (L6 : List (View.Piece (Elt F) S512x9472 .fp8e4m3)) (L7 : List (View.Piece (Elt F) S4x4096 .f32)) (L8 : List (View.Piece (Elt F) S37x512x256 .f32)), { L9 : List (View.Piece (Elt F) S512x128 .f32) //
      ∀ (y6 : Vec F S512x9472 .fp8e4m3) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare y8 ∗ owns (c : Thread nD τ) arg11 fullShare y9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (arg8.view.loc (c : Thread nD τ) ↦[arg8.view.set]{fullShare} arg8.view.writes (Elt F) (harg8.unread y6) L6) ∗ (arg9.view.loc (c : Thread nD τ) ↦[arg9.view.set]{fullShare} arg9.view.writes (Elt F) (harg9.unread y7) L7) ∗ (arg10.view.loc (c : Thread nD τ) ↦[arg10.view.set]{fullShare} arg10.view.writes (Elt F) (harg10.unread y8) L8) ∗ (arg11.view.loc (c : Thread nD τ) ↦[arg11.view.set]{fullShare} arg11.view.writes (Elt F) (harg11.unread y9) L9)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K } := by
  refine ⟨?_, ?_, ?_, ?_, fun y6 E K => ?run⟩
  case run =>
    simp only [cc0_gate_up_eq_skeleton]; unfold cc0_gate_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexact H6
    isplitl [H7]; · iexact H7
    isplitl [H8]; · iexact H8
    iexact H9

end Cert.GateUpIdeal.Hand

end
-- ==== Proof.GateUpIdealFrame.lean ====
/- THE GATE/UP KERNEL'S RUN, in GateUpIdeal. The pipeline's proof data are relational: of the scales window, whose one block stays in place
   for the whole grid and is written one row span at a time over unknown contents, and of the codes window, they say only that what a
   point leaves there meets a predicate. `Track` collects those predicates and the invariant of the two scratch buffers; `Track.Sound`
   says that the body keeps them; `run_track` is the run for every sound track, and `frame` is the frame claim, the track saying nothing. -/
module

public import proofs.«01_k».proof.Proof.GateUpIdealBody
public import Idealize.ShloMosaic.Lib.Pipeline.DatRel

@[expose] public section

set_option maxRecDepth 16384

noncomputable section

namespace Cert.GateUpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.GateUpIdeal Cert.GateUpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves -/

/-- The run at point `t`, not the last column tile, on the input blocks there. -/
def atA (c : Dev nD) (t : Fin cfg0.N) (hc : ¬ k0_cond1 (grid0.coords t) = 1#1) (y9 : Vec F S512x128 .f32) :=
  runA (F := F) c (grid0.coords t) hc (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) y9

/-- The run at point `t`, the last column tile, on the input blocks there. -/
def atB (c : Dev nD) (t : Fin cfg0.N) (hc : k0_cond1 (grid0.coords t) = 1#1) (y7 : Vec F S4x4096 .f32) (y8 : Vec F S37x512x256 .f32) (y9 : Vec F S512x128 .f32) :=
  runB (F := F) c (grid0.coords t) hc (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) y7 y8 y9

/-- The activation scratch after a point that is not a last column tile. -/
def actA (c : Dev nD) (t : Fin cfg0.N) (hc : ¬ k0_cond1 (grid0.coords t) = 1#1) (y8 : Vec F S37x512x256 .f32) (y9 : Vec F S512x128 .f32) : Vec F S37x512x256 .f32 :=
  (Memref.whole cc0_scratch0).view.read (Elt F) ((Memref.whole cc0_scratch0).view.writes (Elt F) ((Memref.isWhole_whole cc0_scratch0).unread y8) (atA m c t hc y9).1)
/-- The row maxima after a point that is not a last column tile. -/
def topA (c : Dev nD) (t : Fin cfg0.N) (hc : ¬ k0_cond1 (grid0.coords t) = 1#1) (y9 : Vec F S512x128 .f32) : Vec F S512x128 .f32 :=
  (Memref.whole cc0_scratch1).view.read (Elt F) ((Memref.whole cc0_scratch1).view.writes (Elt F) ((Memref.isWhole_whole cc0_scratch1).unread y9) (atA m c t hc y9).2.1)
/-- The codes after a last column tile. -/
def codesB (c : Dev nD) (t : Fin cfg0.N) (hc : k0_cond1 (grid0.coords t) = 1#1) (y6 : Vec F S512x9472 .fp8e4m3) (y7 : Vec F S4x4096 .f32) (y8 : Vec F S37x512x256 .f32) (y9 : Vec F S512x128 .f32) : Vec F S512x9472 .fp8e4m3 :=
  (win0_6.stage (cfg0.slots t 6)).view.read (Elt F) ((win0_6.stage (cfg0.slots t 6)).view.writes (Elt F) ((hstage0_6 ((cfg0.slots t 6).cast nbuf0_6)).unread y6) (atB m c t hc y7 y8 y9).1)
/-- The scales after a last column tile. -/
def scalesB (c : Dev nD) (t : Fin cfg0.N) (hc : k0_cond1 (grid0.coords t) = 1#1) (y7 : Vec F S4x4096 .f32) (y8 : Vec F S37x512x256 .f32) (y9 : Vec F S512x128 .f32) : Vec F S4x4096 .f32 :=
  (win0_7.stage (cfg0.slots t 7)).view.read (Elt F) ((win0_7.stage (cfg0.slots t 7)).view.writes (Elt F) ((hstage0_7 ((cfg0.slots t 7).cast nbuf0_7)).unread y7) (atB m c t hc y7 y8 y9).2.1)
/-- The activation scratch after a last column tile. -/
def actB (c : Dev nD) (t : Fin cfg0.N) (hc : k0_cond1 (grid0.coords t) = 1#1) (y7 : Vec F S4x4096 .f32) (y8 : Vec F S37x512x256 .f32) (y9 : Vec F S512x128 .f32) : Vec F S37x512x256 .f32 :=
  (Memref.whole cc0_scratch0).view.read (Elt F) ((Memref.whole cc0_scratch0).view.writes (Elt F) ((Memref.isWhole_whole cc0_scratch0).unread y8) (atB m c t hc y7 y8 y9).2.2.1)
/-- The row maxima after a last column tile. -/
def topB (c : Dev nD) (t : Fin cfg0.N) (hc : k0_cond1 (grid0.coords t) = 1#1) (y7 : Vec F S4x4096 .f32) (y8 : Vec F S37x512x256 .f32) (y9 : Vec F S512x128 .f32) : Vec F S512x128 .f32 :=
  (Memref.whole cc0_scratch1).view.read (Elt F) ((Memref.whole cc0_scratch1).view.writes (Elt F) ((Memref.isWhole_whole cc0_scratch1).unread y9) (atB m c t hc y7 y8 y9).2.2.2.1)

/-! ## What is tracked -/

/-- The invariant of the two scratch buffers before point `n`, and what a point leaves in the codes and in the scales. -/
structure Track (F : FTy → Type) [FloatOps F] where
  inv : ℕ → Vec F S37x512x256 .f32 → Vec F S512x128 .f32 → Prop
  codes : Fin cfg0.N → Vec F S512x9472 .fp8e4m3 → Prop
  scales : Fin cfg0.N → Vec F S4x4096 .f32 → Prop

/-- The body keeps what is tracked. Before the first point nothing is known; at a later one the scales are what the point before left. -/
structure Track.Sound (T : Dev nD → Track F) : Prop where
  init : ∀ c a mx, (T c).inv 0 a mx
  stepA : ∀ c (t : Fin cfg0.N) hc y6 y7 a mx, (T c).inv t.val a mx → (∀ h : t.val ≠ 0, (T c).scales ⟨t.val - 1, by omega⟩ y7) →
    (T c).inv (t.val + 1) (actA m c t hc a mx) (topA m c t hc mx) ∧ (T c).codes t y6 ∧ (T c).scales t y7
  stepB : ∀ c (t : Fin cfg0.N) hc y6 y7 a mx, (T c).inv t.val a mx → (∀ h : t.val ≠ 0, (T c).scales ⟨t.val - 1, by omega⟩ y7) →
    (T c).inv (t.val + 1) (actB m c t hc y7 a mx) (topB m c t hc y7 a mx)
      ∧ (T c).codes t (codesB m c t hc y6 y7 a mx) ∧ (T c).scales t (scalesB m c t hc y7 a mx)

/-! ## The proof data -/

variable (T : Dev nD → Track F)

/-- The windows held to a predicate: the codes and the scales. -/
def held (w : Fin cfg0.W) : Bool := match w with
  | ⟨6, _⟩ => true
  | ⟨7, _⟩ => true
  | _ => false

/-- The predicates they are held to. -/
def rel (c : Dev nD) (w : Fin cfg0.W) : Fin cfg0.N → ((cfg0.win w).block.Idx → Elt F (cfg0.win w).elt) → Prop := match w with
  | ⟨6, _⟩ => (T c).codes
  | ⟨7, _⟩ => (T c).scales
  | _ => fun _ _ => True

/-- The exact part of the proof data: each input's buffer at its block; the invariant holds the scratch buffers. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => Classical.arbitrary _
    | ⟨7, _⟩ => fun _ => Classical.arbitrary _
  Φ t := iprop((∃ a mx, ⌜(T c).inv t.val a mx⌝ ∗ owns (c : Thread nD τ) (Memref.whole cc0_scratch0) fullShare a
      ∗ owns (c : Thread nD τ) (Memref.whole cc0_scratch1) fullShare mx) ∗ ∃ r, prngReg c r)
  q w := Pipeline.shareOf spec0 w
  owed _ := 0

/-- The proof data of the run. -/
def rdat (c : Dev nD) : RDat τ (Elt F) Unit ℕ (UR sig nD τ) ℕ cfg0 c := (dat m T c).toRRel held (rel T c)

theorem after0_0 (c : Dev nD) (t : Fin cfg0.N) : (dat m T c).after 0 t = iblk m c 0 t := by dsimp only [dat]
theorem before0_0 (c : Dev nD) (t : Fin cfg0.N) (d) : (dat m T c).before 0 t d = iblk m c 0 t :=
  before0_0_of m (dat m T c) (by dsimp only [dat]) (after0_0 m T c) t d
theorem after0_1 (c : Dev nD) (t : Fin cfg0.N) : (dat m T c).after 1 t = iblk m c 1 t := by dsimp only [dat]
theorem before0_1 (c : Dev nD) (t : Fin cfg0.N) (d) : (dat m T c).before 1 t d = iblk m c 1 t :=
  before0_1_of m (dat m T c) (by dsimp only [dat]) (after0_1 m T c) t d
theorem after0_2 (c : Dev nD) (t : Fin cfg0.N) : (dat m T c).after 2 t = iblk m c 2 t := by dsimp only [dat]
theorem before0_2 (c : Dev nD) (t : Fin cfg0.N) (d) : (dat m T c).before 2 t d = iblk m c 2 t :=
  before0_2_of m (dat m T c) (by dsimp only [dat]) (after0_2 m T c) t d
theorem after0_3 (c : Dev nD) (t : Fin cfg0.N) : (dat m T c).after 3 t = iblk m c 3 t := by dsimp only [dat]
theorem before0_3 (c : Dev nD) (t : Fin cfg0.N) (d) : (dat m T c).before 3 t d = iblk m c 3 t :=
  before0_3_of m (dat m T c) (by dsimp only [dat]) (after0_3 m T c) t d
theorem after0_4 (c : Dev nD) (t : Fin cfg0.N) : (dat m T c).after 4 t = iblk m c 4 t := by dsimp only [dat]
theorem before0_4 (c : Dev nD) (t : Fin cfg0.N) (d) : (dat m T c).before 4 t d = iblk m c 4 t :=
  before0_4_of m (dat m T c) (by dsimp only [dat]) (after0_4 m T c) t d
theorem after0_5 (c : Dev nD) (t : Fin cfg0.N) : (dat m T c).after 5 t = iblk m c 5 t := by dsimp only [dat]
theorem before0_5 (c : Dev nD) (t : Fin cfg0.N) (d) : (dat m T c).before 5 t d = iblk m c 5 t :=
  before0_5_of m (dat m T c) (by dsimp only [dat]) (after0_5 m T c) t d

/-- What the body finds in the scales window is what the point before left there. -/
theorem finds_scales (c : Dev nD) (t : Fin cfg0.N) (Y : Vec F S4x4096 .f32) (h : (rdat m T c).Finds 7 t Y) :
    ∀ h : t.val ≠ 0, (T c).scales ⟨t.val - 1, by omega⟩ Y := fun ht => by
  have hf : (cfg0.win 7).fetch t = false := Window.fetch_out _ rfl t
  rcases ((rdat m T c).finds_of_pos hf ht Y).mp h with hfl | hl
  · have := (flush0_7 _).mp hfl
    have hN : t.val < 1184 := t.isLt
    simp only at this
    omega
  · exact (dat m T c).toRRel_leaves (w := 7) rfl hl

/-! ## The body obligation -/

/-- What the body is called with at point `t`, -/
def bodyPre (c : Dev nD) (t : Fin cfg0.N) : sProp 𝕄 :=
  iprop((dat m T c).Φ t.castSucc ∗ (dat m T c).owesAt () t.castSucc
    ∗ (∃ d, owns (c : Thread nD τ) (win0_0.stage (cfg0.slots t 0)) fullShare ((dat m T c).before 0 t d))
    ∗ (∃ d, owns (c : Thread nD τ) (win0_1.stage (cfg0.slots t 1)) fullShare ((dat m T c).before 1 t d))
    ∗ (∃ d, owns (c : Thread nD τ) (win0_2.stage (cfg0.slots t 2)) fullShare ((dat m T c).before 2 t d))
    ∗ (∃ d, owns (c : Thread nD τ) (win0_3.stage (cfg0.slots t 3)) fullShare ((dat m T c).before 3 t d))
    ∗ (∃ d, owns (c : Thread nD τ) (win0_4.stage (cfg0.slots t 4)) fullShare ((dat m T c).before 4 t d))
    ∗ (∃ d, owns (c : Thread nD τ) (win0_5.stage (cfg0.slots t 5)) fullShare ((dat m T c).before 5 t d))
    ∗ (∃ Y, ⌜(rdat m T c).Finds 6 t Y⌝ ∗ owns (c : Thread nD τ) (win0_6.stage (cfg0.slots t 6)) fullShare Y)
    ∗ (∃ Y, ⌜(rdat m T c).Finds 7 t Y⌝ ∗ owns (c : Thread nD τ) (win0_7.stage (cfg0.slots t 7)) fullShare Y))

/-- and what it returns. -/
def bodyPost (c : Dev nD) (t : Fin cfg0.N) : sProp 𝕄 :=
  iprop((dat m T c).Φ t.succ ∗ (dat m T c).owesAt () t.succ
    ∗ owns (c : Thread nD τ) (win0_0.stage (cfg0.slots t 0)) fullShare ((dat m T c).after 0 t)
    ∗ owns (c : Thread nD τ) (win0_1.stage (cfg0.slots t 1)) fullShare ((dat m T c).after 1 t)
    ∗ owns (c : Thread nD τ) (win0_2.stage (cfg0.slots t 2)) fullShare ((dat m T c).after 2 t)
    ∗ owns (c : Thread nD τ) (win0_3.stage (cfg0.slots t 3)) fullShare ((dat m T c).after 3 t)
    ∗ owns (c : Thread nD τ) (win0_4.stage (cfg0.slots t 4)) fullShare ((dat m T c).after 4 t)
    ∗ owns (c : Thread nD τ) (win0_5.stage (cfg0.slots t 5)) fullShare ((dat m T c).after 5 t)
    ∗ (∃ X, ⌜(T c).codes t X⌝ ∗ owns (c : Thread nD τ) (win0_6.stage (cfg0.slots t 6)) fullShare X)
    ∗ (∃ X, ⌜(T c).scales t X⌝ ∗ owns (c : Thread nD τ) (win0_7.stage (cfg0.slots t 7)) fullShare X))

/-- The body at any point, by the run of its case. -/
theorem sound_body (hT : Track.Sound m T) (c : Dev nD) (t : Fin cfg0.N) :
    bodyPre m T c t ⊢ wp frame (wpE (defs₀ (F := F)) Variants.none c none) Set.univ (bodyAt0 t) (fun _ => bodyPost m T c t) := by
  unfold bodyPre bodyPost bodyAt0
  simp only [before0_0, after0_0, before0_1, after0_1, before0_2, after0_2, before0_3, after0_3, before0_4, after0_4, before0_5, after0_5]
  rw [show (dat m T c).owesAt () t.succ = (dat m T c).owesAt () t.castSucc from rfl]
  dsimp only [dat]
  iintro ⟨⟨⟨%a, %mx, %hinv, H8, H9⟩, Hr⟩, Ho, ⟨%d0, H0⟩, ⟨%d1, H1⟩, ⟨%d2, H2⟩, ⟨%d3, H3⟩, ⟨%d4, H4⟩, ⟨%d5, H5⟩, ⟨%y6, %hy6, H6⟩, ⟨%y7, %hy7, H7⟩⟩
  have h7 := finds_scales m T c t y7 hy7
  by_cases hc : k0_cond1 (grid0.coords t) = 1#1
  · obtain ⟨hi, h6', h7'⟩ := hT.stepB c t hc y6 y7 a mx hinv h7
    iapply ((runB c (grid0.coords t) hc (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _)
      (iblk m c 0 t) (iblk m c 1 t) (iblk m c 2 t) (iblk m c 3 t) (iblk m c 4 t) (iblk m c 5 t) y7 a mx).2.2.2.2 y6 Set.univ _)

    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, H8, H9⟩
    isplitl [H8 H9 Hr]
    · isplitl [H8 H9]
      · iexists (actB m c t hc y7 a mx); iexists (topB m c t hc y7 a mx)
        isplitr; · ipureintro; exact hi
        unfold owns
        isplitl [H8]
        · iexists _; isplitr; swap; · iexact H8
          ipureintro; rfl
        · iexists _; isplitr; swap; · iexact H9
          ipureintro; rfl
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns
    isplitl [H6]
    · iexists (codesB m c t hc y6 y7 a mx); isplitr; · ipureintro; exact h6'
      iexists _; isplitr; swap; · iexact H6
      ipureintro; rfl
    · iexists (scalesB m c t hc y7 a mx); isplitr; · ipureintro; exact h7'
      iexists _; isplitr; swap; · iexact H7
      ipureintro; rfl
  · obtain ⟨hi, h6', h7'⟩ := hT.stepA c t hc y6 y7 a mx hinv h7
    iapply ((runA c (grid0.coords t) hc (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _)
      (iblk m c 0 t) (iblk m c 1 t) (iblk m c 2 t) (iblk m c 3 t) (iblk m c 4 t) (iblk m c 5 t) mx).2.2 y6 y7 a Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, H8, H9⟩
    isplitl [H8 H9 Hr]
    · isplitl [H8 H9]
      · iexists (actA m c t hc a mx); iexists (topA m c t hc mx)
        isplitr; · ipureintro; exact hi
        unfold owns
        isplitl [H8]
        · iexists _; isplitr; swap; · iexact H8
          ipureintro; rfl
        · iexists _; isplitr; swap; · iexact H9
          ipureintro; rfl
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists y6; isplitr; · ipureintro; exact h6'
      iexact H6
    · iexists y7; isplitr; · ipureintro; exact h7'
      iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (hT : Track.Sound m T) (c : Dev nD) :
    BodyObligationRel (dat m T c) (defs₀ (F := F)) Variants.none () Set.univ held (rel T c) := fun t => by
  rw [bigSep_W0, bigSep_W0, defs₀_row]
  exact triple_restated (sound_body m T hT c t) rfl .rfl fun _ => .rfl

/-! ## The run and the frame -/

/-- The region is entered with the scratch buffers at any contents, -/
theorem enter (hT : Track.Sound m T) (c : Dev nD) : Pipeline.ΦA (Val := Elt F) spec0 c ⊢ (dat m T c).Φ 0 := by
  dsimp only [dat]
  unfold Pipeline.ΦA
  rw [scopedRest0_eq]
  iintro ⟨⟨⟨%f, H8⟩, ⟨%g, H9⟩⟩, Hr⟩
  isplitl [H8 H9]
  · iexists f; iexists g
    isplitr; · ipureintro; exact hT.init c f g
    rw [owns_whole, owns_whole]
    isplitl [H8]; · iexact H8
    iexact H9
  · iexact Hr

/-- and left so. -/
theorem leave (c : Dev nD) : (dat m T c).Φ (Fin.last cfg0.N) ⊢ Pipeline.ΦA (Val := Elt F) spec0 c := by
  dsimp only [dat]
  unfold Pipeline.ΦA
  rw [scopedRest0_eq]
  simp only [owns_whole]
  iintro ⟨⟨%a, %mx, -, H8, H9⟩, Hr⟩
  isplitl [H8 H9]
  · isplitl [H8]
    · iexists a; iexact H8
    · iexists mx; iexact H9
  · iexact Hr

set_option backward.isDefEq.respectTransparency.types false in
/-- The run, for every sound track: every weakly fair execution of @main terminates, the arrays end at contents the proof data allow,
    and every semaphore counter is zero. -/
theorem run_track (hT : Track.Sound m T) : θ_run defs (onTc (τ := τ) (main (F := F))) (s₀ m ρ)
    (fun r => RDat.FramePost cfg0 (rdat m T) (V m) r ∧ r.2.sem = fun _ => 0) :=
  RDat.θ_run_frame_track_shared (Q' := _) cfgs (0 : Fin 1) launch₀0 defs₀ Variants.none (rdat m T) m ρ main
    (hbody := fun c => (body_obligation m T hT c).toRRel) (hq := fun _ _ _ => rfl)
    (howed := fun _ _ => rfl) (V := V m) (hmain := hmain m Variants.none) (hA := fun _ _ => rfl)
    (hin := fun c => enter m T hT c) (hout := fun c => leave m T c)

/-- The argument arrays end unchanged. -/
theorem args_of {r} (h : RDat.FramePost cfg0 (rdat m T) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨h.arr_in c 0 rfl, h.arr_in c 1 rfl, h.arr_in c 3 rfl, h.arr_in c 5 rfl⟩

/-- The track that says nothing. -/
def Track.nothing : Track F := ⟨fun _ _ _ => True, fun _ _ => True, fun _ _ => True⟩

theorem Track.nothing_sound : Track.Sound m fun _ => Track.nothing (F := F) :=
  ⟨fun _ _ _ => trivial, fun _ _ _ _ _ _ _ _ _ => ⟨trivial, trivial, trivial⟩, fun _ _ _ _ _ _ _ _ _ => ⟨trivial, trivial, trivial⟩⟩

/-- THE FRAME: every weakly fair execution terminates, the argument arrays end unchanged, and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨args_of m _ h.1, h.2⟩) (run_track m ρ _ (Track.nothing_sound m))

end Cert.GateUpIdeal.Hand

end
-- ==== Proof.GateUpBlock.lean ====
/- WHAT THE GATE/UP KERNEL STORES FOR ONE TILE, read element by element: gate, up and activation tile, running maxima, a row's scale and
   its inverse, the codes, and the slice of scales. -/
module

public import proofs.«01_k».proof.Proof.Gen.GateUpIdeal.Skeleton
public import proofs.«01_k».proof.Proof.Scales

@[expose] public section

set_option maxRecDepth 16384

noncomputable section

namespace Cert.Proof.GateUp

open Cert.GateUpIdeal Cert.GateUpIdeal.Gen Idealize.ShloMosaic

/-- The slice of the scales a row tile writes: its batch row takes the tile's scales, laid out along the columns; the others stay. -/
theorem pay15_apply (n : ℕ) (hn : n < 4) (mx : Vec Ideal S512x128 .f32) (v : Vec Ideal S4x512 .f32) (b : Fin 4) (r : Fin 512) :
    k0_pay15 (F := Ideal) (k0_pay7 mx) (k0_pay9 v) (k0_pay10 (BitVec.ofNat 32 n)) k0_pay11 (k0_pay12 mx) (k0_pay13 mx) (k0_pay14 mx) (ix2 b r)
      = if b.val = n then k0_pay7 mx (ix2 r 0) else v (ix2 b r) := by
  have hr := r.isLt
  have hb := b.isLt
  pointwise [k0_pay15, k0_pay9, k0_pay10, k0_pay11, k0_pay12, k0_pay13, k0_pay14]
  rw [cmpi_eq_ofNat (by omega) (by omega)]
  by_cases hbn : b.val = n
  · rw [if_pos hbn, if_pos hbn]
    simp only [Scalar.select]
    rw [if_pos (show (1#1 : BitVec 1) = 1 from rfl)]
    split_ifs with h1 h2 h3
    · exact sum_select (by decide) (fun x : Fin 128 => k0_pay7 mx (ix2 ⟨x.val, by omega⟩ 0)) _ h1
    · refine (sum_select (by decide) (fun x : Fin 128 => k0_pay7 mx (ix2 ⟨128 + x.val, by omega⟩ 0)) _ h2).trans ?_
      congr 2; refine Fin.ext ?_; simp only; omega
    · refine (sum_select (by decide) (fun x : Fin 128 => k0_pay7 mx (ix2 ⟨256 + x.val, by omega⟩ 0)) _ h3).trans ?_
      congr 2; refine Fin.ext ?_; simp only; omega
    · refine (sum_select (by decide) (fun x : Fin 128 => k0_pay7 mx (ix2 ⟨384 + x.val, by omega⟩ 0)) _ (by omega)).trans ?_
      congr 2; refine Fin.ext ?_; simp only; omega
  · rw [if_neg hbn, if_neg hbn]
    simp [Scalar.select]

/-- The row of scales a row tile takes out of the loaded 4 × 512 slice: row `i 0 / 8` of it. -/
theorem pay58_apply (i : grid0.Coords) (v : Vec Ideal S4x512 .f32) (c : Fin 512) :
    k0_pay58 (F := Ideal) i v (ix2 0 c) = v (ix2 ⟨(i 0).val / 8, by have h : (i 0).val < 32 := (i 0).isLt; omega⟩ c) := by
  have h : (i 0).val < 32 := (i 0).isLt
  pointwise [k0_pay58]
  rw [tile_div _ h, sum_select (by decide) (fun x => v (ix2 x c)) _ (by omega)]

/-- A row of scales as a column, at row `r`. -/
theorem pay59_apply (v : FVec Ideal S1x512 .f32) (r : Fin 512) :
    k0_pay59 (F := Ideal) v (ix2 r 0) = v (ix2 0 r) := by
  have hr := r.isLt
  pointwise [k0_pay59]
  split_ifs with h1 h2 h3
  · rw [sum_select' (by decide) (fun x : Fin 128 => v (ix2 0 ⟨x.val, by omega⟩)) _ h1]
  · rw [sum_select' (by decide) (fun x : Fin 128 => v (ix2 0 ⟨128 + x.val, by omega⟩)) _ h2]
    congr 3; simp only; omega
  · rw [sum_select' (by decide) (fun x : Fin 128 => v (ix2 0 ⟨256 + x.val, by omega⟩)) _ h3]
    congr 3; simp only; omega
  · rw [sum_select' (by decide) (fun x : Fin 128 => v (ix2 0 ⟨384 + x.val, by omega⟩)) _ (by omega)]
    congr 3; simp only; omega

/-- The up tile, scaled by rows. -/
theorem pay61_apply (x : Vec Ideal S512x3584 .fp8e4m3) (v : FVec Ideal S1x512 .f32) (w : Vec Ideal S3584x256 .fp8e4m3) (r : Fin 512) (c : Fin 256) :
    k0_pay61 (F := Ideal) x v w (ix2 r c) = (∑ k : Fin 3584, x (ix2 r k) * w (ix2 k c)) * v (ix2 0 r) := by
  pointwise [k0_pay61]
  rw [pay59_apply]
/-- The gate tile, scaled by rows and columns. -/
theorem pay60_apply (x : Vec Ideal S512x3584 .fp8e4m3) (v : FVec Ideal S1x512 .f32) (w : Vec Ideal S3584x256 .fp8e4m3) (ws : Vec Ideal S1x256 .f32) (r : Fin 512) (c : Fin 256) :
    k0_pay60 (F := Ideal) x v w ws (ix2 r c) = (∑ k : Fin 3584, x (ix2 r k) * w (ix2 k c)) * v (ix2 0 r) * ws (ix2 0 c) := by
  pointwise [k0_pay60]
  rw [pay59_apply]
/-- The activation: silu of the gate, times the up value. -/
theorem pay1_apply (g u : FVec Ideal S512x256 .f32) (ws : Vec Ideal S1x256 .f32) (r : Fin 512) (c : Fin 256) :
    k0_pay1 (F := Ideal) g u ws (ix2 r c)
      = g (ix2 r c) * Ideal.div 1 (1 + Ideal.exp (0 - g (ix2 r c))) * (u (ix2 r c) * ws (ix2 0 c)) := by
  pointwise [k0_pay1]
/-- The running maxima of a lane: the tile's two magnitudes, and for a later column tile the maximum so far. -/
theorem pay3_apply (n : ℕ) (hn : n < 2 ^ 32) (g u : FVec Ideal S512x256 .f32) (ws : Vec Ideal S1x256 .f32) (y9 : Vec Ideal S512x128 .f32) (r : Fin 512) (l : Fin 128) :
    k0_pay3 (F := Ideal) (BitVec.ofNat 32 n) g u ws y9 (ix2 r l)
      = (let a := fun c : Fin 256 => k0_pay1 (F := Ideal) g u ws (ix2 r c)
         let top := max (max (a ⟨l.val, by omega⟩) (-a ⟨l.val, by omega⟩)) (max (a ⟨128 + l.val, by omega⟩) (-a ⟨128 + l.val, by omega⟩))
         if n = 0 then top else max (y9 (ix2 r l)) top) := by
  pointwise [k0_pay3]
  have e : Scalar.cmpi CmpIPredicate.eq (BitVec.ofNat 32 n) 0#32 = if n = 0 then 1#1 else 0#1 := cmpi_eq_ofNat hn (by decide)
  rw [e]
  by_cases h : n = 0
  · rw [if_pos h, if_pos h]; rfl
  · rw [if_neg h, if_neg h]; rfl
/-- A row's scale: its maximum over 448, and 1 for a row of zeros. -/
theorem pay7_apply (mx : Vec Ideal S512x128 .f32) (r : Fin 512) :
    k0_pay7 (F := Ideal) mx (ix2 r 0)
      = (let top := Finset.fold max (Ideal.ofBits FTy.f32 4286578688#32) (fun x : Fin 128 => mx (ix2 r x)) Finset.univ
         if top = 0 then 1 else Ideal.div top (Ideal.ofBits FTy.f32 1138753536#32)) := by
  pointwise [k0_pay7]
/-- The scale's inverse, in every lane. -/
theorem pay8_apply (mx : Vec Ideal S512x128 .f32) (r : Fin 512) (l : Fin 128) :
    k0_pay8 (F := Ideal) mx (ix2 r l) = Ideal.div 1 (k0_pay7 (F := Ideal) mx (ix2 r 0)) := by
  pointwise [k0_pay8]
/-- A tile's codes: the activations times the inverse scale, clipped. -/
theorem pay4_apply (mx : Vec Ideal S512x128 .f32) (s : Vec Ideal S1x512x256 .f32) (r : Fin 512) (c : Fin 256) :
    k0_pay4 (F := Ideal) (k0_pay16 (k0_pay8 mx)) s (ix2 r c)
      = min (Ideal.ofBits FTy.f32 1138753536#32) (max (Ideal.ofBits FTy.f32 3286237184#32)
          (s (ix3 0 r c) * Ideal.div 1 (k0_pay7 (F := Ideal) mx (ix2 r 0)))) := by
  have e : ∀ l, k0_pay8 (F := Ideal) mx (ix2 r l) = Ideal.div 1 (k0_pay7 (F := Ideal) mx (ix2 r 0)) := pay8_apply mx r
  generalize k0_pay8 (F := Ideal) mx = v at e ⊢
  pointwise [k0_pay4, k0_pay16]
  split_ifs <;> rw [e]

end Cert.Proof.GateUp

end
-- ==== Proof.GateUpPoint.lean ====
/- WHAT ONE GRID POINT OF THE GATE/UP KERNEL LEAVES. A point computes one 512 × 256 tile of silu(gate) * up (`tile`), puts it into its
   slab of the activation scratch (`newAct`) and takes it into the running maxima (`newTop`); a last column tile also writes its row
   tile's codes (`codesOf`) and scales (`scalesOf`) from the two scratch buffers. Here the runs' stored pieces are read as these. -/
module

public import proofs.«01_k».proof.Proof.GateUpIdealFrame
public import proofs.«01_k».proof.Proof.GateUpBlock
public import Idealize.ShloMosaic.Lib.Pipeline.ValueKit
public import Idealize.ShloMosaic.Lib.Pipeline.Covers
public import Idealize.ShloMosaic.Lib.Pipeline.ReadBack
public import Idealize.ShloMosaic.Lib.Pointwise
public import Idealize.ShloMosaic.Lib.VecWindow

@[expose] public section

set_option maxRecDepth 16384

noncomputable section

namespace Cert.Proof.GateUp

open Idealize.ShloMosaic Idealize.ShloMosaic.TcCoe Idealize.ShloMosaic.Tactic
open Cert.GateUpIdeal Cert.GateUpIdeal.Gen Cert.GateUpIdeal.Hand
open Idealize.SL.Sem

variable (m : (ℓ : Loc nD τ sig) → Buf (Elt Ideal) ℓ)

/-- The gate tile at a point, scaled. -/
def gate (c : Dev nD) (t : Fin cfg0.N) : FVec Ideal S512x256 .f32 :=
  k0_pay60 (iblk m c 0 t) (k0_pay58 (grid0.coords t) (View.ld (iblk m c 1 t)
    (Rect.unit (k0_off1 (grid0.coords t)) ![4, 512] (k0_off1_inb (grid0.coords t))))) (iblk m c 2 t) (iblk m c 4 t)
/-- The up tile at a point, scaled by rows. -/
def up (c : Dev nD) (t : Fin cfg0.N) : FVec Ideal S512x256 .f32 :=
  k0_pay61 (iblk m c 0 t) (k0_pay58 (grid0.coords t) (View.ld (iblk m c 1 t)
    (Rect.unit (k0_off1 (grid0.coords t)) ![4, 512] (k0_off1_inb (grid0.coords t))))) (iblk m c 3 t)
/-- The activation tile at a point. -/
def tile (c : Dev nD) (t : Fin cfg0.N) : FVec Ideal S512x256 .f32 := k0_pay1 (gate m c t) (up m c t) (iblk m c 5 t)

/-- The running maxima after a point. -/
def newTop (c : Dev nD) (t : Fin cfg0.N) (y9 : Vec Ideal S512x128 .f32) : Vec Ideal S512x128 .f32 :=
  k0_pay3 (BitVec.ofNat 32 (grid0.coords t 1).val) (gate m c t) (up m c t) (iblk m c 5 t) y9
/-- The activation scratch after a point: the point's tile in its slab, the rest as before. -/
def newAct (c : Dev nD) (t : Fin cfg0.N) (y8 : Vec Ideal S37x512x256 .f32) : Vec Ideal S37x512x256 .f32 := fun y =>
  if (y 0).val = (grid0.coords t 1).val then tile m c t (ix2 (y 1) (y 2)) else y8 y
/-- The codes of a row tile, from the maxima and the activations. -/
def codesOf (mx : Vec Ideal S512x128 .f32) (a : Vec Ideal S37x512x256 .f32) : Vec Ideal S512x9472 .fp8e4m3 := fun y =>
  k0_pay4 (k0_pay16 (k0_pay8 mx)) (fun z => a (ix3 ⟨(y 1).val / 256, by have h : (y 1).val < 9472 := (y 1).isLt; omega⟩ (z 1) (z 2)))
    (ix2 (y 0) ⟨(y 1).val % 256, by omega⟩)

/-- Contents put into the maxima's buffer are read back. -/
theorem unread9 (y : Vec Ideal S512x128 .f32) (h : (Memref.whole cc0_scratch1).IsWhole) :
    View.read (Elt Ideal) (View.whole cc0_scratch1) (h.unread y) = y := read_unread_whole ..

/-- The slab that a point stores starts at its column tile. -/
theorem off2_eq (i : grid0.Coords) : k0_off2 i = ![(i 1).val, 0, 0] := k0_off2_eq i

/-- A tile put into the slab of its column tile. -/
theorem put_slab (c : Dev nD) (t : Fin cfg0.N) (y8 : Vec Ideal S37x512x256 .f32) (h) :
    View.read (Elt Ideal) (View.whole cc0_scratch0) ((View.whole cc0_scratch0).writes (Elt Ideal) ((Memref.isWhole_whole cc0_scratch0).unread y8)
      [⟨Rect.unit (k0_off2 (grid0.coords t)) ![1, 512, 256] h, k0_pay2 (gate m c t) (up m c t) (iblk m c 5 t)⟩]) = newAct m c t y8 := by
  funext y
  rw [View.read_writes_cons_unit _ _ _ _ _ _ (off2_eq (grid0.coords t)), View.writes_nil]
  unfold newAct
  split_ifs with h1 h2 h2
  · obtain ⟨a, b, d, rfl⟩ : ∃ a b d, y = ix3 a b d := ⟨y 0, y 1, y 2, eq_ix3 y⟩
    pointwise [k0_pay2]
    rfl
  · exact absurd (by have := h1 0; simp at this; omega) h2
  · refine absurd (fun a => ?_) h1
    match a with
    | ⟨0, _⟩ => simp; omega
    | ⟨1, _⟩ => exact ⟨Nat.zero_le _, by have : (y 1).val < 512 := (y 1).isLt; simpa using this⟩
    | ⟨2, _⟩ => exact ⟨Nat.zero_le _, by have : (y 2).val < 256 := (y 2).isLt; simpa using this⟩
  · exact read_unread_whole .. |> fun e => congrFun e y

/-- The maxima after a point that is not a last column tile, -/
theorem topA_eq (c : Dev nD) (t : Fin cfg0.N) (hc) (y9) : topA m c t hc y9 = newTop m c t y9 := by
  unfold topA atA
  frame_out
  rw [unread9]
  exact View.read_writes_full _ _ _ _ _
/-- and the activations, -/
theorem actA_eq (c : Dev nD) (t : Fin cfg0.N) (hc) (y8 y9) : actA m c t hc y8 y9 = newAct m c t y8 := by
  unfold actA atA
  frame_out
  exact put_slab m c t y8 _
/-- the maxima after a last column tile, -/
theorem topB_eq (c : Dev nD) (t : Fin cfg0.N) (hc) (y7 y8 y9) : topB m c t hc y7 y8 y9 = newTop m c t y9 := by
  unfold topB atB
  frame_out
  rw [unread9]
  exact View.read_writes_full _ _ _ _ _
/-- and the activations. -/
theorem actB_eq (c : Dev nD) (t : Fin cfg0.N) (hc) (y7 y8 y9) : actB m c t hc y7 y8 y9 = newAct m c t y8 := by
  unfold actB atB
  frame_out
  exact put_slab m c t y8 _

/-- One stored piece of the codes, out of one slab of the activations. -/
theorem piece_eq (mx : Vec Ideal S512x128 .f32) {a a' : Vec Ideal S37x512x256 .f32} (ha : a = a') (n o : ℕ) (hn : n < 37) (ho : o = 256 * n)
    (h3 : ∀ i, (![0, o] : Fin 2 → ℕ) i + (![512, 256] : Fin 2 → ℕ) i ≤ S512x9472.size i)
    (h : ∀ i, (![n, 0, 0] : Fin 3 → ℕ) i + (![1, 512, 256] : Fin 3 → ℕ) i ≤ S37x512x256.size i)
    (x : (Rect.unit (s := S512x9472) ![0, o] ![512, 256] h3).shape.Idx) :
    k0_pay4 (k0_pay16 (k0_pay8 mx)) (View.ld a (Rect.unit ![n, 0, 0] ![1, 512, 256] h)) x
      = codesOf mx a' ((Rect.unit ![0, o] ![512, 256] h3).emb x) := by
  subst ha ho
  have h0 : (x 0).val < 512 := (x 0).isLt
  have h1 : (x 1).val < 256 := (x 1).isLt
  unfold codesOf
  have e0 : ((Rect.unit (s := S512x9472) ![0, 256 * n] ![512, 256] h3).emb x 0).val = (x 0).val := by
    show 0 + 1 * (x 0).val = _; omega
  have e1 : ((Rect.unit (s := S512x9472) ![0, 256 * n] ![512, 256] h3).emb x 1).val = 256 * n + (x 1).val := by
    show 256 * n + 1 * (x 1).val = _; omega
  refine congr (congrArg _ (funext fun z => ?_)) ?_
  · refine congrArg a (funext fun i => Fin.ext ?_)
    match i with
    | ⟨0, _⟩ =>
      have hz : (z 0).val < 1 := (z 0).isLt
      show n + 1 * (z 0).val = ((Rect.unit (s := S512x9472) ![0, 256 * n] ![512, 256] h3).emb x 1).val / 256
      rw [e1]; omega
    | ⟨1, _⟩ => show 0 + 1 * (z 1).val = (z 1).val; omega
    | ⟨2, _⟩ => show 0 + 1 * (z 2).val = (z 2).val; omega
  · refine funext fun i => Fin.ext ?_
    match i with
    | ⟨0, _⟩ => exact e0.symm
    | ⟨1, _⟩ =>
      show (x 1).val = ((Rect.unit (s := S512x9472) ![0, 256 * n] ![512, 256] h3).emb x 1).val % 256
      rw [e1]; omega

/-- The codes after a last column tile. -/
theorem codesB_eq (c : Dev nD) (t : Fin cfg0.N) (hc) (y6 y7 y8 y9) :
    codesB m c t hc y6 y7 y8 y9 = codesOf (newTop m c t y9) (newAct m c t y8) := by
  unfold codesB atB
  frame_out
  rw [unread9]
  funext y
  refine View.read_writes_apply_of_pieces _ _ _ _ (View.PiecesOf.mem ?_) y ?_
  swap; · exact View.cover_of_tiledL (s := S512x9472) _ S512x256.size (by sl_kernel_rfl) y
  exact ⟨fun x => piece_eq _ (put_slab m c t y8 _) 36 9216 (by decide) rfl inb_S512x9472_S512x256_0_9216 inb_S37x512x256_S1x512x256_36_0_0 x,
    fun x => piece_eq _ (put_slab m c t y8 _) 35 8960 (by decide) rfl inb_S512x9472_S512x256_0_8960 inb_S37x512x256_S1x512x256_35_0_0 x,
    fun x => piece_eq _ (put_slab m c t y8 _) 34 8704 (by decide) rfl inb_S512x9472_S512x256_0_8704 inb_S37x512x256_S1x512x256_34_0_0 x,
    fun x => piece_eq _ (put_slab m c t y8 _) 33 8448 (by decide) rfl inb_S512x9472_S512x256_0_8448 inb_S37x512x256_S1x512x256_33_0_0 x,
    fun x => piece_eq _ (put_slab m c t y8 _) 32 8192 (by decide) rfl inb_S512x9472_S512x256_0_8192 inb_S37x512x256_S1x512x256_32_0_0 x,
    fun x => piece_eq _ (put_slab m c t y8 _) 31 7936 (by decide) rfl inb_S512x9472_S512x256_0_7936 inb_S37x512x256_S1x512x256_31_0_0 x,
    fun x => piece_eq _ (put_slab m c t y8 _) 30 7680 (by decide) rfl inb_S512x9472_S512x256_0_7680 inb_S37x512x256_S1x512x256_30_0_0 x,
    fun x => piece_eq _ (put_slab m c t y8 _) 29 7424 (by decide) rfl inb_S512x9472_S512x256_0_7424 inb_S37x512x256_S1x512x256_29_0_0 x,
    fun x => piece_eq _ (put_slab m c t y8 _) 28 7168 (by decide) rfl inb_S512x9472_S512x256_0_7168 inb_S37x512x256_S1x512x256_28_0_0 x,
    fun x => piece_eq _ (put_slab m c t y8 _) 27 6912 (by decide) rfl inb_S512x9472_S512x256_0_6912 inb_S37x512x256_S1x512x256_27_0_0 x,
    fun x => piece_eq _ (put_slab m c t y8 _) 26 6656 (by decide) rfl inb_S512x9472_S512x256_0_6656 inb_S37x512x256_S1x512x256_26_0_0 x,
    fun x => piece_eq _ (put_slab m c t y8 _) 25 6400 (by decide) rfl inb_S512x9472_S512x256_0_6400 inb_S37x512x256_S1x512x256_25_0_0 x,
    fun x => piece_eq _ (put_slab m c t y8 _) 24 6144 (by decide) rfl inb_S512x9472_S512x256_0_6144 inb_S37x512x256_S1x512x256_24_0_0 x,
    fun x => piece_eq _ (put_slab m c t y8 _) 23 5888 (by decide) rfl inb_S512x9472_S512x256_0_5888 inb_S37x512x256_S1x512x256_23_0_0 x,
    fun x => piece_eq _ (put_slab m c t y8 _) 22 5632 (by decide) rfl inb_S512x9472_S512x256_0_5632 inb_S37x512x256_S1x512x256_22_0_0 x,
    fun x => piece_eq _ (put_slab m c t y8 _) 21 5376 (by decide) rfl inb_S512x9472_S512x256_0_5376 inb_S37x512x256_S1x512x256_21_0_0 x,
    fun x => piece_eq _ (put_slab m c t y8 _) 20 5120 (by decide) rfl inb_S512x9472_S512x256_0_5120 inb_S37x512x256_S1x512x256_20_0_0 x,
    fun x => piece_eq _ (put_slab m c t y8 _) 19 4864 (by decide) rfl inb_S512x9472_S512x256_0_4864 inb_S37x512x256_S1x512x256_19_0_0 x,
    fun x => piece_eq _ (put_slab m c t y8 _) 18 4608 (by decide) rfl inb_S512x9472_S512x256_0_4608 inb_S37x512x256_S1x512x256_18_0_0 x,
    fun x => piece_eq _ (put_slab m c t y8 _) 17 4352 (by decide) rfl inb_S512x9472_S512x256_0_4352 inb_S37x512x256_S1x512x256_17_0_0 x,
    fun x => piece_eq _ (put_slab m c t y8 _) 16 4096 (by decide) rfl inb_S512x9472_S512x256_0_4096 inb_S37x512x256_S1x512x256_16_0_0 x,
    fun x => piece_eq _ (put_slab m c t y8 _) 15 3840 (by decide) rfl inb_S512x9472_S512x256_0_3840 inb_S37x512x256_S1x512x256_15_0_0 x,
    fun x => piece_eq _ (put_slab m c t y8 _) 14 3584 (by decide) rfl inb_S512x9472_S512x256_0_3584 inb_S37x512x256_S1x512x256_14_0_0 x,
    fun x => piece_eq _ (put_slab m c t y8 _) 13 3328 (by decide) rfl inb_S512x9472_S512x256_0_3328 inb_S37x512x256_S1x512x256_13_0_0 x,
    fun x => piece_eq _ (put_slab m c t y8 _) 12 3072 (by decide) rfl inb_S512x9472_S512x256_0_3072 inb_S37x512x256_S1x512x256_12_0_0 x,
    fun x => piece_eq _ (put_slab m c t y8 _) 11 2816 (by decide) rfl inb_S512x9472_S512x256_0_2816 inb_S37x512x256_S1x512x256_11_0_0 x,
    fun x => piece_eq _ (put_slab m c t y8 _) 10 2560 (by decide) rfl inb_S512x9472_S512x256_0_2560 inb_S37x512x256_S1x512x256_10_0_0 x,
    fun x => piece_eq _ (put_slab m c t y8 _) 9 2304 (by decide) rfl inb_S512x9472_S512x256_0_2304 inb_S37x512x256_S1x512x256_9_0_0 x,
    fun x => piece_eq _ (put_slab m c t y8 _) 8 2048 (by decide) rfl inb_S512x9472_S512x256_0_2048 inb_S37x512x256_S1x512x256_8_0_0 x,
    fun x => piece_eq _ (put_slab m c t y8 _) 7 1792 (by decide) rfl inb_S512x9472_S512x256_0_1792 inb_S37x512x256_S1x512x256_7_0_0 x,
    fun x => piece_eq _ (put_slab m c t y8 _) 6 1536 (by decide) rfl inb_S512x9472_S512x256_0_1536 inb_S37x512x256_S1x512x256_6_0_0 x,
    fun x => piece_eq _ (put_slab m c t y8 _) 5 1280 (by decide) rfl inb_S512x9472_S512x256_0_1280 inb_S37x512x256_S1x512x256_5_0_0 x,
    fun x => piece_eq _ (put_slab m c t y8 _) 4 1024 (by decide) rfl inb_S512x9472_S512x256_0_1024 inb_S37x512x256_S1x512x256_4_0_0 x,
    fun x => piece_eq _ (put_slab m c t y8 _) 3 768 (by decide) rfl inb_S512x9472_S512x256_0_768 inb_S37x512x256_S1x512x256_3_0_0 x,
    fun x => piece_eq _ (put_slab m c t y8 _) 2 512 (by decide) rfl inb_S512x9472_S512x256_0_512 inb_S37x512x256_S1x512x256_2_0_0 x,
    fun x => piece_eq _ (put_slab m c t y8 _) 1 256 (by decide) rfl inb_S512x9472_S512x256_0_256 inb_S37x512x256_S1x512x256_1_0_0 x,
    fun x => piece_eq _ (put_slab m c t y8 _) 0 0 (by decide) rfl inb_S512x9472_S512x256_0_0 inb_S37x512x256_S1x512x256_0_0_0 x,
    trivial⟩

/-- The two grid coordinates' bounds. -/
theorem lt0 (t : Fin cfg0.N) : (grid0.coords t 0).val < 32 := (grid0.coords t 0).isLt
theorem lt1 (t : Fin cfg0.N) : (grid0.coords t 1).val < 37 := (grid0.coords t 1).isLt

/-- The scales after a row tile's last point: the tile's row span takes the tile's scales, the rest stays. -/
def scalesOf (n : ℕ) (mx : Vec Ideal S512x128 .f32) (y7 : Vec Ideal S4x4096 .f32) : Vec Ideal S4x4096 .f32 := fun y =>
  if (y 0).val = n / 8 ∧ (y 1).val / 512 = n % 8 then k0_pay7 mx (ix2 ⟨(y 1).val % 512, by omega⟩ 0) else y7 y

/-- The columns of the scales that a row tile takes start at 512 · (tile mod 8). -/
theorem off3_eq (i : grid0.Coords) : k0_off3 i = ![0, (i 0).val % 8 * 512] := by
  have h : (i 0).val < 32 := (i 0).isLt
  unfold k0_off3
  dsimp only
  generalize (i 0).val = n at h
  revert n
  decide

/-- The scales after a last column tile. -/
theorem scalesB_eq (c : Dev nD) (t : Fin cfg0.N) (hc) (y7 y8 y9) :
    scalesB m c t hc y7 y8 y9 = scalesOf (grid0.coords t 0).val (newTop m c t y9) y7 := by
  have h0 := lt0 t
  unfold scalesB atB
  frame_out
  rw [unread9, tile_div' _ h0]
  funext y
  rw [View.read_writes_cons_unit _ _ _ _ _ _ (off3_eq (grid0.coords t)), View.writes_nil]
  unfold scalesOf
  obtain ⟨b, d, rfl⟩ : ∃ (b : Fin 4) (d : Fin 4096), y = ix2 b d := ⟨y 0, y 1, eq_ix2 y⟩
  have hb := b.isLt
  have hd := d.isLt
  split_ifs with h1 h2 h2
  · obtain ⟨e0, e1⟩ := h2
    have k1 := h1 1
    simp at k1 e1 e0
    have e : Rect.unitLocal (s := S4x4096) (ix2 b d) h1 = ix2 (n0 := 4) (n1 := 512) b ⟨d.val % 512, by omega⟩ := by
      refine funext fun a => Fin.ext ?_
      match a with
      | ⟨0, _⟩ => rfl
      | ⟨1, _⟩ => show d.val - _ = d.val % 512; simp; omega
    refine (congrArg _ e).trans ?_
    refine (pay15_apply _ (by omega) (newTop m c t y9) _ b _).trans ?_
    rw [if_pos e0]
    rfl
  · have k1 := h1 1
    simp at k1 h2
    have e : Rect.unitLocal (s := S4x4096) (ix2 b d) h1 = ix2 (n0 := 4) (n1 := 512) b ⟨d.val % 512, by omega⟩ := by
      refine funext fun a => Fin.ext ?_
      match a with
      | ⟨0, _⟩ => rfl
      | ⟨1, _⟩ => show d.val - _ = d.val % 512; simp; omega
    refine (congrArg _ e).trans ?_
    refine (pay15_apply _ (by omega) (newTop m c t y9) _ b _).trans ?_
    rw [if_neg (fun hh => h2 hh (by omega))]
    refine congrArg y7 (funext fun a => Fin.ext ?_)
    match a with
    | ⟨0, _⟩ => simp [Rect.idx_unit_val, off3_eq]
    | ⟨1, _⟩ => simp [Rect.idx_unit_val, off3_eq]; omega
  · refine absurd (fun a => ?_) h1
    simp at h2
    match a with
    | ⟨0, _⟩ => exact ⟨Nat.zero_le _, by simpa using hb⟩
    | ⟨1, _⟩ => simp; omega
  · exact congrFun (Memref.IsWhole.read_unread _ y7) _

end Cert.Proof.GateUp

end
-- ==== Proof.GateUpMath.lean ====
/- THE GATE/UP PROJECTION AS ARITHMETIC ON THE EXTENDED REALS: the gate and the up value of a row and a column, their activation, a
   row's scale and its codes. Both programs are shown to compute these functions. -/
module

public import proofs.«01_k».proof.Proof.Gen.GateUpIdeal.Skeleton
public import Idealize.ShloMosaic.Lib.Pointwise

@[expose] public section

noncomputable section

namespace Cert.Proof.GateUp

open Cert.GateUpIdeal Idealize.ShloMosaic
open scoped BigOperators

variable (x : Vec Ideal S16384x3584 .fp8e4m3) (xs : Vec Ideal S4x4096 .f32) (w : Vec Ideal S3584x18944 .fp8e4m3) (ws : Vec Ideal S1x18944 .f32)

/-- The scale of a row of `x`: the scales are laid out by sequence, 4096 to each. -/
def rowScale (r : Fin 16384) : EReal := xs (ix2 ⟨r.val / 4096, by omega⟩ ⟨r.val % 4096, by omega⟩)
/-- The product of row `r` of `x` and column `c` of `w`, times the row's scale and the column's. -/
def proj (r : Fin 16384) (c : Fin 18944) : EReal := (∑ k : Fin 3584, x (ix2 r k) * w (ix2 k c)) * rowScale xs r * ws (ix2 0 c)
/-- The activation: silu of the gate column times the up column, which lies 9472 further. -/
def act (r : Fin 16384) (c : Fin 9472) : EReal :=
  proj x xs w ws r ⟨c.val, by omega⟩ * Ideal.logistic (proj x xs w ws r ⟨c.val, by omega⟩) * proj x xs w ws r ⟨9472 + c.val, by omega⟩
/-- The magnitude of an activation. -/
def mag (r : Fin 16384) (c : Fin 9472) : EReal := max (act x xs w ws r c) (-act x xs w ws r c)
/-- The largest magnitude in a row. -/
def top (r : Fin 16384) : EReal := Finset.fold max (Ideal.ofBits .f32 0xFF800000#32) (fun c : Fin 9472 => mag x xs w ws r c) Finset.univ
/-- The scale of a largest magnitude: 1 for zero, else its quotient by 448. -/
def scaleOf (a : EReal) : EReal := if a = 0 then 1 else Ideal.div a (Ideal.ofBits .f32 0x43E00000#32)
/-- The scale of a row of activations. -/
def scale (r : Fin 16384) : EReal := scaleOf (top x xs w ws r)
/-- The code of an activation: its quotient by the row's scale, clipped to ±448. -/
def code (r : Fin 16384) (c : Fin 9472) : EReal :=
  min (Ideal.ofBits .f32 0x43E00000#32) (max (Ideal.ofBits .f32 0xC3E00000#32) (Ideal.div (act x xs w ws r c) (scale x xs w ws r)))

/-- The word of 448. -/
theorem ofBits_448 : Ideal.ofBits .f32 0x43E00000#32 = ((448 : ℝ) : EReal) := by
  simp [Ideal.ofBits, Ideal.ieee, -EReal.coe_mul]; norm_num

/-- A scale is never zero, -/
theorem scaleOf_ne (a : EReal) : scaleOf a ≠ 0 := by
  unfold scaleOf
  split_ifs with h
  · exact one_ne_zero
  · rw [ofBits_448, Ideal.div_coe (by norm_num : (448 : ℝ) ≠ 0)]
    refine mul_ne_zero h ?_
    exact_mod_cast (by norm_num : (1 / 448 : ℝ) ≠ 0)

/-- so multiplying by its inverse is dividing by it. -/
theorem mul_div_one (a s : EReal) (h : s ≠ 0) : a * Ideal.div 1 s = Ideal.div a s := by
  unfold Ideal.div
  rw [if_neg h, if_neg h, one_mul]

/-- The kernel spells the logistic function out, and its negation as a difference from zero. -/
theorem logistic_eq (g : EReal) : Ideal.div 1 (1 + Ideal.exp (0 - g)) = Ideal.logistic g := by
  unfold Ideal.logistic
  rw [show (0 : EReal) - g = -g by rw [sub_eq_add_neg, zero_add]]

end Cert.Proof.GateUp

end
-- ==== Proof.GateUpTile.lean ====
/- ONE GRID POINT OF THE GATE/UP KERNEL, IN TERMS OF ITS ARGUMENTS: the tile of activations that point t computes is the tile of `act`
   at row tile t / 37 and column tile t mod 37. -/
module

public import proofs.«01_k».proof.Proof.GateUpPoint
public import proofs.«01_k».proof.Proof.GateUpMath

@[expose] public section

set_option maxRecDepth 16384

noncomputable section

namespace Cert.Proof.GateUp

open Idealize.ShloMosaic Idealize.ShloMosaic.TcCoe Idealize.SL.Sem
open Cert.GateUpIdeal Cert.GateUpIdeal.Gen Cert.GateUpIdeal.Hand

variable (m : (ℓ : Loc nD τ sig) → Buf (Elt Ideal) ℓ)

/-- Which block each window takes at a point: the up half of the weights lies 37 column tiles further. -/
theorem idx0 : ∀ t : Fin cfg0.N, win0_0.index t = ![(grid0.coords t 0).val, 0] := by decide +kernel
theorem idx1 : ∀ t : Fin cfg0.N, win0_1.index t = ![0, 0] := by decide +kernel
theorem idx2 : ∀ t : Fin cfg0.N, win0_2.index t = ![0, (grid0.coords t 1).val] := by decide +kernel
theorem idx3 : ∀ t : Fin cfg0.N, win0_3.index t = ![0, (grid0.coords t 1).val + 37] := by decide +kernel
theorem idx4 : ∀ t : Fin cfg0.N, win0_4.index t = ![0, (grid0.coords t 1).val] := by decide +kernel
theorem idx5 : ∀ t : Fin cfg0.N, win0_5.index t = ![0, (grid0.coords t 1).val + 37] := by decide +kernel
theorem idx6 : ∀ t : Fin cfg0.N, win0_6.index t = ![(grid0.coords t 0).val, 0] := by decide +kernel
theorem idx7 : ∀ t : Fin cfg0.N, win0_7.index t = ![0, 0] := by decide +kernel

/-- The row tile and the column tile of a point. -/
theorem coord0 : ∀ t : Fin cfg0.N, (grid0.coords t 0).val = t.val / 37 := by decide +kernel
theorem coord1 : ∀ t : Fin cfg0.N, (grid0.coords t 1).val = t.val % 37 := by decide +kernel
/-- The last column tile is the one whose points write codes and scales. -/
theorem last_iff : ∀ t : Fin cfg0.N, k0_cond1 (grid0.coords t) = 1#1 ↔ t.val % 37 = 36 := by decide +kernel

/-- The slice of the scales that a row tile loads starts at column 512 · (tile mod 8). -/
theorem off1_eq (i : grid0.Coords) : k0_off1 i = ![0, (i 0).val % 8 * 512] := by
  have h : (i 0).val < 32 := (i 0).isLt
  unfold k0_off1
  dsimp only
  generalize (i 0).val = n at h
  revert n
  decide

section Blocks
variable (c : Dev nD) (t : Fin cfg0.N)

/-- The argument arrays, as the launch finds them. -/
abbrev X : Vec Ideal S16384x3584 .fp8e4m3 := m ((c : Thread nD τ).loc main_arg0)
abbrev XS : Vec Ideal S4x4096 .f32 := m ((c : Thread nD τ).loc main_arg1)
abbrev W : Vec Ideal S3584x18944 .fp8e4m3 := m ((c : Thread nD τ).loc main_arg2)
abbrev WS : Vec Ideal S1x18944 .f32 := m ((c : Thread nD τ).loc main_arg3)

/-- The global row of row `r` of the row tile. -/
def row (r : Fin 512) : Fin 16384 := ⟨(grid0.coords t 0).val * 512 + r.val, by have := lt0 t; omega⟩
/-- The global gate column of column `d` of the column tile, and the up column. -/
def col (d : Fin 256) : Fin 18944 := ⟨(grid0.coords t 1).val * 256 + d.val, by have := lt1 t; omega⟩
def colU (d : Fin 256) : Fin 18944 := ⟨((grid0.coords t 1).val + 37) * 256 + d.val, by have := lt1 t; omega⟩

/-- The blocks the point finds, as parts of the argument arrays: codes, -/
theorem blk0 (r : Fin 512) (k : Fin 3584) : iblk m c 0 t (ix2 r k) = X m c (ix2 (row t r) k) := by
  blk_simp [iblk]
  refine congrArg (m ((c : Thread nD τ).loc main_arg0)) (funext fun a => Fin.ext ?_)
  match a with
  | ⟨0, _⟩ => blk_simp [idx0]; rfl
  | ⟨1, _⟩ => blk_simp [idx0]
/-- gate weights, -/
theorem blk2 (k : Fin 3584) (r : Fin 256) : iblk m c 2 t (ix2 k r) = W m c (ix2 k (col t r)) := by
  blk_simp [iblk]
  refine congrArg (m ((c : Thread nD τ).loc main_arg2)) (funext fun a => Fin.ext ?_)
  match a with
  | ⟨0, _⟩ => blk_simp [idx2]
  | ⟨1, _⟩ => blk_simp [idx2]; rfl
/-- up weights, -/
theorem blk3 (k : Fin 3584) (r : Fin 256) : iblk m c 3 t (ix2 k r) = W m c (ix2 k (colU t r)) := by
  blk_simp [iblk]
  refine congrArg (m ((c : Thread nD τ).loc main_arg2)) (funext fun a => Fin.ext ?_)
  match a with
  | ⟨0, _⟩ => blk_simp [idx3]
  | ⟨1, _⟩ => blk_simp [idx3]; rfl
/-- the gate's weight scales, -/
theorem blk4 (r : Fin 256) : iblk m c 4 t (ix2 0 r) = WS m c (ix2 0 (col t r)) := by
  blk_simp [iblk]
  refine congrArg (m ((c : Thread nD τ).loc main_arg3)) (funext fun a => Fin.ext ?_)
  match a with
  | ⟨0, _⟩ => blk_simp [idx4]
  | ⟨1, _⟩ => blk_simp [idx4]; rfl
/-- and the up half's. -/
theorem blk5 (r : Fin 256) : iblk m c 5 t (ix2 0 r) = WS m c (ix2 0 (colU t r)) := by
  blk_simp [iblk]
  refine congrArg (m ((c : Thread nD τ).loc main_arg3)) (funext fun a => Fin.ext ?_)
  match a with
  | ⟨0, _⟩ => blk_simp [idx5]
  | ⟨1, _⟩ => blk_simp [idx5]; rfl
/-- The scale a tile takes for its row `r` is the scale of the global row. -/
theorem blk1 (r : Fin 512) (h) : View.ld (iblk m c 1 t) (Rect.unit (k0_off1 (grid0.coords t)) ![4, 512] h)
      (ix2 ⟨(grid0.coords t 0).val / 8, by have := lt0 t; omega⟩ r)
    = rowScale (XS m c) (row t r) := by
  have := lt0 t
  blk_simp [iblk, View.ld_apply]
  unfold rowScale
  refine congrArg (m ((c : Thread nD τ).loc main_arg1)) (funext fun a => Fin.ext ?_)
  match a with
  | ⟨0, _⟩ => blk_simp [idx1, Rect.idx_unit_val, off1_eq]; simp [row, off1_eq]; omega
  | ⟨1, _⟩ => blk_simp [idx1, Rect.idx_unit_val, off1_eq]; simp [row, off1_eq]; omega

/-- The gate tile. -/
theorem gate_apply (r : Fin 512) (d : Fin 256) : gate m c t (ix2 r d) = proj (X m c) (XS m c) (W m c) (WS m c) (row t r) (col t d) := by
  unfold gate proj
  rw [pay60_apply, pay58_apply, blk1, blk4]
  simp only [blk0, blk2]
/-- The up tile, scaled by rows only. -/
theorem up_apply (r : Fin 512) (d : Fin 256) :
    up m c t (ix2 r d) = (∑ k : Fin 3584, X m c (ix2 (row t r) k) * W m c (ix2 k (colU t d))) * rowScale (XS m c) (row t r) := by
  unfold up
  rw [pay61_apply, pay58_apply, blk1]
  simp only [blk0, blk3]
/-- The activation tile. -/
theorem tile_apply (r : Fin 512) (d : Fin 256) (R : Fin 16384) (C : Fin 9472) (hR : R.val = (grid0.coords t 0).val * 512 + r.val)
    (hC : C.val = (grid0.coords t 1).val * 256 + d.val) :
    tile m c t (ix2 r d) = act (X m c) (XS m c) (W m c) (WS m c) R C := by
  obtain rfl : R = row t r := Fin.ext hR
  unfold tile act
  rw [pay1_apply, gate_apply, up_apply, blk5, logistic_eq]
  have e1 : col t d = ⟨C.val, by omega⟩ := Fin.ext hC.symm
  have e2 : colU t d = ⟨9472 + C.val, by omega⟩ := Fin.ext (by show ((grid0.coords t 1).val + 37) * 256 + d.val = _; simp only; omega)
  rw [e1, e2]
  rfl

end Blocks

end Cert.Proof.GateUp

end
-- ==== Proof.GateUpTrack.lean ====
/- THE GATE/UP KERNEL, POINT AFTER POINT. Of the two scratch buffers it is tracked, before point n, that the slabs of the column tiles
   already done in this row tile hold its activations, and that each lane of the maxima is the least upper bound of the magnitudes of
   those columns that fall into the lane; of the scales, that every row tile already finished has its scales; of the codes, that a row
   tile's last point leaves its codes. -/
module

public import proofs.«01_k».proof.Proof.GateUpTile

@[expose] public section

set_option maxRecDepth 16384

noncomputable section

namespace Cert.Proof.GateUp

open Idealize.ShloMosaic Idealize.ShloMosaic.TcCoe Idealize.SL.Sem
open Cert.GateUpIdeal Cert.GateUpIdeal.Gen Cert.GateUpIdeal.Hand

variable (m : (ℓ : Loc nD τ sig) → Buf (Elt Ideal) ℓ) (c : Dev nD)

/-- The slabs of the column tiles below `j` hold the activations of row tile `M`. -/
def ActsUpTo (M j : ℕ) (a : Vec Ideal S37x512x256 .f32) : Prop :=
  ∀ (R : Fin 16384) (C : Fin 9472), R.val / 512 = M → C.val / 256 < j →
    a (ix3 ⟨C.val / 256, by omega⟩ ⟨R.val % 512, by omega⟩ ⟨C.val % 256, by omega⟩) = act (X m c) (XS m c) (W m c) (WS m c) R C

/-- Each lane of the maxima is the least upper bound of the magnitudes of its columns in the column tiles below `j` of row tile `M`. -/
def MaxUpTo (M j : ℕ) (mx : Vec Ideal S512x128 .f32) : Prop :=
  ∀ (R : Fin 16384) (l : Fin 128), R.val / 512 = M → ∀ b : EReal,
    mx (ix2 ⟨R.val % 512, by omega⟩ l) ≤ b
      ↔ ∀ C : Fin 9472, C.val % 128 = l.val → C.val / 256 < j → mag (X m c) (XS m c) (W m c) (WS m c) R C ≤ b

/-- What is tracked. -/
def track : Track Ideal where
  inv n a mx := ActsUpTo m c (n / 37) (n % 37) a ∧ (n % 37 ≠ 0 → MaxUpTo m c (n / 37) (n % 37) mx)
  codes t y := t.val % 37 = 36 → ∀ (R : Fin 16384) (C : Fin 9472), R.val / 512 = t.val / 37 →
    y (ix2 ⟨R.val % 512, by omega⟩ C) = code (X m c) (XS m c) (W m c) (WS m c) R C
  scales t y := ∀ R : Fin 16384, R.val / 512 * 37 + 36 ≤ t.val →
    y (ix2 ⟨R.val / 4096, by omega⟩ ⟨R.val % 4096, by omega⟩) = scale (X m c) (XS m c) (W m c) (WS m c) R

variable (t : Fin cfg0.N)

/-- A point adds its column tile to the activations, -/
theorem newAct_upTo {a} (h : ActsUpTo m c (t.val / 37) (t.val % 37) a) :
    ActsUpTo m c (t.val / 37) (t.val % 37 + 1) (newAct m c t a) := by
  intro R C hR hC
  unfold newAct
  split_ifs with e
  · have e' : C.val / 256 = t.val % 37 := e.trans (coord1 t)
    exact tile_apply m c t _ _ R C (by rw [coord0]; show R.val = t.val / 37 * 512 + R.val % 512; omega)
      (by rw [coord1]; show C.val = t.val % 37 * 256 + C.val % 256; omega)
  · have e' : C.val / 256 ≠ t.val % 37 := fun he => e (he.trans (coord1 t).symm)
    exact h R C hR (by omega)

/-- and to the maxima. -/
theorem newTop_upTo {mx} (h : t.val % 37 ≠ 0 → MaxUpTo m c (t.val / 37) (t.val % 37) mx) :
    MaxUpTo m c (t.val / 37) (t.val % 37 + 1) (newTop m c t mx) := by
  intro R l hR b
  have hl := l.isLt
  have hj : t.val % 37 < 37 := Nat.mod_lt _ (by decide)
  unfold newTop
  rw [pay3_apply _ (by rw [coord1]; omega)]
  dsimp only
  have e1 : k0_pay1 (gate m c t) (up m c t) (iblk m c 5 t) (ix2 ⟨R.val % 512, by omega⟩ ⟨l.val, by omega⟩)
      = act (X m c) (XS m c) (W m c) (WS m c) R ⟨t.val % 37 * 256 + l.val, by omega⟩ :=
    tile_apply m c t _ _ R _ (by rw [coord0]; simp only; omega) (by rw [coord1])
  have e2 : k0_pay1 (gate m c t) (up m c t) (iblk m c 5 t) (ix2 ⟨R.val % 512, by omega⟩ ⟨128 + l.val, by omega⟩)
      = act (X m c) (XS m c) (W m c) (WS m c) R ⟨t.val % 37 * 256 + (128 + l.val), by omega⟩ :=
    tile_apply m c t _ _ R _ (by rw [coord0]; simp only; omega) (by rw [coord1])
  rw [e1, e2, coord1]
  have key : ∀ b : EReal, (max (mag (X m c) (XS m c) (W m c) (WS m c) R ⟨t.val % 37 * 256 + l.val, by omega⟩)
        (mag (X m c) (XS m c) (W m c) (WS m c) R ⟨t.val % 37 * 256 + (128 + l.val), by omega⟩) ≤ b)
      ↔ ∀ C : Fin 9472, C.val % 128 = l.val → C.val / 256 = t.val % 37 → mag (X m c) (XS m c) (W m c) (WS m c) R C ≤ b := by
    intro b
    rw [max_le_iff]
    constructor
    · rintro ⟨h1, h2⟩ C hC hC'
      by_cases hh : C.val % 256 < 128
      · rw [show C = ⟨t.val % 37 * 256 + l.val, by omega⟩ from Fin.ext (by simp only; omega)]
        exact h1
      · rw [show C = ⟨t.val % 37 * 256 + (128 + l.val), by omega⟩ from Fin.ext (by simp only; omega)]
        exact h2
    · intro hC
      exact ⟨hC _ (by simp only; omega) (by simp only; omega), hC _ (by simp only; omega) (by simp only; omega)⟩
  split_ifs with h0
  · refine (key b).trans ⟨fun hh C hC hC' => hh C hC (by omega), fun hh C hC hC' => hh C hC (by omega)⟩
  · refine (max_le_iff.trans (and_congr (h h0 R l hR b) (key b))).trans ?_
    constructor
    · rintro ⟨h1, h2⟩ C hC hC'
      by_cases hh : C.val / 256 = t.val % 37
      · exact h2 C hC hh
      · exact h1 C hC (by omega)
    · intro hh
      exact ⟨fun C hC hC' => hh C hC (by omega), fun C hC hC' => hh C hC (by omega)⟩

/-- The largest of a row's lanes is the largest magnitude of the row, so the scale is the row's. -/
theorem scale_of {M : ℕ} {mx} (h : MaxUpTo m c M 37 mx) (R : Fin 16384) (hR : R.val / 512 = M) :
    k0_pay7 (F := Ideal) mx (ix2 ⟨R.val % 512, by omega⟩ 0) = scale (X m c) (XS m c) (W m c) (WS m c) R := by
  rw [pay7_apply]
  have e : Finset.fold max (Ideal.ofBits FTy.f32 4286578688#32) (fun x : Fin 128 => mx (ix2 ⟨R.val % 512, by omega⟩ x)) Finset.univ
      = top (X m c) (XS m c) (W m c) (WS m c) R := by
    refine eq_of_forall_ge_iff fun b => ?_
    unfold top
    rw [Finset.fold_max_le, Finset.fold_max_le]
    refine and_congr Iff.rfl ⟨fun hh C _ => ?_, fun hh l _ => ?_⟩
    · exact (h R ⟨C.val % 128, by omega⟩ hR b).mp (hh _ (Finset.mem_univ _)) C rfl (by omega)
    · exact (h R l hR b).mpr fun C _ _ => hh C (Finset.mem_univ _)
  dsimp only
  rw [e]
  rfl

/-- The codes of a finished row tile. -/
theorem codesOf_eq {M : ℕ} {mx a} (h : MaxUpTo m c M 37 mx) (ha : ActsUpTo m c M 37 a) (R : Fin 16384) (C : Fin 9472) (hR : R.val / 512 = M) :
    codesOf mx a (ix2 ⟨R.val % 512, by omega⟩ C) = code (X m c) (XS m c) (W m c) (WS m c) R C := by
  unfold codesOf
  refine (pay4_apply mx _ _ _).trans ?_
  have e := ha R C hR (by omega)
  have es := scale_of m c h R hR
  show min (Ideal.ofBits FTy.f32 1138753536#32) (max (Ideal.ofBits FTy.f32 3286237184#32)
    (a (ix3 ⟨C.val / 256, by omega⟩ ⟨R.val % 512, by omega⟩ ⟨C.val % 256, by omega⟩)
      * Ideal.div 1 (k0_pay7 (F := Ideal) mx (ix2 ⟨R.val % 512, by omega⟩ 0)))) = _
  rw [e, es, mul_div_one _ (scale (X m c) (XS m c) (W m c) (WS m c) R) (scaleOf_ne _)]
  rfl

/-- The scales after a finished row tile. -/
theorem scalesOf_eq {mx y7} (h : MaxUpTo m c (t.val / 37) 37 mx) (ht : t.val % 37 = 36)
    (hy : ∀ h : t.val ≠ 0, (track m c).scales ⟨t.val - 1, by omega⟩ y7) :
    (track m c).scales t (scalesOf (grid0.coords t 0).val mx y7) := by
  intro R hR
  unfold scalesOf
  rw [coord0]
  split_ifs with e
  · have hR' : R.val / 512 = t.val / 37 := by simp at e; omega
    rw [← scale_of m c h R hR']
    refine congrArg _ (congrArg (fun z => ix2 z 0) (Fin.ext ?_))
    simp
  · exact hy (by omega) R (by simp at e ⊢; omega)

/-- The kernel's points keep what is tracked. -/
theorem sound : Track.Sound m (track m) where
  init c a mx := ⟨fun R C _ h => absurd h (by simp), fun h => absurd rfl h⟩
  stepA c t hc y6 y7 a mx hi hs := by
    have ht : t.val % 37 ≠ 36 := fun h => hc ((last_iff t).mpr h)
    have e1 : (t.val + 1) / 37 = t.val / 37 := by omega
    have e2 : (t.val + 1) % 37 = t.val % 37 + 1 := by omega
    refine ⟨?_, fun h => absurd h ht, fun R hR => hs (by omega) R (by simp only; omega)⟩
    show ActsUpTo m c ((t.val + 1) / 37) ((t.val + 1) % 37) _ ∧ (_ → MaxUpTo m c ((t.val + 1) / 37) ((t.val + 1) % 37) _)
    rw [actA_eq, topA_eq, e1, e2]
    exact ⟨newAct_upTo m c t hi.1, fun _ => newTop_upTo m c t hi.2⟩
  stepB c t hc y6 y7 a mx hi hs := by
    have ht : t.val % 37 = 36 := (last_iff t).mp hc
    have e2 : (t.val + 1) % 37 = 0 := by omega
    have h1 := newAct_upTo m c t hi.1
    have h2 := newTop_upTo m c t hi.2
    rw [ht] at h1 h2
    refine ⟨⟨fun R C _ h => absurd h (by omega), fun h => absurd e2 h⟩, fun _ R C hR => ?_, ?_⟩
    · rw [codesB_eq]
      exact codesOf_eq m c h2 h1 R C hR
    · rw [scalesB_eq]
      exact scalesOf_eq m c t h2 ht hs

end Cert.Proof.GateUp

end
-- ==== Proof.GateUpArray.lean ====
/- THE GATE/UP KERNEL'S RESULTS: its codes are `code` at every row and column, its scales `scale` of every row. -/
module

public import proofs.«01_k».proof.Proof.GateUpTrack
public import Idealize.ShloMosaic.Lib.Pipeline.ArrRel

@[expose] public section

set_option maxRecDepth 16384

noncomputable section

namespace Cert.Proof.GateUp

open Idealize.ShloMosaic Idealize.ShloMosaic.TcCoe Idealize.ShloMosaic.Pipeline Idealize.SL.Sem
open Cert.GateUpIdeal Cert.GateUpIdeal.Gen Cert.GateUpIdeal.Hand

/-- The codes as an array, -/
def codesArr (x : Vec Ideal S16384x3584 .fp8e4m3) (xs : Vec Ideal S4x4096 .f32) (w : Vec Ideal S3584x18944 .fp8e4m3)
    (ws : Vec Ideal S1x18944 .f32) : Vec Ideal S16384x9472 .fp8e4m3 := fun y => code x xs w ws (y 0) (y 1)
/-- and the scales, by sequence and position. -/
def scalesArr (x : Vec Ideal S16384x3584 .fp8e4m3) (xs : Vec Ideal S4x4096 .f32) (w : Vec Ideal S3584x18944 .fp8e4m3)
    (ws : Vec Ideal S1x18944 .f32) : Vec Ideal S4x4096 .f32 := fun y =>
  scale x xs w ws ⟨(y 0).val * 4096 + (y 1).val, by
    have h0 : (y 0).val < 4 := (y 0).isLt
    have h1 : (y 1).val < 4096 := (y 1).isLt
    omega⟩

variable (m : (ℓ : Loc nD τ sig) → Buf (Elt Ideal) ℓ)

/-- Both results are covered by the blocks written back: the codes at each row tile's last point, the scales at the very last point. -/
theorem covers6 : (cfg0.win 6).Covers := by decide +kernel
theorem covers7 : (cfg0.win 7).Covers := by decide +kernel
theorem flush6 : ∀ t : Fin cfg0.N, (cfg0.win 6).flush t = true → t.val % 37 = 36 := by decide +kernel
theorem flush7 : ∀ t : Fin cfg0.N, (cfg0.win 7).flush t = true → t.val = 1183 := by decide +kernel

section
variable (c : Dev nD) (after : (w' : Fin cfg0.W) → Fin cfg0.N → (cfg0.win w').block.Idx → Elt Ideal (cfg0.win w').elt)
  (ha : ∀ (w : Fin cfg0.W) (u : Fin cfg0.N), (cfg0.win w).flush u = true → (rdat m (track m) c).Leaves w u (after w u))
include ha

/-- The array of codes after the run. -/
theorem final6 : ((rdat m (track m) c).withAfter after).arrAt 6 cfg0.N = codesArr (X m c) (XS m c) (W m c) (WS m c) := by
  refine ((rdat m (track m) c).withAfter after).arrAt_eq_of_covers 6 _ covers6 fun t hf y => ?_
  have ht := flush6 t hf
  have hl : t.val < 1184 := t.isLt
  have hc : (track m c).codes t (after 6 t) := (dat m (track m) c).toRRel_leaves (w := 6) rfl (ha 6 t hf)
  blk_simp
  obtain ⟨r, C, rfl⟩ : ∃ (r : Fin 512) (C : Fin 9472), y = ix2 r C := ⟨y 0, y 1, eq_ix2 y⟩
  have e : ((View.whole main_v0_0).slice (win0_6.rect t)).emb (ix2 r C) = ix2 ⟨t.val / 37 * 512 + r.val, by omega⟩ C := by
    refine funext fun a => Fin.ext ?_
    match a with
    | ⟨0, _⟩ => blk_simp [idx6, coord0]
    | ⟨1, _⟩ => blk_simp [idx6]
  rw [e]
  refine Eq.trans ?_ (hc ht ⟨t.val / 37 * 512 + r.val, by omega⟩ C (by simp only; omega))
  refine congrArg (after 6 t) (congrArg (fun z => ix2 z C) (Fin.ext ?_))
  simp only; omega

/-- The array of scales after the run. -/
theorem final7 : ((rdat m (track m) c).withAfter after).arrAt 7 cfg0.N = scalesArr (X m c) (XS m c) (W m c) (WS m c) := by
  refine ((rdat m (track m) c).withAfter after).arrAt_eq_of_covers 7 _ covers7 fun t hf y => ?_
  have ht := flush7 t hf
  have hc : (track m c).scales t (after 7 t) := (dat m (track m) c).toRRel_leaves (w := 7) rfl (ha 7 t hf)
  blk_simp
  obtain ⟨b, s, rfl⟩ : ∃ (b : Fin 4) (s : Fin 4096), y = ix2 b s := ⟨y 0, y 1, eq_ix2 y⟩
  have e : ((View.whole main_v0_1).slice (win0_7.rect t)).emb (ix2 b s) = ix2 b s := by
    refine funext fun a => Fin.ext ?_
    match a with
    | ⟨0, _⟩ => blk_simp [idx7]
    | ⟨1, _⟩ => blk_simp [idx7]
  rw [e]
  refine Eq.trans ?_ (hc ⟨b.val * 4096 + s.val, by omega⟩ (by simp only; omega))
  refine congrArg (after 7 t) (congr (congrArg ix2 (Fin.ext ?_)) (Fin.ext ?_))
  · simp only; omega
  · simp only; omega

end

/-- The run of the kernel, read: its results are the codes and the scales of its arguments, which stay as they were. -/
theorem run (ρ : Dev nD → PrngReg) : θ_run defs (onTc (τ := τ) (main (F := Ideal))) ⟨m, fun _ => 0, ρ⟩ fun r => ∀ c : Dev nD,
      r.2.mem ((c : Thread nD τ).loc main_v0_0) = codesArr (X m c) (XS m c) (W m c) (WS m c)
      ∧ r.2.mem ((c : Thread nD τ).loc main_v0_1) = scalesArr (X m c) (XS m c) (W m c) (WS m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (run_track m ρ (track m) (sound m))
  obtain ⟨after, ha, hA⟩ := h.1.exists_exact c
  exact ⟨(hA 6).trans (final6 m c after ha), (hA 7).trans (final7 m c after ha), args_of m (track m) h.1 c⟩

end Cert.Proof.GateUp

end
-- ==== Proof.GateUpRef.lean ====
/- THE REFERENCE OF THE GATE/UP PROJECTION computes the functions of GateUpMath.lean, and so does the kernel: the claim. -/
module

public import proofs.«01_k».proof.Proof.GateUpArray
public import proofs.«01_k».proof.Defs
public import proofs.«01_k».proof.Proof.Gen.GateUpRefIdeal.Value

@[expose] public section

noncomputable section

namespace Cert.Proof.GateUp

open Idealize.ShloMosaic Cert.GateUpRefIdeal Cert.GateUpRefIdeal.Gen

/-- The largest of each row. -/
theorem row_max {a b : ℕ} (v : FVec Ideal ⟨2, ![a, b]⟩ .f32) (h : (⟨2, ![a, b]⟩ : Shape).Reduces [1] ⟨1, ![a]⟩) (r : Fin a) :
    multiReduction (F := Ideal) .maximumf [1] ⟨1, ![a]⟩ v 0xFF800000#32 h (.inl rfl) rfl (ix1 r)
      = Finset.fold max (Ideal.ofBits FTy.f32 0xFF800000#32) (fun x => v (ix2 r x)) Finset.univ := by
  pointwise []
/-- The scale of each maximum. -/
theorem scale_apply (M : FVec Ideal S16384 .f32) (r : Fin 16384) :
   select (cmpf .oeq M (broadcast S16384 (Scalar.ofBits .f32 0x00000000#32))) (broadcast S16384 (Scalar.ofBits .f32 0x3F800000#32)) (divf M  (broadcast S16384 (Scalar.ofBits .f32 0x43E00000#32))) (ix1 r)
    = if M (ix1 r) = 0 then 1 else Ideal.div (M (ix1 r)) (Ideal.ofBits .f32 0x43E00000#32) := by
  pointwise []
/-- A value per row, spread over the row. -/
theorem spread_apply (M : FVec Ideal S16384 .f32) (r : Fin 16384) (c : Fin 9472) :
   broadcastTo S16384x9472 (shapeCast S16384x1 M shapeCasts_S16384_S16384x1) broadcasts_S16384x1_S16384x9472 (ix2 r c) = M (ix1 r) := by
  pointwise []

/-- Codes: the quotient, clipped. -/
theorem clip_div {s : Shape} (A B : FVec Ideal s .f32) (y : s.Idx) :
    (truncf .fp8e4m3 (minimumf (broadcast s (Scalar.ofBits .f32 0x43E00000#32)) (maximumf (broadcast s (Scalar.ofBits .f32 0xC3E00000#32)) (divf A B))) bitsLt_fp8e4m3_f32 : FVec Ideal s .fp8e4m3) y
      = min (Ideal.ofBits FTy.f32 0x43E00000#32) (max (Ideal.ofBits FTy.f32 0xC3E00000#32) (Ideal.div (A y) (B y))) := by
  pointwise []

variable (v0 : Vec Ideal S16384x3584 .fp8e4m3) (v1 : Vec Ideal S4x4096 .f32) (v3 : Vec Ideal S3584x18944 .fp8e4m3) (v4 : Vec Ideal S1x18944 .f32)

/-- The activations. -/
theorem ref_act (r : Fin 16384) (c : Fin 9472) : k0_pay1 (F := Ideal) v0 v1 v3 v4 (ix2 r c) = act v0 v1 v3 v4 r c := by
  pointwise [k0_pay1, act, proj, rowScale]

/-- The rows' scales. -/
theorem ref_scale (r : Fin 16384) : k0_pay2 (F := Ideal) v0 v1 v3 v4 (ix1 r) = scale v0 v1 v3 v4 r := by
  unfold k0_pay2
  refine (scale_apply _ r).trans ?_
  rw [row_max]
  unfold scale scaleOf top mag
  simp only [← ref_act]
  rfl

/-- The codes. -/
theorem ref_codes (r : Fin 16384) (c : Fin 9472) : k0_pay3 (F := Ideal) v0 v1 v3 v4 (ix2 r c) = code v0 v1 v3 v4 r c := by
  unfold k0_pay3
  refine (clip_div _ _ _).trans ?_
  rw [spread_apply, ref_scale, ref_act]
  rfl

/-- The scales by sequence. -/
theorem ref_scales (b : Fin 4) (s : Fin 4096) :
    k0_pay4 (F := Ideal) v0 v1 v3 v4 (ix2 b s) = scale v0 v1 v3 v4 ⟨b.val * 4096 + s.val, by omega⟩ := by
  unfold k0_pay4
  rw [← ref_scale]
  generalize k0_pay2 v0 v1 v3 v4 = A
  pointwise []

/-- The reference's two results. -/
theorem ref_codesArr : Cert.GateUpRefIdeal.Value.G4 (F := Ideal) v0 v1 v3 v4 = codesArr v0 v1 v3 v4 := by
  funext y
  obtain ⟨r, c, rfl⟩ : ∃ (r : Fin 16384) (c : Fin 9472), y = ix2 r c := ⟨y 0, y 1, eq_ix2 y⟩
  exact ref_codes v0 v1 v3 v4 r c
theorem ref_scalesArr : Cert.GateUpRefIdeal.Value.G5 (F := Ideal) v0 v1 v3 v4 = scalesArr v0 v1 v3 v4 := by
  funext y
  obtain ⟨b, s, rfl⟩ : ∃ (b : Fin 4) (s : Fin 4096), y = ix2 b s := ⟨y 0, y 1, eq_ix2 y⟩
  exact ref_scales v0 v1 v3 v4 b s

open Idealize.ShloMosaic.TcCoe Idealize.SL.Sem in
/-- The kernel and the reference compute the same extended reals. -/
theorem algebraic : Cert.algebraic_GateUpIdeal_GateUpRefIdeal := by
  intro m ρ m' ρ' _ hagree
  refine ⟨_, _, run m ρ, ?_⟩
  refine (θ_run Cert.GateUpRefIdeal.defs _ _).mono (fun _ h c => ⟨(h c).1.trans ?_, (h c).2.1.trans ?_, (h c).2.2⟩)
    (Cert.GateUpRefIdeal.Value.run (F := Ideal) m' ρ')
  · obtain ⟨e0, e1, e2, e3⟩ := hagree c
    rw [ref_codesArr, e0, e1, e2, e3]
  · obtain ⟨e0, e1, e2, e3⟩ := hagree c
    rw [ref_scalesArr, e0, e1, e2, e3]

end Cert.Proof.GateUp

end
-- ==== Proof.DownBlock.lean ====
/- WHAT THE DOWN KERNEL STORES FOR ONE BLOCK, read element by element. -/
module

public import proofs.«01_k».proof.Proof.Gen.DownIdeal.Value
public import proofs.«01_k».proof.Proof.Scales

@[expose] public section

noncomputable section

namespace Cert.Proof.Down

open Cert.DownIdeal Cert.DownIdeal.Gen Idealize.ShloMosaic

/-- The row of scales a row tile takes out of the loaded 4 × 512 slice: row `i 0 / 8` of it. -/
theorem pay1_apply (i : grid0.Coords) (v : Vec Ideal S4x512 .f32) (c : Fin 512) :
    k0_pay1 (F := Ideal) i v (ix2 0 c) = v (ix2 ⟨(i 0).val / 8, by have h : (i 0).val < 32 := (i 0).isLt; omega⟩ c) := by
  have h : (i 0).val < 32 := (i 0).isLt
  pointwise [k0_pay1]
  rw [tile_div _ h, sum_select (by decide) (fun x => v (ix2 x c)) _ (by omega)]

/-- A block of the result: the residual plus the product row, times the row's scale and the column's. -/
theorem pay3_apply (v37 : FVec Ideal S1x512 .f32) (v70 : Vec Ideal S512x9472 .fp8e4m3) (v71 : Vec Ideal S9472x512 .fp8e4m3) (v73 : Vec Ideal S512x512 .f32) (v76 : Vec Ideal S1x512 .f32) (r c : Fin 512) :
    k0_pay3 (F := Ideal) v37 k0_pay2 v70 v71 v73 v76 (ix2 r c)
      = v73 (ix2 r c) + (∑ k : Fin 9472, v70 (ix2 r k) * v71 (ix2 k c)) * v37 (ix2 0 r) * v76 (ix2 0 c) := by
  have hr := r.isLt
  pointwise [k0_pay3, k0_pay2]
  congr 3
  split_ifs with h1 h2 h3
  · rw [sum_select' (by decide) (fun x : Fin 128 => v37 (ix2 0 ⟨x.val, by omega⟩)) _ h1]
  · rw [sum_select' (by decide) (fun x : Fin 128 => v37 (ix2 0 ⟨128 + x.val, by omega⟩)) _ h2]
    congr 3; simp only; omega
  · rw [sum_select' (by decide) (fun x : Fin 128 => v37 (ix2 0 ⟨256 + x.val, by omega⟩)) _ h3]
    congr 3; simp only; omega
  · rw [sum_select' (by decide) (fun x : Fin 128 => v37 (ix2 0 ⟨384 + x.val, by omega⟩)) _ (by omega)]
    congr 3; simp only; omega

end Cert.Proof.Down

end
-- ==== Proof.DownArray.lean ====
/- THE DOWN KERNEL'S RESULT: every block it stores is the block of the down projection `G` of its arguments, so the array is. -/
module

public import proofs.«01_k».proof.Proof.DownBlock
public import Idealize.ShloMosaic.Lib.Pipeline.ValueKit
public import Idealize.ShloMosaic.Lib.Pipeline.Covers

@[expose] public section

noncomputable section

namespace Cert.Proof.Down

open Cert.DownIdeal Cert.DownIdeal.Gen Idealize.ShloMosaic Idealize.ShloMosaic.TcCoe Idealize.SL.Sem

/-- The down projection: every element the residual plus the row of codes times the column of weights, times the
    row's scale and the column's. -/
def G (x : Vec Ideal S16384x9472 .fp8e4m3) (xs : Vec Ideal S4x4096 .f32) (w : Vec Ideal S9472x3584 .fp8e4m3)
    (ws : Vec Ideal S1x3584 .f32) (h : Vec Ideal S16384x3584 .f32) : Vec Ideal S16384x3584 .bf16 := fun y =>
  h y + (∑ k : Fin 9472, x (ix2 (y 0) k) * w (ix2 k (y 1)))
    * xs (ix2 ⟨(y 0).val / 4096, by have h : (y 0).val < 16384 := (y 0).isLt; omega⟩ ⟨(y 0).val % 4096, by omega⟩)
    * ws (ix2 0 (y 1))

variable (m : (ℓ : Loc nD τ sig) → Buf (Elt Ideal) ℓ)

/-- Which block each window takes at a point. -/
theorem idx0 : ∀ t : Fin cfg0.N, win0_0.index t = ![(grid0.coords t 0).val, 0] := by decide +kernel
theorem idx1 : ∀ t : Fin cfg0.N, win0_1.index t = ![0, 0] := by decide +kernel
theorem idx2 : ∀ t : Fin cfg0.N, win0_2.index t = ![0, (grid0.coords t 1).val] := by decide +kernel
theorem idx3 : ∀ t : Fin cfg0.N, win0_3.index t = ![0, (grid0.coords t 1).val] := by decide +kernel
theorem idx4 : ∀ t : Fin cfg0.N, win0_4.index t = ![(grid0.coords t 0).val, (grid0.coords t 1).val] := by decide +kernel
theorem idx5 : ∀ t : Fin cfg0.N, win0_5.index t = ![(grid0.coords t 0).val, (grid0.coords t 1).val] := by decide +kernel

/-- The slice of the scales that a row tile loads starts at column 512 · (tile mod 8). -/
theorem off1_eq (i : grid0.Coords) : k0_off1 i = ![0, (i 0).val % 8 * 512] := by
  have h : (i 0).val < 32 := (i 0).isLt
  unfold k0_off1
  dsimp only
  generalize (i 0).val = n at h
  revert n
  decide

section Blocks
variable (c : Dev nD) (t : Fin cfg0.N)

/-- The two grid coordinates' bounds. -/
theorem lt0 : (grid0.coords t 0).val < 32 := (grid0.coords t 0).isLt
theorem lt1 : (grid0.coords t 1).val < 7 := (grid0.coords t 1).isLt

/-- The global row of row `r` of the row tile. -/
def row (r : Fin 512) : Fin 16384 := ⟨(grid0.coords t 0).val * 512 + r.val, by have := lt0 t; omega⟩
/-- The global column of column `r` of the column tile. -/
def col (r : Fin 512) : Fin 3584 := ⟨(grid0.coords t 1).val * 512 + r.val, by have := lt1 t; omega⟩

/-- The blocks the point finds, as parts of the argument arrays: codes, -/
theorem blk0 (r : Fin 512) (k : Fin 9472) : iblk m c 0 t (ix2 r k) = m ((c : Thread nD τ).loc main_arg0) (ix2 (row t r) k) := by
  blk_simp [iblk]
  refine congrArg (m ((c : Thread nD τ).loc main_arg0)) (funext fun a => Fin.ext ?_)
  match a with
  | ⟨0, _⟩ => blk_simp [idx0]; rfl
  | ⟨1, _⟩ => blk_simp [idx0]
/-- weights, -/
theorem blk2 (k : Fin 9472) (r : Fin 512) : iblk m c 2 t (ix2 k r) = m ((c : Thread nD τ).loc main_arg2) (ix2 k (col t r)) := by
  blk_simp [iblk]
  refine congrArg (m ((c : Thread nD τ).loc main_arg2)) (funext fun a => Fin.ext ?_)
  match a with
  | ⟨0, _⟩ => blk_simp [idx2]
  | ⟨1, _⟩ => blk_simp [idx2]; rfl
/-- weight scales, -/
theorem blk3 (r : Fin 512) : iblk m c 3 t (ix2 0 r) = m ((c : Thread nD τ).loc main_arg3) (ix2 0 (col t r)) := by
  blk_simp [iblk]
  refine congrArg (m ((c : Thread nD τ).loc main_arg3)) (funext fun a => Fin.ext ?_)
  match a with
  | ⟨0, _⟩ => blk_simp [idx3]
  | ⟨1, _⟩ => blk_simp [idx3]; rfl
/-- and residual. -/
theorem blk4 (r cc : Fin 512) : iblk m c 4 t (ix2 r cc) = m ((c : Thread nD τ).loc main_arg4) (ix2 (row t r) (col t cc)) := by
  blk_simp [iblk]
  refine congrArg (m ((c : Thread nD τ).loc main_arg4)) (funext fun a => Fin.ext ?_)
  match a with
  | ⟨0, _⟩ => blk_simp [idx4]; rfl
  | ⟨1, _⟩ => blk_simp [idx4]; rfl
/-- The scale a tile takes for its row `r` is the scale of the global row. -/
theorem blk1 (r : Fin 512) (h) : View.ld (iblk m c 1 t) (Rect.unit (k0_off1 (grid0.coords t)) ![4, 512] h)
      (ix2 ⟨(grid0.coords t 0).val / 8, by have := lt0 t; omega⟩ r)
    = m ((c : Thread nD τ).loc main_arg1) (ix2 ⟨(row t r).val / 4096, by have := (row t r).isLt; omega⟩ ⟨(row t r).val % 4096, by omega⟩) := by
  have := lt0 t
  blk_simp [iblk, View.ld_apply]
  refine congrArg (m ((c : Thread nD τ).loc main_arg1)) (funext fun a => Fin.ext ?_)
  match a with
  | ⟨0, _⟩ => blk_simp [idx1, Rect.idx_unit_val, off1_eq]; simp [row, off1_eq]; omega
  | ⟨1, _⟩ => blk_simp [idx1, Rect.idx_unit_val, off1_eq]; simp [row, off1_eq]; omega

end Blocks

/-- The result's blocks cover it. -/
theorem covers5 : (cfg0.win 5).Covers := by decide +kernel

/-- The result array after the run. -/
theorem final (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ covers5 fun t hf y => ?_
  blk_simp
  rw [after0_5]
  unfold outsAt0
  frame_out
  obtain ⟨r, cc, rfl⟩ : ∃ (r cc : Fin 512), y = ix2 r cc := ⟨y 0, y 1, eq_ix2 y⟩
  have e : ((View.whole main_v0).slice (win0_5.rect t)).emb (ix2 r cc) = ix2 (row t r) (col t cc) := by
    refine funext fun a => Fin.ext ?_
    match a with
    | ⟨0, _⟩ => blk_simp [idx5]; rfl
    | ⟨1, _⟩ => blk_simp [idx5]; rfl
  rw [pay3_apply, pay1_apply, blk1, blk3, blk4]
  simp only [blk0, blk2]
  rw [e]
  rfl

/-- The run of the kernel, read: its result is the down projection of its arguments, which stay as they were. -/
theorem run (ρ : Dev nD → PrngReg) : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1)) (m ((c : Thread nD τ).loc main_arg2))
        (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Cert.DownIdeal.Value.run_blocks m ρ)

end Cert.Proof.Down

end
-- ==== Proof.DownRef.lean ====
/- THE DOWN PROJECTION: the reference computes `G` too, so kernel and reference agree. -/
module

public import proofs.«01_k».proof.Proof.DownArray
public import proofs.«01_k».proof.Proof.Gen.DownRefIdeal.Value
public import proofs.«01_k».proof.Defs

@[expose] public section

noncomputable section

namespace Cert.Proof.Down

open Idealize.ShloMosaic Idealize.ShloMosaic.TcCoe Idealize.SL.Sem

/-- The reference's result is the down projection of its arguments. -/
theorem ref_eq (x : Vec Ideal Cert.DownRefIdeal.S16384x9472 .fp8e4m3) (xs : Vec Ideal Cert.DownRefIdeal.S4x4096 .f32)
    (w : Vec Ideal Cert.DownRefIdeal.S9472x3584 .fp8e4m3) (ws : Vec Ideal Cert.DownRefIdeal.S1x3584 .f32)
    (h : Vec Ideal Cert.DownRefIdeal.S16384x3584 .f32) :
    Cert.DownRefIdeal.Value.G5 (F := Ideal) x xs w ws h = G x xs w ws h := by
  funext y
  pointwise [Cert.DownRefIdeal.Value.G5, Cert.DownRefIdeal.Gen.k0_pay1, G]

/-- The kernel and the reference compute the same extended reals. -/
theorem algebraic : Cert.algebraic_DownIdeal_DownRefIdeal := by
  intro m ρ m' ρ' _ hagree
  refine ⟨_, run m ρ, ?_⟩
  refine (θ_run Cert.DownRefIdeal.defs _ _).mono (fun _ h c => ⟨(h c).1.trans ?_, (h c).2⟩)
    (Cert.DownRefIdeal.Value.run (F := Ideal) m' ρ')
  obtain ⟨e0, e1, e2, e3, e4⟩ := hagree c
  rw [ref_eq, e0, e1, e2, e3, e4]

end Cert.Proof.Down

end
-- ==== Proof.KvCodesWindows.lean ====
/- THE WINDOWS OF THE KEY AND VALUE QUANTISERS, in KvCodes: the points at which each result is written back, the table of lengths as the body
   is handed it, and each operand's block at a point. -/
module

public import proofs.«01_k».proof.Proof.Gen.KvCodes.Launch
public import proofs.«01_k».proof.Proof.Gen.KvCodes.Skeleton
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

noncomputable section

namespace Cert.KvCodes.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KvCodes Cert.KvCodes.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 5 (result 0 ) is written back at the points ≡ 7 (mod 8). -/
theorem flush0_5 (a : (pcfg0 (F := F)).Adm) : ∀ t : Fin (cfg0 a).N, ((cfg0 a).win 5).flush t = true ↔ t.val % 8 = 7 :=
  (fun t => Pipeline.Window.flushOf_reads cc0_transform_5 reads0_5 hreads0_5 0 (by decide) (by decide) (Pipeline.Window.sep_of_coord cc0_transform_5 0 0 (fun _ => rfl) (by decide)) (P := 8) (m := 7) (by decide) rfl t : ∀ t : Fin grid0.N, Pipeline.Window.flushOf grid0 true cc0_transform_5 t = true ↔ t.val % 8 = 7)
/-- Window 6 (result 1 ) is written back at every point. -/
theorem flush0_6 (a : (pcfg0 (F := F)).Adm) : ∀ t : Fin (cfg0 a).N, ((cfg0 a).win 6).flush t = true :=
  (fun t => (Pipeline.Window.flushOf_reads cc0_transform_6 reads0_6 hreads0_6 1 (by decide) (by decide) (Pipeline.Window.sep_of_coord cc0_transform_6 1 2 (fun _ => rfl) (by decide)) (P := 1) (m := 0) (by decide) rfl t).mpr (Nat.mod_one _) : ∀ t : Fin grid0.N, Pipeline.Window.flushOf grid0 true cc0_transform_6 t = true)
/-- Window 7 (result 2 ) is written back at the points ≡ 7 (mod 8). -/
theorem flush0_7 (a : (pcfg0 (F := F)).Adm) : ∀ t : Fin (cfg0 a).N, ((cfg0 a).win 7).flush t = true ↔ t.val % 8 = 7 :=
  (fun t => Pipeline.Window.flushOf_reads cc0_transform_7 reads0_7 hreads0_7 0 (by decide) (by decide) (Pipeline.Window.sep_of_coord cc0_transform_7 0 0 (fun _ => rfl) (by decide)) (P := 8) (m := 7) (by decide) rfl t : ∀ t : Fin grid0.N, Pipeline.Window.flushOf grid0 true cc0_transform_7 t = true ↔ t.val % 8 = 7)
/-- Window 8 (result 3 ) is written back at every point. -/
theorem flush0_8 (a : (pcfg0 (F := F)).Adm) : ∀ t : Fin (cfg0 a).N, ((cfg0 a).win 8).flush t = true :=
  (fun t => (Pipeline.Window.flushOf_reads cc0_transform_8 reads0_8 hreads0_8 1 (by decide) (by decide) (Pipeline.Window.sep_of_coord cc0_transform_8 1 3 (fun _ => rfl) (by decide)) (P := 1) (m := 0) (by decide) rfl t).mpr (Nat.mod_one _) : ∀ t : Fin grid0.N, Pipeline.Window.flushOf grid0 true cc0_transform_8 t = true)
/-- Window 9 (result 4 ) is written back at every point. -/
theorem flush0_9 (a : (pcfg0 (F := F)).Adm) : ∀ t : Fin (cfg0 a).N, ((cfg0 a).win 9).flush t = true :=
  (fun t => (Pipeline.Window.flushOf_reads cc0_transform_9 reads0_9 hreads0_9 1 (by decide) (by decide) (Pipeline.Window.sep_of_coord cc0_transform_9 1 2 (fun _ => rfl) (by decide)) (P := 1) (m := 0) (by decide) rfl t).mpr (Nat.mod_one _) : ∀ t : Fin grid0.N, Pipeline.Window.flushOf grid0 true cc0_transform_9 t = true)
/-- Window 10 (result 5 ) is written back at every point. -/
theorem flush0_10 (a : (pcfg0 (F := F)).Adm) : ∀ t : Fin (cfg0 a).N, ((cfg0 a).win 10).flush t = true :=
  (fun t => (Pipeline.Window.flushOf_reads cc0_transform_10 reads0_10 hreads0_10 1 (by decide) (by decide) (Pipeline.Window.sep_of_coord cc0_transform_10 1 2 (fun _ => rfl) (by decide)) (P := 1) (m := 0) (by decide) rfl t).mpr (Nat.mod_one _) : ∀ t : Fin grid0.N, Pipeline.Window.flushOf grid0 true cc0_transform_10 t = true)
/-- Window 11 (result 6 ) is written back at the points ≡ 7 (mod 8). -/
theorem flush0_11 (a : (pcfg0 (F := F)).Adm) : ∀ t : Fin (cfg0 a).N, ((cfg0 a).win 11).flush t = true ↔ t.val % 8 = 7 :=
  (fun t => Pipeline.Window.flushOf_reads cc0_transform_11 reads0_11 hreads0_11 0 (by decide) (by decide) (Pipeline.Window.sep_of_coord cc0_transform_11 0 0 (fun _ => rfl) (by decide)) (P := 8) (m := 7) (by decide) rfl t : ∀ t : Fin grid0.N, Pipeline.Window.flushOf grid0 true cc0_transform_11 t = true ↔ t.val % 8 = 7)
/-- Window 12 (result 7 ) is written back at every point. -/
theorem flush0_12 (a : (pcfg0 (F := F)).Adm) : ∀ t : Fin (cfg0 a).N, ((cfg0 a).win 12).flush t = true :=
  (fun t => (Pipeline.Window.flushOf_reads cc0_transform_12 reads0_12 hreads0_12 1 (by decide) (by decide) (Pipeline.Window.sep_of_coord cc0_transform_12 1 3 (fun _ => rfl) (by decide)) (P := 1) (m := 0) (by decide) rfl t).mpr (Nat.mod_one _) : ∀ t : Fin grid0.N, Pipeline.Window.flushOf grid0 true cc0_transform_12 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_kv_codes (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12))

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- No index map reads the table, so the pipeline's side condition of its contents says nothing: they are admissible. -/
abbrev adm : (pcfg0 (F := F)).Adm := ⟨tbl m, trivial⟩
abbrev cfgM : Pipeline.Cfg sig Λ₀ := cfg0 (adm m)

/-- Each table as the body is handed it: its whole buffer as a memref, and that memref's wholeness. -/
abbrev tbM0_0 : Memref sig .tc .smem S4 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`)  -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Input window 0's current buffer holds its block at every point, when the body leaves the block in place. -/
theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, when the body leaves the block in place. -/
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, when the body leaves the block in place. -/
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, when the body leaves the block in place. -/
theorem before0_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, when the body leaves the block in place. -/
theorem before0_4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, spelled as the pipeline passes it (`bodyAt0`), and its wholeness. -/
abbrev ms0_0 (t : Fin (cfgM m).N) : Memref sig .tc .vmem S1x2x512x128 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S1x2x512x128 .f32 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S1x2x128 .f32 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S1x2x128 .f32 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S1x14x32x128 .f32 := spec0_4.stage ((cfgM m).slots t 4)
abbrev hs0_4 (t : Fin (cfgM m).N) : (ms0_4 m t).IsWhole := hstage0_4 (((cfgM m).slots t 4).cast nbuf0_4)
abbrev ms0_5 (t : Fin (cfgM m).N) : Memref sig .tc .vmem S1x2x128 .f32 := spec0_5.stage ((cfgM m).slots t 5)
abbrev hs0_5 (t : Fin (cfgM m).N) : (ms0_5 m t).IsWhole := hstage0_5 (((cfgM m).slots t 5).cast nbuf0_5)
abbrev ms0_6 (t : Fin (cfgM m).N) : Memref sig .tc .vmem S1x2x512x128 .i8 := spec0_6.stage ((cfgM m).slots t 6)
abbrev hs0_6 (t : Fin (cfgM m).N) : (ms0_6 m t).IsWhole := hstage0_6 (((cfgM m).slots t 6).cast nbuf0_6)
abbrev ms0_7 (t : Fin (cfgM m).N) : Memref sig .tc .vmem S1x2x64 .f32 := spec0_7.stage ((cfgM m).slots t 7)
abbrev hs0_7 (t : Fin (cfgM m).N) : (ms0_7 m t).IsWhole := hstage0_7 (((cfgM m).slots t 7).cast nbuf0_7)
abbrev ms0_8 (t : Fin (cfgM m).N) : Memref sig .tc .vmem S1x2x128x512 .bf16 := spec0_8.stage ((cfgM m).slots t 8)
abbrev hs0_8 (t : Fin (cfgM m).N) : (ms0_8 m t).IsWhole := hstage0_8 (((cfgM m).slots t 8).cast nbuf0_8)
abbrev ms0_9 (t : Fin (cfgM m).N) : Memref sig .tc .vmem S1x2x512 .f32 := spec0_9.stage ((cfgM m).slots t 9)
abbrev hs0_9 (t : Fin (cfgM m).N) : (ms0_9 m t).IsWhole := hstage0_9 (((cfgM m).slots t 9).cast nbuf0_9)
abbrev ms0_10 (t : Fin (cfgM m).N) : Memref sig .tc .vmem S1x2x512x128 .fp8e4m3 := spec0_10.stage ((cfgM m).slots t 10)
abbrev hs0_10 (t : Fin (cfgM m).N) : (ms0_10 m t).IsWhole := hstage0_10 (((cfgM m).slots t 10).cast nbuf0_10)
abbrev ms0_11 (t : Fin (cfgM m).N) : Memref sig .tc .vmem S1x2x128 .f32 := spec0_11.stage ((cfgM m).slots t 11)
abbrev hs0_11 (t : Fin (cfgM m).N) : (ms0_11 m t).IsWhole := hstage0_11 (((cfgM m).slots t 11).cast nbuf0_11)
abbrev ms0_12 (t : Fin (cfgM m).N) : Memref sig .tc .vmem S1x14x32x512 .f32 := spec0_12.stage ((cfgM m).slots t 12)
abbrev hs0_12 (t : Fin (cfgM m).N) : (ms0_12 m t).IsWhole := hstage0_12 (((cfgM m).slots t 12).cast nbuf0_12)

end Cert.KvCodes.Hand

end
-- ==== Proof.KvCodesBody.lean ====
/- ONE RUN OF THE KEY AND VALUE QUANTISERS' BODY, in KvCodes. At a grid point (sequence i 0, row tile i 1) the body reads the tile of keys
   and of values, the sequence's key sums and value maxima, its query means and its length; it stores the mean key and the value scales,
   the tile's codes, and the tile's key scales into the tile's lanes of the key-scale window. `run` gives the pieces stored. -/
module

public import proofs.«01_k».proof.Proof.KvCodesWindows
public import Idealize.ShloMosaic.Lib.Exec

@[expose] public section

set_option maxRecDepth 16384

noncomputable section

namespace Cert.KvCodes.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KvCodes Cert.KvCodes.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 2000000 in
/-- The run at a point: the pieces stored into every result's buffer; only the key scales' depend on what that buffer held. -/
noncomputable def run (c : Dev nD) (i : grid0.Coords) (arg3 : Memref sig .tc .vmem S1x2x512x128 .f32) (harg3 : arg3.IsWhole) (arg4 : Memref sig .tc .vmem S1x2x512x128 .f32) (harg4 : arg4.IsWhole) (arg5 : Memref sig .tc .vmem S1x2x128 .f32) (harg5 : arg5.IsWhole) (arg6 : Memref sig .tc .vmem S1x2x128 .f32) (harg6 : arg6.IsWhole) (arg7 : Memref sig .tc .vmem S1x14x32x128 .f32) (harg7 : arg7.IsWhole) (arg8 : Memref sig .tc .vmem S1x2x128 .f32) (harg8 : arg8.IsWhole) (arg9 : Memref sig .tc .vmem S1x2x512x128 .i8) (harg9 : arg9.IsWhole) (arg10 : Memref sig .tc .vmem S1x2x64 .f32) (harg10 : arg10.IsWhole) (arg11 : Memref sig .tc .vmem S1x2x128x512 .bf16) (harg11 : arg11.IsWhole) (arg12 : Memref sig .tc .vmem S1x2x512 .f32) (harg12 : arg12.IsWhole) (arg13 : Memref sig .tc .vmem S1x2x512x128 .fp8e4m3) (harg13 : arg13.IsWhole) (arg14 : Memref sig .tc .vmem S1x2x128 .f32) (harg14 : arg14.IsWhole) (arg15 : Memref sig .tc .vmem S1x14x32x512 .f32) (harg15 : arg15.IsWhole)
    (x0 : Vec F S1x2x512x128 .f32) (x1 : Vec F S1x2x512x128 .f32) (x2 : Vec F S1x2x128 .f32) (x3 : Vec F S1x2x128 .f32) (x4 : Vec F S1x14x32x128 .f32) (xt : TbBuf0 (F := F) c tbM0_0) (y7 : Vec F S1x2x64 .f32) :
    Σ' (L5 : List (View.Piece (Elt F) S1x2x128 .f32)), Σ' (L6 : List (View.Piece (Elt F) S1x2x512x128 .i8)), Σ' (L7 : List (View.Piece (Elt F) S1x2x64 .f32)), Σ' (L8 : List (View.Piece (Elt F) S1x2x128x512 .bf16)), Σ' (L9 : List (View.Piece (Elt F) S1x2x512 .f32)), Σ' (L10 : List (View.Piece (Elt F) S1x2x512x128 .fp8e4m3)), Σ' (L11 : List (View.Piece (Elt F) S1x2x128 .f32)), { L12 : List (View.Piece (Elt F) S1x14x32x512 .f32) //
      ∀ (y5 : Vec F S1x2x128 .f32) (y6 : Vec F S1x2x512x128 .i8) (y8 : Vec F S1x2x128x512 .bf16) (y9 : Vec F S1x2x512 .f32) (y10 : Vec F S1x2x512x128 .fp8e4m3) (y11 : Vec F S1x2x128 .f32) (y12 : Vec F S1x14x32x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare y11 ∗ owns (c : Thread nD τ) arg15 fullShare y12 ∗ tbPt0 c tbM0_0 xt
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (arg8.view.loc (c : Thread nD τ) ↦[arg8.view.set]{fullShare} arg8.view.writes (Elt F) (harg8.unread y5) L5) ∗ (arg9.view.loc (c : Thread nD τ) ↦[arg9.view.set]{fullShare} arg9.view.writes (Elt F) (harg9.unread y6) L6) ∗ (arg10.view.loc (c : Thread nD τ) ↦[arg10.view.set]{fullShare} arg10.view.writes (Elt F) (harg10.unread y7) L7) ∗ (arg11.view.loc (c : Thread nD τ) ↦[arg11.view.set]{fullShare} arg11.view.writes (Elt F) (harg11.unread y8) L8) ∗ (arg12.view.loc (c : Thread nD τ) ↦[arg12.view.set]{fullShare} arg12.view.writes (Elt F) (harg12.unread y9) L9) ∗ (arg13.view.loc (c : Thread nD τ) ↦[arg13.view.set]{fullShare} arg13.view.writes (Elt F) (harg13.unread y10) L10) ∗ (arg14.view.loc (c : Thread nD τ) ↦[arg14.view.set]{fullShare} arg14.view.writes (Elt F) (harg14.unread y11) L11) ∗ (arg15.view.loc (c : Thread nD τ) ↦[arg15.view.set]{fullShare} arg15.view.writes (Elt F) (harg15.unread y12) L12) ∗ tbPt0 c tbM0_0 xt) -∗ K ⟨⟩))
          ⊢ wp frame (wpE (defs₀ (F := F)) Variants.none c none) E (cc0_kv_codes i tbM0_0 htbM0_0 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, fun y5 y6 y8 y9 y10 y11 y12 E K => ?run⟩
  case run =>
    simp only [cc0_kv_codes_eq_skeleton]; unfold cc0_kv_codes_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact HT0

end Cert.KvCodes.Hand

end
-- ==== Proof.KvCodesFrame.lean ====
/- THE KEY AND VALUE QUANTISERS' RUN, in KvCodes. The pipeline's proof data are relational: of each result's window they say only that what a
   point leaves there meets a predicate. (The key scales' window stays in place for a whole sequence and is written a few lanes at a time
   over unknown contents.) `Track` collects the predicates; `Track.Sound` says that the body keeps them; `run_track` is the run for every
   sound track, and `frame` is the frame claim, the track saying nothing. -/
module

public import proofs.«01_k».proof.Proof.KvCodesBody
public import Idealize.ShloMosaic.Lib.Pipeline.DatRel

@[expose] public section

set_option maxRecDepth 16384

noncomputable section

namespace Cert.KvCodes.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KvCodes Cert.KvCodes.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves -/

/-- The run at point `t` on the input blocks there. -/
def at_ (c : Dev nD) (t : Fin (cfgM m).N) (y7 : Vec F S1x2x64 .f32) :=
  run (F := F) c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (ms0_11 m t) (hs0_11 m t) (ms0_12 m t) (hs0_12 m t)
    (iblk m c 0 t) (iblk m c 1 t) (iblk m c 2 t) (iblk m c 3 t) (iblk m c 4 t) (tbl m 0) y7

/-- The mean key after a point. -/
def meanOut (c : Dev nD) (t : Fin (cfgM m).N) (y5 : Vec F S1x2x128 .f32) (y7 : Vec F S1x2x64 .f32) : Vec F S1x2x128 .f32 :=
  (ms0_5 m t).view.read (Elt F) ((ms0_5 m t).view.writes (Elt F) ((hs0_5 m t).unread y5) (at_ m c t y7).1)
/-- The key codes after a point. -/
def codesOut (c : Dev nD) (t : Fin (cfgM m).N) (y6 : Vec F S1x2x512x128 .i8) (y7 : Vec F S1x2x64 .f32) : Vec F S1x2x512x128 .i8 :=
  (ms0_6 m t).view.read (Elt F) ((ms0_6 m t).view.writes (Elt F) ((hs0_6 m t).unread y6) (at_ m c t y7).2.1)
/-- The key scales after a point. -/
def scalesOut (c : Dev nD) (t : Fin (cfgM m).N) (y7 : Vec F S1x2x64 .f32) : Vec F S1x2x64 .f32 :=
  (ms0_7 m t).view.read (Elt F) ((ms0_7 m t).view.writes (Elt F) ((hs0_7 m t).unread y7) (at_ m c t y7).2.2.1)
/-- The value codes after a point. -/
def vcodesOut (c : Dev nD) (t : Fin (cfgM m).N) (y10 : Vec F S1x2x512x128 .fp8e4m3) (y7 : Vec F S1x2x64 .f32) : Vec F S1x2x512x128 .fp8e4m3 :=
  (ms0_10 m t).view.read (Elt F) ((ms0_10 m t).view.writes (Elt F) ((hs0_10 m t).unread y10) (at_ m c t y7).2.2.2.2.2.1)
/-- The value scales after a point. -/
def vscalesOut (c : Dev nD) (t : Fin (cfgM m).N) (y11 : Vec F S1x2x128 .f32) (y7 : Vec F S1x2x64 .f32) : Vec F S1x2x128 .f32 :=
  (ms0_11 m t).view.read (Elt F) ((ms0_11 m t).view.writes (Elt F) ((hs0_11 m t).unread y11) (at_ m c t y7).2.2.2.2.2.2.1)

/-! ## What is tracked -/

/-- What a point leaves in the mean keys, the key codes, the key scales, the value codes and the value scales. -/
structure Track (F : FTy → Type) [FloatOps F] where
  mean : Fin grid0.N → Vec F S1x2x128 .f32 → Prop
  codes : Fin grid0.N → Vec F S1x2x512x128 .i8 → Prop
  scales : Fin grid0.N → Vec F S1x2x64 .f32 → Prop
  vcodes : Fin grid0.N → Vec F S1x2x512x128 .fp8e4m3 → Prop
  vscales : Fin grid0.N → Vec F S1x2x128 .f32 → Prop

/-- The body keeps what is tracked: at every point but a sequence's first the key scales are what the point before left. -/
structure Track.Sound (T : Dev nD → Track F) : Prop where
  step : ∀ c (t : Fin (cfgM m).N) y5 y6 y7 y10 y11, (∀ h : t.val % 8 ≠ 0, (T c).scales ⟨t.val - 1, Nat.lt_of_le_of_lt (Nat.sub_le _ _) t.isLt⟩ y7) →
    (T c).mean t (meanOut m c t y5 y7) ∧ (T c).codes t (codesOut m c t y6 y7) ∧ (T c).scales t (scalesOut m c t y7)
      ∧ (T c).vcodes t (vcodesOut m c t y10 y7) ∧ (T c).vscales t (vscalesOut m c t y11 y7)

/-! ## The proof data -/

variable (T : Dev nD → Track F)

/-- The windows held to a predicate: the results. -/
def held (w : Fin (cfgM m).W) : Bool := match w with
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

/-- The predicates they are held to. -/
def rel (c : Dev nD) (w : Fin (cfgM m).W) : Fin (cfgM m).N → (((cfgM m).win w).block.Idx → Elt F ((cfgM m).win w).elt) → Prop := match w with
  | ⟨5, _⟩ => (T c).mean
  | ⟨6, _⟩ => (T c).codes
  | ⟨7, _⟩ => (T c).scales
  | ⟨10, _⟩ => (T c).vcodes
  | ⟨11, _⟩ => (T c).vscales
  | _ => fun _ _ => True

/-- The exact part of the proof data: each input's buffer at its block. -/
def dat (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => fun _ => Classical.arbitrary _
    | ⟨6, _⟩ => fun _ => Classical.arbitrary _
    | ⟨7, _⟩ => fun _ => Classical.arbitrary _
    | ⟨8, _⟩ => fun _ => Classical.arbitrary _
    | ⟨9, _⟩ => fun _ => Classical.arbitrary _
    | ⟨10, _⟩ => fun _ => Classical.arbitrary _
    | ⟨11, _⟩ => fun _ => Classical.arbitrary _
    | ⟨12, _⟩ => fun _ => Classical.arbitrary _
  Φ _ := iprop(Pipeline.ΦA (Val := Elt F) spec0 c ∗ Pipeline.ΦT pre0 (tbl m) c)
  q _ := fullShare
  owed _ := 0

/-- The proof data of the run. -/
def rdat (c : Dev nD) : RDat τ (Elt F) Unit ℕ (UR sig nD τ) ℕ (cfgM m) c := (dat m c).toRRel (held m) (rel m T c)

theorem after0_0 (c : Dev nD) (t : Fin (cfgM m).N) : (dat m c).after 0 t = iblk m c 0 t := by dsimp only [dat]; try rfl
theorem before0_0 (c : Dev nD) (t : Fin (cfgM m).N) (d) : (dat m c).before 0 t d = iblk m c 0 t :=
  before0_0_of m (dat m c) rfl (after0_0 m c) t d
theorem after0_1 (c : Dev nD) (t : Fin (cfgM m).N) : (dat m c).after 1 t = iblk m c 1 t := by dsimp only [dat]; try rfl
theorem before0_1 (c : Dev nD) (t : Fin (cfgM m).N) (d) : (dat m c).before 1 t d = iblk m c 1 t :=
  before0_1_of m (dat m c) rfl (after0_1 m c) t d
theorem after0_2 (c : Dev nD) (t : Fin (cfgM m).N) : (dat m c).after 2 t = iblk m c 2 t := by dsimp only [dat]; try rfl
theorem before0_2 (c : Dev nD) (t : Fin (cfgM m).N) (d) : (dat m c).before 2 t d = iblk m c 2 t :=
  before0_2_of m (dat m c) rfl (after0_2 m c) t d
theorem after0_3 (c : Dev nD) (t : Fin (cfgM m).N) : (dat m c).after 3 t = iblk m c 3 t := by dsimp only [dat]; try rfl
theorem before0_3 (c : Dev nD) (t : Fin (cfgM m).N) (d) : (dat m c).before 3 t d = iblk m c 3 t :=
  before0_3_of m (dat m c) rfl (after0_3 m c) t d
theorem after0_4 (c : Dev nD) (t : Fin (cfgM m).N) : (dat m c).after 4 t = iblk m c 4 t := by dsimp only [dat]; try rfl
theorem before0_4 (c : Dev nD) (t : Fin (cfgM m).N) (d) : (dat m c).before 4 t d = iblk m c 4 t :=
  before0_4_of m (dat m c) rfl (after0_4 m c) t d

/-- What the body finds in the key scales' window, but at a sequence's first point, is what the point before left there. -/
theorem finds_scales (c : Dev nD) (t : Fin (cfgM m).N) (Y : Vec F S1x2x64 .f32) (h : (rdat m T c).Finds 7 t Y) :
    ∀ h : t.val % 8 ≠ 0, (T c).scales ⟨t.val - 1, Nat.lt_of_le_of_lt (Nat.sub_le _ _) t.isLt⟩ Y := fun ht => by
  have ht' : t.val ≠ 0 := fun e => ht (by rw [e])
  have hf : ((cfgM m).win 7).fetch t = false := Window.fetch_out _ rfl t
  rcases ((rdat m T c).finds_of_pos hf ht' Y).mp h with hfl | hl
  · have := (flush0_7 (adm m) _).mp hfl
    have hN : t.val < 32 := t.isLt
    simp only at this
    omega
  · exact (dat m c).toRRel_leaves (w := 7) rfl hl

/-! ## The body obligation -/

/-- What the body is called with at point `t`, -/
def bodyPre (c : Dev nD) (t : Fin (cfgM m).N) : sProp 𝕄 :=
  iprop((dat m c).Φ t.castSucc ∗ (dat m c).owesAt () t.castSucc
    ∗ (∃ d, owns (c : Thread nD τ) (ms0_0 m t) fullShare ((dat m c).before 0 t d))
    ∗ (∃ d, owns (c : Thread nD τ) (ms0_1 m t) fullShare ((dat m c).before 1 t d))
    ∗ (∃ d, owns (c : Thread nD τ) (ms0_2 m t) fullShare ((dat m c).before 2 t d))
    ∗ (∃ d, owns (c : Thread nD τ) (ms0_3 m t) fullShare ((dat m c).before 3 t d))
    ∗ (∃ d, owns (c : Thread nD τ) (ms0_4 m t) fullShare ((dat m c).before 4 t d))
    ∗ (∃ Y, ⌜(rdat m T c).Finds 5 t Y⌝ ∗ owns (c : Thread nD τ) (ms0_5 m t) fullShare Y)
    ∗ (∃ Y, ⌜(rdat m T c).Finds 6 t Y⌝ ∗ owns (c : Thread nD τ) (ms0_6 m t) fullShare Y)
    ∗ (∃ Y, ⌜(rdat m T c).Finds 7 t Y⌝ ∗ owns (c : Thread nD τ) (ms0_7 m t) fullShare Y)
    ∗ (∃ Y, ⌜(rdat m T c).Finds 8 t Y⌝ ∗ owns (c : Thread nD τ) (ms0_8 m t) fullShare Y)
    ∗ (∃ Y, ⌜(rdat m T c).Finds 9 t Y⌝ ∗ owns (c : Thread nD τ) (ms0_9 m t) fullShare Y)
    ∗ (∃ Y, ⌜(rdat m T c).Finds 10 t Y⌝ ∗ owns (c : Thread nD τ) (ms0_10 m t) fullShare Y)
    ∗ (∃ Y, ⌜(rdat m T c).Finds 11 t Y⌝ ∗ owns (c : Thread nD τ) (ms0_11 m t) fullShare Y)
    ∗ (∃ Y, ⌜(rdat m T c).Finds 12 t Y⌝ ∗ owns (c : Thread nD τ) (ms0_12 m t) fullShare Y))

/-- and what it returns. -/
def bodyPost (c : Dev nD) (t : Fin (cfgM m).N) : sProp 𝕄 :=
  iprop((dat m c).Φ t.succ ∗ (dat m c).owesAt () t.succ
    ∗ owns (c : Thread nD τ) (ms0_0 m t) fullShare ((dat m c).after 0 t)
    ∗ owns (c : Thread nD τ) (ms0_1 m t) fullShare ((dat m c).after 1 t)
    ∗ owns (c : Thread nD τ) (ms0_2 m t) fullShare ((dat m c).after 2 t)
    ∗ owns (c : Thread nD τ) (ms0_3 m t) fullShare ((dat m c).after 3 t)
    ∗ owns (c : Thread nD τ) (ms0_4 m t) fullShare ((dat m c).after 4 t)
    ∗ (∃ X, ⌜(T c).mean t X⌝ ∗ owns (c : Thread nD τ) (ms0_5 m t) fullShare X)
    ∗ (∃ X, ⌜(T c).codes t X⌝ ∗ owns (c : Thread nD τ) (ms0_6 m t) fullShare X)
    ∗ (∃ X, ⌜(T c).scales t X⌝ ∗ owns (c : Thread nD τ) (ms0_7 m t) fullShare X)
    ∗ (∃ X, ⌜True⌝ ∗ owns (c : Thread nD τ) (ms0_8 m t) fullShare X)
    ∗ (∃ X, ⌜True⌝ ∗ owns (c : Thread nD τ) (ms0_9 m t) fullShare X)
    ∗ (∃ X, ⌜(T c).vcodes t X⌝ ∗ owns (c : Thread nD τ) (ms0_10 m t) fullShare X)
    ∗ (∃ X, ⌜(T c).vscales t X⌝ ∗ owns (c : Thread nD τ) (ms0_11 m t) fullShare X)
    ∗ (∃ X, ⌜True⌝ ∗ owns (c : Thread nD τ) (ms0_12 m t) fullShare X))

set_option maxHeartbeats 1200000 in
/-- The body at any point, by its run. -/
theorem sound_body (hT : Track.Sound m T) (c : Dev nD) (t : Fin (cfgM m).N) :
    bodyPre m T c t ⊢ wp frame (wpE (defs₀ (F := F)) Variants.none c none) Set.univ (bodyAt0 (adm m) t) (fun _ => bodyPost m T c t) := by
  unfold bodyPre bodyPost bodyAt0
  simp only [before0_0, after0_0, before0_1, after0_1, before0_2, after0_2, before0_3, after0_3, before0_4, after0_4]
  rw [show (dat m c).owesAt () t.succ = (dat m c).owesAt () t.castSucc from rfl,
    show (dat m c).Φ t.succ = (dat m c).Φ t.castSucc from rfl]
  rw [show (dat m c).Φ t.castSucc = iprop(Pipeline.ΦA spec0 c ∗ Pipeline.ΦT pre0 (tbl m) c) from rfl, PhiT0_eq]
  iintro ⟨⟨HΦ, HT0⟩, Ho, ⟨%d0, H0⟩, ⟨%d1, H1⟩, ⟨%d2, H2⟩, ⟨%d3, H3⟩, ⟨%d4, H4⟩, ⟨%y5, %hy5, H5⟩, ⟨%y6, %hy6, H6⟩, ⟨%y7, %hy7, H7⟩, ⟨%y8, %hy8, H8⟩, ⟨%y9, %hy9, H9⟩, ⟨%y10, %hy10, H10⟩, ⟨%y11, %hy11, H11⟩, ⟨%y12, %hy12, H12⟩⟩
  obtain ⟨h5, h6, h7, h10, h11⟩ := hT.step c t y5 y6 y7 y10 y11 (finds_scales m T c t y7 hy7)
  iapply ((run c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (ms0_11 m t) (hs0_11 m t) (ms0_12 m t) (hs0_12 m t)
    (iblk m c 0 t) (iblk m c 1 t) (iblk m c 2 t) (iblk m c 3 t) (iblk m c 4 t) (tbl m 0) y7).2.2.2.2.2.2.2.2 y5 y6 y8 y9 y10 y11 y12 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HT0]; · iexact HT0
  iintro ⟨H0, H1, H2, H3, H4, H5, H6, H7, H8, H9, H10, H11, H12, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  unfold owns
  isplitl [H5]
  · iexists (meanOut m c t y5 y7); isplitr; · ipureintro; exact h5
    iexists _; isplitr; swap; · iexact H5
    ipureintro; rfl
  isplitl [H6]
  · iexists (codesOut m c t y6 y7); isplitr; · ipureintro; exact h6
    iexists _; isplitr; swap; · iexact H6
    ipureintro; rfl
  isplitl [H7]
  · iexists (scalesOut m c t y7); isplitr; · ipureintro; exact h7
    iexists _; isplitr; swap; · iexact H7
    ipureintro; rfl
  isplitl [H8]
  · iexists _; isplitr; · ipureintro; exact trivial
    iexists _; isplitr; swap; · iexact H8
    ipureintro; rfl
  isplitl [H9]
  · iexists _; isplitr; · ipureintro; exact trivial
    iexists _; isplitr; swap; · iexact H9
    ipureintro; rfl
  isplitl [H10]
  · iexists (vcodesOut m c t y10 y7); isplitr; · ipureintro; exact h10
    iexists _; isplitr; swap; · iexact H10
    ipureintro; rfl
  isplitl [H11]
  · iexists (vscalesOut m c t y11 y7); isplitr; · ipureintro; exact h11
    iexists _; isplitr; swap; · iexact H11
    ipureintro; rfl
  · iexists _; isplitr; · ipureintro; exact trivial
    iexists _; isplitr; swap; · iexact H12
    ipureintro; rfl

/-- The body table's row at point `t`'s slots is the body as `bodyAt0` spells it. -/
theorem defs₀_row (t : Fin (cfgM m).N) :
    defs₀ (F := F) .tc (cfgM m).body ((cfgM m).bodyArgs t ((cfgM m).slots t)) = bodyAt0 (adm m) t := by
  unfold defs₀; rw [Defs.onTc_tc]

/-- The library's body obligation, at every point. -/
theorem body_obligation (hT : Track.Sound m T) (c : Dev nD) :
    BodyObligationRel (dat m c) (defs₀ (F := F)) Variants.none () Set.univ (held m) (rel m T c) := fun t => by
  rw [bigSep_W0, bigSep_W0, defs₀_row m]
  exact triple_restated (sound_body m T hT c t) rfl .rfl fun _ => .rfl

/-! ## The run and the frame -/

/-- No array is shared by several windows. -/
theorem share_full (c : Dev nD) : ∀ w, (rdat m T c).share w = fullShare := by
  intro w
  match w with
  | ⟨0, _⟩ | ⟨1, _⟩ | ⟨2, _⟩ | ⟨3, _⟩ | ⟨4, _⟩ | ⟨5, _⟩ | ⟨6, _⟩ | ⟨7, _⟩ | ⟨8, _⟩ | ⟨9, _⟩ | ⟨10, _⟩ | ⟨11, _⟩ | ⟨12, _⟩ => rfl

set_option backward.isDefEq.respectTransparency.types false in
/-- The run, for every sound track: every weakly fair execution of @main terminates, the arrays end at contents the proof data allow,
    and every semaphore counter is zero. -/
theorem run_track (hT : Track.Sound m T) : θ_run defs (onTc (τ := τ) (main (F := F))) (s₀ m ρ)
    (fun r => RDat.FramePost (cfgM m) (rdat m T) (V m) r ∧ r.2.sem = fun _ => 0) :=
  RDat.θ_run_frameP_track (Q' := _) pcfgs (fun _ => adm m) (0 : Fin 1) launch0 defs₀ Variants.none (rdat m T) m ρ main
    (hbody := fun c => (body_obligation m T hT c).toRRel) (hshare := fun c w => share_full m T c w)
    (howed := fun _ _ => rfl) (V := V m) (hmain := hmain m Variants.none) (hA := fun _ _ => rfl) (hpf := V_pre m)
    (hin := fun c => .rfl) (hout := fun c => by
      rw [show (rdat m T c).Φ (Fin.last _) = iprop(Pipeline.ΦA spec0 c ∗ Pipeline.ΦT pre0 (tbl m) c) from rfl]
      iintro ⟨H, -⟩; iexact H) (hQ' := fun _ h => h)

/-- The argument arrays end unchanged. -/
theorem args_of {r} (h : RDat.FramePost (cfgM m) (rdat m T) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h c).2 main_arg0 (by decide : main_arg0 ∈ Pipeline.restRefs sig spec0), h.arr_in c 0 rfl, h.arr_in c 1 rfl, h.arr_in c 2 rfl, h.arr_in c 3 rfl, h.arr_in c 4 rfl⟩

/-- The track that says nothing. -/
def Track.nothing : Track F := ⟨fun _ _ => True, fun _ _ => True, fun _ _ => True, fun _ _ => True, fun _ _ => True⟩

theorem Track.nothing_sound : Track.Sound m fun _ => Track.nothing (F := F) :=
  ⟨fun _ _ _ _ _ _ _ _ => ⟨trivial, trivial, trivial, trivial, trivial⟩⟩

/-- THE FRAME: every weakly fair execution terminates, the argument arrays end unchanged, and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨args_of m _ h.1, h.2⟩) (run_track m ρ _ (Track.nothing_sound m))

end Cert.KvCodes.Hand

end
-- ==== Proof.KvCodesIdealWindows.lean ====
/- THE WINDOWS OF THE KEY AND VALUE QUANTISERS, in KvCodesIdeal: the points at which each result is written back, the table of lengths as the body
   is handed it, and each operand's block at a point. -/
module

public import proofs.«01_k».proof.Proof.Gen.KvCodesIdeal.Launch
public import proofs.«01_k».proof.Proof.Gen.KvCodesIdeal.Skeleton
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

noncomputable section

namespace Cert.KvCodesIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KvCodesIdeal Cert.KvCodesIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 5 (result 0 ) is written back at the points ≡ 7 (mod 8). -/
theorem flush0_5 (a : (pcfg0 (F := F)).Adm) : ∀ t : Fin (cfg0 a).N, ((cfg0 a).win 5).flush t = true ↔ t.val % 8 = 7 :=
  (fun t => Pipeline.Window.flushOf_reads cc0_transform_5 reads0_5 hreads0_5 0 (by decide) (by decide) (Pipeline.Window.sep_of_coord cc0_transform_5 0 0 (fun _ => rfl) (by decide)) (P := 8) (m := 7) (by decide) rfl t : ∀ t : Fin grid0.N, Pipeline.Window.flushOf grid0 true cc0_transform_5 t = true ↔ t.val % 8 = 7)
/-- Window 6 (result 1 ) is written back at every point. -/
theorem flush0_6 (a : (pcfg0 (F := F)).Adm) : ∀ t : Fin (cfg0 a).N, ((cfg0 a).win 6).flush t = true :=
  (fun t => (Pipeline.Window.flushOf_reads cc0_transform_6 reads0_6 hreads0_6 1 (by decide) (by decide) (Pipeline.Window.sep_of_coord cc0_transform_6 1 2 (fun _ => rfl) (by decide)) (P := 1) (m := 0) (by decide) rfl t).mpr (Nat.mod_one _) : ∀ t : Fin grid0.N, Pipeline.Window.flushOf grid0 true cc0_transform_6 t = true)
/-- Window 7 (result 2 ) is written back at the points ≡ 7 (mod 8). -/
theorem flush0_7 (a : (pcfg0 (F := F)).Adm) : ∀ t : Fin (cfg0 a).N, ((cfg0 a).win 7).flush t = true ↔ t.val % 8 = 7 :=
  (fun t => Pipeline.Window.flushOf_reads cc0_transform_7 reads0_7 hreads0_7 0 (by decide) (by decide) (Pipeline.Window.sep_of_coord cc0_transform_7 0 0 (fun _ => rfl) (by decide)) (P := 8) (m := 7) (by decide) rfl t : ∀ t : Fin grid0.N, Pipeline.Window.flushOf grid0 true cc0_transform_7 t = true ↔ t.val % 8 = 7)
/-- Window 8 (result 3 ) is written back at every point. -/
theorem flush0_8 (a : (pcfg0 (F := F)).Adm) : ∀ t : Fin (cfg0 a).N, ((cfg0 a).win 8).flush t = true :=
  (fun t => (Pipeline.Window.flushOf_reads cc0_transform_8 reads0_8 hreads0_8 1 (by decide) (by decide) (Pipeline.Window.sep_of_coord cc0_transform_8 1 3 (fun _ => rfl) (by decide)) (P := 1) (m := 0) (by decide) rfl t).mpr (Nat.mod_one _) : ∀ t : Fin grid0.N, Pipeline.Window.flushOf grid0 true cc0_transform_8 t = true)
/-- Window 9 (result 4 ) is written back at every point. -/
theorem flush0_9 (a : (pcfg0 (F := F)).Adm) : ∀ t : Fin (cfg0 a).N, ((cfg0 a).win 9).flush t = true :=
  (fun t => (Pipeline.Window.flushOf_reads cc0_transform_9 reads0_9 hreads0_9 1 (by decide) (by decide) (Pipeline.Window.sep_of_coord cc0_transform_9 1 2 (fun _ => rfl) (by decide)) (P := 1) (m := 0) (by decide) rfl t).mpr (Nat.mod_one _) : ∀ t : Fin grid0.N, Pipeline.Window.flushOf grid0 true cc0_transform_9 t = true)
/-- Window 10 (result 5 ) is written back at every point. -/
theorem flush0_10 (a : (pcfg0 (F := F)).Adm) : ∀ t : Fin (cfg0 a).N, ((cfg0 a).win 10).flush t = true :=
  (fun t => (Pipeline.Window.flushOf_reads cc0_transform_10 reads0_10 hreads0_10 1 (by decide) (by decide) (Pipeline.Window.sep_of_coord cc0_transform_10 1 2 (fun _ => rfl) (by decide)) (P := 1) (m := 0) (by decide) rfl t).mpr (Nat.mod_one _) : ∀ t : Fin grid0.N, Pipeline.Window.flushOf grid0 true cc0_transform_10 t = true)
/-- Window 11 (result 6 ) is written back at the points ≡ 7 (mod 8). -/
theorem flush0_11 (a : (pcfg0 (F := F)).Adm) : ∀ t : Fin (cfg0 a).N, ((cfg0 a).win 11).flush t = true ↔ t.val % 8 = 7 :=
  (fun t => Pipeline.Window.flushOf_reads cc0_transform_11 reads0_11 hreads0_11 0 (by decide) (by decide) (Pipeline.Window.sep_of_coord cc0_transform_11 0 0 (fun _ => rfl) (by decide)) (P := 8) (m := 7) (by decide) rfl t : ∀ t : Fin grid0.N, Pipeline.Window.flushOf grid0 true cc0_transform_11 t = true ↔ t.val % 8 = 7)
/-- Window 12 (result 7 ) is written back at every point. -/
theorem flush0_12 (a : (pcfg0 (F := F)).Adm) : ∀ t : Fin (cfg0 a).N, ((cfg0 a).win 12).flush t = true :=
  (fun t => (Pipeline.Window.flushOf_reads cc0_transform_12 reads0_12 hreads0_12 1 (by decide) (by decide) (Pipeline.Window.sep_of_coord cc0_transform_12 1 3 (fun _ => rfl) (by decide)) (P := 1) (m := 0) (by decide) rfl t).mpr (Nat.mod_one _) : ∀ t : Fin grid0.N, Pipeline.Window.flushOf grid0 true cc0_transform_12 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_kv_codes (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12))

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- No index map reads the table, so the pipeline's side condition of its contents says nothing: they are admissible. -/
abbrev adm : (pcfg0 (F := F)).Adm := ⟨tbl m, trivial⟩
abbrev cfgM : Pipeline.Cfg sig Λ₀ := cfg0 (adm m)

/-- Each table as the body is handed it: its whole buffer as a memref, and that memref's wholeness. -/
abbrev tbM0_0 : Memref sig .tc .smem S4 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`)  -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Input window 0's current buffer holds its block at every point, when the body leaves the block in place. -/
theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, when the body leaves the block in place. -/
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, when the body leaves the block in place. -/
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, when the body leaves the block in place. -/
theorem before0_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, when the body leaves the block in place. -/
theorem before0_4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, spelled as the pipeline passes it (`bodyAt0`), and its wholeness. -/
abbrev ms0_0 (t : Fin (cfgM m).N) : Memref sig .tc .vmem S1x2x512x128 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S1x2x512x128 .f32 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S1x2x128 .f32 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S1x2x128 .f32 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S1x14x32x128 .f32 := spec0_4.stage ((cfgM m).slots t 4)
abbrev hs0_4 (t : Fin (cfgM m).N) : (ms0_4 m t).IsWhole := hstage0_4 (((cfgM m).slots t 4).cast nbuf0_4)
abbrev ms0_5 (t : Fin (cfgM m).N) : Memref sig .tc .vmem S1x2x128 .f32 := spec0_5.stage ((cfgM m).slots t 5)
abbrev hs0_5 (t : Fin (cfgM m).N) : (ms0_5 m t).IsWhole := hstage0_5 (((cfgM m).slots t 5).cast nbuf0_5)
abbrev ms0_6 (t : Fin (cfgM m).N) : Memref sig .tc .vmem S1x2x512x128 .i8 := spec0_6.stage ((cfgM m).slots t 6)
abbrev hs0_6 (t : Fin (cfgM m).N) : (ms0_6 m t).IsWhole := hstage0_6 (((cfgM m).slots t 6).cast nbuf0_6)
abbrev ms0_7 (t : Fin (cfgM m).N) : Memref sig .tc .vmem S1x2x64 .f32 := spec0_7.stage ((cfgM m).slots t 7)
abbrev hs0_7 (t : Fin (cfgM m).N) : (ms0_7 m t).IsWhole := hstage0_7 (((cfgM m).slots t 7).cast nbuf0_7)
abbrev ms0_8 (t : Fin (cfgM m).N) : Memref sig .tc .vmem S1x2x128x512 .bf16 := spec0_8.stage ((cfgM m).slots t 8)
abbrev hs0_8 (t : Fin (cfgM m).N) : (ms0_8 m t).IsWhole := hstage0_8 (((cfgM m).slots t 8).cast nbuf0_8)
abbrev ms0_9 (t : Fin (cfgM m).N) : Memref sig .tc .vmem S1x2x512 .f32 := spec0_9.stage ((cfgM m).slots t 9)
abbrev hs0_9 (t : Fin (cfgM m).N) : (ms0_9 m t).IsWhole := hstage0_9 (((cfgM m).slots t 9).cast nbuf0_9)
abbrev ms0_10 (t : Fin (cfgM m).N) : Memref sig .tc .vmem S1x2x512x128 .fp8e4m3 := spec0_10.stage ((cfgM m).slots t 10)
abbrev hs0_10 (t : Fin (cfgM m).N) : (ms0_10 m t).IsWhole := hstage0_10 (((cfgM m).slots t 10).cast nbuf0_10)
abbrev ms0_11 (t : Fin (cfgM m).N) : Memref sig .tc .vmem S1x2x128 .f32 := spec0_11.stage ((cfgM m).slots t 11)
abbrev hs0_11 (t : Fin (cfgM m).N) : (ms0_11 m t).IsWhole := hstage0_11 (((cfgM m).slots t 11).cast nbuf0_11)
abbrev ms0_12 (t : Fin (cfgM m).N) : Memref sig .tc .vmem S1x14x32x512 .f32 := spec0_12.stage ((cfgM m).slots t 12)
abbrev hs0_12 (t : Fin (cfgM m).N) : (ms0_12 m t).IsWhole := hstage0_12 (((cfgM m).slots t 12).cast nbuf0_12)

end Cert.KvCodesIdeal.Hand

end
-- ==== Proof.KvCodesIdealBody.lean ====
/- ONE RUN OF THE KEY AND VALUE QUANTISERS' BODY, in KvCodesIdeal. At a grid point (sequence i 0, row tile i 1) the body reads the tile of keys
   and of values, the sequence's key sums and value maxima, its query means and its length; it stores the mean key and the value scales,
   the tile's codes, and the tile's key scales into the tile's lanes of the key-scale window. `run` gives the pieces stored. -/
module

public import proofs.«01_k».proof.Proof.KvCodesIdealWindows
public import Idealize.ShloMosaic.Lib.Exec

@[expose] public section

set_option maxRecDepth 16384

noncomputable section

namespace Cert.KvCodesIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KvCodesIdeal Cert.KvCodesIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 2000000 in
/-- The run at a point: the pieces stored into every result's buffer; only the key scales' depend on what that buffer held. -/
noncomputable def run (c : Dev nD) (i : grid0.Coords) (arg3 : Memref sig .tc .vmem S1x2x512x128 .f32) (harg3 : arg3.IsWhole) (arg4 : Memref sig .tc .vmem S1x2x512x128 .f32) (harg4 : arg4.IsWhole) (arg5 : Memref sig .tc .vmem S1x2x128 .f32) (harg5 : arg5.IsWhole) (arg6 : Memref sig .tc .vmem S1x2x128 .f32) (harg6 : arg6.IsWhole) (arg7 : Memref sig .tc .vmem S1x14x32x128 .f32) (harg7 : arg7.IsWhole) (arg8 : Memref sig .tc .vmem S1x2x128 .f32) (harg8 : arg8.IsWhole) (arg9 : Memref sig .tc .vmem S1x2x512x128 .i8) (harg9 : arg9.IsWhole) (arg10 : Memref sig .tc .vmem S1x2x64 .f32) (harg10 : arg10.IsWhole) (arg11 : Memref sig .tc .vmem S1x2x128x512 .bf16) (harg11 : arg11.IsWhole) (arg12 : Memref sig .tc .vmem S1x2x512 .f32) (harg12 : arg12.IsWhole) (arg13 : Memref sig .tc .vmem S1x2x512x128 .fp8e4m3) (harg13 : arg13.IsWhole) (arg14 : Memref sig .tc .vmem S1x2x128 .f32) (harg14 : arg14.IsWhole) (arg15 : Memref sig .tc .vmem S1x14x32x512 .f32) (harg15 : arg15.IsWhole)
    (x0 : Vec F S1x2x512x128 .f32) (x1 : Vec F S1x2x512x128 .f32) (x2 : Vec F S1x2x128 .f32) (x3 : Vec F S1x2x128 .f32) (x4 : Vec F S1x14x32x128 .f32) (xt : TbBuf0 (F := F) c tbM0_0) (y7 : Vec F S1x2x64 .f32) :
    Σ' (L5 : List (View.Piece (Elt F) S1x2x128 .f32)), Σ' (L6 : List (View.Piece (Elt F) S1x2x512x128 .i8)), Σ' (L7 : List (View.Piece (Elt F) S1x2x64 .f32)), Σ' (L8 : List (View.Piece (Elt F) S1x2x128x512 .bf16)), Σ' (L9 : List (View.Piece (Elt F) S1x2x512 .f32)), Σ' (L10 : List (View.Piece (Elt F) S1x2x512x128 .fp8e4m3)), Σ' (L11 : List (View.Piece (Elt F) S1x2x128 .f32)), { L12 : List (View.Piece (Elt F) S1x14x32x512 .f32) //
      ∀ (y5 : Vec F S1x2x128 .f32) (y6 : Vec F S1x2x512x128 .i8) (y8 : Vec F S1x2x128x512 .bf16) (y9 : Vec F S1x2x512 .f32) (y10 : Vec F S1x2x512x128 .fp8e4m3) (y11 : Vec F S1x2x128 .f32) (y12 : Vec F S1x14x32x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare y11 ∗ owns (c : Thread nD τ) arg15 fullShare y12 ∗ tbPt0 c tbM0_0 xt
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (arg8.view.loc (c : Thread nD τ) ↦[arg8.view.set]{fullShare} arg8.view.writes (Elt F) (harg8.unread y5) L5) ∗ (arg9.view.loc (c : Thread nD τ) ↦[arg9.view.set]{fullShare} arg9.view.writes (Elt F) (harg9.unread y6) L6) ∗ (arg10.view.loc (c : Thread nD τ) ↦[arg10.view.set]{fullShare} arg10.view.writes (Elt F) (harg10.unread y7) L7) ∗ (arg11.view.loc (c : Thread nD τ) ↦[arg11.view.set]{fullShare} arg11.view.writes (Elt F) (harg11.unread y8) L8) ∗ (arg12.view.loc (c : Thread nD τ) ↦[arg12.view.set]{fullShare} arg12.view.writes (Elt F) (harg12.unread y9) L9) ∗ (arg13.view.loc (c : Thread nD τ) ↦[arg13.view.set]{fullShare} arg13.view.writes (Elt F) (harg13.unread y10) L10) ∗ (arg14.view.loc (c : Thread nD τ) ↦[arg14.view.set]{fullShare} arg14.view.writes (Elt F) (harg14.unread y11) L11) ∗ (arg15.view.loc (c : Thread nD τ) ↦[arg15.view.set]{fullShare} arg15.view.writes (Elt F) (harg15.unread y12) L12) ∗ tbPt0 c tbM0_0 xt) -∗ K ⟨⟩))
          ⊢ wp frame (wpE (defs₀ (F := F)) Variants.none c none) E (cc0_kv_codes i tbM0_0 htbM0_0 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, fun y5 y6 y8 y9 y10 y11 y12 E K => ?run⟩
  case run =>
    simp only [cc0_kv_codes_eq_skeleton]; unfold cc0_kv_codes_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact HT0

end Cert.KvCodesIdeal.Hand

end
-- ==== Proof.KvCodesIdealFrame.lean ====
/- THE KEY AND VALUE QUANTISERS' RUN, in KvCodesIdeal. The pipeline's proof data are relational: of each result's window they say only that what a
   point leaves there meets a predicate. (The key scales' window stays in place for a whole sequence and is written a few lanes at a time
   over unknown contents.) `Track` collects the predicates; `Track.Sound` says that the body keeps them; `run_track` is the run for every
   sound track, and `frame` is the frame claim, the track saying nothing. -/
module

public import proofs.«01_k».proof.Proof.KvCodesIdealBody
public import Idealize.ShloMosaic.Lib.Pipeline.DatRel

@[expose] public section

set_option maxRecDepth 16384

noncomputable section

namespace Cert.KvCodesIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KvCodesIdeal Cert.KvCodesIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves -/

/-- The run at point `t` on the input blocks there. -/
def at_ (c : Dev nD) (t : Fin (cfgM m).N) (y7 : Vec F S1x2x64 .f32) :=
  run (F := F) c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (ms0_11 m t) (hs0_11 m t) (ms0_12 m t) (hs0_12 m t)
    (iblk m c 0 t) (iblk m c 1 t) (iblk m c 2 t) (iblk m c 3 t) (iblk m c 4 t) (tbl m 0) y7

/-- The mean key after a point. -/
def meanOut (c : Dev nD) (t : Fin (cfgM m).N) (y5 : Vec F S1x2x128 .f32) (y7 : Vec F S1x2x64 .f32) : Vec F S1x2x128 .f32 :=
  (ms0_5 m t).view.read (Elt F) ((ms0_5 m t).view.writes (Elt F) ((hs0_5 m t).unread y5) (at_ m c t y7).1)
/-- The key codes after a point. -/
def codesOut (c : Dev nD) (t : Fin (cfgM m).N) (y6 : Vec F S1x2x512x128 .i8) (y7 : Vec F S1x2x64 .f32) : Vec F S1x2x512x128 .i8 :=
  (ms0_6 m t).view.read (Elt F) ((ms0_6 m t).view.writes (Elt F) ((hs0_6 m t).unread y6) (at_ m c t y7).2.1)
/-- The key scales after a point. -/
def scalesOut (c : Dev nD) (t : Fin (cfgM m).N) (y7 : Vec F S1x2x64 .f32) : Vec F S1x2x64 .f32 :=
  (ms0_7 m t).view.read (Elt F) ((ms0_7 m t).view.writes (Elt F) ((hs0_7 m t).unread y7) (at_ m c t y7).2.2.1)
/-- The value codes after a point. -/
def vcodesOut (c : Dev nD) (t : Fin (cfgM m).N) (y10 : Vec F S1x2x512x128 .fp8e4m3) (y7 : Vec F S1x2x64 .f32) : Vec F S1x2x512x128 .fp8e4m3 :=
  (ms0_10 m t).view.read (Elt F) ((ms0_10 m t).view.writes (Elt F) ((hs0_10 m t).unread y10) (at_ m c t y7).2.2.2.2.2.1)
/-- The value scales after a point. -/
def vscalesOut (c : Dev nD) (t : Fin (cfgM m).N) (y11 : Vec F S1x2x128 .f32) (y7 : Vec F S1x2x64 .f32) : Vec F S1x2x128 .f32 :=
  (ms0_11 m t).view.read (Elt F) ((ms0_11 m t).view.writes (Elt F) ((hs0_11 m t).unread y11) (at_ m c t y7).2.2.2.2.2.2.1)

/-! ## What is tracked -/

/-- What a point leaves in the mean keys, the key codes, the key scales, the value codes and the value scales. -/
structure Track (F : FTy → Type) [FloatOps F] where
  mean : Fin grid0.N → Vec F S1x2x128 .f32 → Prop
  codes : Fin grid0.N → Vec F S1x2x512x128 .i8 → Prop
  scales : Fin grid0.N → Vec F S1x2x64 .f32 → Prop
  vcodes : Fin grid0.N → Vec F S1x2x512x128 .fp8e4m3 → Prop
  vscales : Fin grid0.N → Vec F S1x2x128 .f32 → Prop

/-- The body keeps what is tracked: at every point but a sequence's first the key scales are what the point before left. -/
structure Track.Sound (T : Dev nD → Track F) : Prop where
  step : ∀ c (t : Fin (cfgM m).N) y5 y6 y7 y10 y11, (∀ h : t.val % 8 ≠ 0, (T c).scales ⟨t.val - 1, Nat.lt_of_le_of_lt (Nat.sub_le _ _) t.isLt⟩ y7) →
    (T c).mean t (meanOut m c t y5 y7) ∧ (T c).codes t (codesOut m c t y6 y7) ∧ (T c).scales t (scalesOut m c t y7)
      ∧ (T c).vcodes t (vcodesOut m c t y10 y7) ∧ (T c).vscales t (vscalesOut m c t y11 y7)

/-! ## The proof data -/

variable (T : Dev nD → Track F)

/-- The windows held to a predicate: the results. -/
def held (w : Fin (cfgM m).W) : Bool := match w with
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

/-- The predicates they are held to. -/
def rel (c : Dev nD) (w : Fin (cfgM m).W) : Fin (cfgM m).N → (((cfgM m).win w).block.Idx → Elt F ((cfgM m).win w).elt) → Prop := match w with
  | ⟨5, _⟩ => (T c).mean
  | ⟨6, _⟩ => (T c).codes
  | ⟨7, _⟩ => (T c).scales
  | ⟨10, _⟩ => (T c).vcodes
  | ⟨11, _⟩ => (T c).vscales
  | _ => fun _ _ => True

/-- The exact part of the proof data: each input's buffer at its block. -/
def dat (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => fun _ => Classical.arbitrary _
    | ⟨6, _⟩ => fun _ => Classical.arbitrary _
    | ⟨7, _⟩ => fun _ => Classical.arbitrary _
    | ⟨8, _⟩ => fun _ => Classical.arbitrary _
    | ⟨9, _⟩ => fun _ => Classical.arbitrary _
    | ⟨10, _⟩ => fun _ => Classical.arbitrary _
    | ⟨11, _⟩ => fun _ => Classical.arbitrary _
    | ⟨12, _⟩ => fun _ => Classical.arbitrary _
  Φ _ := iprop(Pipeline.ΦA (Val := Elt F) spec0 c ∗ Pipeline.ΦT pre0 (tbl m) c)
  q _ := fullShare
  owed _ := 0

/-- The proof data of the run. -/
def rdat (c : Dev nD) : RDat τ (Elt F) Unit ℕ (UR sig nD τ) ℕ (cfgM m) c := (dat m c).toRRel (held m) (rel m T c)

theorem after0_0 (c : Dev nD) (t : Fin (cfgM m).N) : (dat m c).after 0 t = iblk m c 0 t := by dsimp only [dat]; try rfl
theorem before0_0 (c : Dev nD) (t : Fin (cfgM m).N) (d) : (dat m c).before 0 t d = iblk m c 0 t :=
  before0_0_of m (dat m c) rfl (after0_0 m c) t d
theorem after0_1 (c : Dev nD) (t : Fin (cfgM m).N) : (dat m c).after 1 t = iblk m c 1 t := by dsimp only [dat]; try rfl
theorem before0_1 (c : Dev nD) (t : Fin (cfgM m).N) (d) : (dat m c).before 1 t d = iblk m c 1 t :=
  before0_1_of m (dat m c) rfl (after0_1 m c) t d
theorem after0_2 (c : Dev nD) (t : Fin (cfgM m).N) : (dat m c).after 2 t = iblk m c 2 t := by dsimp only [dat]; try rfl
theorem before0_2 (c : Dev nD) (t : Fin (cfgM m).N) (d) : (dat m c).before 2 t d = iblk m c 2 t :=
  before0_2_of m (dat m c) rfl (after0_2 m c) t d
theorem after0_3 (c : Dev nD) (t : Fin (cfgM m).N) : (dat m c).after 3 t = iblk m c 3 t := by dsimp only [dat]; try rfl
theorem before0_3 (c : Dev nD) (t : Fin (cfgM m).N) (d) : (dat m c).before 3 t d = iblk m c 3 t :=
  before0_3_of m (dat m c) rfl (after0_3 m c) t d
theorem after0_4 (c : Dev nD) (t : Fin (cfgM m).N) : (dat m c).after 4 t = iblk m c 4 t := by dsimp only [dat]; try rfl
theorem before0_4 (c : Dev nD) (t : Fin (cfgM m).N) (d) : (dat m c).before 4 t d = iblk m c 4 t :=
  before0_4_of m (dat m c) rfl (after0_4 m c) t d

/-- What the body finds in the key scales' window, but at a sequence's first point, is what the point before left there. -/
theorem finds_scales (c : Dev nD) (t : Fin (cfgM m).N) (Y : Vec F S1x2x64 .f32) (h : (rdat m T c).Finds 7 t Y) :
    ∀ h : t.val % 8 ≠ 0, (T c).scales ⟨t.val - 1, Nat.lt_of_le_of_lt (Nat.sub_le _ _) t.isLt⟩ Y := fun ht => by
  have ht' : t.val ≠ 0 := fun e => ht (by rw [e])
  have hf : ((cfgM m).win 7).fetch t = false := Window.fetch_out _ rfl t
  rcases ((rdat m T c).finds_of_pos hf ht' Y).mp h with hfl | hl
  · have := (flush0_7 (adm m) _).mp hfl
    have hN : t.val < 32 := t.isLt
    simp only at this
    omega
  · exact (dat m c).toRRel_leaves (w := 7) rfl hl

/-! ## The body obligation -/

/-- What the body is called with at point `t`, -/
def bodyPre (c : Dev nD) (t : Fin (cfgM m).N) : sProp 𝕄 :=
  iprop((dat m c).Φ t.castSucc ∗ (dat m c).owesAt () t.castSucc
    ∗ (∃ d, owns (c : Thread nD τ) (ms0_0 m t) fullShare ((dat m c).before 0 t d))
    ∗ (∃ d, owns (c : Thread nD τ) (ms0_1 m t) fullShare ((dat m c).before 1 t d))
    ∗ (∃ d, owns (c : Thread nD τ) (ms0_2 m t) fullShare ((dat m c).before 2 t d))
    ∗ (∃ d, owns (c : Thread nD τ) (ms0_3 m t) fullShare ((dat m c).before 3 t d))
    ∗ (∃ d, owns (c : Thread nD τ) (ms0_4 m t) fullShare ((dat m c).before 4 t d))
    ∗ (∃ Y, ⌜(rdat m T c).Finds 5 t Y⌝ ∗ owns (c : Thread nD τ) (ms0_5 m t) fullShare Y)
    ∗ (∃ Y, ⌜(rdat m T c).Finds 6 t Y⌝ ∗ owns (c : Thread nD τ) (ms0_6 m t) fullShare Y)
    ∗ (∃ Y, ⌜(rdat m T c).Finds 7 t Y⌝ ∗ owns (c : Thread nD τ) (ms0_7 m t) fullShare Y)
    ∗ (∃ Y, ⌜(rdat m T c).Finds 8 t Y⌝ ∗ owns (c : Thread nD τ) (ms0_8 m t) fullShare Y)
    ∗ (∃ Y, ⌜(rdat m T c).Finds 9 t Y⌝ ∗ owns (c : Thread nD τ) (ms0_9 m t) fullShare Y)
    ∗ (∃ Y, ⌜(rdat m T c).Finds 10 t Y⌝ ∗ owns (c : Thread nD τ) (ms0_10 m t) fullShare Y)
    ∗ (∃ Y, ⌜(rdat m T c).Finds 11 t Y⌝ ∗ owns (c : Thread nD τ) (ms0_11 m t) fullShare Y)
    ∗ (∃ Y, ⌜(rdat m T c).Finds 12 t Y⌝ ∗ owns (c : Thread nD τ) (ms0_12 m t) fullShare Y))

/-- and what it returns. -/
def bodyPost (c : Dev nD) (t : Fin (cfgM m).N) : sProp 𝕄 :=
  iprop((dat m c).Φ t.succ ∗ (dat m c).owesAt () t.succ
    ∗ owns (c : Thread nD τ) (ms0_0 m t) fullShare ((dat m c).after 0 t)
    ∗ owns (c : Thread nD τ) (ms0_1 m t) fullShare ((dat m c).after 1 t)
    ∗ owns (c : Thread nD τ) (ms0_2 m t) fullShare ((dat m c).after 2 t)
    ∗ owns (c : Thread nD τ) (ms0_3 m t) fullShare ((dat m c).after 3 t)
    ∗ owns (c : Thread nD τ) (ms0_4 m t) fullShare ((dat m c).after 4 t)
    ∗ (∃ X, ⌜(T c).mean t X⌝ ∗ owns (c : Thread nD τ) (ms0_5 m t) fullShare X)
    ∗ (∃ X, ⌜(T c).codes t X⌝ ∗ owns (c : Thread nD τ) (ms0_6 m t) fullShare X)
    ∗ (∃ X, ⌜(T c).scales t X⌝ ∗ owns (c : Thread nD τ) (ms0_7 m t) fullShare X)
    ∗ (∃ X, ⌜True⌝ ∗ owns (c : Thread nD τ) (ms0_8 m t) fullShare X)
    ∗ (∃ X, ⌜True⌝ ∗ owns (c : Thread nD τ) (ms0_9 m t) fullShare X)
    ∗ (∃ X, ⌜(T c).vcodes t X⌝ ∗ owns (c : Thread nD τ) (ms0_10 m t) fullShare X)
    ∗ (∃ X, ⌜(T c).vscales t X⌝ ∗ owns (c : Thread nD τ) (ms0_11 m t) fullShare X)
    ∗ (∃ X, ⌜True⌝ ∗ owns (c : Thread nD τ) (ms0_12 m t) fullShare X))

set_option maxHeartbeats 1200000 in
/-- The body at any point, by its run. -/
theorem sound_body (hT : Track.Sound m T) (c : Dev nD) (t : Fin (cfgM m).N) :
    bodyPre m T c t ⊢ wp frame (wpE (defs₀ (F := F)) Variants.none c none) Set.univ (bodyAt0 (adm m) t) (fun _ => bodyPost m T c t) := by
  unfold bodyPre bodyPost bodyAt0
  simp only [before0_0, after0_0, before0_1, after0_1, before0_2, after0_2, before0_3, after0_3, before0_4, after0_4]
  rw [show (dat m c).owesAt () t.succ = (dat m c).owesAt () t.castSucc from rfl,
    show (dat m c).Φ t.succ = (dat m c).Φ t.castSucc from rfl]
  rw [show (dat m c).Φ t.castSucc = iprop(Pipeline.ΦA spec0 c ∗ Pipeline.ΦT pre0 (tbl m) c) from rfl, PhiT0_eq]
  iintro ⟨⟨HΦ, HT0⟩, Ho, ⟨%d0, H0⟩, ⟨%d1, H1⟩, ⟨%d2, H2⟩, ⟨%d3, H3⟩, ⟨%d4, H4⟩, ⟨%y5, %hy5, H5⟩, ⟨%y6, %hy6, H6⟩, ⟨%y7, %hy7, H7⟩, ⟨%y8, %hy8, H8⟩, ⟨%y9, %hy9, H9⟩, ⟨%y10, %hy10, H10⟩, ⟨%y11, %hy11, H11⟩, ⟨%y12, %hy12, H12⟩⟩
  obtain ⟨h5, h6, h7, h10, h11⟩ := hT.step c t y5 y6 y7 y10 y11 (finds_scales m T c t y7 hy7)
  iapply ((run c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (ms0_11 m t) (hs0_11 m t) (ms0_12 m t) (hs0_12 m t)
    (iblk m c 0 t) (iblk m c 1 t) (iblk m c 2 t) (iblk m c 3 t) (iblk m c 4 t) (tbl m 0) y7).2.2.2.2.2.2.2.2 y5 y6 y8 y9 y10 y11 y12 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HT0]; · iexact HT0
  iintro ⟨H0, H1, H2, H3, H4, H5, H6, H7, H8, H9, H10, H11, H12, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  unfold owns
  isplitl [H5]
  · iexists (meanOut m c t y5 y7); isplitr; · ipureintro; exact h5
    iexists _; isplitr; swap; · iexact H5
    ipureintro; rfl
  isplitl [H6]
  · iexists (codesOut m c t y6 y7); isplitr; · ipureintro; exact h6
    iexists _; isplitr; swap; · iexact H6
    ipureintro; rfl
  isplitl [H7]
  · iexists (scalesOut m c t y7); isplitr; · ipureintro; exact h7
    iexists _; isplitr; swap; · iexact H7
    ipureintro; rfl
  isplitl [H8]
  · iexists _; isplitr; · ipureintro; exact trivial
    iexists _; isplitr; swap; · iexact H8
    ipureintro; rfl
  isplitl [H9]
  · iexists _; isplitr; · ipureintro; exact trivial
    iexists _; isplitr; swap; · iexact H9
    ipureintro; rfl
  isplitl [H10]
  · iexists (vcodesOut m c t y10 y7); isplitr; · ipureintro; exact h10
    iexists _; isplitr; swap; · iexact H10
    ipureintro; rfl
  isplitl [H11]
  · iexists (vscalesOut m c t y11 y7); isplitr; · ipureintro; exact h11
    iexists _; isplitr; swap; · iexact H11
    ipureintro; rfl
  · iexists _; isplitr; · ipureintro; exact trivial
    iexists _; isplitr; swap; · iexact H12
    ipureintro; rfl

/-- The body table's row at point `t`'s slots is the body as `bodyAt0` spells it. -/
theorem defs₀_row (t : Fin (cfgM m).N) :
    defs₀ (F := F) .tc (cfgM m).body ((cfgM m).bodyArgs t ((cfgM m).slots t)) = bodyAt0 (adm m) t := by
  unfold defs₀; rw [Defs.onTc_tc]

/-- The library's body obligation, at every point. -/
theorem body_obligation (hT : Track.Sound m T) (c : Dev nD) :
    BodyObligationRel (dat m c) (defs₀ (F := F)) Variants.none () Set.univ (held m) (rel m T c) := fun t => by
  rw [bigSep_W0, bigSep_W0, defs₀_row m]
  exact triple_restated (sound_body m T hT c t) rfl .rfl fun _ => .rfl

/-! ## The run and the frame -/

/-- No array is shared by several windows. -/
theorem share_full (c : Dev nD) : ∀ w, (rdat m T c).share w = fullShare := by
  intro w
  match w with
  | ⟨0, _⟩ | ⟨1, _⟩ | ⟨2, _⟩ | ⟨3, _⟩ | ⟨4, _⟩ | ⟨5, _⟩ | ⟨6, _⟩ | ⟨7, _⟩ | ⟨8, _⟩ | ⟨9, _⟩ | ⟨10, _⟩ | ⟨11, _⟩ | ⟨12, _⟩ => rfl

set_option backward.isDefEq.respectTransparency.types false in
/-- The run, for every sound track: every weakly fair execution of @main terminates, the arrays end at contents the proof data allow,
    and every semaphore counter is zero. -/
theorem run_track (hT : Track.Sound m T) : θ_run defs (onTc (τ := τ) (main (F := F))) (s₀ m ρ)
    (fun r => RDat.FramePost (cfgM m) (rdat m T) (V m) r ∧ r.2.sem = fun _ => 0) :=
  RDat.θ_run_frameP_track (Q' := _) pcfgs (fun _ => adm m) (0 : Fin 1) launch0 defs₀ Variants.none (rdat m T) m ρ main
    (hbody := fun c => (body_obligation m T hT c).toRRel) (hshare := fun c w => share_full m T c w)
    (howed := fun _ _ => rfl) (V := V m) (hmain := hmain m Variants.none) (hA := fun _ _ => rfl) (hpf := V_pre m)
    (hin := fun c => .rfl) (hout := fun c => by
      rw [show (rdat m T c).Φ (Fin.last _) = iprop(Pipeline.ΦA spec0 c ∗ Pipeline.ΦT pre0 (tbl m) c) from rfl]
      iintro ⟨H, -⟩; iexact H) (hQ' := fun _ h => h)

/-- The argument arrays end unchanged. -/
theorem args_of {r} (h : RDat.FramePost (cfgM m) (rdat m T) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h c).2 main_arg0 (by decide : main_arg0 ∈ Pipeline.restRefs sig spec0), h.arr_in c 0 rfl, h.arr_in c 1 rfl, h.arr_in c 2 rfl, h.arr_in c 3 rfl, h.arr_in c 4 rfl⟩

/-- The track that says nothing. -/
def Track.nothing : Track F := ⟨fun _ _ => True, fun _ _ => True, fun _ _ => True, fun _ _ => True, fun _ _ => True⟩

theorem Track.nothing_sound : Track.Sound m fun _ => Track.nothing (F := F) :=
  ⟨fun _ _ _ _ _ _ _ _ => ⟨trivial, trivial, trivial, trivial, trivial⟩⟩

/-- THE FRAME: every weakly fair execution terminates, the argument arrays end unchanged, and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨args_of m _ h.1, h.2⟩) (run_track m ρ _ (Track.nothing_sound m))

end Cert.KvCodesIdeal.Hand

end
-- ==== Proof.KvCodesMath.lean ====
/- WHAT THE KEY AND VALUE QUANTISERS COMPUTE, as functions of their arguments, element by element: the mean key of each sequence and head, the
   int8 codes of the keys less their mean with a scale per 64 positions, and the codes of the values with a scale per channel. -/
module

public import proofs.«01_k».proof.Proof.NormQuant
public import Idealize.ShloMosaic.Lib.Pointwise

@[expose] public section

noncomputable section

namespace Cert.Proof.KvCodes

open Idealize.ShloMosaic
open scoped BigOperators

/-- The arguments: the sequences' lengths; keys and values by sequence, head, position and channel; the keys' sums over the positions and the
    values' largest magnitudes. -/
structure Args where
  len : Vec Ideal ⟨1, ![4]⟩ .i32
  k : Vec Ideal ⟨4, ![4, 2, 4096, 128]⟩ .f32
  v : Vec Ideal ⟨4, ![4, 2, 4096, 128]⟩ .f32
  ks : Vec Ideal ⟨3, ![4, 2, 128]⟩ .f32
  vm : Vec Ideal ⟨3, ![4, 2, 128]⟩ .f32

/-- A length as a number. -/
def count (n : BitVec 32) : EReal := FloatOps.sitofp (F := Ideal) .f32 n
/-- The int8 scale of a largest magnitude: 1 for zero, else its quotient by 127. -/
def scale8 (a : EReal) : EReal := if a = 0 then 1 else Ideal.div a (Ideal.ofBits .f32 0x42FE0000#32)
/-- The int8 code of an element at a scale: the quotient, rounded to even and clipped. -/
def code8 (a s : EReal) : BitVec 8 :=
  FloatOps.fptosi (F := Ideal) (φ := .f32) 8
    (min (Ideal.ofBits .f32 0x42FE0000#32) (max (Ideal.ofBits .f32 0xC2FE0000#32) (FloatOps.roundeven (F := Ideal) (φ := .f32) (Ideal.div a s))))
/-- The largest magnitude of a block of 64 positions. -/
def top8 (f : Fin 64 → Fin 128 → EReal) : EReal :=
  Finset.fold max (Ideal.ofBits .f32 0xFF800000#32) (fun d => Finset.fold max (Ideal.ofBits .f32 0xFF800000#32) (fun r => mag (f r d)) Finset.univ) Finset.univ

/-- The position of row `r` of block `j`. -/
def at64 (j r : Fin 64) : Fin 4096 := ⟨j.val * 64 + r.val, by omega⟩
/-- The block a position lies in. -/
def blockOf (s : Fin 4096) : Fin 64 := ⟨s.val / 64, by omega⟩

variable (A : Args) (b : Fin 4) (h : Fin 2)

/-- The mean key, -/
def mean (d : Fin 128) : EReal := Ideal.div (A.ks (ix3 b h d)) (count (A.len (ix1 b)))
/-- a key less the mean, -/
def diff (s : Fin 4096) (d : Fin 128) : EReal := A.k (ix4 b h s d) - mean A b h d
/-- the scale of a block of keys, -/
def kscale (j : Fin 64) : EReal := scale8 (top8 fun r d => diff A b h (at64 j r) d)
/-- and a key's code. -/
def kcode (s : Fin 4096) (d : Fin 128) : BitVec 8 := code8 (diff A b h s d) (kscale A b h (blockOf s))
/-- A channel's scale of the values, -/
def vscale (d : Fin 128) : EReal := scaleOf (A.vm (ix3 b h d))
/-- and a value's code. -/
def vcode (s : Fin 4096) (d : Fin 128) : EReal := code (A.v (ix4 b h s d)) (vscale A b h d)

/-- The five results as arrays. -/
def meanArr : Vec Ideal ⟨3, ![4, 2, 128]⟩ .f32 := fun y => mean A (y 0) (y 1) (y 2)
def kcodesArr : Vec Ideal ⟨4, ![4, 2, 4096, 128]⟩ .i8 := fun y => kcode A (y 0) (y 1) (y 2) (y 3)
def kscalesArr : Vec Ideal ⟨3, ![4, 2, 64]⟩ .f32 := fun y => kscale A (y 0) (y 1) (y 2)
def vcodesArr : Vec Ideal ⟨4, ![4, 2, 4096, 128]⟩ .fp8e4m3 := fun y => vcode A (y 0) (y 1) (y 2) (y 3)
def vscalesArr : Vec Ideal ⟨3, ![4, 2, 128]⟩ .f32 := fun y => vscale A (y 0) (y 1) (y 2)

end Cert.Proof.KvCodes

end
-- ==== Proof.KvCodesBlock.lean ====
/- WHAT THE KEY AND VALUE QUANTISERS STORE FOR ONE TILE of 512 positions, read element by element, for each of the two heads. -/
module

public import proofs.«01_k».proof.Proof.Gen.KvCodesIdeal.Skeleton
public import proofs.«01_k».proof.Proof.Scales
public import proofs.«01_k».proof.Proof.KvCodesMath

@[expose] public section

set_option maxRecDepth 16384

noncomputable section

namespace Cert.Proof.KvCodes

open Cert.KvCodesIdeal Cert.KvCodesIdeal.Gen Idealize.ShloMosaic
open scoped BigOperators

/-- The mean keys, as they are used and as they are stored. -/
theorem pay3_apply (v : Vec Ideal S1x2x128 .f32) (n : BitVec 32) (h : Fin 2) (d : Fin 128) :
    k0_pay3 (F := Ideal) v n (ix2 h d) = Ideal.div (v (ix3 0 h d)) (count n) := by
  pointwise [k0_pay3]
  rfl
theorem pay5_apply (v : Vec Ideal S1x2x128 .f32) (n : BitVec 32) (h : Fin 2) (d : Fin 128) :
    k0_pay5 (F := Ideal) v n (ix3 0 h d) = Ideal.div (v (ix3 0 h d)) (count n) := by
  pointwise [k0_pay5, k0_pay3]
  rfl
/-- The values' scales, as they are used and as they are stored. -/
theorem pay4_apply (v : Vec Ideal S1x2x128 .f32) (h : Fin 2) (d : Fin 128) :
    k0_pay4 (F := Ideal) v (ix2 h d) = scaleOf (v (ix3 0 h d)) := by
  pointwise [k0_pay4, scaleOf]
theorem pay6_apply (v : Vec Ideal S1x2x128 .f32) (h : Fin 2) (d : Fin 128) :
    k0_pay6 (F := Ideal) v (ix3 0 h d) = scaleOf (v (ix3 0 h d)) := by
  pointwise [k0_pay6, k0_pay4, scaleOf]

/-- The words of a block's lane and of a lane's tile. -/
theorem lane_eq : ∀ n : ℕ, n < 8 → ∀ j : Fin 8,
    IntOp.addi (BitVec.ofNat 32 j.val) (Scalar.muli (BitVec.ofNat 32 n) 8#32) = BitVec.ofNat 32 (j.val + n * 8) := by decide
theorem lane_div : ∀ x : Fin 64, (Scalar.select
        (IntOp.andi
          (IntOp.cmpi CmpIPredicate.ne
            (IntOp.subi (BitVec.setWidth 32 (IntOp.cmpi CmpIPredicate.sgt (BitVec.ofNat 32 x.val) 0#32))
              (BitVec.setWidth 32 (IntOp.cmpi CmpIPredicate.slt (BitVec.ofNat 32 x.val) 0#32)))
            (Scalar.subi (Scalar.extui (Scalar.cmpi CmpIPredicate.sgt 8#32 0#32))
              (Scalar.extui (Scalar.cmpi CmpIPredicate.slt 8#32 0#32))))
          (IntOp.cmpi CmpIPredicate.ne (IntOp.remsi ArithUnit.vector (BitVec.ofNat 32 x.val) 8#32) 0#32))
        (IntOp.subi (IntOp.divsi ArithUnit.vector (BitVec.ofNat 32 x.val) 8#32) 1#32)
        (IntOp.divsi ArithUnit.vector (BitVec.ofNat 32 x.val) 8#32) : BitVec 32) = BitVec.ofNat 32 (x.val / 8) := by decide +kernel

/-- The tile's scales are placed at lanes 8 · tile onwards: the mask of block `j`'s lane, -/
theorem pay7_apply (i : grid0.Coords) (n : ℕ) (hi : (i 1).val = n) (hn : n < 8) (j : Fin 8) (x : Fin 64) :
    k0_pay7 i (ix2 j x) = if x.val = j.val + n * 8 then 1#1 else 0#1 := by
  have hj := j.isLt
  have hx := x.isLt
  have e := lane_eq n hn j
  pointwise [k0_pay7]
  rw [hi, e, cmpi_eq_ofNat (by omega) (by omega)]
/-- and the mask of the tile's lanes. -/
theorem pay10_apply (n : ℕ) (hn : n < 8) (x : Fin 64) :
    k0_pay10 (BitVec.ofNat 32 n) (iota .tc S1x64 32 [1] iota_S1x64_d1_w32) 8#32 k0_pay8 k0_pay9 (ix2 0 x) = if x.val / 8 = n then 1#1 else 0#1 := by
  have hx := x.isLt
  pointwise [k0_pay10, k0_pay8, k0_pay9]
  rw [lane_div, cmpi_eq_ofNat (by omega) (by omega)]

section
variable (M : FVec Ideal S2x128 .f32) (v : Vec Ideal S1x1x512x128 .f32)

/-- The largest of a block, over positions and then over channels. -/
theorem block_max (g : FVec Ideal S8x64x128 .f32) (j : Fin 8) :
    select (cmpf .oeq (shapeCast S8x1 (multiReduction (F := Ideal) .maximumf [1] S8 (multiReduction (F := Ideal) .maximumf [1] S8x128 (absf g) 0xFF800000#32 reduces_S8x64x128_S8x128 (.inl rfl) rfl) 0xFF800000#32 reduces_S8x128_S8 (.inl rfl) rfl) shapeCasts_S8_S8x1) (broadcast S8x1 (Scalar.ofBits .f32 0x00000000#32)))
        (broadcast S8x1 (Scalar.ofBits .f32 0x3F800000#32))
        (divf (shapeCast S8x1 (multiReduction (F := Ideal) .maximumf [1] S8 (multiReduction (F := Ideal) .maximumf [1] S8x128 (absf g) 0xFF800000#32 reduces_S8x64x128_S8x128 (.inl rfl) rfl) 0xFF800000#32 reduces_S8x128_S8 (.inl rfl) rfl) shapeCasts_S8_S8x1) (broadcast S8x1 (Scalar.ofBits .f32 0x42FE0000#32))) (ix2 j 0)
      = scale8 (top8 fun r d => g (ix3 j r d)) := by
  pointwise [scale8, top8, mag]
  rfl

/-- HEAD 0. A key less the mean, by its block, -/
theorem pay13_apply (j : Fin 8) (r : Fin 64) (d : Fin 128) :
    k0_pay13 (F := Ideal) M v (ix3 j r d) = v (ix4 0 0 ⟨j.val * 64 + r.val, by omega⟩ d) - M (ix2 0 d) := by
  pointwise [k0_pay13, k0_pay12]
/-- a block's scale, -/
theorem pay14_apply (j : Fin 8) : k0_pay14 (F := Ideal) M v (ix2 j 0) = scale8 (top8 fun r d => k0_pay13 (F := Ideal) M v (ix3 j r d)) := by
  unfold k0_pay14
  exact block_max _ j
/-- and the codes. -/
theorem pay16_apply (j : Fin 8) (r : Fin 64) (d : Fin 128) : k0_pay16 (F := Ideal) M v (ix4 0 0 ⟨j.val * 64 + r.val, by omega⟩ d)
    = code8 (k0_pay13 (F := Ideal) M v (ix3 j r d)) (k0_pay14 (F := Ideal) M v (ix2 j 0)) := by
  have hj := j.isLt
  have hr := r.isLt
  unfold k0_pay16 k0_pay15
  generalize k0_pay13 (F := Ideal) M v = g
  generalize k0_pay14 (F := Ideal) M v = q
  pointwise [code8]

/-- HEAD 1. A key less the mean, by its block, -/
theorem pay25_apply (j : Fin 8) (r : Fin 64) (d : Fin 128) :
    k0_pay25 (F := Ideal) M v (ix3 j r d) = v (ix4 0 0 ⟨j.val * 64 + r.val, by omega⟩ d) - M (ix2 1 d) := by
  pointwise [k0_pay25, k0_pay24]
/-- a block's scale, -/
theorem pay26_apply (j : Fin 8) : k0_pay26 (F := Ideal) M v (ix2 j 0) = scale8 (top8 fun r d => k0_pay25 (F := Ideal) M v (ix3 j r d)) := by
  unfold k0_pay26
  exact block_max _ j
/-- and the codes. -/
theorem pay28_apply (j : Fin 8) (r : Fin 64) (d : Fin 128) : k0_pay28 (F := Ideal) M v (ix4 0 0 ⟨j.val * 64 + r.val, by omega⟩ d)
    = code8 (k0_pay25 (F := Ideal) M v (ix3 j r d)) (k0_pay26 (F := Ideal) M v (ix2 j 0)) := by
  have hj := j.isLt
  have hr := r.isLt
  unfold k0_pay28 k0_pay27
  generalize k0_pay25 (F := Ideal) M v = g
  generalize k0_pay26 (F := Ideal) M v = q
  pointwise [code8]

/-- A row of the scales: the block's scale at its lane of the tile, and what was there at the other lanes, -/
theorem place (i : grid0.Coords) (n : ℕ) (hi : (i 1).val = n) (hn : n < 8) (q : FVec Ideal S8x1 .f32) (x : Fin 64) (hx : x.val / 8 = n) :
    (∑ j : Fin 8, Scalar.select (k0_pay7 i (ix2 j x)) (q (ix2 j 0)) 0) = q (ix2 ⟨x.val % 8, by omega⟩ 0) := by
  rw [Finset.sum_eq_single (⟨x.val % 8, by omega⟩ : Fin 8)]
  · rw [pay7_apply i n hi hn, if_pos (by simp only; omega)]; simp [Scalar.select]
  · intro j _ hj
    have : j.val ≠ x.val % 8 := fun h => hj (Fin.ext h)
    rw [pay7_apply i n hi hn, if_neg (by omega)]; simp [Scalar.select]
  · intro h; exact absurd (Finset.mem_univ _) h
/-- for head 0 -/
theorem pay19_apply (i : grid0.Coords) (n : ℕ) (hi : (i 1).val = n) (hn : n < 8) (w : Vec Ideal S1x1x64 .f32) (x : Fin 64) :
    k0_pay19 (F := Ideal) (k0_pay10 (BitVec.ofNat 32 n) (iota .tc S1x64 32 [1] iota_S1x64_d1_w32) 8#32 k0_pay8 k0_pay9) (k0_pay18 M (k0_pay7 i) v) w (ix3 0 0 x)
      = if x.val / 8 = n then k0_pay14 (F := Ideal) M v (ix2 ⟨x.val % 8, by omega⟩ 0) else w (ix3 0 0 x) := by
  have e := pay10_apply n hn x
  have p := place i n hi hn (k0_pay14 (F := Ideal) M v) x
  unfold k0_pay18
  generalize k0_pay10 (BitVec.ofNat 32 n) (iota .tc S1x64 32 [1] iota_S1x64_d1_w32) 8#32 k0_pay8 k0_pay9 = B at e
  generalize k0_pay14 (F := Ideal) M v = q at p
  generalize k0_pay7 i = A at p
  pointwise [k0_pay19]
  rw [e]
  split_ifs with h
  · simp only [Scalar.select]
    rw [if_pos (show (1#1 : BitVec 1) = 1 from rfl)]
    exact p h
  · simp [Scalar.select]
/-- and for head 1. -/
theorem pay31_apply (i : grid0.Coords) (n : ℕ) (hi : (i 1).val = n) (hn : n < 8) (q : FVec Ideal S8x1 .f32) (w : Vec Ideal S1x1x64 .f32) (x : Fin 64) :
    k0_pay31 (F := Ideal) (k0_pay7 i) (k0_pay10 (BitVec.ofNat 32 n) (iota .tc S1x64 32 [1] iota_S1x64_d1_w32) 8#32 k0_pay8 k0_pay9) q w (ix3 0 0 x)
      = if x.val / 8 = n then q (ix2 ⟨x.val % 8, by omega⟩ 0) else w (ix3 0 0 x) := by
  have e := pay10_apply n hn x
  have p := place i n hi hn q x
  generalize k0_pay10 (BitVec.ofNat 32 n) (iota .tc S1x64 32 [1] iota_S1x64_d1_w32) 8#32 k0_pay8 k0_pay9 = B at e
  generalize k0_pay7 i = A at p
  pointwise [k0_pay31]
  rw [e]
  split_ifs with h
  · simp only [Scalar.select]
    rw [if_pos (show (1#1 : BitVec 1) = 1 from rfl)]
    exact p h
  · simp [Scalar.select]

/-- The codes of the values: head 0, -/
theorem pay21_apply (r : Fin 512) (d : Fin 128) : k0_pay21 (F := Ideal) M v (ix4 0 0 r d) = code (v (ix4 0 0 r d)) (M (ix2 0 d)) := by
  pointwise [k0_pay21, code]
/-- and head 1. -/
theorem pay1_apply (r : Fin 512) (d : Fin 128) :
    k0_pay1 (F := Ideal) (k0_pay33 M v) (Scalar.ofBits .f32 0x43E00000#32) k0_pay34 (ix4 0 0 r d) = code (v (ix4 0 0 r d)) (M (ix2 1 d)) := by
  pointwise [k0_pay1, k0_pay33, k0_pay34, code]

end
end Cert.Proof.KvCodes

end
-- ==== Proof.KvCodesHeads.lean ====
/- TWO HEADS' HALVES OF A BLOCK, each stored and read on its own: what reading the block finds after both stores, and what a load of one half
   reads. -/
module

public import proofs.«01_k».proof.Proof.KvCodesIdealFrame
public import Idealize.ShloMosaic.Lib.Pipeline.ValueKit
public import Idealize.ShloMosaic.Lib.Pipeline.ReadBack
public import Idealize.ShloMosaic.Lib.Pointwise
public import Idealize.ShloMosaic.Lib.VecWindow

@[expose] public section

noncomputable section

namespace Cert.Proof.KvCodes

open Idealize.ShloMosaic Cert.KvCodesIdeal Cert.KvCodesIdeal.Gen

section
variable {sp : Space} {e : EltTy}

/-- A block of codes after a store of head 0's half and then of head 1's, read at head 0 -/
theorem codes_head0 (v : View sig .tc sp S1x2x512x128 e) (f : v.ty.Contents (Elt Ideal)) (p1 p0) (w1 w0) (r : Fin 512) (d : Fin 128) :
    v.read (Elt Ideal) (v.writes (Elt Ideal) f [(⟨Rect.unit ![0, 1, 0, 0] ![1, 1, 512, 128] p1, w1⟩ : View.Piece (Elt Ideal) S1x2x512x128 e),
      ⟨Rect.unit ![0, 0, 0, 0] ![1, 1, 512, 128] p0, w0⟩]) (ix4 0 0 r d) = w0 (ix4 (n0 := 1) (n1 := 1) (n2 := 512) (n3 := 128) 0 0 r d) := by
  rw [View.read_writes_cons_unit_of_not_mem v f p1 w1 _ _ rfl 1 (.inl Nat.zero_lt_one)]
  refine View.read_writes_cons_unit_of_mem v f p0 w0 _ _ _ rfl fun a => ?_
  match a with
  | ⟨0, _⟩ => rfl
  | ⟨1, _⟩ => rfl
  | ⟨2, _⟩ => exact (Nat.zero_add _).symm
  | ⟨3, _⟩ => exact (Nat.zero_add _).symm
/-- and at head 1. -/
theorem codes_head1 (v : View sig .tc sp S1x2x512x128 e) (f : v.ty.Contents (Elt Ideal)) (p1) (w1) (L) (r : Fin 512) (d : Fin 128) :
    v.read (Elt Ideal) (v.writes (Elt Ideal) f ((⟨Rect.unit ![0, 1, 0, 0] ![1, 1, 512, 128] p1, w1⟩ : View.Piece (Elt Ideal) S1x2x512x128 e) :: L))
      (ix4 0 1 r d) = w1 (ix4 (n0 := 1) (n1 := 1) (n2 := 512) (n3 := 128) 0 0 r d) := by
  refine View.read_writes_cons_unit_of_mem v f p1 w1 _ _ _ rfl fun a => ?_
  match a with
  | ⟨0, _⟩ => rfl
  | ⟨1, _⟩ => rfl
  | ⟨2, _⟩ => exact (Nat.zero_add _).symm
  | ⟨3, _⟩ => exact (Nat.zero_add _).symm

/-- A block of scales likewise, -/
theorem scales_head0 (v : View sig .tc sp S1x2x64 e) (f : v.ty.Contents (Elt Ideal)) (p1 p0) (w1 w0) (x : Fin 64) :
    v.read (Elt Ideal) (v.writes (Elt Ideal) f [(⟨Rect.unit ![0, 1, 0] ![1, 1, 64] p1, w1⟩ : View.Piece (Elt Ideal) S1x2x64 e),
      ⟨Rect.unit ![0, 0, 0] ![1, 1, 64] p0, w0⟩]) (ix3 0 0 x) = w0 (ix3 (n0 := 1) (n1 := 1) (n2 := 64) 0 0 x) := by
  rw [View.read_writes_cons_unit_of_not_mem v f p1 w1 _ _ rfl 1 (.inl Nat.zero_lt_one)]
  refine View.read_writes_cons_unit_of_mem v f p0 w0 _ _ _ rfl fun a => ?_
  match a with
  | ⟨0, _⟩ => rfl
  | ⟨1, _⟩ => rfl
  | ⟨2, _⟩ => exact (Nat.zero_add _).symm
/-- at head 1. -/
theorem scales_head1 (v : View sig .tc sp S1x2x64 e) (f : v.ty.Contents (Elt Ideal)) (p1) (w1) (L) (x : Fin 64) :
    v.read (Elt Ideal) (v.writes (Elt Ideal) f ((⟨Rect.unit ![0, 1, 0] ![1, 1, 64] p1, w1⟩ : View.Piece (Elt Ideal) S1x2x64 e) :: L))
      (ix3 0 1 x) = w1 (ix3 (n0 := 1) (n1 := 1) (n2 := 64) 0 0 x) := by
  refine View.read_writes_cons_unit_of_mem v f p1 w1 _ _ _ rfl fun a => ?_
  match a with
  | ⟨0, _⟩ => rfl
  | ⟨1, _⟩ => rfl
  | ⟨2, _⟩ => exact (Nat.zero_add _).symm

end

section
variable {e : EltTy}

/-- The half of a block that a load of one head reads, -/
theorem ld_head0 (y : S1x2x512x128.Idx → Elt Ideal e) (p) (r : Fin 512) (d : Fin 128) :
    View.ld y (Rect.unit ![0, 0, 0, 0] ![1, 1, 512, 128] p) (ix4 (n0 := 1) (n1 := 1) (n2 := 512) (n3 := 128) 0 0 r d) = y (ix4 0 0 r d) := by
  refine congrArg y (funext fun a => Fin.ext ?_)
  match a with
  | ⟨0, _⟩ => simp [Rect.idx_unit_val]
  | ⟨1, _⟩ => simp [Rect.idx_unit_val]
  | ⟨2, _⟩ => simp [Rect.idx_unit_val]
  | ⟨3, _⟩ => simp [Rect.idx_unit_val]
theorem ld_head1 (y : S1x2x512x128.Idx → Elt Ideal e) (p) (r : Fin 512) (d : Fin 128) :
    View.ld y (Rect.unit ![0, 1, 0, 0] ![1, 1, 512, 128] p) (ix4 (n0 := 1) (n1 := 1) (n2 := 512) (n3 := 128) 0 0 r d) = y (ix4 0 1 r d) := by
  refine congrArg y (funext fun a => Fin.ext ?_)
  match a with
  | ⟨0, _⟩ => simp [Rect.idx_unit_val]
  | ⟨1, _⟩ => simp [Rect.idx_unit_val]
  | ⟨2, _⟩ => simp [Rect.idx_unit_val]
  | ⟨3, _⟩ => simp [Rect.idx_unit_val]
/-- and of the scales. -/
theorem ld_scales0 (y : S1x2x64.Idx → Elt Ideal e) (p) (x : Fin 64) :
    View.ld y (Rect.unit ![0, 0, 0] ![1, 1, 64] p) (ix3 (n0 := 1) (n1 := 1) (n2 := 64) 0 0 x) = y (ix3 0 0 x) := by
  refine congrArg y (funext fun a => Fin.ext ?_)
  match a with
  | ⟨0, _⟩ => simp [Rect.idx_unit_val]
  | ⟨1, _⟩ => simp [Rect.idx_unit_val]
  | ⟨2, _⟩ => simp [Rect.idx_unit_val]
theorem ld_scales1 (y : S1x2x64.Idx → Elt Ideal e) (p) (x : Fin 64) :
    View.ld y (Rect.unit ![0, 1, 0] ![1, 1, 64] p) (ix3 (n0 := 1) (n1 := 1) (n2 := 64) 0 0 x) = y (ix3 0 1 x) := by
  refine congrArg y (funext fun a => Fin.ext ?_)
  match a with
  | ⟨0, _⟩ => simp [Rect.idx_unit_val]
  | ⟨1, _⟩ => simp [Rect.idx_unit_val]
  | ⟨2, _⟩ => simp [Rect.idx_unit_val]

end

end Cert.Proof.KvCodes

end
-- ==== Proof.KvCodesPoint.lean ====
/- WHAT ONE GRID POINT OF THE KEY AND VALUE QUANTISERS LEAVES: the sequence's mean keys and value scales, the codes of its 512 positions, and
   the scales of its 8 blocks of keys in their lanes, whose other lanes stay. -/
module

public import proofs.«01_k».proof.Proof.KvCodesIdealFrame
public import proofs.«01_k».proof.Proof.KvCodesBlock
public import proofs.«01_k».proof.Proof.KvCodesHeads
public import proofs.«01_k».proof.Proof.KvCodesMath
public import Idealize.ShloMosaic.Lib.Pipeline.ValueKit
public import Idealize.ShloMosaic.Lib.Pipeline.Covers
public import Idealize.ShloMosaic.Lib.Pipeline.ReadBack
public import Idealize.ShloMosaic.Lib.Pointwise
public import Idealize.ShloMosaic.Lib.VecWindow

@[expose] public section

set_option maxRecDepth 16384

noncomputable section

namespace Cert.Proof.KvCodes

open Idealize.ShloMosaic Idealize.ShloMosaic.TcCoe Idealize.ShloMosaic.Tactic
open Cert.KvCodesIdeal Cert.KvCodesIdeal.Gen Cert.KvCodesIdeal.Hand
open Idealize.SL.Sem

variable (m : (ℓ : Loc nD τ sig) → Buf (Elt Ideal) ℓ)

/-- The grid's coordinates: the sequence and the tile. -/
theorem lt0 (t : Fin grid0.N) : (grid0.coords t 0).val < 4 := (grid0.coords t 0).isLt
theorem lt1 (t : Fin grid0.N) : (grid0.coords t 1).val < 8 := (grid0.coords t 1).isLt
theorem coord0 : ∀ t : Fin grid0.N, (grid0.coords t 0).val = t.val / 8 := by decide +kernel
theorem coord1 : ∀ t : Fin grid0.N, (grid0.coords t 1).val = t.val % 8 := by decide +kernel

/-- The word of the lengths that a point reads is its sequence's. -/
theorem off1_eq (i : grid0.Coords) : k0_off1 i = ![(i 0).val] := by
  have h : (i 0).val < 4 := (i 0).isLt
  unfold k0_off1
  try dsimp only
  generalize (i 0).val = n at h
  revert n
  decide

/-- Which block each window takes at a point. -/
theorem map0 : ∀ t : Fin grid0.N, cc0_transform_0 (grid0.coords t) = ![(grid0.coords t 0).val, 0, (grid0.coords t 1).val, 0] := by decide +kernel
theorem map1 : ∀ t : Fin grid0.N, cc0_transform_1 (grid0.coords t) = ![(grid0.coords t 0).val, 0, (grid0.coords t 1).val, 0] := by decide +kernel
theorem map2 : ∀ t : Fin grid0.N, cc0_transform_2 (grid0.coords t) = ![(grid0.coords t 0).val, 0, 0] := by decide +kernel
theorem map3 : ∀ t : Fin grid0.N, cc0_transform_3 (grid0.coords t) = ![(grid0.coords t 0).val, 0, 0] := by decide +kernel
theorem map5 : ∀ t : Fin grid0.N, cc0_transform_5 (grid0.coords t) = ![(grid0.coords t 0).val, 0, 0] := by decide +kernel
theorem map6 : ∀ t : Fin grid0.N, cc0_transform_6 (grid0.coords t) = ![(grid0.coords t 0).val, 0, (grid0.coords t 1).val, 0] := by decide +kernel
theorem map7 : ∀ t : Fin grid0.N, cc0_transform_7 (grid0.coords t) = ![(grid0.coords t 0).val, 0, 0] := by decide +kernel
theorem map10 : ∀ t : Fin grid0.N, cc0_transform_10 (grid0.coords t) = ![(grid0.coords t 0).val, 0, (grid0.coords t 1).val, 0] := by decide +kernel
theorem map11 : ∀ t : Fin grid0.N, cc0_transform_11 (grid0.coords t) = ![(grid0.coords t 0).val, 0, 0] := by decide +kernel
theorem idx0 (t : Fin (cfgM m).N) : ((cfgM m).win 0).index t = ![(grid0.coords t 0).val, 0, (grid0.coords t 1).val, 0] := map0 t
theorem idx1 (t : Fin (cfgM m).N) : ((cfgM m).win 1).index t = ![(grid0.coords t 0).val, 0, (grid0.coords t 1).val, 0] := map1 t
theorem idx2 (t : Fin (cfgM m).N) : ((cfgM m).win 2).index t = ![(grid0.coords t 0).val, 0, 0] := map2 t
theorem idx3 (t : Fin (cfgM m).N) : ((cfgM m).win 3).index t = ![(grid0.coords t 0).val, 0, 0] := map3 t
theorem idx5 (t : Fin (cfgM m).N) : ((cfgM m).win 5).index t = ![(grid0.coords t 0).val, 0, 0] := map5 t
theorem idx6 (t : Fin (cfgM m).N) : ((cfgM m).win 6).index t = ![(grid0.coords t 0).val, 0, (grid0.coords t 1).val, 0] := map6 t
theorem idx7 (t : Fin (cfgM m).N) : ((cfgM m).win 7).index t = ![(grid0.coords t 0).val, 0, 0] := map7 t
theorem idx10 (t : Fin (cfgM m).N) : ((cfgM m).win 10).index t = ![(grid0.coords t 0).val, 0, (grid0.coords t 1).val, 0] := map10 t
theorem idx11 (t : Fin (cfgM m).N) : ((cfgM m).win 11).index t = ![(grid0.coords t 0).val, 0, 0] := map11 t

variable (c : Dev nD)

/-- The argument arrays, as the launch finds them. -/
def args : Args where
  len := m ((c : Thread nD τ).loc main_arg0)
  k := m ((c : Thread nD τ).loc main_arg1)
  v := m ((c : Thread nD τ).loc main_arg2)
  ks := m ((c : Thread nD τ).loc main_arg3)
  vm := m ((c : Thread nD τ).loc main_arg4)

variable (t : Fin (cfgM m).N)

/-- The sequence of a point, and the position of row `r` of its tile. -/
def seq (t : Fin grid0.N) : Fin 4 := ⟨(grid0.coords t 0).val, lt0 t⟩
def pos (t : Fin grid0.N) (r : Fin 512) : Fin 4096 := ⟨(grid0.coords t 1).val * 512 + r.val, by have := lt1 t; omega⟩

/-- The blocks the point finds: keys, values, the keys' sums, the values' largest magnitudes. -/
def b0 : Vec Ideal S1x2x512x128 .f32 := iblk m c 0 t
def b1 : Vec Ideal S1x2x512x128 .f32 := iblk m c 1 t
def b2 : Vec Ideal S1x2x128 .f32 := iblk m c 2 t
def b3 : Vec Ideal S1x2x128 .f32 := iblk m c 3 t

/-- They are parts of the argument arrays: keys, -/
theorem blk0 (h : Fin 2) (r : Fin 512) (d : Fin 128) : b0 m c t (ix4 0 h r d) = (args m c).k (ix4 (seq t) h (pos t r) d) := by
  unfold b0
  blk_simp [iblk]
  refine congrArg (m ((c : Thread nD τ).loc main_arg1)) (funext fun a => Fin.ext ?_)
  match a with
  | ⟨0, _⟩ => blk_simp; exact congrArg (· + 0) (congrFun (map0 t) 0)
  | ⟨1, _⟩ => blk_simp; exact (congrArg (· * 2 + h.val) (congrFun (map0 t) 1)).trans (by simp)
  | ⟨2, _⟩ => blk_simp; exact congrArg (· * 512 + r.val) (congrFun (map0 t) 2)
  | ⟨3, _⟩ => blk_simp; exact (congrArg (· * 128 + d.val) (congrFun (map0 t) 3)).trans (by simp)
/-- values, -/
theorem blk1 (h : Fin 2) (r : Fin 512) (d : Fin 128) : b1 m c t (ix4 0 h r d) = (args m c).v (ix4 (seq t) h (pos t r) d) := by
  unfold b1
  blk_simp [iblk]
  refine congrArg (m ((c : Thread nD τ).loc main_arg2)) (funext fun a => Fin.ext ?_)
  match a with
  | ⟨0, _⟩ => blk_simp; exact congrArg (· + 0) (congrFun (map1 t) 0)
  | ⟨1, _⟩ => blk_simp; exact (congrArg (· * 2 + h.val) (congrFun (map1 t) 1)).trans (by simp)
  | ⟨2, _⟩ => blk_simp; exact congrArg (· * 512 + r.val) (congrFun (map1 t) 2)
  | ⟨3, _⟩ => blk_simp; exact (congrArg (· * 128 + d.val) (congrFun (map1 t) 3)).trans (by simp)
/-- the keys' sums, -/
theorem blk2 (h : Fin 2) (d : Fin 128) : b2 m c t (ix3 0 h d) = (args m c).ks (ix3 (seq t) h d) := by
  unfold b2
  blk_simp [iblk]
  refine congrArg (m ((c : Thread nD τ).loc main_arg3)) (funext fun a => Fin.ext ?_)
  match a with
  | ⟨0, _⟩ => blk_simp; exact congrArg (· + 0) (congrFun (map2 t) 0)
  | ⟨1, _⟩ => blk_simp; exact (congrArg (· * 2 + h.val) (congrFun (map2 t) 1)).trans (by simp)
  | ⟨2, _⟩ => blk_simp; exact (congrArg (· * 128 + d.val) (congrFun (map2 t) 2)).trans (by simp)
/-- and the values' largest magnitudes. -/
theorem blk3 (h : Fin 2) (d : Fin 128) : b3 m c t (ix3 0 h d) = (args m c).vm (ix3 (seq t) h d) := by
  unfold b3
  blk_simp [iblk]
  refine congrArg (m ((c : Thread nD τ).loc main_arg4)) (funext fun a => Fin.ext ?_)
  match a with
  | ⟨0, _⟩ => blk_simp; exact congrArg (· + 0) (congrFun (map3 t) 0)
  | ⟨1, _⟩ => blk_simp; exact (congrArg (· * 2 + h.val) (congrFun (map3 t) 1)).trans (by simp)
  | ⟨2, _⟩ => blk_simp; exact (congrArg (· * 128 + d.val) (congrFun (map3 t) 2)).trans (by simp)

/-- The staged blocks, read. -/
theorem rd0 : View.read (Elt Ideal) (ms0_0 m t).view ((hs0_0 m t).unread (iblk m c 0 t)) = b0 m c t := Memref.IsWhole.read_unread (hs0_0 m t) (iblk m c 0 t)
theorem rd1 : View.read (Elt Ideal) (ms0_1 m t).view ((hs0_1 m t).unread (iblk m c 1 t)) = b1 m c t := Memref.IsWhole.read_unread (hs0_1 m t) (iblk m c 1 t)
theorem rd2 : View.read (Elt Ideal) (ms0_2 m t).view ((hs0_2 m t).unread (iblk m c 2 t)) = b2 m c t := Memref.IsWhole.read_unread (hs0_2 m t) (iblk m c 2 t)
theorem rd3 : View.read (Elt Ideal) (ms0_3 m t).view ((hs0_3 m t).unread (iblk m c 3 t)) = b3 m c t := Memref.IsWhole.read_unread (hs0_3 m t) (iblk m c 3 t)

/-- The length that the point reads is its sequence's. -/
theorem word_eq (p) (hp) : View.readAt (Elt Ideal) (View.whole main_arg0) (Rect.unit (k0_off1 (grid0.coords t)) ![1] p).toLoadRect (tbl m 0) (Shape.Idx.first hp)
    = (args m c).len (ix1 (seq t)) := by
  obtain rfl : c = 0 := Subsingleton.elim _ _
  refine congrArg (m (((0 : Dev nD) : Thread nD τ).loc main_arg0)) (funext fun a => Fin.ext ?_)
  match a with
  | ⟨0, _⟩ =>
    show (k0_off1 (grid0.coords t)) 0 + 1 * 0 = (grid0.coords t 0).val
    rw [off1_eq]
    rfl

/-- The halves of the point's keys and values, the mean keys, and the values' scales. -/
def kh0 : Vec Ideal S1x1x512x128 .f32 := View.ld (b0 m c t) (Rect.unit ![0, 0, 0, 0] ![1, 1, 512, 128] inb_S1x2x512x128_S1x1x512x128_0_0_0_0)
def kh1 : Vec Ideal S1x1x512x128 .f32 := View.ld (b0 m c t) (Rect.unit ![0, 1, 0, 0] ![1, 1, 512, 128] inb_S1x2x512x128_S1x1x512x128_0_1_0_0)
def vh0 : Vec Ideal S1x1x512x128 .f32 := View.ld (b1 m c t) (Rect.unit ![0, 0, 0, 0] ![1, 1, 512, 128] inb_S1x2x512x128_S1x1x512x128_0_0_0_0)
def vh1 : Vec Ideal S1x1x512x128 .f32 := View.ld (b1 m c t) (Rect.unit ![0, 1, 0, 0] ![1, 1, 512, 128] inb_S1x2x512x128_S1x1x512x128_0_1_0_0)
def mk : FVec Ideal S2x128 .f32 := k0_pay3 (b2 m c t) ((args m c).len (ix1 (seq t)))
def sv : FVec Ideal S2x128 .f32 := k0_pay4 (b3 m c t)

theorem kh0_apply (r : Fin 512) (d : Fin 128) : kh0 m c t (ix4 0 0 r d) = (args m c).k (ix4 (seq t) 0 (pos t r) d) := (ld_head0 _ _ r d).trans (blk0 m c t 0 r d)
theorem kh1_apply (r : Fin 512) (d : Fin 128) : kh1 m c t (ix4 0 0 r d) = (args m c).k (ix4 (seq t) 1 (pos t r) d) := (ld_head1 _ _ r d).trans (blk0 m c t 1 r d)
theorem vh0_apply (r : Fin 512) (d : Fin 128) : vh0 m c t (ix4 0 0 r d) = (args m c).v (ix4 (seq t) 0 (pos t r) d) := (ld_head0 _ _ r d).trans (blk1 m c t 0 r d)
theorem vh1_apply (r : Fin 512) (d : Fin 128) : vh1 m c t (ix4 0 0 r d) = (args m c).v (ix4 (seq t) 1 (pos t r) d) := (ld_head1 _ _ r d).trans (blk1 m c t 1 r d)
theorem mk_apply (h : Fin 2) (d : Fin 128) : mk m c t (ix2 h d) = mean (args m c) (seq t) h d := by
  rw [mk, pay3_apply, blk2]
  rfl
theorem sv_apply (h : Fin 2) (d : Fin 128) : sv m c t (ix2 h d) = vscale (args m c) (seq t) h d := by
  rw [sv, pay4_apply, blk3]
  rfl

/-- Block `j` of a tile, as a block of the sequence. -/
def blk (t : Fin grid0.N) (j : Fin 8) : Fin 64 := ⟨(grid0.coords t 1).val * 8 + j.val, by have := lt1 t; omega⟩
theorem pos_at (j : Fin 8) (r : Fin 64) : pos t ⟨j.val * 64 + r.val, by omega⟩ = at64 (blk t j) r :=
  Fin.ext (by show (grid0.coords t 1).val * 512 + (j.val * 64 + r.val) = ((grid0.coords t 1).val * 8 + j.val) * 64 + r.val; omega)
theorem block_at (j : Fin 8) (r : Fin 64) : blockOf (at64 (blk t j) r) = blk t j :=
  Fin.ext (by show (((grid0.coords t 1).val * 8 + j.val) * 64 + r.val) / 64 = (grid0.coords t 1).val * 8 + j.val; omega)

/-- The keys less their mean, block by block: head 0 -/
theorem diff0 (j : Fin 8) (r : Fin 64) (d : Fin 128) : k0_pay13 (F := Ideal) (mk m c t) (kh0 m c t) (ix3 j r d) = diff (args m c) (seq t) 0 (at64 (blk t j) r) d := by
  rw [pay13_apply, kh0_apply, mk_apply, pos_at]
  rfl
/-- and head 1. -/
theorem diff1 (j : Fin 8) (r : Fin 64) (d : Fin 128) : k0_pay25 (F := Ideal) (mk m c t) (kh1 m c t) (ix3 j r d) = diff (args m c) (seq t) 1 (at64 (blk t j) r) d := by
  rw [pay25_apply, kh1_apply, mk_apply, pos_at]
  rfl
/-- The blocks' scales. -/
theorem scale0 (j : Fin 8) : k0_pay14 (F := Ideal) (mk m c t) (kh0 m c t) (ix2 j 0) = kscale (args m c) (seq t) 0 (blk t j) := by
  rw [pay14_apply]
  simp only [diff0]
  rfl
theorem scale1 (j : Fin 8) : k0_pay26 (F := Ideal) (mk m c t) (kh1 m c t) (ix2 j 0) = kscale (args m c) (seq t) 1 (blk t j) := by
  rw [pay26_apply]
  simp only [diff1]
  rfl
/-- The keys' codes. -/
theorem kcode0 (r : Fin 512) (d : Fin 128) : k0_pay16 (F := Ideal) (mk m c t) (kh0 m c t) (ix4 0 0 r d) = kcode (args m c) (seq t) 0 (pos t r) d := by
  obtain ⟨j, x, rfl⟩ : ∃ (j : Fin 8) (x : Fin 64), r = ⟨j.val * 64 + x.val, by omega⟩ :=
    ⟨⟨r.val / 64, by omega⟩, ⟨r.val % 64, by omega⟩, Fin.ext (by show r.val = r.val / 64 * 64 + r.val % 64; omega)⟩
  rw [pay16_apply, diff0, scale0, pos_at, kcode, block_at]
theorem kcode1 (r : Fin 512) (d : Fin 128) : k0_pay28 (F := Ideal) (mk m c t) (kh1 m c t) (ix4 0 0 r d) = kcode (args m c) (seq t) 1 (pos t r) d := by
  obtain ⟨j, x, rfl⟩ : ∃ (j : Fin 8) (x : Fin 64), r = ⟨j.val * 64 + x.val, by omega⟩ :=
    ⟨⟨r.val / 64, by omega⟩, ⟨r.val % 64, by omega⟩, Fin.ext (by show r.val = r.val / 64 * 64 + r.val % 64; omega)⟩
  rw [pay28_apply, diff1, scale1, pos_at, kcode, block_at]

/-- The mean keys after a point. -/
theorem meanOut_apply (y5 y7) (h : Fin 2) (d : Fin 128) : meanOut m c t y5 y7 (ix3 0 h d) = mean (args m c) (seq t) h d := by
  have e : meanOut m c t y5 y7 = k0_pay5 (F := Ideal) (b2 m c t) ((args m c).len (ix1 (seq t))) := by
    unfold meanOut at_
    frame_out
    rw [word_eq m c, rd2 m c t]
    exact View.read_writes_full _ _ _ _ _
  rw [e, pay5_apply, blk2]
  rfl

/-- The values' scales after a point. -/
theorem vscalesOut_apply (y5 y7) (h : Fin 2) (d : Fin 128) : vscalesOut m c t y5 y7 (ix3 0 h d) = vscale (args m c) (seq t) h d := by
  have e : vscalesOut m c t y5 y7 = k0_pay6 (F := Ideal) (b3 m c t) := by
    unfold vscalesOut at_
    frame_out
    rw [rd3 m c t]
    exact View.read_writes_full _ _ _ _ _
  rw [e, pay6_apply, blk3]
  rfl

/-- The keys' codes after a point. -/
theorem codesOut_apply (y6 y7) (h : Fin 2) (r : Fin 512) (d : Fin 128) : codesOut m c t y6 y7 (ix4 0 h r d) = kcode (args m c) (seq t) h (pos t r) d := by
  unfold codesOut at_
  frame_out
  rw [word_eq m c, rd2 m c t, rd0 m c t]
  match h with
  | 0 => exact (codes_head0 _ _ _ _ _ _ r d).trans (kcode0 m c t r d)
  | 1 => exact (codes_head1 _ _ _ _ _ r d).trans (kcode1 m c t r d)

/-- The values' codes after a point. -/
theorem vcodesOut_apply (y6 y7) (h : Fin 2) (r : Fin 512) (d : Fin 128) : vcodesOut m c t y6 y7 (ix4 0 h r d) = vcode (args m c) (seq t) h (pos t r) d := by
  unfold vcodesOut at_
  frame_out
  rw [rd3 m c t, rd1 m c t]
  match h with
  | 0 =>
    refine (codes_head0 _ _ _ _ _ _ r d).trans ((pay21_apply (sv m c t) (vh0 m c t) r d).trans ?_)
    rw [vh0_apply, sv_apply]
    rfl
  | 1 =>
    refine (codes_head1 _ _ _ _ _ r d).trans ((pay1_apply (sv m c t) (vh1 m c t) r d).trans ?_)
    rw [vh1_apply, sv_apply]
    rfl

/-- The keys' scales after a point: the tile's blocks take their scales, the rest stays. -/
theorem scalesOut_apply (y7) (h : Fin 2) (x : Fin 64) : scalesOut m c t y7 (ix3 0 h x)
    = if x.val / 8 = (grid0.coords t 1).val then kscale (args m c) (seq t) h x else y7 (ix3 0 h x) := by
  have hx := x.isLt
  have e (q : x.val / 8 = (grid0.coords t 1).val) : blk t ⟨x.val % 8, by omega⟩ = x :=
    Fin.ext (by show (grid0.coords t 1).val * 8 + x.val % 8 = x.val; omega)
  unfold scalesOut at_
  frame_out
  rw [word_eq m c, rd2 m c t, rd0 m c t]
  match h with
  | 0 =>
    refine (scales_head0 _ _ _ _ _ _ x).trans ((pay19_apply (mk m c t) (kh0 m c t) (grid0.coords t) (grid0.coords t 1).val rfl (lt1 t) _ x).trans ?_)
    split_ifs with q
    · rw [scale0, e q]
    · exact ld_scales0 _ _ x
  | 1 =>
    refine (scales_head1 _ _ _ _ _ x).trans ((pay31_apply (grid0.coords t) (grid0.coords t 1).val rfl (lt1 t) (k0_pay26 (mk m c t) (kh1 m c t)) _ x).trans ?_)
    split_ifs with q
    · rw [scale1, e q]
    · exact ld_scales1 _ _ x

end Cert.Proof.KvCodes

end
-- ==== Proof.KvCodesArray.lean ====
/- THE KEY AND VALUE QUANTISERS' RESULTS: of the keys' scales it is tracked that every tile already done of the sequence has its blocks' scales, of
   the other results that a point leaves its part; so the arrays end as `meanArr`, `kcodesArr`, `kscalesArr`, `vcodesArr` and `vscalesArr` of the
   arguments. -/
module

public import proofs.«01_k».proof.Proof.KvCodesPoint
public import Idealize.ShloMosaic.Lib.Pipeline.ArrRel

@[expose] public section

set_option maxRecDepth 16384

noncomputable section

namespace Cert.Proof.KvCodes

open Idealize.ShloMosaic Idealize.ShloMosaic.TcCoe Idealize.ShloMosaic.Pipeline Idealize.SL.Sem
open Cert.KvCodesIdeal Cert.KvCodesIdeal.Gen Cert.KvCodesIdeal.Hand

variable (m : (ℓ : Loc nD τ sig) → Buf (Elt Ideal) ℓ) (c : Dev nD)

/-- What is tracked. -/
def track : Track Ideal where
  mean t y := ∀ (h : Fin 2) (d : Fin 128), y (ix3 0 h d) = mean (args m c) (seq t) h d
  codes t y := ∀ (h : Fin 2) (r : Fin 512) (d : Fin 128), y (ix4 0 h r d) = kcode (args m c) (seq t) h (pos t r) d
  scales t y := ∀ (h : Fin 2) (x : Fin 64), x.val / 8 ≤ t.val % 8 → y (ix3 0 h x) = kscale (args m c) (seq t) h x
  vcodes t y := ∀ (h : Fin 2) (r : Fin 512) (d : Fin 128), y (ix4 0 h r d) = vcode (args m c) (seq t) h (pos t r) d
  vscales t y := ∀ (h : Fin 2) (d : Fin 128), y (ix3 0 h d) = vscale (args m c) (seq t) h d

/-- The kernel's points keep what is tracked. -/
theorem sound : Track.Sound m (track m) where
  step c t y5 y6 y7 y10 y11 hp := by
    refine ⟨fun h d => meanOut_apply m c t y5 y7 h d, fun h r d => codesOut_apply m c t y6 y7 h r d, fun h x hx => ?_,
      fun h r d => vcodesOut_apply m c t y10 y7 h r d, fun h d => vscalesOut_apply m c t y11 y7 h d⟩
    rw [scalesOut_apply, coord1]
    split_ifs with e
    · rfl
    · have ht : t.val % 8 ≠ 0 := by omega
      have lt : t.val - 1 < grid0.N := Nat.lt_of_le_of_lt (Nat.sub_le _ _) t.isLt
      have es : seq (⟨t.val - 1, lt⟩ : Fin grid0.N) = seq t := Fin.ext (by
        show (grid0.coords (⟨t.val - 1, lt⟩ : Fin grid0.N) 0).val = (grid0.coords t 0).val
        rw [coord0, coord0]
        show (t.val - 1) / 8 = t.val / 8
        omega)
      exact (hp ht h x (by show x.val / 8 ≤ (t.val - 1) % 8; omega)).trans (by rw [es])

/-- The results are covered by the blocks written back: the codes at each point, the others at each sequence's last. -/
def adm0 : (pcfg0 (F := Ideal)).Adm := ⟨fun | 0 => fun _ => (0 : BitVec 32), trivial⟩
theorem covers5_0 : ((cfg0 adm0).win 5).Covers := by decide +kernel
theorem covers6_0 : ((cfg0 adm0).win 6).Covers := by decide +kernel
theorem covers7_0 : ((cfg0 adm0).win 7).Covers := by decide +kernel
theorem covers10_0 : ((cfg0 adm0).win 10).Covers := by decide +kernel
theorem covers11_0 : ((cfg0 adm0).win 11).Covers := by decide +kernel
theorem covers5 : ((cfgM m).win 5).Covers := covers5_0
theorem covers6 : ((cfgM m).win 6).Covers := covers6_0
theorem covers7 : ((cfgM m).win 7).Covers := covers7_0
theorem covers10 : ((cfgM m).win 10).Covers := covers10_0
theorem covers11 : ((cfgM m).win 11).Covers := covers11_0

section
variable (after : (w' : Fin (cfgM m).W) → Fin (cfgM m).N → ((cfgM m).win w').block.Idx → Elt Ideal ((cfgM m).win w').elt)
  (ha : ∀ (w : Fin (cfgM m).W) (u : Fin (cfgM m).N), ((cfgM m).win w).flush u = true → (rdat m (track m) c).Leaves w u (after w u))
include ha

/-- The mean keys after the run. -/
theorem final5 : ((rdat m (track m) c).withAfter after).arrAt 5 (cfgM m).N = meanArr (args m c) := by
  refine ((rdat m (track m) c).withAfter after).arrAt_eq_of_covers 5 _ (covers5 m) fun t hf y => ?_
  have hc : (track m c).mean t (after 5 t) := (dat m c).toRRel_leaves (w := 5) rfl (ha 5 t hf)
  blk_simp
  obtain ⟨z, h, d, rfl⟩ : ∃ (z : Fin 1) (h : Fin 2) (d : Fin 128), y = ix3 z h d := ⟨_, _, _, eq_ix3 (n0 := 1) (n1 := 2) (n2 := 128) y⟩
  obtain rfl : z = 0 := Subsingleton.elim _ _
  have e : ((((cfgM m).win 5).blk t).view).emb (ix3 0 h d) = ix3 (seq t) h d := by
    refine funext fun a => Fin.ext ?_
    match a with
    | ⟨0, _⟩ => blk_simp; exact congrArg (· + 0) (congrFun (map5 t) 0)
    | ⟨1, _⟩ => blk_simp; exact (congrArg (· * 2 + h.val) (congrFun (map5 t) 1)).trans (by simp)
    | ⟨2, _⟩ => blk_simp; exact (congrArg (· * 128 + d.val) (congrFun (map5 t) 2)).trans (by simp)
  exact (hc h d).trans (congrArg (meanArr (args m c)) e).symm

/-- The keys' codes after the run. -/
theorem final6 : ((rdat m (track m) c).withAfter after).arrAt 6 (cfgM m).N = kcodesArr (args m c) := by
  refine ((rdat m (track m) c).withAfter after).arrAt_eq_of_covers 6 _ (covers6 m) fun t hf y => ?_
  have hc : (track m c).codes t (after 6 t) := (dat m c).toRRel_leaves (w := 6) rfl (ha 6 t hf)
  blk_simp
  obtain ⟨z, h, r, d, rfl⟩ : ∃ (z : Fin 1) (h : Fin 2) (r : Fin 512) (d : Fin 128), y = ix4 z h r d :=
    ⟨_, _, _, _, eq_ix4 (n0 := 1) (n1 := 2) (n2 := 512) (n3 := 128) y⟩
  obtain rfl : z = 0 := Subsingleton.elim _ _
  have e : ((((cfgM m).win 6).blk t).view).emb (ix4 0 h r d) = ix4 (seq t) h (pos t r) d := by
    refine funext fun a => Fin.ext ?_
    match a with
    | ⟨0, _⟩ => blk_simp; exact congrArg (· + 0) (congrFun (map6 t) 0)
    | ⟨1, _⟩ => blk_simp; exact (congrArg (· * 2 + h.val) (congrFun (map6 t) 1)).trans (by simp)
    | ⟨2, _⟩ => blk_simp; exact congrArg (· * 512 + r.val) (congrFun (map6 t) 2)
    | ⟨3, _⟩ => blk_simp; exact (congrArg (· * 128 + d.val) (congrFun (map6 t) 3)).trans (by simp)
  exact (hc h r d).trans (congrArg (kcodesArr (args m c)) e).symm

/-- The keys' scales after the run. -/
theorem final7 : ((rdat m (track m) c).withAfter after).arrAt 7 (cfgM m).N = kscalesArr (args m c) := by
  refine ((rdat m (track m) c).withAfter after).arrAt_eq_of_covers 7 _ (covers7 m) fun t hf y => ?_
  have ht : t.val % 8 = 7 := (flush0_7 (adm m) t).mp hf
  have hc : (track m c).scales t (after 7 t) := (dat m c).toRRel_leaves (w := 7) rfl (ha 7 t hf)
  blk_simp
  obtain ⟨z, h, x, rfl⟩ : ∃ (z : Fin 1) (h : Fin 2) (x : Fin 64), y = ix3 z h x := ⟨_, _, _, eq_ix3 (n0 := 1) (n1 := 2) (n2 := 64) y⟩
  obtain rfl : z = 0 := Subsingleton.elim _ _
  have e : ((((cfgM m).win 7).blk t).view).emb (ix3 0 h x) = ix3 (seq t) h x := by
    refine funext fun a => Fin.ext ?_
    match a with
    | ⟨0, _⟩ => blk_simp; exact congrArg (· + 0) (congrFun (map7 t) 0)
    | ⟨1, _⟩ => blk_simp; exact (congrArg (· * 2 + h.val) (congrFun (map7 t) 1)).trans (by simp)
    | ⟨2, _⟩ => blk_simp; exact (congrArg (· * 64 + x.val) (congrFun (map7 t) 2)).trans (by simp)
  exact (hc h x (by omega)).trans (congrArg (kscalesArr (args m c)) e).symm

/-- The values' codes after the run. -/
theorem final10 : ((rdat m (track m) c).withAfter after).arrAt 10 (cfgM m).N = vcodesArr (args m c) := by
  refine ((rdat m (track m) c).withAfter after).arrAt_eq_of_covers 10 _ (covers10 m) fun t hf y => ?_
  have hc : (track m c).vcodes t (after 10 t) := (dat m c).toRRel_leaves (w := 10) rfl (ha 10 t hf)
  blk_simp
  obtain ⟨z, h, r, d, rfl⟩ : ∃ (z : Fin 1) (h : Fin 2) (r : Fin 512) (d : Fin 128), y = ix4 z h r d :=
    ⟨_, _, _, _, eq_ix4 (n0 := 1) (n1 := 2) (n2 := 512) (n3 := 128) y⟩
  obtain rfl : z = 0 := Subsingleton.elim _ _
  have e : ((((cfgM m).win 10).blk t).view).emb (ix4 0 h r d) = ix4 (seq t) h (pos t r) d := by
    refine funext fun a => Fin.ext ?_
    match a with
    | ⟨0, _⟩ => blk_simp; exact congrArg (· + 0) (congrFun (map10 t) 0)
    | ⟨1, _⟩ => blk_simp; exact (congrArg (· * 2 + h.val) (congrFun (map10 t) 1)).trans (by simp)
    | ⟨2, _⟩ => blk_simp; exact congrArg (· * 512 + r.val) (congrFun (map10 t) 2)
    | ⟨3, _⟩ => blk_simp; exact (congrArg (· * 128 + d.val) (congrFun (map10 t) 3)).trans (by simp)
  exact (hc h r d).trans (congrArg (vcodesArr (args m c)) e).symm

/-- The values' scales after the run. -/
theorem final11 : ((rdat m (track m) c).withAfter after).arrAt 11 (cfgM m).N = vscalesArr (args m c) := by
  refine ((rdat m (track m) c).withAfter after).arrAt_eq_of_covers 11 _ (covers11 m) fun t hf y => ?_
  have hc : (track m c).vscales t (after 11 t) := (dat m c).toRRel_leaves (w := 11) rfl (ha 11 t hf)
  blk_simp
  obtain ⟨z, h, d, rfl⟩ : ∃ (z : Fin 1) (h : Fin 2) (d : Fin 128), y = ix3 z h d := ⟨_, _, _, eq_ix3 (n0 := 1) (n1 := 2) (n2 := 128) y⟩
  obtain rfl : z = 0 := Subsingleton.elim _ _
  have e : ((((cfgM m).win 11).blk t).view).emb (ix3 0 h d) = ix3 (seq t) h d := by
    refine funext fun a => Fin.ext ?_
    match a with
    | ⟨0, _⟩ => blk_simp; exact congrArg (· + 0) (congrFun (map11 t) 0)
    | ⟨1, _⟩ => blk_simp; exact (congrArg (· * 2 + h.val) (congrFun (map11 t) 1)).trans (by simp)
    | ⟨2, _⟩ => blk_simp; exact (congrArg (· * 128 + d.val) (congrFun (map11 t) 2)).trans (by simp)
  exact (hc h d).trans (congrArg (vscalesArr (args m c)) e).symm

end

/-- The run of the kernel, read: its results are the mean keys, the codes and scales of keys and values, and its arguments stay as they were. -/
theorem run (ρ : Dev nD → PrngReg) : θ_run defs (onTc (τ := τ) (main (F := Ideal))) ⟨m, fun _ => 0, ρ⟩ fun r => ∀ c : Dev nD,
      r.2.mem ((c : Thread nD τ).loc main_v0_0) = meanArr (args m c)
      ∧ r.2.mem ((c : Thread nD τ).loc main_v0_1) = kcodesArr (args m c)
      ∧ r.2.mem ((c : Thread nD τ).loc main_v0_2) = kscalesArr (args m c)
      ∧ r.2.mem ((c : Thread nD τ).loc main_v0_5) = vcodesArr (args m c)
      ∧ r.2.mem ((c : Thread nD τ).loc main_v0_6) = vscalesArr (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_) (run_track m ρ (track m) (sound m))
  obtain ⟨after, ha, hA⟩ := h.1.exists_exact c
  exact ⟨(hA 5).trans (final5 m c after ha), (hA 6).trans (final6 m c after ha), (hA 7).trans (final7 m c after ha), (hA 10).trans (final10 m c after ha),
    (hA 11).trans (final11 m c after ha), args_of m (track m) h.1 c⟩

end Cert.Proof.KvCodes

end
-- ==== Proof.KvCodesRefRun.lean ====
/- THE REFERENCE OF THE KEY AND VALUE QUANTISERS, RUN: it has one grid point and every window's block is its whole array, so each result is what its one store
   leaves, `G5` to `G9` of the arguments. -/
module

public import proofs.«01_k».proof.Proof.KvCodesMath
public import proofs.«01_k».proof.Proof.Gen.KvCodesRefIdeal.Frame
public import Idealize.ShloMosaic.Lib.Pipeline.Value

@[expose] public section

noncomputable section

namespace Cert.KvCodesRefIdeal.Value

open Cert.KvCodesRefIdeal Cert.KvCodesRefIdeal.Gen Idealize.ShloMosaic Idealize.ShloMosaic.TcCoe Idealize.SL.Sem
open Cert.Proof.KvCodes (Args)

variable (m : (ℓ : Loc nD τ sig) → Buf (Elt Ideal) ℓ) (ρ : Dev nD → PrngReg) (c : Dev nD)

/-- The argument arrays, as the launch finds them. -/
def args : Args where
  len := m ((c : Thread nD τ).loc main_arg0)
  k := m ((c : Thread nD τ).loc main_arg1)
  v := m ((c : Thread nD τ).loc main_arg2)
  ks := m ((c : Thread nD τ).loc main_arg3)
  vm := m ((c : Thread nD τ).loc main_arg4)

theorem hz1 : (![0] : Fin 1 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Each window's block is its whole array: an index of the block is the same index of the array. -/
theorem emb0 (t : Fin cfg0.N) (j : S4.Idx) : ((cfg0.win 0).blk t).view.emb j = j := by
  have e0 := (by decide +kernel : ∀ t : Fin grid0.N, win0_0.index t (0 : Fin 1) = 0) t
  funext a; apply Fin.ext
  match a with
  | ⟨0, _⟩ => show win0_0.index t (0 : Fin 1) * 4 + 1 * (j 0).val = (j 0).val; omega
theorem emb1 (t : Fin cfg0.N) (j : S4x2x4096x128.Idx) : ((cfg0.win 1).blk t).view.emb j = j := by
  obtain ⟨e0, e1, e2, e3⟩ := (by decide +kernel : ∀ t : Fin grid0.N, win0_1.index t (0 : Fin 4) = 0 ∧ win0_1.index t (1 : Fin 4) = 0 ∧ win0_1.index t (2 : Fin 4) = 0 ∧ win0_1.index t (3 : Fin 4) = 0) t
  funext a; apply Fin.ext
  match a with
  | ⟨0, _⟩ => show win0_1.index t (0 : Fin 4) * 4 + 1 * (j 0).val = (j 0).val; omega
  | ⟨1, _⟩ => show win0_1.index t (1 : Fin 4) * 2 + 1 * (j 1).val = (j 1).val; omega
  | ⟨2, _⟩ => show win0_1.index t (2 : Fin 4) * 4096 + 1 * (j 2).val = (j 2).val; omega
  | ⟨3, _⟩ => show win0_1.index t (3 : Fin 4) * 128 + 1 * (j 3).val = (j 3).val; omega
theorem emb2 (t : Fin cfg0.N) (j : S4x2x4096x128.Idx) : ((cfg0.win 2).blk t).view.emb j = j := by
  obtain ⟨e0, e1, e2, e3⟩ := (by decide +kernel : ∀ t : Fin grid0.N, win0_2.index t (0 : Fin 4) = 0 ∧ win0_2.index t (1 : Fin 4) = 0 ∧ win0_2.index t (2 : Fin 4) = 0 ∧ win0_2.index t (3 : Fin 4) = 0) t
  funext a; apply Fin.ext
  match a with
  | ⟨0, _⟩ => show win0_2.index t (0 : Fin 4) * 4 + 1 * (j 0).val = (j 0).val; omega
  | ⟨1, _⟩ => show win0_2.index t (1 : Fin 4) * 2 + 1 * (j 1).val = (j 1).val; omega
  | ⟨2, _⟩ => show win0_2.index t (2 : Fin 4) * 4096 + 1 * (j 2).val = (j 2).val; omega
  | ⟨3, _⟩ => show win0_2.index t (3 : Fin 4) * 128 + 1 * (j 3).val = (j 3).val; omega
theorem emb3 (t : Fin cfg0.N) (j : S4x2x128.Idx) : ((cfg0.win 3).blk t).view.emb j = j := by
  obtain ⟨e0, e1, e2⟩ := (by decide +kernel : ∀ t : Fin grid0.N, win0_3.index t (0 : Fin 3) = 0 ∧ win0_3.index t (1 : Fin 3) = 0 ∧ win0_3.index t (2 : Fin 3) = 0) t
  funext a; apply Fin.ext
  match a with
  | ⟨0, _⟩ => show win0_3.index t (0 : Fin 3) * 4 + 1 * (j 0).val = (j 0).val; omega
  | ⟨1, _⟩ => show win0_3.index t (1 : Fin 3) * 2 + 1 * (j 1).val = (j 1).val; omega
  | ⟨2, _⟩ => show win0_3.index t (2 : Fin 3) * 128 + 1 * (j 2).val = (j 2).val; omega
theorem emb4 (t : Fin cfg0.N) (j : S4x2x128.Idx) : ((cfg0.win 4).blk t).view.emb j = j := by
  obtain ⟨e0, e1, e2⟩ := (by decide +kernel : ∀ t : Fin grid0.N, win0_4.index t (0 : Fin 3) = 0 ∧ win0_4.index t (1 : Fin 3) = 0 ∧ win0_4.index t (2 : Fin 3) = 0) t
  funext a; apply Fin.ext
  match a with
  | ⟨0, _⟩ => show win0_4.index t (0 : Fin 3) * 4 + 1 * (j 0).val = (j 0).val; omega
  | ⟨1, _⟩ => show win0_4.index t (1 : Fin 3) * 2 + 1 * (j 1).val = (j 1).val; omega
  | ⟨2, _⟩ => show win0_4.index t (2 : Fin 3) * 128 + 1 * (j 2).val = (j 2).val; omega
theorem emb5 (t : Fin cfg0.N) (j : S4x2x128.Idx) : ((cfg0.win 5).blk t).view.emb j = j := by
  obtain ⟨e0, e1, e2⟩ := (by decide +kernel : ∀ t : Fin grid0.N, win0_5.index t (0 : Fin 3) = 0 ∧ win0_5.index t (1 : Fin 3) = 0 ∧ win0_5.index t (2 : Fin 3) = 0) t
  funext a; apply Fin.ext
  match a with
  | ⟨0, _⟩ => show win0_5.index t (0 : Fin 3) * 4 + 1 * (j 0).val = (j 0).val; omega
  | ⟨1, _⟩ => show win0_5.index t (1 : Fin 3) * 2 + 1 * (j 1).val = (j 1).val; omega
  | ⟨2, _⟩ => show win0_5.index t (2 : Fin 3) * 128 + 1 * (j 2).val = (j 2).val; omega
theorem emb6 (t : Fin cfg0.N) (j : S4x2x4096x128.Idx) : ((cfg0.win 6).blk t).view.emb j = j := by
  obtain ⟨e0, e1, e2, e3⟩ := (by decide +kernel : ∀ t : Fin grid0.N, win0_6.index t (0 : Fin 4) = 0 ∧ win0_6.index t (1 : Fin 4) = 0 ∧ win0_6.index t (2 : Fin 4) = 0 ∧ win0_6.index t (3 : Fin 4) = 0) t
  funext a; apply Fin.ext
  match a with
  | ⟨0, _⟩ => show win0_6.index t (0 : Fin 4) * 4 + 1 * (j 0).val = (j 0).val; omega
  | ⟨1, _⟩ => show win0_6.index t (1 : Fin 4) * 2 + 1 * (j 1).val = (j 1).val; omega
  | ⟨2, _⟩ => show win0_6.index t (2 : Fin 4) * 4096 + 1 * (j 2).val = (j 2).val; omega
  | ⟨3, _⟩ => show win0_6.index t (3 : Fin 4) * 128 + 1 * (j 3).val = (j 3).val; omega
theorem emb7 (t : Fin cfg0.N) (j : S4x2x64.Idx) : ((cfg0.win 7).blk t).view.emb j = j := by
  obtain ⟨e0, e1, e2⟩ := (by decide +kernel : ∀ t : Fin grid0.N, win0_7.index t (0 : Fin 3) = 0 ∧ win0_7.index t (1 : Fin 3) = 0 ∧ win0_7.index t (2 : Fin 3) = 0) t
  funext a; apply Fin.ext
  match a with
  | ⟨0, _⟩ => show win0_7.index t (0 : Fin 3) * 4 + 1 * (j 0).val = (j 0).val; omega
  | ⟨1, _⟩ => show win0_7.index t (1 : Fin 3) * 2 + 1 * (j 1).val = (j 1).val; omega
  | ⟨2, _⟩ => show win0_7.index t (2 : Fin 3) * 64 + 1 * (j 2).val = (j 2).val; omega
theorem emb8 (t : Fin cfg0.N) (j : S4x2x4096x128.Idx) : ((cfg0.win 8).blk t).view.emb j = j := by
  obtain ⟨e0, e1, e2, e3⟩ := (by decide +kernel : ∀ t : Fin grid0.N, win0_8.index t (0 : Fin 4) = 0 ∧ win0_8.index t (1 : Fin 4) = 0 ∧ win0_8.index t (2 : Fin 4) = 0 ∧ win0_8.index t (3 : Fin 4) = 0) t
  funext a; apply Fin.ext
  match a with
  | ⟨0, _⟩ => show win0_8.index t (0 : Fin 4) * 4 + 1 * (j 0).val = (j 0).val; omega
  | ⟨1, _⟩ => show win0_8.index t (1 : Fin 4) * 2 + 1 * (j 1).val = (j 1).val; omega
  | ⟨2, _⟩ => show win0_8.index t (2 : Fin 4) * 4096 + 1 * (j 2).val = (j 2).val; omega
  | ⟨3, _⟩ => show win0_8.index t (3 : Fin 4) * 128 + 1 * (j 3).val = (j 3).val; omega
theorem emb9 (t : Fin cfg0.N) (j : S4x2x128.Idx) : ((cfg0.win 9).blk t).view.emb j = j := by
  obtain ⟨e0, e1, e2⟩ := (by decide +kernel : ∀ t : Fin grid0.N, win0_9.index t (0 : Fin 3) = 0 ∧ win0_9.index t (1 : Fin 3) = 0 ∧ win0_9.index t (2 : Fin 3) = 0) t
  funext a; apply Fin.ext
  match a with
  | ⟨0, _⟩ => show win0_9.index t (0 : Fin 3) * 4 + 1 * (j 0).val = (j 0).val; omega
  | ⟨1, _⟩ => show win0_9.index t (1 : Fin 3) * 2 + 1 * (j 1).val = (j 1).val; omega
  | ⟨2, _⟩ => show win0_9.index t (2 : Fin 3) * 128 + 1 * (j 2).val = (j 2).val; omega

/-- So the input blocks are the argument arrays. -/
theorem iblk0_eq (t : Fin cfg0.N) : iblk m c 0 t = (args m c).len := by
  funext j; show V m c main_arg0 (((cfg0.win 0).blk t).view.emb j) = _; rw [emb0, V_main_arg0]; rfl
theorem iblk1_eq (t : Fin cfg0.N) : iblk m c 1 t = (args m c).k := by
  funext j; show V m c main_arg1 (((cfg0.win 1).blk t).view.emb j) = _; rw [emb1, V_main_arg1]; rfl
theorem iblk2_eq (t : Fin cfg0.N) : iblk m c 2 t = (args m c).v := by
  funext j; show V m c main_arg2 (((cfg0.win 2).blk t).view.emb j) = _; rw [emb2, V_main_arg2]; rfl
theorem iblk3_eq (t : Fin cfg0.N) : iblk m c 3 t = (args m c).ks := by
  funext j; show V m c main_arg3 (((cfg0.win 3).blk t).view.emb j) = _; rw [emb3, V_main_arg3]; rfl
theorem iblk4_eq (t : Fin cfg0.N) : iblk m c 4 t = (args m c).vm := by
  funext j; show V m c main_arg4 (((cfg0.win 4).blk t).view.emb j) = _; rw [emb4, V_main_arg4]; rfl

variable (A : Args)

/-- The five results: the mean keys, the keys' codes and scales, the values' codes and scales. -/
def G5 : Vec Ideal S4x2x128 .f32 := k0_pay3 A.ks A.len
def G6 : Vec Ideal S4x2x4096x128 .i8 := k0_pay6 A.ks A.len A.k
def G7 : Vec Ideal S4x2x64 .f32 := k0_pay5 A.ks A.len A.k
def G8 : Vec Ideal S4x2x4096x128 .fp8e4m3 := k0_pay2 A.v (k0_pay7 A.vm) (k0_pay8 A.vm) k0_pay9
def G9 : Vec Ideal S4x2x128 .f32 := k0_pay1 (k0_pay7 A.vm) (k0_pay8 A.vm) k0_pay9

/-- A load of the whole of a block reads the block, and the one store through the whole rectangle leaves its payload. -/
theorem pay10_eq : k0_pay10 (F := Ideal) A.len A.k A.v A.ks A.vm = k0_pay7 A.vm := by
  unfold k0_pay10
  rw [View.ld_unit_zero (S := S4x2x128) hz3 _ A.vm]
theorem pay11_eq : k0_pay11 (F := Ideal) A.len A.k A.v A.ks A.vm = k0_pay8 A.vm := by
  unfold k0_pay11
  rw [View.ld_unit_zero (S := S4x2x128) hz3 _ A.vm]
theorem pay12_eq : k0_pay12 (F := Ideal) A.len A.k A.v A.ks A.vm = k0_pay9 := by
  unfold k0_pay12
  rfl
theorem out5_eq : out0_5 (F := Ideal) A.len A.k A.v A.ks A.vm = G5 A := by
  unfold out0_5 G5
  rw [View.canon_unit_zero hz3, View.ld_unit_zero (S := S4x2x128) hz3 _ A.ks, View.ld_unit_zero (S := S4) hz1 _ A.len]
theorem out6_eq : out0_6 (F := Ideal) A.len A.k A.v A.ks A.vm = G6 A := by
  unfold out0_6 G6
  rw [View.canon_unit_zero hz4, View.ld_unit_zero (S := S4x2x128) hz3 _ A.ks, View.ld_unit_zero (S := S4) hz1 _ A.len, View.ld_unit_zero (S := S4x2x4096x128) hz4 _ A.k]
theorem out7_eq : out0_7 (F := Ideal) A.len A.k A.v A.ks A.vm = G7 A := by
  unfold out0_7 G7
  rw [View.canon_unit_zero hz3, View.ld_unit_zero (S := S4x2x128) hz3 _ A.ks, View.ld_unit_zero (S := S4) hz1 _ A.len, View.ld_unit_zero (S := S4x2x4096x128) hz4 _ A.k]
theorem out8_eq : out0_8 (F := Ideal) A.len A.k A.v A.ks A.vm = G8 A := by
  unfold out0_8 G8
  rw [View.canon_unit_zero hz4, pay10_eq, pay11_eq, pay12_eq, View.ld_unit_zero (S := S4x2x4096x128) hz4 _ A.v]
theorem out9_eq : out0_9 (F := Ideal) A.len A.k A.v A.ks A.vm = G9 A := by
  unfold out0_9 G9
  rw [View.canon_unit_zero hz3, pay10_eq, pay11_eq, pay12_eq]

/-- Cutting the point's block out of an array and reading the array through the block's view give the same. -/
theorem cut5_eq (t : Fin cfg0.N) (X : Vec Ideal S4x2x128 .f32) :
    (cfg0.win 5).cut (grid0.coords t) X = ((cfg0.win 5).blk t).view.read (Elt Ideal) X := by
  funext j
  show X j = X (((cfg0.win 5).blk t).view.emb j)
  rw [emb5]
theorem cut6_eq (t : Fin cfg0.N) (X : Vec Ideal S4x2x4096x128 .i8) :
    (cfg0.win 6).cut (grid0.coords t) X = ((cfg0.win 6).blk t).view.read (Elt Ideal) X := by
  funext j
  show X j = X (((cfg0.win 6).blk t).view.emb j)
  rw [emb6]
theorem cut7_eq (t : Fin cfg0.N) (X : Vec Ideal S4x2x64 .f32) :
    (cfg0.win 7).cut (grid0.coords t) X = ((cfg0.win 7).blk t).view.read (Elt Ideal) X := by
  funext j
  show X j = X (((cfg0.win 7).blk t).view.emb j)
  rw [emb7]
theorem cut8_eq (t : Fin cfg0.N) (X : Vec Ideal S4x2x4096x128 .fp8e4m3) :
    (cfg0.win 8).cut (grid0.coords t) X = ((cfg0.win 8).blk t).view.read (Elt Ideal) X := by
  funext j
  show X j = X (((cfg0.win 8).blk t).view.emb j)
  rw [emb8]
theorem cut9_eq (t : Fin cfg0.N) (X : Vec Ideal S4x2x128 .f32) :
    (cfg0.win 9).cut (grid0.coords t) X = ((cfg0.win 9).blk t).view.read (Elt Ideal) X := by
  funext j
  show X j = X (((cfg0.win 9).blk t).view.emb j)
  rw [emb9]

/-- What the point writes back is the result. -/
theorem flushed5_eq (t : Fin cfg0.N) : (dats m 0 c).flushed 5 t = ((cfg0.win 5).blk t).view.read (Elt Ideal) (G5 (args m c)) := by
  show (cfg0.win 5).cut (grid0.coords t) ((dats m 0 c).after 5 t) = _
  rw [after0_5, iblk0_eq, iblk1_eq, iblk2_eq, iblk3_eq, iblk4_eq, out5_eq]
  exact cut5_eq t _
theorem flushed6_eq (t : Fin cfg0.N) : (dats m 0 c).flushed 6 t = ((cfg0.win 6).blk t).view.read (Elt Ideal) (G6 (args m c)) := by
  show (cfg0.win 6).cut (grid0.coords t) ((dats m 0 c).after 6 t) = _
  rw [after0_6, iblk0_eq, iblk1_eq, iblk2_eq, iblk3_eq, iblk4_eq, out6_eq]
  exact cut6_eq t _
theorem flushed7_eq (t : Fin cfg0.N) : (dats m 0 c).flushed 7 t = ((cfg0.win 7).blk t).view.read (Elt Ideal) (G7 (args m c)) := by
  show (cfg0.win 7).cut (grid0.coords t) ((dats m 0 c).after 7 t) = _
  rw [after0_7, iblk0_eq, iblk1_eq, iblk2_eq, iblk3_eq, iblk4_eq, out7_eq]
  exact cut7_eq t _
theorem flushed8_eq (t : Fin cfg0.N) : (dats m 0 c).flushed 8 t = ((cfg0.win 8).blk t).view.read (Elt Ideal) (G8 (args m c)) := by
  show (cfg0.win 8).cut (grid0.coords t) ((dats m 0 c).after 8 t) = _
  rw [after0_8, iblk0_eq, iblk1_eq, iblk2_eq, iblk3_eq, iblk4_eq, out8_eq]
  exact cut8_eq t _
theorem flushed9_eq (t : Fin cfg0.N) : (dats m 0 c).flushed 9 t = ((cfg0.win 9).blk t).view.read (Elt Ideal) (G9 (args m c)) := by
  show (cfg0.win 9).cut (grid0.coords t) ((dats m 0 c).after 9 t) = _
  rw [after0_9, iblk0_eq, iblk1_eq, iblk2_eq, iblk3_eq, iblk4_eq, out9_eq]
  exact cut9_eq t _

/-- Every index is in the point's block. -/
theorem covered5 (i : S4x2x128.Idx) : ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩
theorem covered6 (i : S4x2x4096x128.Idx) : ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩
theorem covered7 (i : S4x2x64.Idx) : ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩
theorem covered8 (i : S4x2x4096x128.Idx) : ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩
theorem covered9 (i : S4x2x128.Idx) : ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- The arrays after the run. -/
theorem final5 : (dats m 0 c).arrAt 5 cfg0.N = G5 (args m c) :=
  (dats m 0 c).arrAt_eq_of_cover 5 (G5 (args m c)) (fun t _ => flushed5_eq m c t) covered5
theorem final6 : (dats m 0 c).arrAt 6 cfg0.N = G6 (args m c) :=
  (dats m 0 c).arrAt_eq_of_cover 6 (G6 (args m c)) (fun t _ => flushed6_eq m c t) covered6
theorem final7 : (dats m 0 c).arrAt 7 cfg0.N = G7 (args m c) :=
  (dats m 0 c).arrAt_eq_of_cover 7 (G7 (args m c)) (fun t _ => flushed7_eq m c t) covered7
theorem final8 : (dats m 0 c).arrAt 8 cfg0.N = G8 (args m c) :=
  (dats m 0 c).arrAt_eq_of_cover 8 (G8 (args m c)) (fun t _ => flushed8_eq m c t) covered8
theorem final9 : (dats m 0 c).arrAt 9 cfg0.N = G9 (args m c) :=
  (dats m 0 c).arrAt_eq_of_cover 9 (G9 (args m c)) (fun t _ => flushed9_eq m c t) covered9

/-- The run, read. -/
theorem run : θ_run defs (onTc (τ := τ) (main (F := Ideal))) ⟨m, fun _ => 0, ρ⟩ fun r => ∀ c : Dev nD,
      r.2.mem ((c : Thread nD τ).loc main_v0_0) = G5 (args m c)
      ∧ r.2.mem ((c : Thread nD τ).loc main_v0_1) = G6 (args m c)
      ∧ r.2.mem ((c : Thread nD τ).loc main_v0_2) = G7 (args m c)
      ∧ r.2.mem ((c : Thread nD τ).loc main_v0_3) = G8 (args m c)
      ∧ r.2.mem ((c : Thread nD τ).loc main_v0_4) = G9 (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 5).trans (final5 m c), ((h c).1 6).trans (final6 m c), ((h c).1 7).trans (final7 m c), ((h c).1 8).trans (final8 m c), ((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.KvCodesRefIdeal.Value

end
-- ==== Proof.KvCodesRef.lean ====
/- THE REFERENCE OF THE KEY AND VALUE QUANTISERS computes the functions of KvCodesMath.lean, and so does the kernel: the claim. -/
module

public import proofs.«01_k».proof.Proof.KvCodesArray
public import proofs.«01_k».proof.Proof.KvCodesRefRun
public import proofs.«01_k».proof.Defs

@[expose] public section

set_option maxRecDepth 16384

noncomputable section

namespace Cert.Proof.KvCodes

open Cert.KvCodesRefIdeal Cert.KvCodesRefIdeal.Gen Idealize.ShloMosaic
open scoped BigOperators

/-- Dropping a block's two axes. -/
theorem drop5 (b : Fin 4) (h : Fin 2) (j r : Fin 64) (d : Fin 128) : reduces_S4x2x64x64x128_S4x2x64.drop (ix5 b h j r d) = ix3 b h j :=
  funext fun a => match a with
    | ⟨0, _⟩ => rfl
    | ⟨1, _⟩ => rfl
    | ⟨2, _⟩ => rfl

/-- The largest magnitude of each block of 64 positions, taken over both axes at once. -/
theorem block_top (g : FVec Ideal S4x2x64x64x128 .f32) (b : Fin 4) (h : Fin 2) (j : Fin 64) :
    multiReduction (F := Ideal) .maximumf [3, 4] S4x2x64 (absf g) 0xFF800000#32 reduces_S4x2x64x64x128_S4x2x64 (.inl rfl) rfl (ix3 b h j)
      = top8 fun r d => g (ix5 b h j r d) := by
  have e : multiReduction (F := Ideal) .maximumf [3, 4] S4x2x64 (absf g) 0xFF800000#32 reduces_S4x2x64x64x128_S4x2x64 (.inl rfl) rfl (ix3 b h j)
      = Finset.fold max (Ideal.ofBits FTy.f32 0xFF800000#32) (fun x => mag (g x)) {i | reduces_S4x2x64x64x128_S4x2x64.drop i = ix3 b h j} := by
    pointwise [mag]
    rfl
  rw [e]
  refine eq_of_forall_ge_iff fun c => ?_
  unfold top8
  simp only [Finset.fold_max_le, Finset.mem_univ, true_implies, Finset.mem_filter, true_and]
  constructor
  · exact fun H => ⟨H.1, fun d => ⟨H.1, fun r => H.2 _ (drop5 b h j r d)⟩⟩
  · refine fun H => ⟨H.1, fun y hy => ?_⟩
    obtain ⟨b', h', j', r, d, rfl⟩ : ∃ (b' : Fin 4) (h' : Fin 2) (j' r : Fin 64) (d : Fin 128), y = ix5 b' h' j' r d :=
      ⟨y 0, y 1, y 2, y 3, y 4, eq_ix5 y⟩
    rw [drop5] at hy
    obtain rfl : b' = b := congrFun hy 0
    obtain rfl : h' = h := congrFun hy 1
    obtain rfl : j' = j := congrFun hy 2
    exact (H.2 d).2 r

variable (A : Args) (b : Fin 4) (h : Fin 2)

/-- The scale of each maximum. -/
theorem scale8_apply (M : FVec Ideal S4x2x64 .f32) (j : Fin 64) :
    select (cmpf .oeq M (broadcast S4x2x64 (Scalar.ofBits .f32 0x00000000#32))) (broadcast S4x2x64 (Scalar.ofBits .f32 0x3F800000#32)) (divf M (broadcast S4x2x64 (Scalar.ofBits .f32 0x42FE0000#32))) (ix3 b h j)
      = scale8 (M (ix3 b h j)) := by
  pointwise [scale8]
/-- Codes: the quotients by the blocks' scales, rounded and clipped, by position. -/
theorem code8_apply (g : FVec Ideal S4x2x64x64x128 .f32) (w : FVec Ideal S4x2x64 .f32) (s : Fin 4096) (d : Fin 128) :
    shapeCast S4x2x4096x128 (fptosi 8 (minimumf (broadcast S4x2x64x64x128 (Scalar.ofBits .f32 0x42FE0000#32)) (maximumf (broadcast S4x2x64x64x128 (Scalar.ofBits .f32 0xC2FE0000#32))
      (roundeven (divf g (broadcastTo S4x2x64x64x128 (shapeCast S4x2x64x1x1 w shapeCasts_S4x2x64_S4x2x64x1x1) broadcasts_S4x2x64x1x1_S4x2x64x64x128)))))) shapeCasts_S4x2x64x64x128_S4x2x4096x128 (ix4 b h s d)
    = code8 (g (ix5 b h ⟨s.val / 64, by omega⟩ ⟨s.val % 64, by omega⟩ d)) (w (ix3 b h ⟨s.val / 64, by omega⟩)) := by
  have hs := s.isLt
  pointwise [code8]

/-- The mean keys, -/
theorem ref_mean (d : Fin 128) : k0_pay3 (F := Ideal) A.ks A.len (ix3 b h d) = mean A b h d := by
  pointwise [k0_pay3, mean]
  rfl
/-- the keys less their mean, by block, -/
theorem ref_diff (j r : Fin 64) (d : Fin 128) : k0_pay4 (F := Ideal) A.ks A.len A.k (ix5 b h j r d) = diff A b h (at64 j r) d := by
  pointwise [k0_pay4, k0_pay3, diff, mean, at64]
  rfl
/-- the blocks' scales, -/
theorem ref_kscale (j : Fin 64) : k0_pay5 (F := Ideal) A.ks A.len A.k (ix3 b h j) = kscale A b h j := by
  have e := ref_diff A b h j
  unfold k0_pay5
  generalize k0_pay4 (F := Ideal) A.ks A.len A.k = g at e
  refine (scale8_apply b h _ j).trans ?_
  rw [block_top]
  unfold kscale
  simp only [← e]
/-- and the keys' codes. -/
theorem ref_kcode (s : Fin 4096) (d : Fin 128) : k0_pay6 (F := Ideal) A.ks A.len A.k (ix4 b h s d) = kcode A b h s d := by
  have hs := s.isLt
  have e' : at64 ⟨s.val / 64, by omega⟩ ⟨s.val % 64, by omega⟩ = s := Fin.ext (by show s.val / 64 * 64 + s.val % 64 = s.val; omega)
  unfold k0_pay6
  refine (code8_apply b h _ _ s d).trans ?_
  rw [ref_diff, ref_kscale, e']
  rfl
/-- The channels' scales of the values, -/
theorem ref_vscale (d : Fin 128) : k0_pay1 (F := Ideal) (k0_pay7 A.vm) (k0_pay8 A.vm) k0_pay9 (ix3 b h d) = vscale A b h d := by
  pointwise [k0_pay1, k0_pay7, k0_pay8, k0_pay9, vscale, scaleOf]
/-- and the values' codes. -/
theorem ref_vcode (s : Fin 4096) (d : Fin 128) : k0_pay2 (F := Ideal) A.v (k0_pay7 A.vm) (k0_pay8 A.vm) k0_pay9 (ix4 b h s d) = vcode A b h s d := by
  have e := ref_vscale A b h d
  unfold k0_pay2 vcode
  generalize k0_pay1 (F := Ideal) (k0_pay7 A.vm) (k0_pay8 A.vm) k0_pay9 = w at e
  rw [← e]
  pointwise [code]

/-- The reference's five results. -/
theorem ref_meanArr : Value.G5 A = meanArr A := by
  funext y
  obtain ⟨b, h, d, rfl⟩ : ∃ (b : Fin 4) (h : Fin 2) (d : Fin 128), y = ix3 b h d := ⟨y 0, y 1, y 2, eq_ix3 y⟩
  exact ref_mean A b h d
theorem ref_kcodesArr : Value.G6 A = kcodesArr A := by
  funext y
  obtain ⟨b, h, s, d, rfl⟩ : ∃ (b : Fin 4) (h : Fin 2) (s : Fin 4096) (d : Fin 128), y = ix4 b h s d := ⟨y 0, y 1, y 2, y 3, eq_ix4 y⟩
  exact ref_kcode A b h s d
theorem ref_kscalesArr : Value.G7 A = kscalesArr A := by
  funext y
  obtain ⟨b, h, j, rfl⟩ : ∃ (b : Fin 4) (h : Fin 2) (j : Fin 64), y = ix3 b h j := ⟨y 0, y 1, y 2, eq_ix3 y⟩
  exact ref_kscale A b h j
theorem ref_vcodesArr : Value.G8 A = vcodesArr A := by
  funext y
  obtain ⟨b, h, s, d, rfl⟩ : ∃ (b : Fin 4) (h : Fin 2) (s : Fin 4096) (d : Fin 128), y = ix4 b h s d := ⟨y 0, y 1, y 2, y 3, eq_ix4 y⟩
  exact ref_vcode A b h s d
theorem ref_vscalesArr : Value.G9 A = vscalesArr A := by
  funext y
  obtain ⟨b, h, d, rfl⟩ : ∃ (b : Fin 4) (h : Fin 2) (d : Fin 128), y = ix3 b h d := ⟨y 0, y 1, y 2, eq_ix3 y⟩
  exact ref_vscale A b h d

open Idealize.ShloMosaic.TcCoe Idealize.SL.Sem in
/-- The kernel and the reference compute the same extended reals. -/
theorem algebraic : Cert.algebraic_KvCodesIdeal_KvCodesRefIdeal := by
  intro m ρ m' ρ' _ hagree
  refine ⟨_, _, _, _, _, run m ρ, ?_⟩
  have ha (c : Dev Cert.KvCodesIdeal.nD) : Value.args m' c = args m c := by
    obtain ⟨e0, e1, e2, e3, e4, e5⟩ := hagree c
    unfold Value.args args
    rw [e0, e1, e2, e3, e4]
  refine (θ_run Cert.KvCodesRefIdeal.defs _ _).mono (fun _ h c => ⟨(h c).1.trans ?_, (h c).2.1.trans ?_, (h c).2.2.1.trans ?_, (h c).2.2.2.1.trans ?_,
    (h c).2.2.2.2.1.trans ?_, (h c).2.2.2.2.2⟩) (Value.run m' ρ')
  · rw [ha c]
    exact ref_meanArr (args m c)
  · rw [ha c]
    exact ref_kcodesArr (args m c)
  · rw [ha c]
    exact ref_kscalesArr (args m c)
  · rw [ha c]
    exact ref_vcodesArr (args m c)
  · rw [ha c]
    exact ref_vscalesArr (args m c)

end Cert.Proof.KvCodes

end
-- ==== Proof.QkvWindows.lean ====
/- THE WINDOWS OF THE QUERY, KEY AND VALUE PROJECTION, in Qkv: the points at which each result is written back, the table of lengths as
   the body is handed it, and each operand's block at a point. -/
module

public import proofs.«01_k».proof.Proof.Gen.Qkv.Launch
public import proofs.«01_k».proof.Proof.Gen.Qkv.Skeleton
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

noncomputable section

namespace Cert.Qkv.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.Qkv Cert.Qkv.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 7 (result 0) is written back at every point. -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 1 (fun _ => rfl) (by decide)) (P := 1) (m := 0) (by decide) rfl t).mpr (Nat.mod_one _) : ∀ t : Fin grid0.N, Pipeline.Window.flushOf grid0 true cc0_transform_7 t = true)
/-- Window 8 (result 1) is written back at the last point only. -/
theorem flush0_8 (a : (pcfg0 (F := F)).Adm) : ∀ t : Fin (cfg0 a).N, ((cfg0 a).win 8).flush t = true ↔ t.val % 32 = 31 :=
  (by decide +kernel : ∀ t : Fin grid0.N, Pipeline.Window.flushOf grid0 true cc0_transform_8 t = true ↔ t.val % 32 = 31)
/-- Window 9 (result 2) is written back at the points ≡ 7 (mod 8). -/
theorem flush0_9 (a : (pcfg0 (F := F)).Adm) : ∀ t : Fin (cfg0 a).N, ((cfg0 a).win 9).flush t = true ↔ t.val % 8 = 7 :=
  (fun t => Pipeline.Window.flushOf_reads cc0_transform_9 reads0_9 hreads0_9 0 (by decide) (by decide) (Pipeline.Window.sep_of_coord cc0_transform_9 0 0 (fun _ => rfl) (by decide)) (P := 8) (m := 7) (by decide) rfl t : ∀ t : Fin grid0.N, Pipeline.Window.flushOf grid0 true cc0_transform_9 t = true ↔ t.val % 8 = 7)
/-- Window 10 (result 3) is written back at every point. -/
theorem flush0_10 (a : (pcfg0 (F := F)).Adm) : ∀ t : Fin (cfg0 a).N, ((cfg0 a).win 10).flush t = true :=
  (fun t => (Pipeline.Window.flushOf_reads cc0_transform_10 reads0_10 hreads0_10 1 (by decide) (by decide) (Pipeline.Window.sep_of_coord cc0_transform_10 1 2 (fun _ => rfl) (by decide)) (P := 1) (m := 0) (by decide) rfl t).mpr (Nat.mod_one _) : ∀ t : Fin grid0.N, Pipeline.Window.flushOf grid0 true cc0_transform_10 t = true)
/-- Window 11 (result 4) is written back at the points ≡ 7 (mod 8). -/
theorem flush0_11 (a : (pcfg0 (F := F)).Adm) : ∀ t : Fin (cfg0 a).N, ((cfg0 a).win 11).flush t = true ↔ t.val % 8 = 7 :=
  (fun t => Pipeline.Window.flushOf_reads cc0_transform_11 reads0_11 hreads0_11 0 (by decide) (by decide) (Pipeline.Window.sep_of_coord cc0_transform_11 0 0 (fun _ => rfl) (by decide)) (P := 8) (m := 7) (by decide) rfl t : ∀ t : Fin grid0.N, Pipeline.Window.flushOf grid0 true cc0_transform_11 t = true ↔ t.val % 8 = 7)
/-- Window 12 (result 5) is written back at every point. -/
theorem flush0_12 (a : (pcfg0 (F := F)).Adm) : ∀ t : Fin (cfg0 a).N, ((cfg0 a).win 12).flush t = true :=
  (fun t => (Pipeline.Window.flushOf_reads cc0_transform_12 reads0_12 hreads0_12 1 (by decide) (by decide) (Pipeline.Window.sep_of_coord cc0_transform_12 1 2 (fun _ => rfl) (by decide)) (P := 1) (m := 0) (by decide) rfl t).mpr (Nat.mod_one _) : ∀ t : Fin grid0.N, Pipeline.Window.flushOf grid0 true cc0_transform_12 t = true)
/-- Window 13 (result 6) is written back at every point. -/
theorem flush0_13 (a : (pcfg0 (F := F)).Adm) : ∀ t : Fin (cfg0 a).N, ((cfg0 a).win 13).flush t = true :=
  (fun t => (Pipeline.Window.flushOf_reads cc0_transform_13 reads0_13 hreads0_13 1 (by decide) (by decide) (Pipeline.Window.sep_of_coord cc0_transform_13 1 2 (fun _ => rfl) (by decide)) (P := 1) (m := 0) (by decide) rfl t).mpr (Nat.mod_one _) : ∀ t : Fin grid0.N, Pipeline.Window.flushOf grid0 true cc0_transform_13 t = true)
/-- Window 14 (result 7) is written back at the points ≡ 7 (mod 8). -/
theorem flush0_14 (a : (pcfg0 (F := F)).Adm) : ∀ t : Fin (cfg0 a).N, ((cfg0 a).win 14).flush t = true ↔ t.val % 8 = 7 :=
  (fun t => Pipeline.Window.flushOf_reads cc0_transform_14 reads0_14 hreads0_14 0 (by decide) (by decide) (Pipeline.Window.sep_of_coord cc0_transform_14 0 0 (fun _ => rfl) (by decide)) (P := 8) (m := 7) (by decide) rfl t : ∀ t : Fin grid0.N, Pipeline.Window.flushOf grid0 true cc0_transform_14 t = true ↔ t.val % 8 = 7)
/-- Window 15 (result 8) is written back at the points ≡ 7 (mod 8). -/
theorem flush0_15 (a : (pcfg0 (F := F)).Adm) : ∀ t : Fin (cfg0 a).N, ((cfg0 a).win 15).flush t = true ↔ t.val % 8 = 7 :=
  (fun t => Pipeline.Window.flushOf_reads cc0_transform_15 reads0_15 hreads0_15 0 (by decide) (by decide) (Pipeline.Window.sep_of_coord cc0_transform_15 0 0 (fun _ => rfl) (by decide)) (P := 8) (m := 7) (by decide) rfl t : ∀ t : Fin grid0.N, Pipeline.Window.flushOf grid0 true cc0_transform_15 t = true ↔ t.val % 8 = 7)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)
abbrev st0_14 (a : (pcfg0 (F := F)).Adm) (t : Fin (cfg0 a).N) := ((cfg0 a).win 14).stage ((cfg0 a).slots t 14)
abbrev st0_15 (a : (pcfg0 (F := F)).Adm) (t : Fin (cfg0 a).N) := ((cfg0 a).win 15).stage ((cfg0 a).slots t 15)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_qkv_proj (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15))

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- No index map reads the table, so the pipeline's side condition of its contents says nothing: they are admissible. -/
abbrev adm : (pcfg0 (F := F)).Adm := ⟨tbl m, trivial⟩
abbrev cfgM : Pipeline.Cfg sig Λ₀ := cfg0 (adm m)

/-- Each table as the body is handed it: its whole buffer as a memref, and that memref's wholeness. -/
abbrev tbM0_0 : Memref sig .tc .smem S4 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`)  -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Input window 0's current buffer holds its block at every point, when the body leaves the block in place. -/
theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, when the body leaves the block in place. -/
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, when the body leaves the block in place. -/
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, when the body leaves the block in place. -/
theorem before0_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, when the body leaves the block in place. -/
theorem before0_4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, when the body leaves the block in place. -/
theorem before0_5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, when the body leaves the block in place. -/
theorem before0_6_of {c : Dev nD} (dat : Dat τ (Elt F) Unit ℕ (UR sig nD τ) ℕ (cfgM m) c) (hA : dat.A 6 = V m c (Pipeline.arrRef spec0 6))
    (hafter : ∀ t, dat.after 6 t = iblk m c 6 t) (t : Fin (cfgM m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, spelled as the pipeline passes it (`bodyAt0`), and its wholeness. -/
abbrev ms0_0 (t : Fin (cfgM m).N) : Memref sig .tc .vmem S1x512x3584 .bf16 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S1x3584 .f32 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S3584x2304 .fp8e4m3 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S1x2304 .f32 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S1x2304 .f32 := spec0_4.stage ((cfgM m).slots t 4)
abbrev hs0_4 (t : Fin (cfgM m).N) : (ms0_4 m t).IsWhole := hstage0_4 (((cfgM m).slots t 4).cast nbuf0_4)
abbrev ms0_5 (t : Fin (cfgM m).N) : Memref sig .tc .vmem S1x64x512 .f32 := spec0_5.stage ((cfgM m).slots t 5)
abbrev hs0_5 (t : Fin (cfgM m).N) : (ms0_5 m t).IsWhole := hstage0_5 (((cfgM m).slots t 5).cast nbuf0_5)
abbrev ms0_6 (t : Fin (cfgM m).N) : Memref sig .tc .vmem S1x64x512 .f32 := spec0_6.stage ((cfgM m).slots t 6)
abbrev hs0_6 (t : Fin (cfgM m).N) : (ms0_6 m t).IsWhole := hstage0_6 (((cfgM m).slots t 6).cast nbuf0_6)
abbrev ms0_7 (t : Fin (cfgM m).N) : Memref sig .tc .vmem S1x512x3584 .fp8e4m3 := spec0_7.stage ((cfgM m).slots t 7)
abbrev hs0_7 (t : Fin (cfgM m).N) : (ms0_7 m t).IsWhole := hstage0_7 (((cfgM m).slots t 7).cast nbuf0_7)
abbrev ms0_8 (t : Fin (cfgM m).N) : Memref sig .tc .vmem S4x4096 .f32 := spec0_8.stage ((cfgM m).slots t 8)
abbrev hs0_8 (t : Fin (cfgM m).N) : (ms0_8 m t).IsWhole := hstage0_8 (((cfgM m).slots t 8).cast nbuf0_8)
abbrev ms0_9 (t : Fin (cfgM m).N) : Memref sig .tc .vmem S1x14x32x128 .f32 := spec0_9.stage ((cfgM m).slots t 9)
abbrev hs0_9 (t : Fin (cfgM m).N) : (ms0_9 m t).IsWhole := hstage0_9 (((cfgM m).slots t 9).cast nbuf0_9)
abbrev ms0_10 (t : Fin (cfgM m).N) : Memref sig .tc .vmem S1x14x512x128 .i8 := spec0_10.stage ((cfgM m).slots t 10)
abbrev hs0_10 (t : Fin (cfgM m).N) : (ms0_10 m t).IsWhole := hstage0_10 (((cfgM m).slots t 10).cast nbuf0_10)
abbrev ms0_11 (t : Fin (cfgM m).N) : Memref sig .tc .vmem S1x14x128 .f32 := spec0_11.stage ((cfgM m).slots t 11)
abbrev hs0_11 (t : Fin (cfgM m).N) : (ms0_11 m t).IsWhole := hstage0_11 (((cfgM m).slots t 11).cast nbuf0_11)
abbrev ms0_12 (t : Fin (cfgM m).N) : Memref sig .tc .vmem S1x2x512x128 .f32 := spec0_12.stage ((cfgM m).slots t 12)
abbrev hs0_12 (t : Fin (cfgM m).N) : (ms0_12 m t).IsWhole := hstage0_12 (((cfgM m).slots t 12).cast nbuf0_12)
abbrev ms0_13 (t : Fin (cfgM m).N) : Memref sig .tc .vmem S1x2x512x128 .f32 := spec0_13.stage ((cfgM m).slots t 13)
abbrev hs0_13 (t : Fin (cfgM m).N) : (ms0_13 m t).IsWhole := hstage0_13 (((cfgM m).slots t 13).cast nbuf0_13)
abbrev ms0_14 (t : Fin (cfgM m).N) : Memref sig .tc .vmem S1x2x128 .f32 := spec0_14.stage ((cfgM m).slots t 14)
abbrev hs0_14 (t : Fin (cfgM m).N) : (ms0_14 m t).IsWhole := hstage0_14 (((cfgM m).slots t 14).cast nbuf0_14)
abbrev ms0_15 (t : Fin (cfgM m).N) : Memref sig .tc .vmem S1x2x128 .f32 := spec0_15.stage ((cfgM m).slots t 15)
abbrev hs0_15 (t : Fin (cfgM m).N) : (ms0_15 m t).IsWhole := hstage0_15 (((cfgM m).slots t 15).cast nbuf0_15)

end Cert.Qkv.Hand

end
-- ==== Proof.QkvBody.lean ====
/- ONE RUN OF THE PROJECTION'S BODY, in Qkv. At a grid point (sequence i 0, row tile i 1) the body normalises and quantises the tile's
   rows, projects them, and for each query head rotates, subtracts the mean query of each 128 rows, and quantises by 32 rows. `run` gives
   the pieces stored into the row codes, the row scales, the mean queries, the query codes and the query scales. The stores into the keys,
   values, key sums and value maxima are run too, but what they leave is not recorded. -/
module

public import proofs.«01_k».proof.Proof.QkvWindows
public import Idealize.ShloMosaic.Lib.Exec

@[expose] public section

set_option maxRecDepth 16384

noncomputable section

namespace Cert.Qkv.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.Qkv Cert.Qkv.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 2000000 in
/-- The run at a point: the pieces stored; only the two scales' depend on what their buffers held. -/
noncomputable def run (c : Dev nD) (i : grid0.Coords) (arg3 : Memref sig .tc .vmem S1x512x3584 .bf16) (harg3 : arg3.IsWhole) (arg4 : Memref sig .tc .vmem S1x3584 .f32) (harg4 : arg4.IsWhole) (arg5 : Memref sig .tc .vmem S3584x2304 .fp8e4m3) (harg5 : arg5.IsWhole) (arg6 : Memref sig .tc .vmem S1x2304 .f32) (harg6 : arg6.IsWhole) (arg7 : Memref sig .tc .vmem S1x2304 .f32) (harg7 : arg7.IsWhole) (arg8 : Memref sig .tc .vmem S1x64x512 .f32) (harg8 : arg8.IsWhole) (arg9 : Memref sig .tc .vmem S1x64x512 .f32) (harg9 : arg9.IsWhole) (arg10 : Memref sig .tc .vmem S1x512x3584 .fp8e4m3) (harg10 : arg10.IsWhole) (arg11 : Memref sig .tc .vmem S4x4096 .f32) (harg11 : arg11.IsWhole) (arg12 : Memref sig .tc .vmem S1x14x32x128 .f32) (harg12 : arg12.IsWhole) (arg13 : Memref sig .tc .vmem S1x14x512x128 .i8) (harg13 : arg13.IsWhole) (arg14 : Memref sig .tc .vmem S1x14x128 .f32) (harg14 : arg14.IsWhole) (arg15 : Memref sig .tc .vmem S1x2x512x128 .f32) (harg15 : arg15.IsWhole) (arg16 : Memref sig .tc .vmem S1x2x512x128 .f32) (harg16 : arg16.IsWhole) (arg17 : Memref sig .tc .vmem S1x2x128 .f32) (harg17 : arg17.IsWhole) (arg18 : Memref sig .tc .vmem S1x2x128 .f32) (harg18 : arg18.IsWhole)
    (x0 : Vec F S1x512x3584 .bf16) (x1 : Vec F S1x3584 .f32) (x2 : Vec F S3584x2304 .fp8e4m3) (x3 : Vec F S1x2304 .f32) (x4 : Vec F S1x2304 .f32) (x5 : Vec F S1x64x512 .f32) (x6 : Vec F S1x64x512 .f32) (xt : TbBuf0 (F := F) c tbM0_0) (y8 : Vec F S4x4096 .f32) (y11 : Vec F S1x14x128 .f32) :
    Σ' (L7 : List (View.Piece (Elt F) S1x512x3584 .fp8e4m3)), Σ' (L8 : List (View.Piece (Elt F) S4x4096 .f32)), Σ' (L9 : List (View.Piece (Elt F) S1x14x32x128 .f32)), Σ' (L10 : List (View.Piece (Elt F) S1x14x512x128 .i8)), { L11 : List (View.Piece (Elt F) S1x14x128 .f32) //
      ∀ (y7 : Vec F S1x512x3584 .fp8e4m3) (y9 : Vec F S1x14x32x128 .f32) (y10 : Vec F S1x14x512x128 .i8) (y12 : Vec F S1x2x512x128 .f32) (y13 : Vec F S1x2x512x128 .f32) (y14 : Vec F S1x2x128 .f32) (y15 : Vec F S1x2x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare y11 ∗ owns (c : Thread nD τ) arg15 fullShare y12 ∗ owns (c : Thread nD τ) arg16 fullShare y13 ∗ owns (c : Thread nD τ) arg17 fullShare y14 ∗ owns (c : Thread nD τ) arg18 fullShare y15 ∗ tbPt0 c tbM0_0 xt
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (arg10.view.loc (c : Thread nD τ) ↦[arg10.view.set]{fullShare} arg10.view.writes (Elt F) (harg10.unread y7) L7) ∗ (arg11.view.loc (c : Thread nD τ) ↦[arg11.view.set]{fullShare} arg11.view.writes (Elt F) (harg11.unread y8) L8) ∗ (arg12.view.loc (c : Thread nD τ) ↦[arg12.view.set]{fullShare} arg12.view.writes (Elt F) (harg12.unread y9) L9) ∗ (arg13.view.loc (c : Thread nD τ) ↦[arg13.view.set]{fullShare} arg13.view.writes (Elt F) (harg13.unread y10) L10) ∗ (arg14.view.loc (c : Thread nD τ) ↦[arg14.view.set]{fullShare} arg14.view.writes (Elt F) (harg14.unread y11) L11) ∗ (∃ f12, arg15.view.loc (c : Thread nD τ) ↦[arg15.view.set]{fullShare} f12) ∗ (∃ f13, arg16.view.loc (c : Thread nD τ) ↦[arg16.view.set]{fullShare} f13) ∗ (∃ f14, arg17.view.loc (c : Thread nD τ) ↦[arg17.view.set]{fullShare} f14) ∗ (∃ f15, arg18.view.loc (c : Thread nD τ) ↦[arg18.view.set]{fullShare} f15) ∗ tbPt0 c tbM0_0 xt) -∗ K ⟨⟩))
          ⊢ wp frame (wpE (defs₀ (F := F)) Variants.none c none) E (cc0_qkv_proj i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun y7 y9 y10 y12 y13 y14 y15 E K => ?run⟩
  case run =>
    simp only [cc0_qkv_proj_eq_skeleton]; unfold cc0_qkv_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    iexact HT0

end Cert.Qkv.Hand

end
-- ==== Proof.QkvFrame.lean ====
/- THE PROJECTION'S RUN, in Qkv. The pipeline's proof data are relational: of each result's window they say only that what a point leaves
   there meets a predicate. (The row scales' window stays in place for the whole run, the mean queries' and the query scales' for a sequence,
   and each is written a part at a time over unknown contents.) `Track` collects the predicates; `Track.Sound` says that the body keeps them;
   `run_track` is the run for every sound track, and `frame` is the frame claim, the track saying nothing. -/
module

public import proofs.«01_k».proof.Proof.QkvBody
public import Idealize.ShloMosaic.Lib.Pipeline.DatRel

@[expose] public section

set_option maxRecDepth 16384

noncomputable section

namespace Cert.Qkv.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.Qkv Cert.Qkv.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves -/

/-- The run at point `t` on the input blocks there. -/
def at_ (c : Dev nD) (t : Fin (cfgM m).N) (y8 : Vec F S4x4096 .f32) (y11 : Vec F S1x14x128 .f32) :=
  run (F := F) c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (ms0_11 m t) (hs0_11 m t) (ms0_12 m t) (hs0_12 m t) (ms0_13 m t) (hs0_13 m t) (ms0_14 m t) (hs0_14 m t) (ms0_15 m t) (hs0_15 m t)
    (iblk m c 0 t) (iblk m c 1 t) (iblk m c 2 t) (iblk m c 3 t) (iblk m c 4 t) (iblk m c 5 t) (iblk m c 6 t) (tbl m 0) y8 y11

/-- The row codes after a point. -/
def codesOut (c : Dev nD) (t : Fin (cfgM m).N) (y7 : Vec F S1x512x3584 .fp8e4m3) (y8 : Vec F S4x4096 .f32) (y11 : Vec F S1x14x128 .f32) : Vec F S1x512x3584 .fp8e4m3 :=
  (ms0_7 m t).view.read (Elt F) ((ms0_7 m t).view.writes (Elt F) ((hs0_7 m t).unread y7) (at_ m c t y8 y11).1)
/-- The row scales after a point. -/
def scalesOut (c : Dev nD) (t : Fin (cfgM m).N) (y8 : Vec F S4x4096 .f32) (y11 : Vec F S1x14x128 .f32) : Vec F S4x4096 .f32 :=
  (ms0_8 m t).view.read (Elt F) ((ms0_8 m t).view.writes (Elt F) ((hs0_8 m t).unread y8) (at_ m c t y8 y11).2.1)
/-- The mean queries after a point. -/
def meanOut (c : Dev nD) (t : Fin (cfgM m).N) (y9 : Vec F S1x14x32x128 .f32) (y8 : Vec F S4x4096 .f32) (y11 : Vec F S1x14x128 .f32) : Vec F S1x14x32x128 .f32 :=
  (ms0_9 m t).view.read (Elt F) ((ms0_9 m t).view.writes (Elt F) ((hs0_9 m t).unread y9) (at_ m c t y8 y11).2.2.1)
/-- The query codes after a point. -/
def qcodesOut (c : Dev nD) (t : Fin (cfgM m).N) (y10 : Vec F S1x14x512x128 .i8) (y8 : Vec F S4x4096 .f32) (y11 : Vec F S1x14x128 .f32) : Vec F S1x14x512x128 .i8 :=
  (ms0_10 m t).view.read (Elt F) ((ms0_10 m t).view.writes (Elt F) ((hs0_10 m t).unread y10) (at_ m c t y8 y11).2.2.2.1)
/-- The query scales after a point. -/
def qscalesOut (c : Dev nD) (t : Fin (cfgM m).N) (y8 : Vec F S4x4096 .f32) (y11 : Vec F S1x14x128 .f32) : Vec F S1x14x128 .f32 :=
  (ms0_11 m t).view.read (Elt F) ((ms0_11 m t).view.writes (Elt F) ((hs0_11 m t).unread y11) (at_ m c t y8 y11).2.2.2.2.1)

/-! ## What is tracked -/

/-- What a point leaves in the row codes, the row scales, the mean queries, the query codes and the query scales. -/
structure Track (F : FTy → Type) [FloatOps F] where
  codes : Fin grid0.N → Vec F S1x512x3584 .fp8e4m3 → Prop
  scales : Fin grid0.N → Vec F S4x4096 .f32 → Prop
  mean : Fin grid0.N → Vec F S1x14x32x128 .f32 → Prop
  qcodes : Fin grid0.N → Vec F S1x14x512x128 .i8 → Prop
  qscales : Fin grid0.N → Vec F S1x14x128 .f32 → Prop

/-- The body keeps what is tracked: at every point but the first (of the run, or of a sequence) the windows that stay in place hold what the
    point before left. -/
structure Track.Sound (T : Dev nD → Track F) : Prop where
  step : ∀ c (t : Fin (cfgM m).N) y7 y8 y9 y10 y11, (∀ h : t.val ≠ 0, (T c).scales ⟨t.val - 1, Nat.lt_of_le_of_lt (Nat.sub_le _ _) t.isLt⟩ y8) →
    (∀ h : t.val % 8 ≠ 0, (T c).mean ⟨t.val - 1, Nat.lt_of_le_of_lt (Nat.sub_le _ _) t.isLt⟩ y9) → (∀ h : t.val % 8 ≠ 0, (T c).qscales ⟨t.val - 1, Nat.lt_of_le_of_lt (Nat.sub_le _ _) t.isLt⟩ y11) →
    (T c).codes t (codesOut m c t y7 y8 y11) ∧ (T c).scales t (scalesOut m c t y8 y11) ∧ (T c).mean t (meanOut m c t y9 y8 y11) ∧ (T c).qcodes t (qcodesOut m c t y10 y8 y11) ∧ (T c).qscales t (qscalesOut m c t y8 y11)

/-! ## The proof data -/

variable (T : Dev nD → Track F)

/-- The windows held to a predicate: the results. -/
def held (w : Fin (cfgM m).W) : Bool := match w with
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

/-- The predicates they are held to. -/
def rel (c : Dev nD) (w : Fin (cfgM m).W) : Fin (cfgM m).N → (((cfgM m).win w).block.Idx → Elt F ((cfgM m).win w).elt) → Prop := match w with
  | ⟨7, _⟩ => (T c).codes
  | ⟨8, _⟩ => (T c).scales
  | ⟨9, _⟩ => (T c).mean
  | ⟨10, _⟩ => (T c).qcodes
  | ⟨11, _⟩ => (T c).qscales
  | _ => fun _ _ => True

/-- The exact part of the proof data: each input's buffer at its block. -/
def dat (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => fun _ => Classical.arbitrary _
    | ⟨8, _⟩ => fun _ => Classical.arbitrary _
    | ⟨9, _⟩ => fun _ => Classical.arbitrary _
    | ⟨10, _⟩ => fun _ => Classical.arbitrary _
    | ⟨11, _⟩ => fun _ => Classical.arbitrary _
    | ⟨12, _⟩ => fun _ => Classical.arbitrary _
    | ⟨13, _⟩ => fun _ => Classical.arbitrary _
    | ⟨14, _⟩ => fun _ => Classical.arbitrary _
    | ⟨15, _⟩ => fun _ => Classical.arbitrary _
    | ⟨n + 16, h⟩ => absurd (show n + 16 < 16 from h) (by omega)
  Φ _ := iprop(Pipeline.ΦA (Val := Elt F) spec0 c ∗ Pipeline.ΦT pre0 (tbl m) c)
  q _ := fullShare
  owed _ := 0

/-- The proof data of the run. -/
def rdat (c : Dev nD) : RDat τ (Elt F) Unit ℕ (UR sig nD τ) ℕ (cfgM m) c := (dat m c).toRRel (held m) (rel m T c)

theorem after0_0 (c : Dev nD) (t : Fin (cfgM m).N) : (dat m c).after 0 t = iblk m c 0 t := by dsimp only [dat]; try rfl
theorem before0_0 (c : Dev nD) (t : Fin (cfgM m).N) (d) : (dat m c).before 0 t d = iblk m c 0 t :=
  before0_0_of m (dat m c) rfl (after0_0 m c) t d
theorem after0_1 (c : Dev nD) (t : Fin (cfgM m).N) : (dat m c).after 1 t = iblk m c 1 t := by dsimp only [dat]; try rfl
theorem before0_1 (c : Dev nD) (t : Fin (cfgM m).N) (d) : (dat m c).before 1 t d = iblk m c 1 t :=
  before0_1_of m (dat m c) rfl (after0_1 m c) t d
theorem after0_2 (c : Dev nD) (t : Fin (cfgM m).N) : (dat m c).after 2 t = iblk m c 2 t := by dsimp only [dat]; try rfl
theorem before0_2 (c : Dev nD) (t : Fin (cfgM m).N) (d) : (dat m c).before 2 t d = iblk m c 2 t :=
  before0_2_of m (dat m c) rfl (after0_2 m c) t d
theorem after0_3 (c : Dev nD) (t : Fin (cfgM m).N) : (dat m c).after 3 t = iblk m c 3 t := by dsimp only [dat]; try rfl
theorem before0_3 (c : Dev nD) (t : Fin (cfgM m).N) (d) : (dat m c).before 3 t d = iblk m c 3 t :=
  before0_3_of m (dat m c) rfl (after0_3 m c) t d
theorem after0_4 (c : Dev nD) (t : Fin (cfgM m).N) : (dat m c).after 4 t = iblk m c 4 t := by dsimp only [dat]; try rfl
theorem before0_4 (c : Dev nD) (t : Fin (cfgM m).N) (d) : (dat m c).before 4 t d = iblk m c 4 t :=
  before0_4_of m (dat m c) rfl (after0_4 m c) t d
theorem after0_5 (c : Dev nD) (t : Fin (cfgM m).N) : (dat m c).after 5 t = iblk m c 5 t := by dsimp only [dat]; try rfl
theorem before0_5 (c : Dev nD) (t : Fin (cfgM m).N) (d) : (dat m c).before 5 t d = iblk m c 5 t :=
  before0_5_of m (dat m c) rfl (after0_5 m c) t d
theorem after0_6 (c : Dev nD) (t : Fin (cfgM m).N) : (dat m c).after 6 t = iblk m c 6 t := by dsimp only [dat]; try rfl
theorem before0_6 (c : Dev nD) (t : Fin (cfgM m).N) (d) : (dat m c).before 6 t d = iblk m c 6 t :=
  before0_6_of m (dat m c) rfl (after0_6 m c) t d

/-- What the body finds in the window of the row scales, but at its first point, is what the point before left there. -/
theorem finds_scales (c : Dev nD) (t : Fin (cfgM m).N) (Y : Vec F S4x4096 .f32) (h : (rdat m T c).Finds 8 t Y) :
    ∀ h : t.val ≠ 0, (T c).scales ⟨t.val - 1, Nat.lt_of_le_of_lt (Nat.sub_le _ _) t.isLt⟩ Y := fun ht => by
  have ht' : t.val ≠ 0 := ht
  have hf : ((cfgM m).win 8).fetch t = false := Window.fetch_out _ rfl t
  rcases ((rdat m T c).finds_of_pos hf ht' Y).mp h with hfl | hl
  · have := (flush0_8 (adm m) _).mp hfl
    have hN : t.val < 32 := t.isLt
    simp only at this
    omega
  · exact (dat m c).toRRel_leaves (w := 8) rfl hl

/-- What the body finds in the window of the mean queries, but at its first point, is what the point before left there. -/
theorem finds_mean (c : Dev nD) (t : Fin (cfgM m).N) (Y : Vec F S1x14x32x128 .f32) (h : (rdat m T c).Finds 9 t Y) :
    ∀ h : t.val % 8 ≠ 0, (T c).mean ⟨t.val - 1, Nat.lt_of_le_of_lt (Nat.sub_le _ _) t.isLt⟩ Y := fun ht => by
  have ht' : t.val ≠ 0 := fun e => ht (by rw [e])
  have hf : ((cfgM m).win 9).fetch t = false := Window.fetch_out _ rfl t
  rcases ((rdat m T c).finds_of_pos hf ht' Y).mp h with hfl | hl
  · have := (flush0_9 (adm m) _).mp hfl
    have hN : t.val < 32 := t.isLt
    simp only at this
    omega
  · exact (dat m c).toRRel_leaves (w := 9) rfl hl

/-- What the body finds in the window of the query scales, but at its first point, is what the point before left there. -/
theorem finds_qscales (c : Dev nD) (t : Fin (cfgM m).N) (Y : Vec F S1x14x128 .f32) (h : (rdat m T c).Finds 11 t Y) :
    ∀ h : t.val % 8 ≠ 0, (T c).qscales ⟨t.val - 1, Nat.lt_of_le_of_lt (Nat.sub_le _ _) t.isLt⟩ Y := fun ht => by
  have ht' : t.val ≠ 0 := fun e => ht (by rw [e])
  have hf : ((cfgM m).win 11).fetch t = false := Window.fetch_out _ rfl t
  rcases ((rdat m T c).finds_of_pos hf ht' Y).mp h with hfl | hl
  · have := (flush0_11 (adm m) _).mp hfl
    have hN : t.val < 32 := t.isLt
    simp only at this
    omega
  · exact (dat m c).toRRel_leaves (w := 11) rfl hl

/-! ## The body obligation -/

/-- What the body is called with at point `t`, -/
def bodyPre (c : Dev nD) (t : Fin (cfgM m).N) : sProp 𝕄 :=
  iprop((dat m c).Φ t.castSucc ∗ (dat m c).owesAt () t.castSucc
    ∗ (∃ d, owns (c : Thread nD τ) (ms0_0 m t) fullShare ((dat m c).before 0 t d))
    ∗ (∃ d, owns (c : Thread nD τ) (ms0_1 m t) fullShare ((dat m c).before 1 t d))
    ∗ (∃ d, owns (c : Thread nD τ) (ms0_2 m t) fullShare ((dat m c).before 2 t d))
    ∗ (∃ d, owns (c : Thread nD τ) (ms0_3 m t) fullShare ((dat m c).before 3 t d))
    ∗ (∃ d, owns (c : Thread nD τ) (ms0_4 m t) fullShare ((dat m c).before 4 t d))
    ∗ (∃ d, owns (c : Thread nD τ) (ms0_5 m t) fullShare ((dat m c).before 5 t d))
    ∗ (∃ d, owns (c : Thread nD τ) (ms0_6 m t) fullShare ((dat m c).before 6 t d))
    ∗ (∃ Y, ⌜(rdat m T c).Finds 7 t Y⌝ ∗ owns (c : Thread nD τ) (ms0_7 m t) fullShare Y)
    ∗ (∃ Y, ⌜(rdat m T c).Finds 8 t Y⌝ ∗ owns (c : Thread nD τ) (ms0_8 m t) fullShare Y)
    ∗ (∃ Y, ⌜(rdat m T c).Finds 9 t Y⌝ ∗ owns (c : Thread nD τ) (ms0_9 m t) fullShare Y)
    ∗ (∃ Y, ⌜(rdat m T c).Finds 10 t Y⌝ ∗ owns (c : Thread nD τ) (ms0_10 m t) fullShare Y)
    ∗ (∃ Y, ⌜(rdat m T c).Finds 11 t Y⌝ ∗ owns (c : Thread nD τ) (ms0_11 m t) fullShare Y)
    ∗ (∃ Y, ⌜(rdat m T c).Finds 12 t Y⌝ ∗ owns (c : Thread nD τ) (ms0_12 m t) fullShare Y)
    ∗ (∃ Y, ⌜(rdat m T c).Finds 13 t Y⌝ ∗ owns (c : Thread nD τ) (ms0_13 m t) fullShare Y)
    ∗ (∃ Y, ⌜(rdat m T c).Finds 14 t Y⌝ ∗ owns (c : Thread nD τ) (ms0_14 m t) fullShare Y)
    ∗ (∃ Y, ⌜(rdat m T c).Finds 15 t Y⌝ ∗ owns (c : Thread nD τ) (ms0_15 m t) fullShare Y))

/-- and what it returns. -/
def bodyPost (c : Dev nD) (t : Fin (cfgM m).N) : sProp 𝕄 :=
  iprop((dat m c).Φ t.succ ∗ (dat m c).owesAt () t.succ
    ∗ owns (c : Thread nD τ) (ms0_0 m t) fullShare ((dat m c).after 0 t)
    ∗ owns (c : Thread nD τ) (ms0_1 m t) fullShare ((dat m c).after 1 t)
    ∗ owns (c : Thread nD τ) (ms0_2 m t) fullShare ((dat m c).after 2 t)
    ∗ owns (c : Thread nD τ) (ms0_3 m t) fullShare ((dat m c).after 3 t)
    ∗ owns (c : Thread nD τ) (ms0_4 m t) fullShare ((dat m c).after 4 t)
    ∗ owns (c : Thread nD τ) (ms0_5 m t) fullShare ((dat m c).after 5 t)
    ∗ owns (c : Thread nD τ) (ms0_6 m t) fullShare ((dat m c).after 6 t)
    ∗ (∃ X, ⌜(T c).codes t X⌝ ∗ owns (c : Thread nD τ) (ms0_7 m t) fullShare X)
    ∗ (∃ X, ⌜(T c).scales t X⌝ ∗ owns (c : Thread nD τ) (ms0_8 m t) fullShare X)
    ∗ (∃ X, ⌜(T c).mean t X⌝ ∗ owns (c : Thread nD τ) (ms0_9 m t) fullShare X)
    ∗ (∃ X, ⌜(T c).qcodes t X⌝ ∗ owns (c : Thread nD τ) (ms0_10 m t) fullShare X)
    ∗ (∃ X, ⌜(T c).qscales t X⌝ ∗ owns (c : Thread nD τ) (ms0_11 m t) fullShare X)
    ∗ (∃ X, ⌜True⌝ ∗ owns (c : Thread nD τ) (ms0_12 m t) fullShare X)
    ∗ (∃ X, ⌜True⌝ ∗ owns (c : Thread nD τ) (ms0_13 m t) fullShare X)
    ∗ (∃ X, ⌜True⌝ ∗ owns (c : Thread nD τ) (ms0_14 m t) fullShare X)
    ∗ (∃ X, ⌜True⌝ ∗ owns (c : Thread nD τ) (ms0_15 m t) fullShare X))

set_option maxHeartbeats 1200000 in
/-- The body at any point, by its run. -/
theorem sound_body (hT : Track.Sound m T) (c : Dev nD) (t : Fin (cfgM m).N) :
    bodyPre m T c t ⊢ wp frame (wpE (defs₀ (F := F)) Variants.none c none) Set.univ (bodyAt0 (adm m) t) (fun _ => bodyPost m T c t) := by
  unfold bodyPre bodyPost bodyAt0
  simp only [before0_0, after0_0, before0_1, after0_1, before0_2, after0_2, before0_3, after0_3, before0_4, after0_4, before0_5, after0_5, before0_6, after0_6]
  rw [show (dat m c).owesAt () t.succ = (dat m c).owesAt () t.castSucc from rfl,
    show (dat m c).Φ t.succ = (dat m c).Φ t.castSucc from rfl]
  rw [show (dat m c).Φ t.castSucc = iprop(Pipeline.ΦA spec0 c ∗ Pipeline.ΦT pre0 (tbl m) c) from rfl, PhiT0_eq]
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%y7, %hy7, H7⟩, ⟨%y8, %hy8, H8⟩, ⟨%y9, %hy9, H9⟩, ⟨%y10, %hy10, H10⟩, ⟨%y11, %hy11, H11⟩, ⟨%y12, %hy12, H12⟩, ⟨%y13, %hy13, H13⟩, ⟨%y14, %hy14, H14⟩, ⟨%y15, %hy15, H15⟩⟩
  obtain ⟨h7, h8, h9, h10, h11⟩ := hT.step c t y7 y8 y9 y10 y11 (finds_scales m T c t y8 hy8) (finds_mean m T c t y9 hy9) (finds_qscales m T c t y11 hy11)
  iapply ((run c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (ms0_11 m t) (hs0_11 m t) (ms0_12 m t) (hs0_12 m t) (ms0_13 m t) (hs0_13 m t) (ms0_14 m t) (hs0_14 m t) (ms0_15 m t) (hs0_15 m t)
    (iblk m c 0 t) (iblk m c 1 t) (iblk m c 2 t) (iblk m c 3 t) (iblk m c 4 t) (iblk m c 5 t) (iblk m c 6 t) (tbl m 0) y8 y11).2.2.2.2.2 y7 y9 y10 y12 y13 y14 y15 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HT0]; · iexact HT0
  iintro ⟨H0, H1, H2, H3, H4, H5, H6, H7, H8, H9, H10, H11, ⟨%g12, H12⟩, ⟨%g13, H13⟩, ⟨%g14, H14⟩, ⟨%g15, H15⟩, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns
  isplitl [H7]
  · iexists (codesOut m c t y7 y8 y11); isplitr; · ipureintro; exact h7
    iexists _; isplitr; swap; · iexact H7
    ipureintro; rfl
  isplitl [H8]
  · iexists (scalesOut m c t y8 y11); isplitr; · ipureintro; exact h8
    iexists _; isplitr; swap; · iexact H8
    ipureintro; rfl
  isplitl [H9]
  · iexists (meanOut m c t y9 y8 y11); isplitr; · ipureintro; exact h9
    iexists _; isplitr; swap; · iexact H9
    ipureintro; rfl
  isplitl [H10]
  · iexists (qcodesOut m c t y10 y8 y11); isplitr; · ipureintro; exact h10
    iexists _; isplitr; swap; · iexact H10
    ipureintro; rfl
  isplitl [H11]
  · iexists (qscalesOut m c t y8 y11); isplitr; · ipureintro; exact h11
    iexists _; isplitr; swap; · iexact H11
    ipureintro; rfl
  isplitl [H12]
  · iexists _; isplitr; · ipureintro; exact trivial
    iexists _; isplitr; swap; · iexact H12
    ipureintro; rfl
  isplitl [H13]
  · iexists _; isplitr; · ipureintro; exact trivial
    iexists _; isplitr; swap; · iexact H13
    ipureintro; rfl
  isplitl [H14]
  · iexists _; isplitr; · ipureintro; exact trivial
    iexists _; isplitr; swap; · iexact H14
    ipureintro; rfl
  · iexists _; isplitr; · ipureintro; exact trivial
    iexists _; isplitr; swap; · iexact H15
    ipureintro; rfl

/-- The body table's row at point `t`'s slots is the body as `bodyAt0` spells it. -/
theorem defs₀_row (t : Fin (cfgM m).N) :
    defs₀ (F := F) .tc (cfgM m).body ((cfgM m).bodyArgs t ((cfgM m).slots t)) = bodyAt0 (adm m) t := by
  unfold defs₀; rw [Defs.onTc_tc]

/-- The library's body obligation, at every point. -/
theorem body_obligation (hT : Track.Sound m T) (c : Dev nD) :
    BodyObligationRel (dat m c) (defs₀ (F := F)) Variants.none () Set.univ (held m) (rel m T c) := fun t => by
  rw [bigSep_W0, bigSep_W0, defs₀_row m]
  exact triple_restated (sound_body m T hT c t) rfl .rfl fun _ => .rfl

/-! ## The run and the frame -/

/-- No array is shared by several windows. -/
theorem share_full (c : Dev nD) : ∀ w, (rdat m T c).share w = fullShare := by
  intro w
  match w with
  | ⟨0, _⟩ | ⟨1, _⟩ | ⟨2, _⟩ | ⟨3, _⟩ | ⟨4, _⟩ | ⟨5, _⟩ | ⟨6, _⟩ | ⟨7, _⟩ | ⟨8, _⟩ | ⟨9, _⟩ | ⟨10, _⟩ | ⟨11, _⟩ | ⟨12, _⟩ | ⟨13, _⟩ | ⟨14, _⟩ | ⟨15, _⟩ => rfl
  | ⟨n + 16, h⟩ => exact absurd (show n + 16 < 16 from h) (by omega)

set_option backward.isDefEq.respectTransparency.types false in
/-- The run, for every sound track: every weakly fair execution of @main terminates, the arrays end at contents the proof data allow,
    and every semaphore counter is zero. -/
theorem run_track (hT : Track.Sound m T) : θ_run defs (onTc (τ := τ) (main (F := F))) (s₀ m ρ)
    (fun r => RDat.FramePost (cfgM m) (rdat m T) (V m) r ∧ r.2.sem = fun _ => 0) :=
  RDat.θ_run_frameP_track (Q' := _) pcfgs (fun _ => adm m) (0 : Fin 1) launch0 defs₀ Variants.none (rdat m T) m ρ main
    (hbody := fun c => (body_obligation m T hT c).toRRel) (hshare := fun c w => share_full m T c w)
    (howed := fun _ _ => rfl) (V := V m) (hmain := hmain m Variants.none) (hA := fun _ _ => rfl) (hpf := V_pre m)
    (hin := fun c => .rfl) (hout := fun c => by
      rw [show (rdat m T c).Φ (Fin.last _) = iprop(Pipeline.ΦA spec0 c ∗ Pipeline.ΦT pre0 (tbl m) c) from rfl]
      iintro ⟨H, -⟩; iexact H) (hQ' := fun _ h => h)

/-- The argument arrays end unchanged. -/
theorem args_of {r} (h : RDat.FramePost (cfgM m) (rdat m T) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(h c).2 main_arg0 (by decide : main_arg0 ∈ Pipeline.restRefs sig spec0), h.arr_in c 0 rfl, h.arr_in c 1 rfl, h.arr_in c 2 rfl, h.arr_in c 3 rfl, h.arr_in c 4 rfl, h.arr_in c 5 rfl, h.arr_in c 6 rfl⟩

/-- The track that says nothing. -/
def Track.nothing : Track F := ⟨fun _ _ => True, fun _ _ => True, fun _ _ => True, fun _ _ => True, fun _ _ => True⟩

theorem Track.nothing_sound : Track.Sound m fun _ => Track.nothing (F := F) :=
  ⟨fun _ _ _ _ _ _ _ _ _ _ => ⟨trivial, trivial, trivial, trivial, trivial⟩⟩

/-- THE FRAME: every weakly fair execution terminates, the argument arrays end unchanged, and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨args_of m _ h.1, h.2⟩) (run_track m ρ _ (Track.nothing_sound m))

end Cert.Qkv.Hand

end
-- ==== Proof.QkvIdealWindows.lean ====
/- THE WINDOWS OF THE QUERY, KEY AND VALUE PROJECTION, in QkvIdeal: the points at which each result is written back, the table of lengths as
   the body is handed it, and each operand's block at a point. -/
module

public import proofs.«01_k».proof.Proof.Gen.QkvIdeal.Launch
public import proofs.«01_k».proof.Proof.Gen.QkvIdeal.Skeleton
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

noncomputable section

namespace Cert.QkvIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.QkvIdeal Cert.QkvIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 7 (result 0) is written back at every point. -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 1 (fun _ => rfl) (by decide)) (P := 1) (m := 0) (by decide) rfl t).mpr (Nat.mod_one _) : ∀ t : Fin grid0.N, Pipeline.Window.flushOf grid0 true cc0_transform_7 t = true)
/-- Window 8 (result 1) is written back at the last point only. -/
theorem flush0_8 (a : (pcfg0 (F := F)).Adm) : ∀ t : Fin (cfg0 a).N, ((cfg0 a).win 8).flush t = true ↔ t.val % 32 = 31 :=
  (by decide +kernel : ∀ t : Fin grid0.N, Pipeline.Window.flushOf grid0 true cc0_transform_8 t = true ↔ t.val % 32 = 31)
/-- Window 9 (result 2) is written back at the points ≡ 7 (mod 8). -/
theorem flush0_9 (a : (pcfg0 (F := F)).Adm) : ∀ t : Fin (cfg0 a).N, ((cfg0 a).win 9).flush t = true ↔ t.val % 8 = 7 :=
  (fun t => Pipeline.Window.flushOf_reads cc0_transform_9 reads0_9 hreads0_9 0 (by decide) (by decide) (Pipeline.Window.sep_of_coord cc0_transform_9 0 0 (fun _ => rfl) (by decide)) (P := 8) (m := 7) (by decide) rfl t : ∀ t : Fin grid0.N, Pipeline.Window.flushOf grid0 true cc0_transform_9 t = true ↔ t.val % 8 = 7)
/-- Window 10 (result 3) is written back at every point. -/
theorem flush0_10 (a : (pcfg0 (F := F)).Adm) : ∀ t : Fin (cfg0 a).N, ((cfg0 a).win 10).flush t = true :=
  (fun t => (Pipeline.Window.flushOf_reads cc0_transform_10 reads0_10 hreads0_10 1 (by decide) (by decide) (Pipeline.Window.sep_of_coord cc0_transform_10 1 2 (fun _ => rfl) (by decide)) (P := 1) (m := 0) (by decide) rfl t).mpr (Nat.mod_one _) : ∀ t : Fin grid0.N, Pipeline.Window.flushOf grid0 true cc0_transform_10 t = true)
/-- Window 11 (result 4) is written back at the points ≡ 7 (mod 8). -/
theorem flush0_11 (a : (pcfg0 (F := F)).Adm) : ∀ t : Fin (cfg0 a).N, ((cfg0 a).win 11).flush t = true ↔ t.val % 8 = 7 :=
  (fun t => Pipeline.Window.flushOf_reads cc0_transform_11 reads0_11 hreads0_11 0 (by decide) (by decide) (Pipeline.Window.sep_of_coord cc0_transform_11 0 0 (fun _ => rfl) (by decide)) (P := 8) (m := 7) (by decide) rfl t : ∀ t : Fin grid0.N, Pipeline.Window.flushOf grid0 true cc0_transform_11 t = true ↔ t.val % 8 = 7)
/-- Window 12 (result 5) is written back at every point. -/
theorem flush0_12 (a : (pcfg0 (F := F)).Adm) : ∀ t : Fin (cfg0 a).N, ((cfg0 a).win 12).flush t = true :=
  (fun t => (Pipeline.Window.flushOf_reads cc0_transform_12 reads0_12 hreads0_12 1 (by decide) (by decide) (Pipeline.Window.sep_of_coord cc0_transform_12 1 2 (fun _ => rfl) (by decide)) (P := 1) (m := 0) (by decide) rfl t).mpr (Nat.mod_one _) : ∀ t : Fin grid0.N, Pipeline.Window.flushOf grid0 true cc0_transform_12 t = true)
/-- Window 13 (result 6) is written back at every point. -/
theorem flush0_13 (a : (pcfg0 (F := F)).Adm) : ∀ t : Fin (cfg0 a).N, ((cfg0 a).win 13).flush t = true :=
  (fun t => (Pipeline.Window.flushOf_reads cc0_transform_13 reads0_13 hreads0_13 1 (by decide) (by decide) (Pipeline.Window.sep_of_coord cc0_transform_13 1 2 (fun _ => rfl) (by decide)) (P := 1) (m := 0) (by decide) rfl t).mpr (Nat.mod_one _) : ∀ t : Fin grid0.N, Pipeline.Window.flushOf grid0 true cc0_transform_13 t = true)
/-- Window 14 (result 7) is written back at the points ≡ 7 (mod 8). -/
theorem flush0_14 (a : (pcfg0 (F := F)).Adm) : ∀ t : Fin (cfg0 a).N, ((cfg0 a).win 14).flush t = true ↔ t.val % 8 = 7 :=
  (fun t => Pipeline.Window.flushOf_reads cc0_transform_14 reads0_14 hreads0_14 0 (by decide) (by decide) (Pipeline.Window.sep_of_coord cc0_transform_14 0 0 (fun _ => rfl) (by decide)) (P := 8) (m := 7) (by decide) rfl t : ∀ t : Fin grid0.N, Pipeline.Window.flushOf grid0 true cc0_transform_14 t = true ↔ t.val % 8 = 7)
/-- Window 15 (result 8) is written back at the points ≡ 7 (mod 8). -/
theorem flush0_15 (a : (pcfg0 (F := F)).Adm) : ∀ t : Fin (cfg0 a).N, ((cfg0 a).win 15).flush t = true ↔ t.val % 8 = 7 :=
  (fun t => Pipeline.Window.flushOf_reads cc0_transform_15 reads0_15 hreads0_15 0 (by decide) (by decide) (Pipeline.Window.sep_of_coord cc0_transform_15 0 0 (fun _ => rfl) (by decide)) (P := 8) (m := 7) (by decide) rfl t : ∀ t : Fin grid0.N, Pipeline.Window.flushOf grid0 true cc0_transform_15 t = true ↔ t.val % 8 = 7)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)
abbrev st0_14 (a : (pcfg0 (F := F)).Adm) (t : Fin (cfg0 a).N) := ((cfg0 a).win 14).stage ((cfg0 a).slots t 14)
abbrev st0_15 (a : (pcfg0 (F := F)).Adm) (t : Fin (cfg0 a).N) := ((cfg0 a).win 15).stage ((cfg0 a).slots t 15)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_qkv_proj (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15))

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- No index map reads the table, so the pipeline's side condition of its contents says nothing: they are admissible. -/
abbrev adm : (pcfg0 (F := F)).Adm := ⟨tbl m, trivial⟩
abbrev cfgM : Pipeline.Cfg sig Λ₀ := cfg0 (adm m)

/-- Each table as the body is handed it: its whole buffer as a memref, and that memref's wholeness. -/
abbrev tbM0_0 : Memref sig .tc .smem S4 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`)  -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Input window 0's current buffer holds its block at every point, when the body leaves the block in place. -/
theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, when the body leaves the block in place. -/
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, when the body leaves the block in place. -/
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, when the body leaves the block in place. -/
theorem before0_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, when the body leaves the block in place. -/
theorem before0_4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, when the body leaves the block in place. -/
theorem before0_5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, when the body leaves the block in place. -/
theorem before0_6_of {c : Dev nD} (dat : Dat τ (Elt F) Unit ℕ (UR sig nD τ) ℕ (cfgM m) c) (hA : dat.A 6 = V m c (Pipeline.arrRef spec0 6))
    (hafter : ∀ t, dat.after 6 t = iblk m c 6 t) (t : Fin (cfgM m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, spelled as the pipeline passes it (`bodyAt0`), and its wholeness. -/
abbrev ms0_0 (t : Fin (cfgM m).N) : Memref sig .tc .vmem S1x512x3584 .bf16 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S1x3584 .f32 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S3584x2304 .fp8e4m3 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S1x2304 .f32 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S1x2304 .f32 := spec0_4.stage ((cfgM m).slots t 4)
abbrev hs0_4 (t : Fin (cfgM m).N) : (ms0_4 m t).IsWhole := hstage0_4 (((cfgM m).slots t 4).cast nbuf0_4)
abbrev ms0_5 (t : Fin (cfgM m).N) : Memref sig .tc .vmem S1x64x512 .f32 := spec0_5.stage ((cfgM m).slots t 5)
abbrev hs0_5 (t : Fin (cfgM m).N) : (ms0_5 m t).IsWhole := hstage0_5 (((cfgM m).slots t 5).cast nbuf0_5)
abbrev ms0_6 (t : Fin (cfgM m).N) : Memref sig .tc .vmem S1x64x512 .f32 := spec0_6.stage ((cfgM m).slots t 6)
abbrev hs0_6 (t : Fin (cfgM m).N) : (ms0_6 m t).IsWhole := hstage0_6 (((cfgM m).slots t 6).cast nbuf0_6)
abbrev ms0_7 (t : Fin (cfgM m).N) : Memref sig .tc .vmem S1x512x3584 .fp8e4m3 := spec0_7.stage ((cfgM m).slots t 7)
abbrev hs0_7 (t : Fin (cfgM m).N) : (ms0_7 m t).IsWhole := hstage0_7 (((cfgM m).slots t 7).cast nbuf0_7)
abbrev ms0_8 (t : Fin (cfgM m).N) : Memref sig .tc .vmem S4x4096 .f32 := spec0_8.stage ((cfgM m).slots t 8)
abbrev hs0_8 (t : Fin (cfgM m).N) : (ms0_8 m t).IsWhole := hstage0_8 (((cfgM m).slots t 8).cast nbuf0_8)
abbrev ms0_9 (t : Fin (cfgM m).N) : Memref sig .tc .vmem S1x14x32x128 .f32 := spec0_9.stage ((cfgM m).slots t 9)
abbrev hs0_9 (t : Fin (cfgM m).N) : (ms0_9 m t).IsWhole := hstage0_9 (((cfgM m).slots t 9).cast nbuf0_9)
abbrev ms0_10 (t : Fin (cfgM m).N) : Memref sig .tc .vmem S1x14x512x128 .i8 := spec0_10.stage ((cfgM m).slots t 10)
abbrev hs0_10 (t : Fin (cfgM m).N) : (ms0_10 m t).IsWhole := hstage0_10 (((cfgM m).slots t 10).cast nbuf0_10)
abbrev ms0_11 (t : Fin (cfgM m).N) : Memref sig .tc .vmem S1x14x128 .f32 := spec0_11.stage ((cfgM m).slots t 11)
abbrev hs0_11 (t : Fin (cfgM m).N) : (ms0_11 m t).IsWhole := hstage0_11 (((cfgM m).slots t 11).cast nbuf0_11)
abbrev ms0_12 (t : Fin (cfgM m).N) : Memref sig .tc .vmem S1x2x512x128 .f32 := spec0_12.stage ((cfgM m).slots t 12)
abbrev hs0_12 (t : Fin (cfgM m).N) : (ms0_12 m t).IsWhole := hstage0_12 (((cfgM m).slots t 12).cast nbuf0_12)
abbrev ms0_13 (t : Fin (cfgM m).N) : Memref sig .tc .vmem S1x2x512x128 .f32 := spec0_13.stage ((cfgM m).slots t 13)
abbrev hs0_13 (t : Fin (cfgM m).N) : (ms0_13 m t).IsWhole := hstage0_13 (((cfgM m).slots t 13).cast nbuf0_13)
abbrev ms0_14 (t : Fin (cfgM m).N) : Memref sig .tc .vmem S1x2x128 .f32 := spec0_14.stage ((cfgM m).slots t 14)
abbrev hs0_14 (t : Fin (cfgM m).N) : (ms0_14 m t).IsWhole := hstage0_14 (((cfgM m).slots t 14).cast nbuf0_14)
abbrev ms0_15 (t : Fin (cfgM m).N) : Memref sig .tc .vmem S1x2x128 .f32 := spec0_15.stage ((cfgM m).slots t 15)
abbrev hs0_15 (t : Fin (cfgM m).N) : (ms0_15 m t).IsWhole := hstage0_15 (((cfgM m).slots t 15).cast nbuf0_15)

end Cert.QkvIdeal.Hand

end
-- ==== Proof.QkvIdealBody.lean ====
/- ONE RUN OF THE PROJECTION'S BODY, in QkvIdeal. At a grid point (sequence i 0, row tile i 1) the body normalises and quantises the tile's
   rows, projects them, and for each query head rotates, subtracts the mean query of each 128 rows, and quantises by 32 rows. `run` gives
   the pieces stored into the row codes, the row scales, the mean queries, the query codes and the query scales. The stores into the keys,
   values, key sums and value maxima are run too, but what they leave is not recorded. -/
module

public import proofs.«01_k».proof.Proof.QkvIdealWindows
public import Idealize.ShloMosaic.Lib.Exec

@[expose] public section

set_option maxRecDepth 16384

noncomputable section

namespace Cert.QkvIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.QkvIdeal Cert.QkvIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 2000000 in
/-- The run at a point: the pieces stored; only the two scales' depend on what their buffers held. -/
noncomputable def run (c : Dev nD) (i : grid0.Coords) (arg3 : Memref sig .tc .vmem S1x512x3584 .bf16) (harg3 : arg3.IsWhole) (arg4 : Memref sig .tc .vmem S1x3584 .f32) (harg4 : arg4.IsWhole) (arg5 : Memref sig .tc .vmem S3584x2304 .fp8e4m3) (harg5 : arg5.IsWhole) (arg6 : Memref sig .tc .vmem S1x2304 .f32) (harg6 : arg6.IsWhole) (arg7 : Memref sig .tc .vmem S1x2304 .f32) (harg7 : arg7.IsWhole) (arg8 : Memref sig .tc .vmem S1x64x512 .f32) (harg8 : arg8.IsWhole) (arg9 : Memref sig .tc .vmem S1x64x512 .f32) (harg9 : arg9.IsWhole) (arg10 : Memref sig .tc .vmem S1x512x3584 .fp8e4m3) (harg10 : arg10.IsWhole) (arg11 : Memref sig .tc .vmem S4x4096 .f32) (harg11 : arg11.IsWhole) (arg12 : Memref sig .tc .vmem S1x14x32x128 .f32) (harg12 : arg12.IsWhole) (arg13 : Memref sig .tc .vmem S1x14x512x128 .i8) (harg13 : arg13.IsWhole) (arg14 : Memref sig .tc .vmem S1x14x128 .f32) (harg14 : arg14.IsWhole) (arg15 : Memref sig .tc .vmem S1x2x512x128 .f32) (harg15 : arg15.IsWhole) (arg16 : Memref sig .tc .vmem S1x2x512x128 .f32) (harg16 : arg16.IsWhole) (arg17 : Memref sig .tc .vmem S1x2x128 .f32) (harg17 : arg17.IsWhole) (arg18 : Memref sig .tc .vmem S1x2x128 .f32) (harg18 : arg18.IsWhole)
    (x0 : Vec F S1x512x3584 .bf16) (x1 : Vec F S1x3584 .f32) (x2 : Vec F S3584x2304 .fp8e4m3) (x3 : Vec F S1x2304 .f32) (x4 : Vec F S1x2304 .f32) (x5 : Vec F S1x64x512 .f32) (x6 : Vec F S1x64x512 .f32) (xt : TbBuf0 (F := F) c tbM0_0) (y8 : Vec F S4x4096 .f32) (y11 : Vec F S1x14x128 .f32) :
    Σ' (L7 : List (View.Piece (Elt F) S1x512x3584 .fp8e4m3)), Σ' (L8 : List (View.Piece (Elt F) S4x4096 .f32)), Σ' (L9 : List (View.Piece (Elt F) S1x14x32x128 .f32)), Σ' (L10 : List (View.Piece (Elt F) S1x14x512x128 .i8)), { L11 : List (View.Piece (Elt F) S1x14x128 .f32) //
      ∀ (y7 : Vec F S1x512x3584 .fp8e4m3) (y9 : Vec F S1x14x32x128 .f32) (y10 : Vec F S1x14x512x128 .i8) (y12 : Vec F S1x2x512x128 .f32) (y13 : Vec F S1x2x512x128 .f32) (y14 : Vec F S1x2x128 .f32) (y15 : Vec F S1x2x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare y11 ∗ owns (c : Thread nD τ) arg15 fullShare y12 ∗ owns (c : Thread nD τ) arg16 fullShare y13 ∗ owns (c : Thread nD τ) arg17 fullShare y14 ∗ owns (c : Thread nD τ) arg18 fullShare y15 ∗ tbPt0 c tbM0_0 xt
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (arg10.view.loc (c : Thread nD τ) ↦[arg10.view.set]{fullShare} arg10.view.writes (Elt F) (harg10.unread y7) L7) ∗ (arg11.view.loc (c : Thread nD τ) ↦[arg11.view.set]{fullShare} arg11.view.writes (Elt F) (harg11.unread y8) L8) ∗ (arg12.view.loc (c : Thread nD τ) ↦[arg12.view.set]{fullShare} arg12.view.writes (Elt F) (harg12.unread y9) L9) ∗ (arg13.view.loc (c : Thread nD τ) ↦[arg13.view.set]{fullShare} arg13.view.writes (Elt F) (harg13.unread y10) L10) ∗ (arg14.view.loc (c : Thread nD τ) ↦[arg14.view.set]{fullShare} arg14.view.writes (Elt F) (harg14.unread y11) L11) ∗ (∃ f12, arg15.view.loc (c : Thread nD τ) ↦[arg15.view.set]{fullShare} f12) ∗ (∃ f13, arg16.view.loc (c : Thread nD τ) ↦[arg16.view.set]{fullShare} f13) ∗ (∃ f14, arg17.view.loc (c : Thread nD τ) ↦[arg17.view.set]{fullShare} f14) ∗ (∃ f15, arg18.view.loc (c : Thread nD τ) ↦[arg18.view.set]{fullShare} f15) ∗ tbPt0 c tbM0_0 xt) -∗ K ⟨⟩))
          ⊢ wp frame (wpE (defs₀ (F := F)) Variants.none c none) E (cc0_qkv_proj i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun y7 y9 y10 y12 y13 y14 y15 E K => ?run⟩
  case run =>
    simp only [cc0_qkv_proj_eq_skeleton]; unfold cc0_qkv_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    iexact HT0

end Cert.QkvIdeal.Hand

end
-- ==== Proof.QkvIdealFrame.lean ====
/- THE PROJECTION'S RUN, in QkvIdeal. The pipeline's proof data are relational: of each result's window they say only that what a point leaves
   there meets a predicate. (The row scales' window stays in place for the whole run, the mean queries' and the query scales' for a sequence,
   and each is written a part at a time over unknown contents.) `Track` collects the predicates; `Track.Sound` says that the body keeps them;
   `run_track` is the run for every sound track, and `frame` is the frame claim, the track saying nothing. -/
module

public import proofs.«01_k».proof.Proof.QkvIdealBody
public import Idealize.ShloMosaic.Lib.Pipeline.DatRel

@[expose] public section

set_option maxRecDepth 16384

noncomputable section

namespace Cert.QkvIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.QkvIdeal Cert.QkvIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves -/

/-- The run at point `t` on the input blocks there. -/
def at_ (c : Dev nD) (t : Fin (cfgM m).N) (y8 : Vec F S4x4096 .f32) (y11 : Vec F S1x14x128 .f32) :=
  run (F := F) c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (ms0_11 m t) (hs0_11 m t) (ms0_12 m t) (hs0_12 m t) (ms0_13 m t) (hs0_13 m t) (ms0_14 m t) (hs0_14 m t) (ms0_15 m t) (hs0_15 m t)
    (iblk m c 0 t) (iblk m c 1 t) (iblk m c 2 t) (iblk m c 3 t) (iblk m c 4 t) (iblk m c 5 t) (iblk m c 6 t) (tbl m 0) y8 y11

/-- The row codes after a point. -/
def codesOut (c : Dev nD) (t : Fin (cfgM m).N) (y7 : Vec F S1x512x3584 .fp8e4m3) (y8 : Vec F S4x4096 .f32) (y11 : Vec F S1x14x128 .f32) : Vec F S1x512x3584 .fp8e4m3 :=
  (ms0_7 m t).view.read (Elt F) ((ms0_7 m t).view.writes (Elt F) ((hs0_7 m t).unread y7) (at_ m c t y8 y11).1)
/-- The row scales after a point. -/
def scalesOut (c : Dev nD) (t : Fin (cfgM m).N) (y8 : Vec F S4x4096 .f32) (y11 : Vec F S1x14x128 .f32) : Vec F S4x4096 .f32 :=
  (ms0_8 m t).view.read (Elt F) ((ms0_8 m t).view.writes (Elt F) ((hs0_8 m t).unread y8) (at_ m c t y8 y11).2.1)
/-- The mean queries after a point. -/
def meanOut (c : Dev nD) (t : Fin (cfgM m).N) (y9 : Vec F S1x14x32x128 .f32) (y8 : Vec F S4x4096 .f32) (y11 : Vec F S1x14x128 .f32) : Vec F S1x14x32x128 .f32 :=
  (ms0_9 m t).view.read (Elt F) ((ms0_9 m t).view.writes (Elt F) ((hs0_9 m t).unread y9) (at_ m c t y8 y11).2.2.1)
/-- The query codes after a point. -/
def qcodesOut (c : Dev nD) (t : Fin (cfgM m).N) (y10 : Vec F S1x14x512x128 .i8) (y8 : Vec F S4x4096 .f32) (y11 : Vec F S1x14x128 .f32) : Vec F S1x14x512x128 .i8 :=
  (ms0_10 m t).view.read (Elt F) ((ms0_10 m t).view.writes (Elt F) ((hs0_10 m t).unread y10) (at_ m c t y8 y11).2.2.2.1)
/-- The query scales after a point. -/
def qscalesOut (c : Dev nD) (t : Fin (cfgM m).N) (y8 : Vec F S4x4096 .f32) (y11 : Vec F S1x14x128 .f32) : Vec F S1x14x128 .f32 :=
  (ms0_11 m t).view.read (Elt F) ((ms0_11 m t).view.writes (Elt F) ((hs0_11 m t).unread y11) (at_ m c t y8 y11).2.2.2.2.1)

/-! ## What is tracked -/

/-- What a point leaves in the row codes, the row scales, the mean queries, the query codes and the query scales. -/
structure Track (F : FTy → Type) [FloatOps F] where
  codes : Fin grid0.N → Vec F S1x512x3584 .fp8e4m3 → Prop
  scales : Fin grid0.N → Vec F S4x4096 .f32 → Prop
  mean : Fin grid0.N → Vec F S1x14x32x128 .f32 → Prop
  qcodes : Fin grid0.N → Vec F S1x14x512x128 .i8 → Prop
  qscales : Fin grid0.N → Vec F S1x14x128 .f32 → Prop

/-- The body keeps what is tracked: at every point but the first (of the run, or of a sequence) the windows that stay in place hold what the
    point before left. -/
structure Track.Sound (T : Dev nD → Track F) : Prop where
  step : ∀ c (t : Fin (cfgM m).N) y7 y8 y9 y10 y11, (∀ h : t.val ≠ 0, (T c).scales ⟨t.val - 1, Nat.lt_of_le_of_lt (Nat.sub_le _ _) t.isLt⟩ y8) →
    (∀ h : t.val % 8 ≠ 0, (T c).mean ⟨t.val - 1, Nat.lt_of_le_of_lt (Nat.sub_le _ _) t.isLt⟩ y9) → (∀ h : t.val % 8 ≠ 0, (T c).qscales ⟨t.val - 1, Nat.lt_of_le_of_lt (Nat.sub_le _ _) t.isLt⟩ y11) →
    (T c).codes t (codesOut m c t y7 y8 y11) ∧ (T c).scales t (scalesOut m c t y8 y11) ∧ (T c).mean t (meanOut m c t y9 y8 y11) ∧ (T c).qcodes t (qcodesOut m c t y10 y8 y11) ∧ (T c).qscales t (qscalesOut m c t y8 y11)

/-! ## The proof data -/

variable (T : Dev nD → Track F)

/-- The windows held to a predicate: the results. -/
def held (w : Fin (cfgM m).W) : Bool := match w with
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

/-- The predicates they are held to. -/
def rel (c : Dev nD) (w : Fin (cfgM m).W) : Fin (cfgM m).N → (((cfgM m).win w).block.Idx → Elt F ((cfgM m).win w).elt) → Prop := match w with
  | ⟨7, _⟩ => (T c).codes
  | ⟨8, _⟩ => (T c).scales
  | ⟨9, _⟩ => (T c).mean
  | ⟨10, _⟩ => (T c).qcodes
  | ⟨11, _⟩ => (T c).qscales
  | _ => fun _ _ => True

/-- The exact part of the proof data: each input's buffer at its block. -/
def dat (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => fun _ => Classical.arbitrary _
    | ⟨8, _⟩ => fun _ => Classical.arbitrary _
    | ⟨9, _⟩ => fun _ => Classical.arbitrary _
    | ⟨10, _⟩ => fun _ => Classical.arbitrary _
    | ⟨11, _⟩ => fun _ => Classical.arbitrary _
    | ⟨12, _⟩ => fun _ => Classical.arbitrary _
    | ⟨13, _⟩ => fun _ => Classical.arbitrary _
    | ⟨14, _⟩ => fun _ => Classical.arbitrary _
    | ⟨15, _⟩ => fun _ => Classical.arbitrary _
    | ⟨n + 16, h⟩ => absurd (show n + 16 < 16 from h) (by omega)
  Φ _ := iprop(Pipeline.ΦA (Val := Elt F) spec0 c ∗ Pipeline.ΦT pre0 (tbl m) c)
  q _ := fullShare
  owed _ := 0

/-- The proof data of the run. -/
def rdat (c : Dev nD) : RDat τ (Elt F) Unit ℕ (UR sig nD τ) ℕ (cfgM m) c := (dat m c).toRRel (held m) (rel m T c)

theorem after0_0 (c : Dev nD) (t : Fin (cfgM m).N) : (dat m c).after 0 t = iblk m c 0 t := by dsimp only [dat]; try rfl
theorem before0_0 (c : Dev nD) (t : Fin (cfgM m).N) (d) : (dat m c).before 0 t d = iblk m c 0 t :=
  before0_0_of m (dat m c) rfl (after0_0 m c) t d
theorem after0_1 (c : Dev nD) (t : Fin (cfgM m).N) : (dat m c).after 1 t = iblk m c 1 t := by dsimp only [dat]; try rfl
theorem before0_1 (c : Dev nD) (t : Fin (cfgM m).N) (d) : (dat m c).before 1 t d = iblk m c 1 t :=
  before0_1_of m (dat m c) rfl (after0_1 m c) t d
theorem after0_2 (c : Dev nD) (t : Fin (cfgM m).N) : (dat m c).after 2 t = iblk m c 2 t := by dsimp only [dat]; try rfl
theorem before0_2 (c : Dev nD) (t : Fin (cfgM m).N) (d) : (dat m c).before 2 t d = iblk m c 2 t :=
  before0_2_of m (dat m c) rfl (after0_2 m c) t d
theorem after0_3 (c : Dev nD) (t : Fin (cfgM m).N) : (dat m c).after 3 t = iblk m c 3 t := by dsimp only [dat]; try rfl
theorem before0_3 (c : Dev nD) (t : Fin (cfgM m).N) (d) : (dat m c).before 3 t d = iblk m c 3 t :=
  before0_3_of m (dat m c) rfl (after0_3 m c) t d
theorem after0_4 (c : Dev nD) (t : Fin (cfgM m).N) : (dat m c).after 4 t = iblk m c 4 t := by dsimp only [dat]; try rfl
theorem before0_4 (c : Dev nD) (t : Fin (cfgM m).N) (d) : (dat m c).before 4 t d = iblk m c 4 t :=
  before0_4_of m (dat m c) rfl (after0_4 m c) t d
theorem after0_5 (c : Dev nD) (t : Fin (cfgM m).N) : (dat m c).after 5 t = iblk m c 5 t := by dsimp only [dat]; try rfl
theorem before0_5 (c : Dev nD) (t : Fin (cfgM m).N) (d) : (dat m c).before 5 t d = iblk m c 5 t :=
  before0_5_of m (dat m c) rfl (after0_5 m c) t d
theorem after0_6 (c : Dev nD) (t : Fin (cfgM m).N) : (dat m c).after 6 t = iblk m c 6 t := by dsimp only [dat]; try rfl
theorem before0_6 (c : Dev nD) (t : Fin (cfgM m).N) (d) : (dat m c).before 6 t d = iblk m c 6 t :=
  before0_6_of m (dat m c) rfl (after0_6 m c) t d

/-- What the body finds in the window of the row scales, but at its first point, is what the point before left there. -/
theorem finds_scales (c : Dev nD) (t : Fin (cfgM m).N) (Y : Vec F S4x4096 .f32) (h : (rdat m T c).Finds 8 t Y) :
    ∀ h : t.val ≠ 0, (T c).scales ⟨t.val - 1, Nat.lt_of_le_of_lt (Nat.sub_le _ _) t.isLt⟩ Y := fun ht => by
  have ht' : t.val ≠ 0 := ht
  have hf : ((cfgM m).win 8).fetch t = false := Window.fetch_out _ rfl t
  rcases ((rdat m T c).finds_of_pos hf ht' Y).mp h with hfl | hl
  · have := (flush0_8 (adm m) _).mp hfl
    have hN : t.val < 32 := t.isLt
    simp only at this
    omega
  · exact (dat m c).toRRel_leaves (w := 8) rfl hl

/-- What the body finds in the window of the mean queries, but at its first point, is what the point before left there. -/
theorem finds_mean (c : Dev nD) (t : Fin (cfgM m).N) (Y : Vec F S1x14x32x128 .f32) (h : (rdat m T c).Finds 9 t Y) :
    ∀ h : t.val % 8 ≠ 0, (T c).mean ⟨t.val - 1, Nat.lt_of_le_of_lt (Nat.sub_le _ _) t.isLt⟩ Y := fun ht => by
  have ht' : t.val ≠ 0 := fun e => ht (by rw [e])
  have hf : ((cfgM m).win 9).fetch t = false := Window.fetch_out _ rfl t
  rcases ((rdat m T c).finds_of_pos hf ht' Y).mp h with hfl | hl
  · have := (flush0_9 (adm m) _).mp hfl
    have hN : t.val < 32 := t.isLt
    simp only at this
    omega
  · exact (dat m c).toRRel_leaves (w := 9) rfl hl

/-- What the body finds in the window of the query scales, but at its first point, is what the point before left there. -/
theorem finds_qscales (c : Dev nD) (t : Fin (cfgM m).N) (Y : Vec F S1x14x128 .f32) (h : (rdat m T c).Finds 11 t Y) :
    ∀ h : t.val % 8 ≠ 0, (T c).qscales ⟨t.val - 1, Nat.lt_of_le_of_lt (Nat.sub_le _ _) t.isLt⟩ Y := fun ht => by
  have ht' : t.val ≠ 0 := fun e => ht (by rw [e])
  have hf : ((cfgM m).win 11).fetch t = false := Window.fetch_out _ rfl t
  rcases ((rdat m T c).finds_of_pos hf ht' Y).mp h with hfl | hl
  · have := (flush0_11 (adm m) _).mp hfl
    have hN : t.val < 32 := t.isLt
    simp only at this
    omega
  · exact (dat m c).toRRel_leaves (w := 11) rfl hl

/-! ## The body obligation -/

/-- What the body is called with at point `t`, -/
def bodyPre (c : Dev nD) (t : Fin (cfgM m).N) : sProp 𝕄 :=
  iprop((dat m c).Φ t.castSucc ∗ (dat m c).owesAt () t.castSucc
    ∗ (∃ d, owns (c : Thread nD τ) (ms0_0 m t) fullShare ((dat m c).before 0 t d))
    ∗ (∃ d, owns (c : Thread nD τ) (ms0_1 m t) fullShare ((dat m c).before 1 t d))
    ∗ (∃ d, owns (c : Thread nD τ) (ms0_2 m t) fullShare ((dat m c).before 2 t d))
    ∗ (∃ d, owns (c : Thread nD τ) (ms0_3 m t) fullShare ((dat m c).before 3 t d))
    ∗ (∃ d, owns (c : Thread nD τ) (ms0_4 m t) fullShare ((dat m c).before 4 t d))
    ∗ (∃ d, owns (c : Thread nD τ) (ms0_5 m t) fullShare ((dat m c).before 5 t d))
    ∗ (∃ d, owns (c : Thread nD τ) (ms0_6 m t) fullShare ((dat m c).before 6 t d))
    ∗ (∃ Y, ⌜(rdat m T c).Finds 7 t Y⌝ ∗ owns (c : Thread nD τ) (ms0_7 m t) fullShare Y)
    ∗ (∃ Y, ⌜(rdat m T c).Finds 8 t Y⌝ ∗ owns (c : Thread nD τ) (ms0_8 m t) fullShare Y)
    ∗ (∃ Y, ⌜(rdat m T c).Finds 9 t Y⌝ ∗ owns (c : Thread nD τ) (ms0_9 m t) fullShare Y)
    ∗ (∃ Y, ⌜(rdat m T c).Finds 10 t Y⌝ ∗ owns (c : Thread nD τ) (ms0_10 m t) fullShare Y)
    ∗ (∃ Y, ⌜(rdat m T c).Finds 11 t Y⌝ ∗ owns (c : Thread nD τ) (ms0_11 m t) fullShare Y)
    ∗ (∃ Y, ⌜(rdat m T c).Finds 12 t Y⌝ ∗ owns (c : Thread nD τ) (ms0_12 m t) fullShare Y)
    ∗ (∃ Y, ⌜(rdat m T c).Finds 13 t Y⌝ ∗ owns (c : Thread nD τ) (ms0_13 m t) fullShare Y)
    ∗ (∃ Y, ⌜(rdat m T c).Finds 14 t Y⌝ ∗ owns (c : Thread nD τ) (ms0_14 m t) fullShare Y)
    ∗ (∃ Y, ⌜(rdat m T c).Finds 15 t Y⌝ ∗ owns (c : Thread nD τ) (ms0_15 m t) fullShare Y))

/-- and what it returns. -/
def bodyPost (c : Dev nD) (t : Fin (cfgM m).N) : sProp 𝕄 :=
  iprop((dat m c).Φ t.succ ∗ (dat m c).owesAt () t.succ
    ∗ owns (c : Thread nD τ) (ms0_0 m t) fullShare ((dat m c).after 0 t)
    ∗ owns (c : Thread nD τ) (ms0_1 m t) fullShare ((dat m c).after 1 t)
    ∗ owns (c : Thread nD τ) (ms0_2 m t) fullShare ((dat m c).after 2 t)
    ∗ owns (c : Thread nD τ) (ms0_3 m t) fullShare ((dat m c).after 3 t)
    ∗ owns (c : Thread nD τ) (ms0_4 m t) fullShare ((dat m c).after 4 t)
    ∗ owns (c : Thread nD τ) (ms0_5 m t) fullShare ((dat m c).after 5 t)
    ∗ owns (c : Thread nD τ) (ms0_6 m t) fullShare ((dat m c).after 6 t)
    ∗ (∃ X, ⌜(T c).codes t X⌝ ∗ owns (c : Thread nD τ) (ms0_7 m t) fullShare X)
    ∗ (∃ X, ⌜(T c).scales t X⌝ ∗ owns (c : Thread nD τ) (ms0_8 m t) fullShare X)
    ∗ (∃ X, ⌜(T c).mean t X⌝ ∗ owns (c : Thread nD τ) (ms0_9 m t) fullShare X)
    ∗ (∃ X, ⌜(T c).qcodes t X⌝ ∗ owns (c : Thread nD τ) (ms0_10 m t) fullShare X)
    ∗ (∃ X, ⌜(T c).qscales t X⌝ ∗ owns (c : Thread nD τ) (ms0_11 m t) fullShare X)
    ∗ (∃ X, ⌜True⌝ ∗ owns (c : Thread nD τ) (ms0_12 m t) fullShare X)
    ∗ (∃ X, ⌜True⌝ ∗ owns (c : Thread nD τ) (ms0_13 m t) fullShare X)
    ∗ (∃ X, ⌜True⌝ ∗ owns (c : Thread nD τ) (ms0_14 m t) fullShare X)
    ∗ (∃ X, ⌜True⌝ ∗ owns (c : Thread nD τ) (ms0_15 m t) fullShare X))

set_option maxHeartbeats 1200000 in
/-- The body at any point, by its run. -/
theorem sound_body (hT : Track.Sound m T) (c : Dev nD) (t : Fin (cfgM m).N) :
    bodyPre m T c t ⊢ wp frame (wpE (defs₀ (F := F)) Variants.none c none) Set.univ (bodyAt0 (adm m) t) (fun _ => bodyPost m T c t) := by
  unfold bodyPre bodyPost bodyAt0
  simp only [before0_0, after0_0, before0_1, after0_1, before0_2, after0_2, before0_3, after0_3, before0_4, after0_4, before0_5, after0_5, before0_6, after0_6]
  rw [show (dat m c).owesAt () t.succ = (dat m c).owesAt () t.castSucc from rfl,
    show (dat m c).Φ t.succ = (dat m c).Φ t.castSucc from rfl]
  rw [show (dat m c).Φ t.castSucc = iprop(Pipeline.ΦA spec0 c ∗ Pipeline.ΦT pre0 (tbl m) c) from rfl, PhiT0_eq]
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%y7, %hy7, H7⟩, ⟨%y8, %hy8, H8⟩, ⟨%y9, %hy9, H9⟩, ⟨%y10, %hy10, H10⟩, ⟨%y11, %hy11, H11⟩, ⟨%y12, %hy12, H12⟩, ⟨%y13, %hy13, H13⟩, ⟨%y14, %hy14, H14⟩, ⟨%y15, %hy15, H15⟩⟩
  obtain ⟨h7, h8, h9, h10, h11⟩ := hT.step c t y7 y8 y9 y10 y11 (finds_scales m T c t y8 hy8) (finds_mean m T c t y9 hy9) (finds_qscales m T c t y11 hy11)
  iapply ((run c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (ms0_8 m t) (hs0_8 m t) (ms0_9 m t) (hs0_9 m t) (ms0_10 m t) (hs0_10 m t) (ms0_11 m t) (hs0_11 m t) (ms0_12 m t) (hs0_12 m t) (ms0_13 m t) (hs0_13 m t) (ms0_14 m t) (hs0_14 m t) (ms0_15 m t) (hs0_15 m t)
    (iblk m c 0 t) (iblk m c 1 t) (iblk m c 2 t) (iblk m c 3 t) (iblk m c 4 t) (iblk m c 5 t) (iblk m c 6 t) (tbl m 0) y8 y11).2.2.2.2.2 y7 y9 y10 y12 y13 y14 y15 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HT0]; · iexact HT0
  iintro ⟨H0, H1, H2, H3, H4, H5, H6, H7, H8, H9, H10, H11, ⟨%g12, H12⟩, ⟨%g13, H13⟩, ⟨%g14, H14⟩, ⟨%g15, H15⟩, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns
  isplitl [H7]
  · iexists (codesOut m c t y7 y8 y11); isplitr; · ipureintro; exact h7
    iexists _; isplitr; swap; · iexact H7
    ipureintro; rfl
  isplitl [H8]
  · iexists (scalesOut m c t y8 y11); isplitr; · ipureintro; exact h8
    iexists _; isplitr; swap; · iexact H8
    ipureintro; rfl
  isplitl [H9]
  · iexists (meanOut m c t y9 y8 y11); isplitr; · ipureintro; exact h9
    iexists _; isplitr; swap; · iexact H9
    ipureintro; rfl
  isplitl [H10]
  · iexists (qcodesOut m c t y10 y8 y11); isplitr; · ipureintro; exact h10
    iexists _; isplitr; swap; · iexact H10
    ipureintro; rfl
  isplitl [H11]
  · iexists (qscalesOut m c t y8 y11); isplitr; · ipureintro; exact h11
    iexists _; isplitr; swap; · iexact H11
    ipureintro; rfl
  isplitl [H12]
  · iexists _; isplitr; · ipureintro; exact trivial
    iexists _; isplitr; swap; · iexact H12
    ipureintro; rfl
  isplitl [H13]
  · iexists _; isplitr; · ipureintro; exact trivial
    iexists _; isplitr; swap; · iexact H13
    ipureintro; rfl
  isplitl [H14]
  · iexists _; isplitr; · ipureintro; exact trivial
    iexists _; isplitr; swap; · iexact H14
    ipureintro; rfl
  · iexists _; isplitr; · ipureintro; exact trivial
    iexists _; isplitr; swap; · iexact H15
    ipureintro; rfl

/-- The body table's row at point `t`'s slots is the body as `bodyAt0` spells it. -/
theorem defs₀_row (t : Fin (cfgM m).N) :
    defs₀ (F := F) .tc (cfgM m).body ((cfgM m).bodyArgs t ((cfgM m).slots t)) = bodyAt0 (adm m) t := by
  unfold defs₀; rw [Defs.onTc_tc]

/-- The library's body obligation, at every point. -/
theorem body_obligation (hT : Track.Sound m T) (c : Dev nD) :
    BodyObligationRel (dat m c) (defs₀ (F := F)) Variants.none () Set.univ (held m) (rel m T c) := fun t => by
  rw [bigSep_W0, bigSep_W0, defs₀_row m]
  exact triple_restated (sound_body m T hT c t) rfl .rfl fun _ => .rfl

/-! ## The run and the frame -/

/-- No array is shared by several windows. -/
theorem share_full (c : Dev nD) : ∀ w, (rdat m T c).share w = fullShare := by
  intro w
  match w with
  | ⟨0, _⟩ | ⟨1, _⟩ | ⟨2, _⟩ | ⟨3, _⟩ | ⟨4, _⟩ | ⟨5, _⟩ | ⟨6, _⟩ | ⟨7, _⟩ | ⟨8, _⟩ | ⟨9, _⟩ | ⟨10, _⟩ | ⟨11, _⟩ | ⟨12, _⟩ | ⟨13, _⟩ | ⟨14, _⟩ | ⟨15, _⟩ => rfl
  | ⟨n + 16, h⟩ => exact absurd (show n + 16 < 16 from h) (by omega)

set_option backward.isDefEq.respectTransparency.types false in
/-- The run, for every sound track: every weakly fair execution of @main terminates, the arrays end at contents the proof data allow,
    and every semaphore counter is zero. -/
theorem run_track (hT : Track.Sound m T) : θ_run defs (onTc (τ := τ) (main (F := F))) (s₀ m ρ)
    (fun r => RDat.FramePost (cfgM m) (rdat m T) (V m) r ∧ r.2.sem = fun _ => 0) :=
  RDat.θ_run_frameP_track (Q' := _) pcfgs (fun _ => adm m) (0 : Fin 1) launch0 defs₀ Variants.none (rdat m T) m ρ main
    (hbody := fun c => (body_obligation m T hT c).toRRel) (hshare := fun c w => share_full m T c w)
    (howed := fun _ _ => rfl) (V := V m) (hmain := hmain m Variants.none) (hA := fun _ _ => rfl) (hpf := V_pre m)
    (hin := fun c => .rfl) (hout := fun c => by
      rw [show (rdat m T c).Φ (Fin.last _) = iprop(Pipeline.ΦA spec0 c ∗ Pipeline.ΦT pre0 (tbl m) c) from rfl]
      iintro ⟨H, -⟩; iexact H) (hQ' := fun _ h => h)

/-- The argument arrays end unchanged. -/
theorem args_of {r} (h : RDat.FramePost (cfgM m) (rdat m T) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(h c).2 main_arg0 (by decide : main_arg0 ∈ Pipeline.restRefs sig spec0), h.arr_in c 0 rfl, h.arr_in c 1 rfl, h.arr_in c 2 rfl, h.arr_in c 3 rfl, h.arr_in c 4 rfl, h.arr_in c 5 rfl, h.arr_in c 6 rfl⟩

/-- The track that says nothing. -/
def Track.nothing : Track F := ⟨fun _ _ => True, fun _ _ => True, fun _ _ => True, fun _ _ => True, fun _ _ => True⟩

theorem Track.nothing_sound : Track.Sound m fun _ => Track.nothing (F := F) :=
  ⟨fun _ _ _ _ _ _ _ _ _ _ => ⟨trivial, trivial, trivial, trivial, trivial⟩⟩

/-- THE FRAME: every weakly fair execution terminates, the argument arrays end unchanged, and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨args_of m _ h.1, h.2⟩) (run_track m ρ _ (Track.nothing_sound m))

end Cert.QkvIdeal.Hand

end
-- ==== Proof.QkvMath.lean ====
/- WHAT THE QUERY, KEY AND VALUE PROJECTION COMPUTES, as functions of its arguments, element by element: the codes and scales of the normalised
   rows, the rotated and scaled queries of each head, their mean over 128 positions, and the int8 codes of the queries less their mean with a
   scale per 32 positions. -/
module

public import proofs.«01_k».proof.Proof.NormQuant
public import proofs.«01_k».proof.Proof.KvCodesMath
public import Idealize.ShloMosaic.Lib.Pointwise

@[expose] public section

noncomputable section

namespace Cert.Proof.Qkv

open Idealize.ShloMosaic
open Cert.Proof.KvCodes (scale8 code8)
open scoped BigOperators

/-- The word of 128, -/
theorem ofBits_128 : Ideal.ofBits .f32 0x43000000#32 = ((128 : ℝ) : EReal) := by
  simp [Ideal.ofBits, Ideal.ieee, -EReal.coe_mul]; norm_num
/-- and of its inverse. -/
theorem ofBits_128inv : Ideal.ofBits .f32 0x3C000000#32 = ((1 / 128 : ℝ) : EReal) := by
  simp [Ideal.ofBits, Ideal.ieee, -EReal.coe_mul]; norm_num
/-- So a product by the one is a quotient by the other. -/
theorem mul_inv128 (a : EReal) : a * Ideal.ofBits .f32 0x3C000000#32 = Ideal.div a (Ideal.ofBits .f32 0x43000000#32) := by
  rw [ofBits_128, ofBits_128inv, Ideal.div_coe (by norm_num : (128 : ℝ) ≠ 0)]

/-- Adding a product by a sign-changed factor is subtracting the product. -/
theorem add_mul_neg (a x y : EReal) : a + x * (0 - y) = a - x * y := by
  rw [zero_sub, mul_neg, sub_eq_add_neg]

/-- The arguments: the sequences' lengths; the layer's input by sequence and position, the norm's weights; the projection's weights, their scales
    and the bias; the cosines and sines of the rotation by sequence, frequency and position. -/
structure Args where
  len : Vec Ideal ⟨1, ![4]⟩ .i32
  x : Vec Ideal ⟨3, ![4, 4096, 3584]⟩ .bf16
  ln : Vec Ideal ⟨2, ![1, 3584]⟩ .f32
  w : Vec Ideal ⟨2, ![3584, 2304]⟩ .fp8e4m3
  ws : Vec Ideal ⟨2, ![1, 2304]⟩ .f32
  bias : Vec Ideal ⟨2, ![1, 2304]⟩ .f32
  cos : Vec Ideal ⟨3, ![4, 64, 4096]⟩ .f32
  sin : Vec Ideal ⟨3, ![4, 64, 4096]⟩ .f32

/-- Column `d` of head `h`. -/
def col (h : Fin 14) (d : Fin 128) : Fin 2304 := ⟨h.val * 128 + d.val, by omega⟩
/-- Row `x` of block `j` of 128 positions, -/
def at128 (j : Fin 32) (x : Fin 128) : Fin 4096 := ⟨j.val * 128 + x.val, by omega⟩
/-- and of 32 positions. -/
def at32 (j : Fin 128) (x : Fin 32) : Fin 4096 := ⟨j.val * 32 + x.val, by omega⟩
/-- The block of 128 positions that a position lies in, -/
def of128 (s : Fin 4096) : Fin 32 := ⟨s.val / 128, by omega⟩
/-- and of 32 positions. -/
def of32 (s : Fin 4096) : Fin 128 := ⟨s.val / 32, by omega⟩
/-- The other half's channel. -/
def low (d : Fin 128) (h : ¬d.val < 64) : Fin 64 := ⟨d.val - 64, by omega⟩

/-- A vector turned by the angles: the first half of its channels are the real parts, the second the imaginary ones. -/
def turn (q : Fin 128 → EReal) (cos sin : Fin 64 → EReal) (d : Fin 128) : EReal :=
  if h : d.val < 64 then q d * cos ⟨d.val, h⟩ - q ⟨d.val + 64, by omega⟩ * sin ⟨d.val, h⟩
  else q d * cos (low d h) + q ⟨d.val - 64, by omega⟩ * sin (low d h)

/-- The largest magnitude of a block of 32 positions. -/
def top32 (f : Fin 32 → Fin 128 → EReal) : EReal :=
  Finset.fold max (Ideal.ofBits .f32 0xFF800000#32) (fun d => Finset.fold max (Ideal.ofBits .f32 0xFF800000#32) (fun r => mag (f r d)) Finset.univ) Finset.univ

variable (A : Args) (b : Fin 4)

/-- The normalised row, -/
def row (s : Fin 4096) : Fin 3584 → EReal := normed (fun k => A.x (ix3 b s k)) fun k => A.ln (ix2 0 k)
/-- its scale, -/
def scale (s : Fin 4096) : EReal := scaleOf (top (row A b s))
/-- and its codes. -/
def codeAt (s : Fin 4096) (k : Fin 3584) : EReal := code (row A b s k) (scale A b s)
/-- The projection. -/
def proj (s : Fin 4096) (n : Fin 2304) : EReal :=
  (∑ k : Fin 3584, codeAt A b s k * A.w (ix2 k n)) * scale A b s * A.ws (ix2 0 n) + A.bias (ix2 0 n)

variable (h : Fin 14)

/-- A query, turned by its position's angles and scaled, -/
def query (s : Fin 4096) (d : Fin 128) : EReal :=
  turn (fun d => proj A b s (col h d)) (fun f => A.cos (ix3 b f s)) (fun f => A.sin (ix3 b f s)) d * Ideal.ofBits .f32 0x3DB504F3#32
/-- the mean query of a block, -/
def mean (j : Fin 32) (d : Fin 128) : EReal := Ideal.div (∑ x : Fin 128, query A b h (at128 j x) d) (Ideal.ofBits .f32 0x43000000#32)
/-- a query less the mean, -/
def diff (s : Fin 4096) (d : Fin 128) : EReal := query A b h s d - mean A b h (of128 s) d
/-- the scale of a block of queries, -/
def qscale (j : Fin 128) : EReal := scale8 (top32 fun r d => diff A b h (at32 j r) d)
/-- and a query's code. -/
def qcode (s : Fin 4096) (d : Fin 128) : BitVec 8 := code8 (diff A b h s d) (qscale A b h (of32 s))

/-- The five results as arrays. -/
def codesArr : Vec Ideal ⟨3, ![4, 4096, 3584]⟩ .fp8e4m3 := fun y => codeAt A (y 0) (y 1) (y 2)
def scalesArr : Vec Ideal ⟨2, ![4, 4096]⟩ .f32 := fun y => scale A (y 0) (y 1)
def meanArr : Vec Ideal ⟨4, ![4, 14, 32, 128]⟩ .f32 := fun y => mean A (y 0) (y 1) (y 2) (y 3)
def qcodesArr : Vec Ideal ⟨4, ![4, 14, 4096, 128]⟩ .i8 := fun y => qcode A (y 0) (y 1) (y 2) (y 3)
def qscalesArr : Vec Ideal ⟨3, ![4, 14, 128]⟩ .f32 := fun y => qscale A (y 0) (y 1) (y 2)

end Cert.Proof.Qkv

end
-- ==== Proof.QkvBlock.lean ====
/- WHAT THE PROJECTION STORES FOR ONE TILE of 512 positions, read element by element: the rows' codes and scales, the projected tile, and, for
   one head's 128 columns of it, the rotated queries, their means, scales and codes. -/
module

public import proofs.«01_k».proof.Proof.Gen.QkvIdeal.Skeleton
public import proofs.«01_k».proof.Proof.Scales
public import proofs.«01_k».proof.Proof.QkvMath

@[expose] public section

set_option maxRecDepth 16384

noncomputable section

namespace Cert.Proof.Qkv

open Cert.QkvIdeal Cert.QkvIdeal.Gen Idealize.ShloMosaic
open Cert.Proof.KvCodes (scale8 code8)
open scoped BigOperators

section
variable (x : Vec Ideal S1x512x3584 .bf16) (ln : Vec Ideal S1x3584 .f32) (r : Fin 512) (k : Fin 3584)

/-- A row's root, -/
theorem pay3_apply : k0_pay3 (F := Ideal) x (ix2 r 0) = root fun k => x (ix3 0 r k) := by
  pointwise [k0_pay3, k0_pay2, root]
/-- an element times its weight, -/
theorem pay4_apply : k0_pay4 (F := Ideal) x ln (ix2 r k) = x (ix3 0 r k) * ln (ix2 0 k) := by
  pointwise [k0_pay4, k0_pay2]
/-- a row's scale, -/
theorem pay5_apply : k0_pay5 (F := Ideal) x ln (ix2 r 0) = scaleOf (top (normed (fun k => x (ix3 0 r k)) fun k => ln (ix2 0 k))) := by
  have e6 := pay3_apply x r
  have e7 := fun k => pay4_apply x ln r k
  unfold k0_pay5
  rw [← top_div _ _ (by decide), ← e6]
  simp only [← e7]
  generalize k0_pay3 (F := Ideal) x = q
  generalize k0_pay4 (F := Ideal) x ln = h
  pointwise [scaleOf, top, mag]
  rfl
/-- and a code, as it is used and as it is stored. -/
theorem pay6_apply : k0_pay6 (F := Ideal) x ln (ix2 r k)
    = code (normed (fun k => x (ix3 0 r k)) (fun k => ln (ix2 0 k)) k) (scaleOf (top (normed (fun k => x (ix3 0 r k)) fun k => ln (ix2 0 k)))) := by
  have e6 := pay3_apply x r
  have e7 := pay4_apply x ln r k
  have e8 := pay5_apply x ln r
  unfold code
  rw [← mul_inv_root _ _ _ (scaleOf_ne _), ← e6, ← e7, ← e8]
  unfold k0_pay6
  generalize k0_pay3 (F := Ideal) x = q
  generalize k0_pay4 (F := Ideal) x ln = h
  generalize k0_pay5 (F := Ideal) x ln = s
  pointwise []
theorem pay7_apply : k0_pay7 (F := Ideal) x ln (ix3 0 r k) = k0_pay6 (F := Ideal) x ln (ix2 r k) := by
  unfold k0_pay7
  generalize k0_pay6 (F := Ideal) x ln = h
  pointwise []
end

/-- The slice of the scales a tile writes: its sequence's row takes the tile's scales, laid out along the columns; the others stay. -/
theorem pay8_apply (n : ℕ) (hn : n < 4) (s : FVec Ideal S512x1 .f32) (v : Vec Ideal S4x512 .f32) (b : Fin 4) (r : Fin 512) :
    k0_pay8 (F := Ideal) (BitVec.ofNat 32 n) s v (ix2 b r) = if b.val = n then s (ix2 r 0) else v (ix2 b r) := by
  have hr := r.isLt
  have hb := b.isLt
  pointwise [k0_pay8]
  rw [cmpi_eq_ofNat (by omega) (by omega)]
  by_cases hbn : b.val = n
  · rw [if_pos hbn, if_pos hbn]
    simp only [Scalar.select]
    rw [if_pos (show (1#1 : BitVec 1) = 1 from rfl)]
    split_ifs with h1 h2 h3
    · exact sum_select (by decide) (fun x : Fin 128 => s (ix2 ⟨x.val, by omega⟩ 0)) _ h1
    · refine (sum_select (by decide) (fun x : Fin 128 => s (ix2 ⟨128 + x.val, by omega⟩ 0)) _ (by omega)).trans ?_
      congr 2; refine Fin.ext ?_; simp only; omega
    · refine (sum_select (by decide) (fun x : Fin 128 => s (ix2 ⟨256 + x.val, by omega⟩ 0)) _ (by omega)).trans ?_
      congr 2; refine Fin.ext ?_; simp only; omega
    · refine (sum_select (by decide) (fun x : Fin 128 => s (ix2 ⟨384 + x.val, by omega⟩ 0)) _ (by omega)).trans ?_
      congr 2; refine Fin.ext ?_; simp only; omega
  · rw [if_neg hbn, if_neg hbn]
    simp [Scalar.select]

/-- The product, -/
theorem pay9_apply (c : FVec Ideal S512x3584 .fp8e4m3) (w : Vec Ideal S3584x2304 .fp8e4m3) (r : Fin 512) (n : Fin 2304) :
    k0_pay9 (F := Ideal) c w (ix2 r n) = ∑ k : Fin 3584, c (ix2 r k) * w (ix2 k n) := by
  pointwise [k0_pay9]
/-- scaled, with the bias. -/
theorem pay10_apply (s : FVec Ideal S512x1 .f32) (p : FVec Ideal S512x2304 .f32) (ws bias : Vec Ideal S1x2304 .f32) (r : Fin 512) (n : Fin 2304) :
    k0_pay10 (F := Ideal) s p ws bias (ix2 r n) = p (ix2 r n) * s (ix2 r 0) * ws (ix2 0 n) + bias (ix2 0 n) := by
  pointwise [k0_pay10]
/-- The cosines, for both halves of the channels, -/
theorem pay11_apply (v : Vec Ideal S1x64x512 .f32) (r : Fin 512) (d : Fin 128) :
    k0_pay11 (F := Ideal) v (ix2 r d) = if h : d.val < 64 then v (ix3 0 ⟨d.val, h⟩ r) else v (ix3 0 (low d h) r) := by
  pointwise [k0_pay11]
  rfl
/-- and the sines, with changed sign for the first half. -/
theorem pay12_apply (v : Vec Ideal S1x64x512 .f32) (r : Fin 512) (d : Fin 128) :
    k0_pay12 (F := Ideal) v (ix2 r d) = if h : d.val < 64 then 0 - v (ix3 0 ⟨d.val, h⟩ r) else v (ix3 0 (low d h) r) := by
  pointwise [k0_pay12]
  rfl

/-! ## One head -/

/-- The columns of a head. -/
def headOf (v : FVec Ideal S512x2304 .f32) (h : Fin 14) : FVec Ideal S512x128 .f32 := fun y => v (ix2 (y 0) (col h (y 1)))

theorem slice_eq (v : FVec Ideal S512x2304 .f32) (o : ℕ) (hs : S512x2304.Slices ![0, o] S512x128) (h : Fin 14) (ho : o = h.val * 128) :
    extractStridedSlice S512x128 ![0, o] v hs = headOf v h := by
  subst ho
  funext y
  obtain ⟨r, d, rfl⟩ : ∃ (r : Fin 512) (d : Fin 128), y = ix2 r d := ⟨y 0, y 1, eq_ix2 y⟩
  pointwise [headOf, col]

section
variable (q c s : FVec Ideal S512x128 .f32)

/-- The rotated and scaled queries, in blocks of 128, -/
def turned : FVec Ideal S4x128x128 .f32 :=
  shapeCast S4x128x128 (mulf (addf (mulf q c) (mulf (dynamicRotate 1 64#32 none q rotates_S512x128_d1) s)) (broadcast S512x128 (Scalar.ofBits .f32 0x3DB504F3#32))) shapeCasts_S512x128_S4x128x128
/-- their means over each block, -/
def means : FVec Ideal S4x1x128 .f32 :=
  mulf (shapeCast S4x1x128 (multiReduction (F := Ideal) .add [1] S4x128 (turned q c s) 0x00000000#32 reduces_S4x128x128_S4x128 (.inl rfl) rfl) shapeCasts_S4x128_S4x1x128) (broadcast S4x1x128 (Scalar.ofBits .f32 0x3C000000#32))
/-- as they are stored, -/
def meanBlock : FVec Ideal S1x1x4x128 .f32 := shapeCast S1x1x4x128 (shapeCast S4x128 (means q c s) shapeCasts_S4x1x128_S4x128) shapeCasts_S4x128_S1x1x4x128
/-- and the queries less the means, in blocks of 32. -/
def diffs : FVec Ideal S16x32x128 .f32 :=
  shapeCast S16x32x128 (subf (turned q c s) (broadcastTo S4x128x128 (means q c s) broadcasts_S4x1x128_S4x128x128)) shapeCasts_S4x128x128_S16x32x128
/-- The largest magnitude of each block, -/
def tops (g : FVec Ideal S16x32x128 .f32) : FVec Ideal S16x1 .f32 :=
  shapeCast S16x1 (multiReduction (F := Ideal) .maximumf [1] S16 (multiReduction (F := Ideal) .maximumf [1] S16x128 (absf g) 0xFF800000#32 reduces_S16x32x128_S16x128 (.inl rfl) rfl) 0xFF800000#32 reduces_S16x128_S16 (.inl rfl) rfl) shapeCasts_S16_S16x1
/-- its scale, -/
def scales (g : FVec Ideal S16x32x128 .f32) : FVec Ideal S16x1 .f32 :=
  select (cmpf .oeq (tops g) (broadcast S16x1 (Scalar.ofBits .f32 0x00000000#32))) (broadcast S16x1 (Scalar.ofBits .f32 0x3F800000#32)) (divf (tops g) (broadcast S16x1 (Scalar.ofBits .f32 0x42FE0000#32)))
/-- the codes, -/
def codes (g : FVec Ideal S16x32x128 .f32) : IVec S1x1x512x128 8 :=
  shapeCast S1x1x512x128 (shapeCast S512x128 (fptosi 8 (minimumf (broadcast S16x32x128 (Scalar.ofBits .f32 0x42FE0000#32)) (maximumf (broadcast S16x32x128 (Scalar.ofBits .f32 0xC2FE0000#32))
    (roundeven (divf g (broadcastTo S16x32x128 (shapeCast S16x1x1 (scales g) shapeCasts_S16x1_S16x1x1) broadcasts_S16x1x1_S16x32x128)))))) shapeCasts_S16x32x128_S512x128) shapeCasts_S512x128_S1x1x512x128
/-- and the row of scales: each at its lane of the tile, what was there at the other lanes. -/
def placed (M : IVec S16x128 1) (B : IVec S1x128 1) (w : FVec Ideal S16x1 .f32) (old : Vec Ideal S1x1x128 .f32) : FVec Ideal S1x1x128 .f32 :=
  shapeCast S1x1x128 (select B (shapeCast S1x128 (multiReduction (F := Ideal) .add [0] S128 (select M (broadcastTo S16x128 (shapeCast S16x1 w shapeCasts_S16x1_S16x1) broadcasts_S16x1_S16x128) (broadcast S16x128 (Scalar.ofBits .f32 0x00000000#32)))
    0x00000000#32 reduces_S16x128_S128 (.inl rfl) rfl) shapeCasts_S128_S1x128) (shapeCast S1x128 old shapeCasts_S1x1x128_S1x128)) shapeCasts_S1x128_S1x1x128

/-- A rotated and scaled element, by row and channel. -/
def turnAt (r : Fin 512) (d : Fin 128) : EReal :=
  (q (ix2 r d) * c (ix2 r d) + q (ix2 r ⟨(d.val + 128 - 64) % 128, Nat.mod_lt _ (by decide)⟩) * s (ix2 r d)) * Ideal.ofBits .f32 0x3DB504F3#32
/-- The mean of a block. -/
def meanAt (j : Fin 4) (d : Fin 128) : EReal := Ideal.div (∑ x : Fin 128, turnAt q c s ⟨j.val * 128 + x.val, by omega⟩ d) (Ideal.ofBits .f32 0x43000000#32)

theorem turned_apply (j : Fin 4) (x : Fin 128) (d : Fin 128) : turned q c s (ix3 j x d) = turnAt q c s ⟨j.val * 128 + x.val, by omega⟩ d := by
  have hj := j.isLt
  have hx := x.isLt
  pointwise [turned, turnAt]
theorem means_apply (j : Fin 4) (d : Fin 128) : means q c s (ix3 j 0 d) = meanAt q c s j d := by
  have e := fun x => turned_apply q c s j x d
  unfold means meanAt
  rw [← mul_inv128]
  simp only [← e]
  generalize turned q c s = g
  pointwise []
theorem meanBlock_apply (j : Fin 4) (d : Fin 128) : meanBlock q c s (ix4 0 0 j d) = meanAt q c s j d := by
  rw [← means_apply]
  unfold meanBlock
  generalize means q c s = g
  pointwise []
theorem diffs_apply (j : Fin 16) (x : Fin 32) (d : Fin 128) :
    diffs q c s (ix3 j x d) = turnAt q c s ⟨j.val * 32 + x.val, by omega⟩ d - meanAt q c s ⟨(j.val * 32 + x.val) / 128, by omega⟩ d := by
  have hj := j.isLt
  have hx := x.isLt
  have e := turned_apply q c s ⟨j.val / 4, by omega⟩ ⟨j.val % 4 * 32 + x.val, by omega⟩ d
  have e1 : (⟨j.val / 4 * 128 + (j.val % 4 * 32 + x.val), by omega⟩ : Fin 512) = ⟨j.val * 32 + x.val, by omega⟩ := Fin.ext (by simp only; omega)
  have e2 : (⟨(j.val * 32 + x.val) / 128, by omega⟩ : Fin 4) = ⟨j.val / 4, by omega⟩ := Fin.ext (by simp only; omega)
  rw [e1] at e
  rw [e2, ← e, ← means_apply]
  unfold diffs
  generalize turned q c s = g
  generalize means q c s = w
  pointwise []
theorem scales_apply (g : FVec Ideal S16x32x128 .f32) (j : Fin 16) : scales g (ix2 j 0) = scale8 (top32 fun r d => g (ix3 j r d)) := by
  pointwise [scales, tops, scale8, top32, mag]
  rfl
theorem codes_apply (g : FVec Ideal S16x32x128 .f32) (j : Fin 16) (x : Fin 32) (d : Fin 128) :
    codes g (ix4 0 0 ⟨j.val * 32 + x.val, by omega⟩ d) = code8 (g (ix3 j x d)) (scales g (ix2 j 0)) := by
  have hj := j.isLt
  have hx := x.isLt
  unfold codes
  generalize scales g = w
  pointwise [code8]
end

/-! ## The lanes of the scales -/

/-- The words of a block's lane and of a lane's tile. -/
theorem lane_eq : ∀ n : ℕ, n < 8 → ∀ j : Fin 16,
    IntOp.addi (BitVec.ofNat 32 j.val) (Scalar.muli (BitVec.ofNat 32 n) 16#32) = BitVec.ofNat 32 (j.val + n * 16) := by decide
theorem lane_div : ∀ x : Fin 128, (Scalar.select
        (IntOp.andi
          (IntOp.cmpi CmpIPredicate.ne
            (IntOp.subi (BitVec.setWidth 32 (IntOp.cmpi CmpIPredicate.sgt (BitVec.ofNat 32 x.val) 0#32))
              (BitVec.setWidth 32 (IntOp.cmpi CmpIPredicate.slt (BitVec.ofNat 32 x.val) 0#32)))
            (Scalar.subi (Scalar.extui (Scalar.cmpi CmpIPredicate.sgt 16#32 0#32))
              (Scalar.extui (Scalar.cmpi CmpIPredicate.slt 16#32 0#32))))
          (IntOp.cmpi CmpIPredicate.ne (IntOp.remsi ArithUnit.vector (BitVec.ofNat 32 x.val) 16#32) 0#32))
        (IntOp.subi (IntOp.divsi ArithUnit.vector (BitVec.ofNat 32 x.val) 16#32) 1#32)
        (IntOp.divsi ArithUnit.vector (BitVec.ofNat 32 x.val) 16#32) : BitVec 32) = BitVec.ofNat 32 (x.val / 16) := by decide +kernel

/-- The tile's scales are placed at lanes 16 · tile onwards: the mask of block `j`'s lane, -/
theorem pay13_apply (n : ℕ) (hn : n < 8) (j : Fin 16) (x : Fin 128) :
    k0_pay13 (BitVec.ofNat 32 n) (ix2 j x) = if x.val = j.val + n * 16 then 1#1 else 0#1 := by
  have hj := j.isLt
  have hx := x.isLt
  have e := lane_eq n hn j
  pointwise [k0_pay13]
  rw [e, cmpi_eq_ofNat (by omega) (by omega)]
/-- and the mask of the tile's lanes. -/
theorem pay17_apply (n : ℕ) (hn : n < 8) (x : Fin 128) :
    k0_pay17 (BitVec.ofNat 32 n) k0_pay14 k0_pay15 k0_pay16 (ix2 0 x) = if x.val / 16 = n then 1#1 else 0#1 := by
  have hx := x.isLt
  pointwise [k0_pay17, k0_pay14, k0_pay15, k0_pay16]
  rw [lane_div, cmpi_eq_ofNat (by omega) (by omega)]

/-- A tile's scale is found at its lane, -/
theorem place (n : ℕ) (hn : n < 8) (q : FVec Ideal S16x1 .f32) (x : Fin 128) (hx : x.val / 16 = n) :
    (∑ j : Fin 16, Scalar.select (k0_pay13 (BitVec.ofNat 32 n) (ix2 j x)) (q (ix2 j 0)) 0) = q (ix2 ⟨x.val % 16, by omega⟩ 0) := by
  rw [Finset.sum_eq_single (⟨x.val % 16, by omega⟩ : Fin 16)]
  · rw [pay13_apply n hn, if_pos (by simp only; omega)]; simp [Scalar.select]
  · intro j _ hj
    have : j.val ≠ x.val % 16 := fun h => hj (Fin.ext h)
    rw [pay13_apply n hn, if_neg (by omega)]; simp [Scalar.select]
  · intro h; exact absurd (Finset.mem_univ _) h
/-- and what was there at the other lanes. -/
theorem placed_apply (n : ℕ) (hn : n < 8) (q : FVec Ideal S16x1 .f32) (w : Vec Ideal S1x1x128 .f32) (x : Fin 128) :
    placed (k0_pay13 (BitVec.ofNat 32 n)) (k0_pay17 (BitVec.ofNat 32 n) k0_pay14 k0_pay15 k0_pay16) q w (ix3 0 0 x)
      = if x.val / 16 = n then q (ix2 ⟨x.val % 16, by omega⟩ 0) else w (ix3 0 0 x) := by
  have e := pay17_apply n hn x
  have p := place n hn q x
  generalize k0_pay17 (BitVec.ofNat 32 n) k0_pay14 k0_pay15 k0_pay16 = B at e
  generalize k0_pay13 (BitVec.ofNat 32 n) = A at p
  pointwise [placed]
  rw [e]
  split_ifs with h
  · simp only [Scalar.select]
    rw [if_pos (show (1#1 : BitVec 1) = 1 from rfl)]
    exact p h
  · simp [Scalar.select]

end Cert.Proof.Qkv

end
-- ==== Proof.QkvPayloads.lean ====
/- THE FOURTEEN HEADS: what the projection stores for each head is the one-head function of QkvBlock.lean at the head's columns. -/
module

public import proofs.«01_k».proof.Proof.QkvBlock

@[expose] public section

set_option maxRecDepth 16384

noncomputable section

namespace Cert.Proof.Qkv

open Cert.QkvIdeal Cert.QkvIdeal.Gen Idealize.ShloMosaic

variable (v : FVec Ideal S512x2304 .f32) (c s : FVec Ideal S512x128 .f32) (M : IVec S16x128 1) (B : IVec S1x128 1) (old : Vec Ideal S1x1x128 .f32)

/-- The means. -/
theorem means_head0 : k0_pay21 v c s = meanBlock (headOf v 0) c s := by
  rw [← slice_eq v 0 slices_S512x2304_o0_0_S512x128 0 rfl]; rfl
theorem means_head1 : k0_pay30 (k0_pay29 v c s) = meanBlock (headOf v 1) c s := by
  rw [← slice_eq v 128 slices_S512x2304_o0_128_S512x128 1 rfl]; rfl
theorem means_head2 : k0_pay38 v c s = meanBlock (headOf v 2) c s := by
  rw [← slice_eq v 256 slices_S512x2304_o0_256_S512x128 2 rfl]; rfl
theorem means_head3 : k0_pay46 v c s = meanBlock (headOf v 3) c s := by
  rw [← slice_eq v 384 slices_S512x2304_o0_384_S512x128 3 rfl]; rfl
theorem means_head4 : k0_pay55 (k0_pay51 v c s) = meanBlock (headOf v 4) c s := by
  rw [← slice_eq v 512 slices_S512x2304_o0_512_S512x128 4 rfl]; rfl
theorem means_head5 : k0_pay62 v c s = meanBlock (headOf v 5) c s := by
  rw [← slice_eq v 640 slices_S512x2304_o0_640_S512x128 5 rfl]; rfl
theorem means_head6 : k0_pay72 (k0_pay69 v c s) (Scalar.ofBits .f32 0x3C000000#32) = meanBlock (headOf v 6) c s := by
  rw [← slice_eq v 768 slices_S512x2304_o0_768_S512x128 6 rfl]; rfl
theorem means_head7 : k0_pay80 v c s = meanBlock (headOf v 7) c s := by
  rw [← slice_eq v 896 slices_S512x2304_o0_896_S512x128 7 rfl]; rfl
theorem means_head8 : k0_pay89 (k0_pay88 v c s) = meanBlock (headOf v 8) c s := by
  rw [← slice_eq v 1024 slices_S512x2304_o0_1024_S512x128 8 rfl]; rfl
theorem means_head9 : k0_pay97 v c s = meanBlock (headOf v 9) c s := by
  rw [← slice_eq v 1152 slices_S512x2304_o0_1152_S512x128 9 rfl]; rfl
theorem means_head10 : k0_pay105 v c s = meanBlock (headOf v 10) c s := by
  rw [← slice_eq v 1280 slices_S512x2304_o0_1280_S512x128 10 rfl]; rfl
theorem means_head11 : k0_pay115 s (k0_pay110 v c) (k0_pay111 v) = meanBlock (headOf v 11) c s := by
  rw [← slice_eq v 1408 slices_S512x2304_o0_1408_S512x128 11 rfl]; rfl
theorem means_head12 : k0_pay122 v c s = meanBlock (headOf v 12) c s := by
  rw [← slice_eq v 1536 slices_S512x2304_o0_1536_S512x128 12 rfl]; rfl
theorem means_head13 : k0_pay132 (k0_pay129 v c s) = meanBlock (headOf v 13) c s := by
  rw [← slice_eq v 1664 slices_S512x2304_o0_1664_S512x128 13 rfl]; rfl

/-- The codes. -/
theorem codes_head0 : k0_pay24 (k0_pay23 v c s) (Scalar.ofBits .f32 0xC2FE0000#32) = codes (diffs (headOf v 0) c s) := by
  rw [← slice_eq v 0 slices_S512x2304_o0_0_S512x128 0 rfl]; rfl
theorem codes_head1 : k0_pay32 (k0_pay28 v c s) = codes (diffs (headOf v 1) c s) := by
  rw [← slice_eq v 128 slices_S512x2304_o0_128_S512x128 1 rfl]; rfl
theorem codes_head2 : k0_pay41 (k0_pay40 v c s) = codes (diffs (headOf v 2) c s) := by
  rw [← slice_eq v 256 slices_S512x2304_o0_256_S512x128 2 rfl]; rfl
theorem codes_head3 : k0_pay49 (k0_pay45 v c s) (k0_pay47 v c s) = codes (diffs (headOf v 3) c s) := by
  rw [← slice_eq v 384 slices_S512x2304_o0_384_S512x128 3 rfl]; rfl
theorem codes_head4 : k0_pay57 (k0_pay51 v c s) = codes (diffs (headOf v 4) c s) := by
  rw [← slice_eq v 512 slices_S512x2304_o0_512_S512x128 4 rfl]; rfl
theorem codes_head5 : k0_pay66 (k0_pay61 v c s) (k0_pay63 v c s) (k0_pay64 v c s) (Scalar.ofBits .f32 0x42FE0000#32) = codes (diffs (headOf v 5) c s) := by
  rw [← slice_eq v 640 slices_S512x2304_o0_640_S512x128 5 rfl]; rfl
theorem codes_head6 : k0_pay74 (k0_pay68 v c s) (k0_pay69 v c s) (Scalar.ofBits .f32 0x3C000000#32) = codes (diffs (headOf v 6) c s) := by
  rw [← slice_eq v 768 slices_S512x2304_o0_768_S512x128 6 rfl]; rfl
theorem codes_head7 : k0_pay83 (k0_pay82 v c s) = codes (diffs (headOf v 7) c s) := by
  rw [← slice_eq v 896 slices_S512x2304_o0_896_S512x128 7 rfl]; rfl
theorem codes_head8 : k0_pay91 (k0_pay87 v c s) = codes (diffs (headOf v 8) c s) := by
  rw [← slice_eq v 1024 slices_S512x2304_o0_1024_S512x128 8 rfl]; rfl
theorem codes_head9 : k0_pay100 (k0_pay99 v c s) = codes (diffs (headOf v 9) c s) := by
  rw [← slice_eq v 1152 slices_S512x2304_o0_1152_S512x128 9 rfl]; rfl
theorem codes_head10 : k0_pay107 (k0_pay104 v c s) = codes (diffs (headOf v 10) c s) := by
  rw [← slice_eq v 1280 slices_S512x2304_o0_1280_S512x128 10 rfl]; rfl
theorem codes_head11 : k0_pay117 s (k0_pay110 v c) (k0_pay111 v) = codes (diffs (headOf v 11) c s) := by
  rw [← slice_eq v 1408 slices_S512x2304_o0_1408_S512x128 11 rfl]; rfl
theorem codes_head12 : k0_pay126 (k0_pay121 v c s) (k0_pay123 v c s) k0_pay124 = codes (diffs (headOf v 12) c s) := by
  rw [← slice_eq v 1536 slices_S512x2304_o0_1536_S512x128 12 rfl]; rfl
theorem codes_head13 : k0_pay134 (k0_pay128 v c s) (k0_pay129 v c s) = codes (diffs (headOf v 13) c s) := by
  rw [← slice_eq v 1664 slices_S512x2304_o0_1664_S512x128 13 rfl]; rfl

/-- The scales. -/
theorem scales_head0 : k0_pay25 M B (k0_pay22 v c s) old = placed M B (scales (diffs (headOf v 0) c s)) old := by
  rw [← slice_eq v 0 slices_S512x2304_o0_0_S512x128 0 rfl]; rfl
theorem scales_head1 : k0_pay34 (k0_pay33 M B (k0_pay28 v c s) old) = placed M B (scales (diffs (headOf v 1) c s)) old := by
  rw [← slice_eq v 128 slices_S512x2304_o0_128_S512x128 1 rfl]; rfl
theorem scales_head2 : k0_pay42 M B (k0_pay39 v c s) old = placed M B (scales (diffs (headOf v 2) c s)) old := by
  rw [← slice_eq v 256 slices_S512x2304_o0_256_S512x128 2 rfl]; rfl
theorem scales_head3 : k0_pay50 M B (k0_pay47 v c s) old = placed M B (scales (diffs (headOf v 3) c s)) old := by
  rw [← slice_eq v 384 slices_S512x2304_o0_384_S512x128 3 rfl]; rfl
theorem scales_head4 : k0_pay58 M B (k0_pay56 (k0_pay51 v c s)) (Scalar.ofBits .f32 0x00000000#32) old = placed M B (scales (diffs (headOf v 4) c s)) old := by
  rw [← slice_eq v 512 slices_S512x2304_o0_512_S512x128 4 rfl]; rfl
theorem scales_head5 : k0_pay67 M B (k0_pay63 v c s) (k0_pay64 v c s) (Scalar.ofBits .f32 0x42FE0000#32) old = placed M B (scales (diffs (headOf v 5) c s)) old := by
  rw [← slice_eq v 640 slices_S512x2304_o0_640_S512x128 5 rfl]; rfl
theorem scales_head6 : k0_pay76 B (k0_pay75 M (k0_pay68 v c s) (k0_pay69 v c s) (Scalar.ofBits .f32 0x3C000000#32)) old = placed M B (scales (diffs (headOf v 6) c s)) old := by
  rw [← slice_eq v 768 slices_S512x2304_o0_768_S512x128 6 rfl]; rfl
theorem scales_head7 : k0_pay84 M B (k0_pay81 v c s) old = placed M B (scales (diffs (headOf v 7) c s)) old := by
  rw [← slice_eq v 896 slices_S512x2304_o0_896_S512x128 7 rfl]; rfl
theorem scales_head8 : k0_pay93 (k0_pay92 M B (k0_pay87 v c s) old) = placed M B (scales (diffs (headOf v 8) c s)) old := by
  rw [← slice_eq v 1024 slices_S512x2304_o0_1024_S512x128 8 rfl]; rfl
theorem scales_head9 : k0_pay101 M B (k0_pay98 v c s) old = placed M B (scales (diffs (headOf v 9) c s)) old := by
  rw [← slice_eq v 1152 slices_S512x2304_o0_1152_S512x128 9 rfl]; rfl
theorem scales_head10 : k0_pay108 M B (k0_pay104 v c s) old = placed M B (scales (diffs (headOf v 10) c s)) old := by
  rw [← slice_eq v 1280 slices_S512x2304_o0_1280_S512x128 10 rfl]; rfl
theorem scales_head11 : k0_pay118 M B (k0_pay116 s (k0_pay110 v c) (k0_pay111 v)) old = placed M B (scales (diffs (headOf v 11) c s)) old := by
  rw [← slice_eq v 1408 slices_S512x2304_o0_1408_S512x128 11 rfl]; rfl
theorem scales_head12 : k0_pay127 M B (k0_pay123 v c s) k0_pay124 old = placed M B (scales (diffs (headOf v 12) c s)) old := by
  rw [← slice_eq v 1536 slices_S512x2304_o0_1536_S512x128 12 rfl]; rfl
theorem scales_head13 : k0_pay136 B (k0_pay135 M (k0_pay128 v c s) (k0_pay129 v c s)) old = placed M B (scales (diffs (headOf v 13) c s)) old := by
  rw [← slice_eq v 1664 slices_S512x2304_o0_1664_S512x128 13 rfl]; rfl

end Cert.Proof.Qkv

end
-- ==== Proof.QkvHeads.lean ====
/- FOURTEEN HEADS' PARTS OF A BLOCK, each stored and read on its own: what reading the block finds after all the stores, and what a load of
   one head's part reads. -/
module

public import proofs.«01_k».proof.Proof.QkvIdealFrame
public import Idealize.ShloMosaic.Lib.Pipeline.ValueKit
public import Idealize.ShloMosaic.Lib.Pipeline.ReadBack
public import Idealize.ShloMosaic.Lib.Pointwise
public import Idealize.ShloMosaic.Lib.VecWindow

@[expose] public section

noncomputable section

namespace Cert.Proof.Qkv

open Idealize.ShloMosaic Cert.QkvIdeal Cert.QkvIdeal.Gen

section
variable {sp : Space} {e : EltTy}

/-- A block of codes after a store of head `p`'s part. -/
theorem codes_step (v : View sig .tc sp S1x14x512x128 e) (f : v.ty.Contents (Elt Ideal)) (p : ℕ) (inb) (w) (L) (h : Fin 14) (r : Fin 512) (d : Fin 128) :
    v.read (Elt Ideal) (v.writes (Elt Ideal) f ((⟨Rect.unit ![0, p, 0, 0] ![1, 1, 512, 128] inb, w⟩ : View.Piece (Elt Ideal) S1x14x512x128 e) :: L)) (ix4 0 h r d)
      = if h.val = p then w (ix4 (n0 := 1) (n1 := 1) (n2 := 512) (n3 := 128) 0 0 r d) else v.read (Elt Ideal) (v.writes (Elt Ideal) f L) (ix4 0 h r d) := by
  split_ifs with q
  · refine View.read_writes_cons_unit_of_mem v f inb w _ _ _ rfl fun a => ?_
    match a with
    | ⟨0, _⟩ => rfl
    | ⟨1, _⟩ => exact q
    | ⟨2, _⟩ => exact (Nat.zero_add _).symm
    | ⟨3, _⟩ => exact (Nat.zero_add _).symm
  · refine View.read_writes_cons_unit_of_not_mem v f inb w _ _ rfl 1 ?_
    show h.val < p ∨ p + 1 ≤ h.val
    omega

/-- A block of scales likewise. -/
theorem scales_step (v : View sig .tc sp S1x14x128 e) (f : v.ty.Contents (Elt Ideal)) (p : ℕ) (inb) (w) (L) (h : Fin 14) (x : Fin 128) :
    v.read (Elt Ideal) (v.writes (Elt Ideal) f ((⟨Rect.unit ![0, p, 0] ![1, 1, 128] inb, w⟩ : View.Piece (Elt Ideal) S1x14x128 e) :: L)) (ix3 0 h x)
      = if h.val = p then w (ix3 (n0 := 1) (n1 := 1) (n2 := 128) 0 0 x) else v.read (Elt Ideal) (v.writes (Elt Ideal) f L) (ix3 0 h x) := by
  split_ifs with q
  · refine View.read_writes_cons_unit_of_mem v f inb w _ _ _ rfl fun a => ?_
    match a with
    | ⟨0, _⟩ => rfl
    | ⟨1, _⟩ => exact q
    | ⟨2, _⟩ => exact (Nat.zero_add _).symm
  · refine View.read_writes_cons_unit_of_not_mem v f inb w _ _ rfl 1 ?_
    show h.val < p ∨ p + 1 ≤ h.val
    omega

/-- A block of means after a store of head `p`'s four rows of tile `n`. -/
theorem means_step (v : View sig .tc sp S1x14x32x128 e) (f : v.ty.Contents (Elt Ideal)) (p n : ℕ) (off) (hoff : off = ![0, p, n * 4, 0]) (inb) (w) (L)
    (h : Fin 14) (x : Fin 32) (d : Fin 128) :
    v.read (Elt Ideal) (v.writes (Elt Ideal) f ((⟨Rect.unit off ![1, 1, 4, 128] inb, w⟩ : View.Piece (Elt Ideal) S1x14x32x128 e) :: L)) (ix4 0 h x d)
      = if h.val = p ∧ x.val / 4 = n then w (ix4 (n0 := 1) (n1 := 1) (n2 := 4) (n3 := 128) 0 0 ⟨x.val % 4, by omega⟩ d)
        else v.read (Elt Ideal) (v.writes (Elt Ideal) f L) (ix4 0 h x d) := by
  split_ifs with q
  · refine View.read_writes_cons_unit_of_mem v f inb w _ _ _ hoff fun a => ?_
    match a with
    | ⟨0, _⟩ => rfl
    | ⟨1, _⟩ => exact q.1
    | ⟨2, _⟩ => show x.val = n * 4 + x.val % 4; omega
    | ⟨3, _⟩ => exact (Nat.zero_add _).symm
  · by_cases q1 : h.val = p
    · refine View.read_writes_cons_unit_of_not_mem v f inb w _ _ hoff 2 ?_
      show x.val < n * 4 ∨ n * 4 + 4 ≤ x.val
      omega
    · refine View.read_writes_cons_unit_of_not_mem v f inb w _ _ hoff 1 ?_
      show h.val < p ∨ p + 1 ≤ h.val
      omega

/-- A block of codes after the stores of all the heads' parts: at each head its part. -/
theorem codes_heads (v : View sig .tc sp S1x14x512x128 e) (f : v.ty.Contents (Elt Ideal)) (p13 p12 p11 p10 p9 p8 p7 p6 p5 p4 p3 p2 p1 p0) (w13 w12 w11 w10 w9 w8 w7 w6 w5 w4 w3 w2 w1 w0) (r : Fin 512) (d : Fin 128)
    (G : Fin 14 → Elt Ideal e) (e13 : w13 (ix4 (n0 := 1) (n1 := 1) (n2 := 512) (n3 := 128) 0 0 r d) = G 13) (e12 : w12 (ix4 (n0 := 1) (n1 := 1) (n2 := 512) (n3 := 128) 0 0 r d) = G 12) (e11 : w11 (ix4 (n0 := 1) (n1 := 1) (n2 := 512) (n3 := 128) 0 0 r d) = G 11) (e10 : w10 (ix4 (n0 := 1) (n1 := 1) (n2 := 512) (n3 := 128) 0 0 r d) = G 10) (e9 : w9 (ix4 (n0 := 1) (n1 := 1) (n2 := 512) (n3 := 128) 0 0 r d) = G 9) (e8 : w8 (ix4 (n0 := 1) (n1 := 1) (n2 := 512) (n3 := 128) 0 0 r d) = G 8) (e7 : w7 (ix4 (n0 := 1) (n1 := 1) (n2 := 512) (n3 := 128) 0 0 r d) = G 7) (e6 : w6 (ix4 (n0 := 1) (n1 := 1) (n2 := 512) (n3 := 128) 0 0 r d) = G 6) (e5 : w5 (ix4 (n0 := 1) (n1 := 1) (n2 := 512) (n3 := 128) 0 0 r d) = G 5) (e4 : w4 (ix4 (n0 := 1) (n1 := 1) (n2 := 512) (n3 := 128) 0 0 r d) = G 4) (e3 : w3 (ix4 (n0 := 1) (n1 := 1) (n2 := 512) (n3 := 128) 0 0 r d) = G 3) (e2 : w2 (ix4 (n0 := 1) (n1 := 1) (n2 := 512) (n3 := 128) 0 0 r d) = G 2) (e1 : w1 (ix4 (n0 := 1) (n1 := 1) (n2 := 512) (n3 := 128) 0 0 r d) = G 1) (e0 : w0 (ix4 (n0 := 1) (n1 := 1) (n2 := 512) (n3 := 128) 0 0 r d) = G 0) (h : Fin 14) :
    v.read (Elt Ideal) (v.writes (Elt Ideal) f [(⟨Rect.unit ![0, 13, 0, 0] ![1, 1, 512, 128] p13, w13⟩ : View.Piece (Elt Ideal) S1x14x512x128 e), ⟨Rect.unit ![0, 12, 0, 0] ![1, 1, 512, 128] p12, w12⟩, ⟨Rect.unit ![0, 11, 0, 0] ![1, 1, 512, 128] p11, w11⟩, ⟨Rect.unit ![0, 10, 0, 0] ![1, 1, 512, 128] p10, w10⟩, ⟨Rect.unit ![0, 9, 0, 0] ![1, 1, 512, 128] p9, w9⟩, ⟨Rect.unit ![0, 8, 0, 0] ![1, 1, 512, 128] p8, w8⟩, ⟨Rect.unit ![0, 7, 0, 0] ![1, 1, 512, 128] p7, w7⟩, ⟨Rect.unit ![0, 6, 0, 0] ![1, 1, 512, 128] p6, w6⟩, ⟨Rect.unit ![0, 5, 0, 0] ![1, 1, 512, 128] p5, w5⟩, ⟨Rect.unit ![0, 4, 0, 0] ![1, 1, 512, 128] p4, w4⟩, ⟨Rect.unit ![0, 3, 0, 0] ![1, 1, 512, 128] p3, w3⟩, ⟨Rect.unit ![0, 2, 0, 0] ![1, 1, 512, 128] p2, w2⟩, ⟨Rect.unit ![0, 1, 0, 0] ![1, 1, 512, 128] p1, w1⟩, ⟨Rect.unit ![0, 0, 0, 0] ![1, 1, 512, 128] p0, w0⟩]) (ix4 0 h r d) = G h := by
  refine (codes_step v f 13 p13 w13 _ h r d).trans ?_
  split_ifs with q
  · obtain rfl : h = 13 := Fin.ext q
    exact e13
  refine (codes_step v f 12 p12 w12 _ h r d).trans ?_
  split_ifs with q
  · obtain rfl : h = 12 := Fin.ext q
    exact e12
  refine (codes_step v f 11 p11 w11 _ h r d).trans ?_
  split_ifs with q
  · obtain rfl : h = 11 := Fin.ext q
    exact e11
  refine (codes_step v f 10 p10 w10 _ h r d).trans ?_
  split_ifs with q
  · obtain rfl : h = 10 := Fin.ext q
    exact e10
  refine (codes_step v f 9 p9 w9 _ h r d).trans ?_
  split_ifs with q
  · obtain rfl : h = 9 := Fin.ext q
    exact e9
  refine (codes_step v f 8 p8 w8 _ h r d).trans ?_
  split_ifs with q
  · obtain rfl : h = 8 := Fin.ext q
    exact e8
  refine (codes_step v f 7 p7 w7 _ h r d).trans ?_
  split_ifs with q
  · obtain rfl : h = 7 := Fin.ext q
    exact e7
  refine (codes_step v f 6 p6 w6 _ h r d).trans ?_
  split_ifs with q
  · obtain rfl : h = 6 := Fin.ext q
    exact e6
  refine (codes_step v f 5 p5 w5 _ h r d).trans ?_
  split_ifs with q
  · obtain rfl : h = 5 := Fin.ext q
    exact e5
  refine (codes_step v f 4 p4 w4 _ h r d).trans ?_
  split_ifs with q
  · obtain rfl : h = 4 := Fin.ext q
    exact e4
  refine (codes_step v f 3 p3 w3 _ h r d).trans ?_
  split_ifs with q
  · obtain rfl : h = 3 := Fin.ext q
    exact e3
  refine (codes_step v f 2 p2 w2 _ h r d).trans ?_
  split_ifs with q
  · obtain rfl : h = 2 := Fin.ext q
    exact e2
  refine (codes_step v f 1 p1 w1 _ h r d).trans ?_
  split_ifs with q
  · obtain rfl : h = 1 := Fin.ext q
    exact e1
  refine (codes_step v f 0 p0 w0 _ h r d).trans ?_
  split_ifs with q
  · obtain rfl : h = 0 := Fin.ext q
    exact e0
  exact absurd h.isLt (by omega)

/-- A block of scales likewise. -/
theorem scales_heads (v : View sig .tc sp S1x14x128 e) (f : v.ty.Contents (Elt Ideal)) (p13 p12 p11 p10 p9 p8 p7 p6 p5 p4 p3 p2 p1 p0) (w13 w12 w11 w10 w9 w8 w7 w6 w5 w4 w3 w2 w1 w0) (x : Fin 128)
    (G : Fin 14 → Elt Ideal e) (e13 : w13 (ix3 (n0 := 1) (n1 := 1) (n2 := 128) 0 0 x) = G 13) (e12 : w12 (ix3 (n0 := 1) (n1 := 1) (n2 := 128) 0 0 x) = G 12) (e11 : w11 (ix3 (n0 := 1) (n1 := 1) (n2 := 128) 0 0 x) = G 11) (e10 : w10 (ix3 (n0 := 1) (n1 := 1) (n2 := 128) 0 0 x) = G 10) (e9 : w9 (ix3 (n0 := 1) (n1 := 1) (n2 := 128) 0 0 x) = G 9) (e8 : w8 (ix3 (n0 := 1) (n1 := 1) (n2 := 128) 0 0 x) = G 8) (e7 : w7 (ix3 (n0 := 1) (n1 := 1) (n2 := 128) 0 0 x) = G 7) (e6 : w6 (ix3 (n0 := 1) (n1 := 1) (n2 := 128) 0 0 x) = G 6) (e5 : w5 (ix3 (n0 := 1) (n1 := 1) (n2 := 128) 0 0 x) = G 5) (e4 : w4 (ix3 (n0 := 1) (n1 := 1) (n2 := 128) 0 0 x) = G 4) (e3 : w3 (ix3 (n0 := 1) (n1 := 1) (n2 := 128) 0 0 x) = G 3) (e2 : w2 (ix3 (n0 := 1) (n1 := 1) (n2 := 128) 0 0 x) = G 2) (e1 : w1 (ix3 (n0 := 1) (n1 := 1) (n2 := 128) 0 0 x) = G 1) (e0 : w0 (ix3 (n0 := 1) (n1 := 1) (n2 := 128) 0 0 x) = G 0) (h : Fin 14) :
    v.read (Elt Ideal) (v.writes (Elt Ideal) f [(⟨Rect.unit ![0, 13, 0] ![1, 1, 128] p13, w13⟩ : View.Piece (Elt Ideal) S1x14x128 e), ⟨Rect.unit ![0, 12, 0] ![1, 1, 128] p12, w12⟩, ⟨Rect.unit ![0, 11, 0] ![1, 1, 128] p11, w11⟩, ⟨Rect.unit ![0, 10, 0] ![1, 1, 128] p10, w10⟩, ⟨Rect.unit ![0, 9, 0] ![1, 1, 128] p9, w9⟩, ⟨Rect.unit ![0, 8, 0] ![1, 1, 128] p8, w8⟩, ⟨Rect.unit ![0, 7, 0] ![1, 1, 128] p7, w7⟩, ⟨Rect.unit ![0, 6, 0] ![1, 1, 128] p6, w6⟩, ⟨Rect.unit ![0, 5, 0] ![1, 1, 128] p5, w5⟩, ⟨Rect.unit ![0, 4, 0] ![1, 1, 128] p4, w4⟩, ⟨Rect.unit ![0, 3, 0] ![1, 1, 128] p3, w3⟩, ⟨Rect.unit ![0, 2, 0] ![1, 1, 128] p2, w2⟩, ⟨Rect.unit ![0, 1, 0] ![1, 1, 128] p1, w1⟩, ⟨Rect.unit ![0, 0, 0] ![1, 1, 128] p0, w0⟩]) (ix3 0 h x) = G h := by
  refine (scales_step v f 13 p13 w13 _ h x).trans ?_
  split_ifs with q
  · obtain rfl : h = 13 := Fin.ext q
    exact e13
  refine (scales_step v f 12 p12 w12 _ h x).trans ?_
  split_ifs with q
  · obtain rfl : h = 12 := Fin.ext q
    exact e12
  refine (scales_step v f 11 p11 w11 _ h x).trans ?_
  split_ifs with q
  · obtain rfl : h = 11 := Fin.ext q
    exact e11
  refine (scales_step v f 10 p10 w10 _ h x).trans ?_
  split_ifs with q
  · obtain rfl : h = 10 := Fin.ext q
    exact e10
  refine (scales_step v f 9 p9 w9 _ h x).trans ?_
  split_ifs with q
  · obtain rfl : h = 9 := Fin.ext q
    exact e9
  refine (scales_step v f 8 p8 w8 _ h x).trans ?_
  split_ifs with q
  · obtain rfl : h = 8 := Fin.ext q
    exact e8
  refine (scales_step v f 7 p7 w7 _ h x).trans ?_
  split_ifs with q
  · obtain rfl : h = 7 := Fin.ext q
    exact e7
  refine (scales_step v f 6 p6 w6 _ h x).trans ?_
  split_ifs with q
  · obtain rfl : h = 6 := Fin.ext q
    exact e6
  refine (scales_step v f 5 p5 w5 _ h x).trans ?_
  split_ifs with q
  · obtain rfl : h = 5 := Fin.ext q
    exact e5
  refine (scales_step v f 4 p4 w4 _ h x).trans ?_
  split_ifs with q
  · obtain rfl : h = 4 := Fin.ext q
    exact e4
  refine (scales_step v f 3 p3 w3 _ h x).trans ?_
  split_ifs with q
  · obtain rfl : h = 3 := Fin.ext q
    exact e3
  refine (scales_step v f 2 p2 w2 _ h x).trans ?_
  split_ifs with q
  · obtain rfl : h = 2 := Fin.ext q
    exact e2
  refine (scales_step v f 1 p1 w1 _ h x).trans ?_
  split_ifs with q
  · obtain rfl : h = 1 := Fin.ext q
    exact e1
  refine (scales_step v f 0 p0 w0 _ h x).trans ?_
  split_ifs with q
  · obtain rfl : h = 0 := Fin.ext q
    exact e0
  exact absurd h.isLt (by omega)

/-- A block of means after the stores of all the heads' rows of tile `n`: at each head the tile's rows, and elsewhere what was there. -/
theorem means_heads (v : View sig .tc sp S1x14x32x128 e) (f : v.ty.Contents (Elt Ideal)) (n : ℕ) (o13 o12 o11 o10 o9 o8 o7 o6 o5 o4 o3 o2 o1 o0 : Fin 4 → ℕ) (k13 : o13 = ![0, 13, n * 4, 0]) (k12 : o12 = ![0, 12, n * 4, 0]) (k11 : o11 = ![0, 11, n * 4, 0]) (k10 : o10 = ![0, 10, n * 4, 0]) (k9 : o9 = ![0, 9, n * 4, 0]) (k8 : o8 = ![0, 8, n * 4, 0]) (k7 : o7 = ![0, 7, n * 4, 0]) (k6 : o6 = ![0, 6, n * 4, 0]) (k5 : o5 = ![0, 5, n * 4, 0]) (k4 : o4 = ![0, 4, n * 4, 0]) (k3 : o3 = ![0, 3, n * 4, 0]) (k2 : o2 = ![0, 2, n * 4, 0]) (k1 : o1 = ![0, 1, n * 4, 0]) (k0 : o0 = ![0, 0, n * 4, 0]) (p13 p12 p11 p10 p9 p8 p7 p6 p5 p4 p3 p2 p1 p0) (w13 w12 w11 w10 w9 w8 w7 w6 w5 w4 w3 w2 w1 w0) (x : Fin 32) (d : Fin 128)
    (G : Fin 14 → Elt Ideal e) (e13 : x.val / 4 = n → w13 (ix4 (n0 := 1) (n1 := 1) (n2 := 4) (n3 := 128) 0 0 ⟨x.val % 4, by omega⟩ d) = G 13) (e12 : x.val / 4 = n → w12 (ix4 (n0 := 1) (n1 := 1) (n2 := 4) (n3 := 128) 0 0 ⟨x.val % 4, by omega⟩ d) = G 12) (e11 : x.val / 4 = n → w11 (ix4 (n0 := 1) (n1 := 1) (n2 := 4) (n3 := 128) 0 0 ⟨x.val % 4, by omega⟩ d) = G 11) (e10 : x.val / 4 = n → w10 (ix4 (n0 := 1) (n1 := 1) (n2 := 4) (n3 := 128) 0 0 ⟨x.val % 4, by omega⟩ d) = G 10) (e9 : x.val / 4 = n → w9 (ix4 (n0 := 1) (n1 := 1) (n2 := 4) (n3 := 128) 0 0 ⟨x.val % 4, by omega⟩ d) = G 9) (e8 : x.val / 4 = n → w8 (ix4 (n0 := 1) (n1 := 1) (n2 := 4) (n3 := 128) 0 0 ⟨x.val % 4, by omega⟩ d) = G 8) (e7 : x.val / 4 = n → w7 (ix4 (n0 := 1) (n1 := 1) (n2 := 4) (n3 := 128) 0 0 ⟨x.val % 4, by omega⟩ d) = G 7) (e6 : x.val / 4 = n → w6 (ix4 (n0 := 1) (n1 := 1) (n2 := 4) (n3 := 128) 0 0 ⟨x.val % 4, by omega⟩ d) = G 6) (e5 : x.val / 4 = n → w5 (ix4 (n0 := 1) (n1 := 1) (n2 := 4) (n3 := 128) 0 0 ⟨x.val % 4, by omega⟩ d) = G 5) (e4 : x.val / 4 = n → w4 (ix4 (n0 := 1) (n1 := 1) (n2 := 4) (n3 := 128) 0 0 ⟨x.val % 4, by omega⟩ d) = G 4) (e3 : x.val / 4 = n → w3 (ix4 (n0 := 1) (n1 := 1) (n2 := 4) (n3 := 128) 0 0 ⟨x.val % 4, by omega⟩ d) = G 3) (e2 : x.val / 4 = n → w2 (ix4 (n0 := 1) (n1 := 1) (n2 := 4) (n3 := 128) 0 0 ⟨x.val % 4, by omega⟩ d) = G 2) (e1 : x.val / 4 = n → w1 (ix4 (n0 := 1) (n1 := 1) (n2 := 4) (n3 := 128) 0 0 ⟨x.val % 4, by omega⟩ d) = G 1) (e0 : x.val / 4 = n → w0 (ix4 (n0 := 1) (n1 := 1) (n2 := 4) (n3 := 128) 0 0 ⟨x.val % 4, by omega⟩ d) = G 0) (h : Fin 14) :
    v.read (Elt Ideal) (v.writes (Elt Ideal) f [(⟨Rect.unit o13 ![1, 1, 4, 128] p13, w13⟩ : View.Piece (Elt Ideal) S1x14x32x128 e), ⟨Rect.unit o12 ![1, 1, 4, 128] p12, w12⟩, ⟨Rect.unit o11 ![1, 1, 4, 128] p11, w11⟩, ⟨Rect.unit o10 ![1, 1, 4, 128] p10, w10⟩, ⟨Rect.unit o9 ![1, 1, 4, 128] p9, w9⟩, ⟨Rect.unit o8 ![1, 1, 4, 128] p8, w8⟩, ⟨Rect.unit o7 ![1, 1, 4, 128] p7, w7⟩, ⟨Rect.unit o6 ![1, 1, 4, 128] p6, w6⟩, ⟨Rect.unit o5 ![1, 1, 4, 128] p5, w5⟩, ⟨Rect.unit o4 ![1, 1, 4, 128] p4, w4⟩, ⟨Rect.unit o3 ![1, 1, 4, 128] p3, w3⟩, ⟨Rect.unit o2 ![1, 1, 4, 128] p2, w2⟩, ⟨Rect.unit o1 ![1, 1, 4, 128] p1, w1⟩, ⟨Rect.unit o0 ![1, 1, 4, 128] p0, w0⟩]) (ix4 0 h x d)
      = if x.val / 4 = n then G h else v.read (Elt Ideal) f (ix4 0 h x d) := by
  by_cases hx : x.val / 4 = n
  · rw [if_pos hx]
    refine (means_step v f 13 n o13 k13 p13 w13 _ h x d).trans ?_
    split_ifs with q
    · obtain rfl : h = 13 := Fin.ext q.1
      exact e13 hx
    refine (means_step v f 12 n o12 k12 p12 w12 _ h x d).trans ?_
    split_ifs with q
    · obtain rfl : h = 12 := Fin.ext q.1
      exact e12 hx
    refine (means_step v f 11 n o11 k11 p11 w11 _ h x d).trans ?_
    split_ifs with q
    · obtain rfl : h = 11 := Fin.ext q.1
      exact e11 hx
    refine (means_step v f 10 n o10 k10 p10 w10 _ h x d).trans ?_
    split_ifs with q
    · obtain rfl : h = 10 := Fin.ext q.1
      exact e10 hx
    refine (means_step v f 9 n o9 k9 p9 w9 _ h x d).trans ?_
    split_ifs with q
    · obtain rfl : h = 9 := Fin.ext q.1
      exact e9 hx
    refine (means_step v f 8 n o8 k8 p8 w8 _ h x d).trans ?_
    split_ifs with q
    · obtain rfl : h = 8 := Fin.ext q.1
      exact e8 hx
    refine (means_step v f 7 n o7 k7 p7 w7 _ h x d).trans ?_
    split_ifs with q
    · obtain rfl : h = 7 := Fin.ext q.1
      exact e7 hx
    refine (means_step v f 6 n o6 k6 p6 w6 _ h x d).trans ?_
    split_ifs with q
    · obtain rfl : h = 6 := Fin.ext q.1
      exact e6 hx
    refine (means_step v f 5 n o5 k5 p5 w5 _ h x d).trans ?_
    split_ifs with q
    · obtain rfl : h = 5 := Fin.ext q.1
      exact e5 hx
    refine (means_step v f 4 n o4 k4 p4 w4 _ h x d).trans ?_
    split_ifs with q
    · obtain rfl : h = 4 := Fin.ext q.1
      exact e4 hx
    refine (means_step v f 3 n o3 k3 p3 w3 _ h x d).trans ?_
    split_ifs with q
    · obtain rfl : h = 3 := Fin.ext q.1
      exact e3 hx
    refine (means_step v f 2 n o2 k2 p2 w2 _ h x d).trans ?_
    split_ifs with q
    · obtain rfl : h = 2 := Fin.ext q.1
      exact e2 hx
    refine (means_step v f 1 n o1 k1 p1 w1 _ h x d).trans ?_
    split_ifs with q
    · obtain rfl : h = 1 := Fin.ext q.1
      exact e1 hx
    refine (means_step v f 0 n o0 k0 p0 w0 _ h x d).trans ?_
    split_ifs with q
    · obtain rfl : h = 0 := Fin.ext q.1
      exact e0 hx
    exact absurd h.isLt (by omega)
  · rw [if_neg hx]
    refine (means_step v f 13 n o13 k13 p13 w13 _ h x d).trans ((if_neg fun q => hx q.2).trans ?_)
    refine (means_step v f 12 n o12 k12 p12 w12 _ h x d).trans ((if_neg fun q => hx q.2).trans ?_)
    refine (means_step v f 11 n o11 k11 p11 w11 _ h x d).trans ((if_neg fun q => hx q.2).trans ?_)
    refine (means_step v f 10 n o10 k10 p10 w10 _ h x d).trans ((if_neg fun q => hx q.2).trans ?_)
    refine (means_step v f 9 n o9 k9 p9 w9 _ h x d).trans ((if_neg fun q => hx q.2).trans ?_)
    refine (means_step v f 8 n o8 k8 p8 w8 _ h x d).trans ((if_neg fun q => hx q.2).trans ?_)
    refine (means_step v f 7 n o7 k7 p7 w7 _ h x d).trans ((if_neg fun q => hx q.2).trans ?_)
    refine (means_step v f 6 n o6 k6 p6 w6 _ h x d).trans ((if_neg fun q => hx q.2).trans ?_)
    refine (means_step v f 5 n o5 k5 p5 w5 _ h x d).trans ((if_neg fun q => hx q.2).trans ?_)
    refine (means_step v f 4 n o4 k4 p4 w4 _ h x d).trans ((if_neg fun q => hx q.2).trans ?_)
    refine (means_step v f 3 n o3 k3 p3 w3 _ h x d).trans ((if_neg fun q => hx q.2).trans ?_)
    refine (means_step v f 2 n o2 k2 p2 w2 _ h x d).trans ((if_neg fun q => hx q.2).trans ?_)
    refine (means_step v f 1 n o1 k1 p1 w1 _ h x d).trans ((if_neg fun q => hx q.2).trans ?_)
    refine (means_step v f 0 n o0 k0 p0 w0 _ h x d).trans ((if_neg fun q => hx q.2).trans ?_)
    rw [View.writes_nil]

/-- The row of scales that a load of one head reads. -/
theorem ld_scales (y : S1x14x128.Idx → Elt Ideal e) (p : ℕ) (hp : p < 14) (inb) (x : Fin 128) :
    View.ld y (Rect.unit ![0, p, 0] ![1, 1, 128] inb) (ix3 (n0 := 1) (n1 := 1) (n2 := 128) 0 0 x) = y (ix3 0 ⟨p, hp⟩ x) := by
  refine congrArg y (funext fun a => Fin.ext ?_)
  match a with
  | ⟨0, _⟩ => simp [Rect.idx_unit_val]
  | ⟨1, _⟩ => simp [Rect.idx_unit_val]
  | ⟨2, _⟩ => simp [Rect.idx_unit_val]

end

end Cert.Proof.Qkv

end
-- ==== Proof.QkvPoint.lean ====
/- WHAT ONE GRID POINT OF THE PROJECTION LEAVES: the codes of its 512 rows and their scales in the rows' span of the scales window; the mean
   queries of its four blocks of 128 positions; the codes of its queries, and the scales of its 16 blocks of 32 positions in their lanes. What
   the windows of scales and means hold elsewhere stays. -/
module

public import proofs.«01_k».proof.Proof.QkvIdealFrame
public import proofs.«01_k».proof.Proof.QkvPayloads
public import proofs.«01_k».proof.Proof.QkvHeads
public import proofs.«01_k».proof.Proof.QkvMath
public import Idealize.ShloMosaic.Lib.Pipeline.ValueKit
public import Idealize.ShloMosaic.Lib.Pipeline.Covers
public import Idealize.ShloMosaic.Lib.Pipeline.ReadBack
public import Idealize.ShloMosaic.Lib.Pointwise
public import Idealize.ShloMosaic.Lib.VecWindow

@[expose] public section

set_option maxRecDepth 16384

noncomputable section

namespace Cert.Proof.Qkv

open Idealize.ShloMosaic Idealize.ShloMosaic.TcCoe Idealize.ShloMosaic.Tactic
open Cert.QkvIdeal Cert.QkvIdeal.Gen Cert.QkvIdeal.Hand
open Cert.Proof.KvCodes (scale8 code8)
open Idealize.SL.Sem
open scoped BigOperators

variable (m : (ℓ : Loc nD τ sig) → Buf (Elt Ideal) ℓ)

/-- The grid's coordinates: the sequence and the tile. -/
theorem lt0 (t : Fin grid0.N) : (grid0.coords t 0).val < 4 := (grid0.coords t 0).isLt
theorem lt1 (t : Fin grid0.N) : (grid0.coords t 1).val < 8 := (grid0.coords t 1).isLt
theorem coord0 : ∀ t : Fin grid0.N, (grid0.coords t 0).val = t.val / 8 := by decide +kernel
theorem coord1 : ∀ t : Fin grid0.N, (grid0.coords t 1).val = t.val % 8 := by decide +kernel

/-- The span of the scales that a tile reads and writes starts at column 512 · tile, -/
theorem off1_eq (i : grid0.Coords) : k0_off1 i = ![0, (i 1).val * 512] := by
  have h : (i 1).val < 8 := (i 1).isLt
  unfold k0_off1
  try dsimp only
  generalize (i 1).val = n at h
  revert n
  decide
/-- and the rows of each head's means start at row 4 · tile. -/
theorem off2_eq (i : grid0.Coords) : k0_off2 i = ![0, 0, (i 1).val * 4, 0] := by
  have h : (i 1).val < 8 := (i 1).isLt
  unfold k0_off2
  try dsimp only
  generalize (i 1).val = n at h
  revert n
  decide
theorem off3_eq (i : grid0.Coords) : k0_off3 i = ![0, 1, (i 1).val * 4, 0] := by
  have h : (i 1).val < 8 := (i 1).isLt
  unfold k0_off3
  try dsimp only
  generalize (i 1).val = n at h
  revert n
  decide
theorem off4_eq (i : grid0.Coords) : k0_off4 i = ![0, 2, (i 1).val * 4, 0] := by
  have h : (i 1).val < 8 := (i 1).isLt
  unfold k0_off4
  try dsimp only
  generalize (i 1).val = n at h
  revert n
  decide
theorem off5_eq (i : grid0.Coords) : k0_off5 i = ![0, 3, (i 1).val * 4, 0] := by
  have h : (i 1).val < 8 := (i 1).isLt
  unfold k0_off5
  try dsimp only
  generalize (i 1).val = n at h
  revert n
  decide
theorem off6_eq (i : grid0.Coords) : k0_off6 i = ![0, 4, (i 1).val * 4, 0] := by
  have h : (i 1).val < 8 := (i 1).isLt
  unfold k0_off6
  try dsimp only
  generalize (i 1).val = n at h
  revert n
  decide
theorem off7_eq (i : grid0.Coords) : k0_off7 i = ![0, 5, (i 1).val * 4, 0] := by
  have h : (i 1).val < 8 := (i 1).isLt
  unfold k0_off7
  try dsimp only
  generalize (i 1).val = n at h
  revert n
  decide
theorem off8_eq (i : grid0.Coords) : k0_off8 i = ![0, 6, (i 1).val * 4, 0] := by
  have h : (i 1).val < 8 := (i 1).isLt
  unfold k0_off8
  try dsimp only
  generalize (i 1).val = n at h
  revert n
  decide
theorem off9_eq (i : grid0.Coords) : k0_off9 i = ![0, 7, (i 1).val * 4, 0] := by
  have h : (i 1).val < 8 := (i 1).isLt
  unfold k0_off9
  try dsimp only
  generalize (i 1).val = n at h
  revert n
  decide
theorem off10_eq (i : grid0.Coords) : k0_off10 i = ![0, 8, (i 1).val * 4, 0] := by
  have h : (i 1).val < 8 := (i 1).isLt
  unfold k0_off10
  try dsimp only
  generalize (i 1).val = n at h
  revert n
  decide
theorem off11_eq (i : grid0.Coords) : k0_off11 i = ![0, 9, (i 1).val * 4, 0] := by
  have h : (i 1).val < 8 := (i 1).isLt
  unfold k0_off11
  try dsimp only
  generalize (i 1).val = n at h
  revert n
  decide
theorem off12_eq (i : grid0.Coords) : k0_off12 i = ![0, 10, (i 1).val * 4, 0] := by
  have h : (i 1).val < 8 := (i 1).isLt
  unfold k0_off12
  try dsimp only
  generalize (i 1).val = n at h
  revert n
  decide
theorem off13_eq (i : grid0.Coords) : k0_off13 i = ![0, 11, (i 1).val * 4, 0] := by
  have h : (i 1).val < 8 := (i 1).isLt
  unfold k0_off13
  try dsimp only
  generalize (i 1).val = n at h
  revert n
  decide
theorem off14_eq (i : grid0.Coords) : k0_off14 i = ![0, 12, (i 1).val * 4, 0] := by
  have h : (i 1).val < 8 := (i 1).isLt
  unfold k0_off14
  try dsimp only
  generalize (i 1).val = n at h
  revert n
  decide
theorem off15_eq (i : grid0.Coords) : k0_off15 i = ![0, 13, (i 1).val * 4, 0] := by
  have h : (i 1).val < 8 := (i 1).isLt
  unfold k0_off15
  try dsimp only
  generalize (i 1).val = n at h
  revert n
  decide

/-- Which block each window takes at a point. -/
theorem map0 : ∀ t : Fin grid0.N, cc0_transform_0 (grid0.coords t) = ![(grid0.coords t 0).val, (grid0.coords t 1).val, 0] := by decide +kernel
theorem map1 : ∀ t : Fin grid0.N, cc0_transform_1 (grid0.coords t) = ![0, 0] := by decide +kernel
theorem map2 : ∀ t : Fin grid0.N, cc0_transform_2 (grid0.coords t) = ![0, 0] := by decide +kernel
theorem map3 : ∀ t : Fin grid0.N, cc0_transform_3 (grid0.coords t) = ![0, 0] := by decide +kernel
theorem map4 : ∀ t : Fin grid0.N, cc0_transform_4 (grid0.coords t) = ![0, 0] := by decide +kernel
theorem map5 : ∀ t : Fin grid0.N, cc0_transform_5 (grid0.coords t) = ![(grid0.coords t 0).val, 0, (grid0.coords t 1).val] := by decide +kernel
theorem map6 : ∀ t : Fin grid0.N, cc0_transform_6 (grid0.coords t) = ![(grid0.coords t 0).val, 0, (grid0.coords t 1).val] := by decide +kernel
theorem map7 : ∀ t : Fin grid0.N, cc0_transform_7 (grid0.coords t) = ![(grid0.coords t 0).val, (grid0.coords t 1).val, 0] := by decide +kernel
theorem map8 : ∀ t : Fin grid0.N, cc0_transform_8 (grid0.coords t) = ![0, 0] := by decide +kernel
theorem map9 : ∀ t : Fin grid0.N, cc0_transform_9 (grid0.coords t) = ![(grid0.coords t 0).val, 0, 0, 0] := by decide +kernel
theorem map10 : ∀ t : Fin grid0.N, cc0_transform_10 (grid0.coords t) = ![(grid0.coords t 0).val, 0, (grid0.coords t 1).val, 0] := by decide +kernel
theorem map11 : ∀ t : Fin grid0.N, cc0_transform_11 (grid0.coords t) = ![(grid0.coords t 0).val, 0, 0] := by decide +kernel

variable (c : Dev nD)

/-- The argument arrays, as the launch finds them. -/
def args : Args where
  len := m ((c : Thread nD τ).loc main_arg0)
  x := m ((c : Thread nD τ).loc main_arg1)
  ln := m ((c : Thread nD τ).loc main_arg2)
  w := m ((c : Thread nD τ).loc main_arg3)
  ws := m ((c : Thread nD τ).loc main_arg4)
  bias := m ((c : Thread nD τ).loc main_arg5)
  cos := m ((c : Thread nD τ).loc main_arg6)
  sin := m ((c : Thread nD τ).loc main_arg7)

variable (t : Fin (cfgM m).N)

/-- The sequence of a point, and the position of row `r` of its tile. -/
def seq (t : Fin grid0.N) : Fin 4 := ⟨(grid0.coords t 0).val, lt0 t⟩
def pos (t : Fin grid0.N) (r : Fin 512) : Fin 4096 := ⟨(grid0.coords t 1).val * 512 + r.val, by have := lt1 t; omega⟩

/-- The blocks the point finds: input, norm weights, weights, their scales, bias, cosines, sines. -/
def b0 : Vec Ideal S1x512x3584 .bf16 := iblk m c 0 t
def b1 : Vec Ideal S1x3584 .f32 := iblk m c 1 t
def b2 : Vec Ideal S3584x2304 .fp8e4m3 := iblk m c 2 t
def b3 : Vec Ideal S1x2304 .f32 := iblk m c 3 t
def b4 : Vec Ideal S1x2304 .f32 := iblk m c 4 t
def b5 : Vec Ideal S1x64x512 .f32 := iblk m c 5 t
def b6 : Vec Ideal S1x64x512 .f32 := iblk m c 6 t

/-- They are parts of the argument arrays. -/
theorem blk0 (r : Fin 512) (k : Fin 3584) : b0 m c t (ix3 0 r k) = (args m c).x (ix3 (seq t) (pos t r) k) := by
  unfold b0
  blk_simp [iblk]
  refine congrArg (m ((c : Thread nD τ).loc main_arg1)) (funext fun a => Fin.ext ?_)
  match a with
  | ⟨0, _⟩ => blk_simp; exact congrArg (· + 0) (congrFun (map0 t) 0)
  | ⟨1, _⟩ => blk_simp; exact congrArg (· * 512 + r.val) (congrFun (map0 t) 1)
  | ⟨2, _⟩ => blk_simp; exact (congrArg (· * 3584 + k.val) (congrFun (map0 t) 2)).trans (by simp)
theorem blk1 (k : Fin 3584) : b1 m c t (ix2 0 k) = (args m c).ln (ix2 0 k) := by
  unfold b1
  blk_simp [iblk]
  refine congrArg (m ((c : Thread nD τ).loc main_arg2)) (funext fun a => Fin.ext ?_)
  match a with
  | ⟨0, _⟩ => blk_simp; exact congrArg (· + 0) (congrFun (map1 t) 0)
  | ⟨1, _⟩ => blk_simp; exact (congrArg (· * 3584 + k.val) (congrFun (map1 t) 1)).trans (by simp)
theorem blk2 (k : Fin 3584) (n : Fin 2304) : b2 m c t (ix2 k n) = (args m c).w (ix2 k n) := by
  unfold b2
  blk_simp [iblk]
  refine congrArg (m ((c : Thread nD τ).loc main_arg3)) (funext fun a => Fin.ext ?_)
  match a with
  | ⟨0, _⟩ => blk_simp; exact (congrArg (· * 3584 + k.val) (congrFun (map2 t) 0)).trans (by simp)
  | ⟨1, _⟩ => blk_simp; exact (congrArg (· * 2304 + n.val) (congrFun (map2 t) 1)).trans (by simp)
theorem blk3 (n : Fin 2304) : b3 m c t (ix2 0 n) = (args m c).ws (ix2 0 n) := by
  unfold b3
  blk_simp [iblk]
  refine congrArg (m ((c : Thread nD τ).loc main_arg4)) (funext fun a => Fin.ext ?_)
  match a with
  | ⟨0, _⟩ => blk_simp; exact congrArg (· + 0) (congrFun (map3 t) 0)
  | ⟨1, _⟩ => blk_simp; exact (congrArg (· * 2304 + n.val) (congrFun (map3 t) 1)).trans (by simp)
theorem blk4 (n : Fin 2304) : b4 m c t (ix2 0 n) = (args m c).bias (ix2 0 n) := by
  unfold b4
  blk_simp [iblk]
  refine congrArg (m ((c : Thread nD τ).loc main_arg5)) (funext fun a => Fin.ext ?_)
  match a with
  | ⟨0, _⟩ => blk_simp; exact congrArg (· + 0) (congrFun (map4 t) 0)
  | ⟨1, _⟩ => blk_simp; exact (congrArg (· * 2304 + n.val) (congrFun (map4 t) 1)).trans (by simp)
theorem blk5 (f : Fin 64) (r : Fin 512) : b5 m c t (ix3 0 f r) = (args m c).cos (ix3 (seq t) f (pos t r)) := by
  unfold b5
  blk_simp [iblk]
  refine congrArg (m ((c : Thread nD τ).loc main_arg6)) (funext fun a => Fin.ext ?_)
  match a with
  | ⟨0, _⟩ => blk_simp; exact congrArg (· + 0) (congrFun (map5 t) 0)
  | ⟨1, _⟩ => blk_simp; exact (congrArg (· * 64 + f.val) (congrFun (map5 t) 1)).trans (by simp)
  | ⟨2, _⟩ => blk_simp; exact congrArg (· * 512 + r.val) (congrFun (map5 t) 2)
theorem blk6 (f : Fin 64) (r : Fin 512) : b6 m c t (ix3 0 f r) = (args m c).sin (ix3 (seq t) f (pos t r)) := by
  unfold b6
  blk_simp [iblk]
  refine congrArg (m ((c : Thread nD τ).loc main_arg7)) (funext fun a => Fin.ext ?_)
  match a with
  | ⟨0, _⟩ => blk_simp; exact congrArg (· + 0) (congrFun (map6 t) 0)
  | ⟨1, _⟩ => blk_simp; exact (congrArg (· * 64 + f.val) (congrFun (map6 t) 1)).trans (by simp)
  | ⟨2, _⟩ => blk_simp; exact congrArg (· * 512 + r.val) (congrFun (map6 t) 2)

/-- The staged blocks, read. -/
theorem rd0 : View.read (Elt Ideal) (ms0_0 m t).view ((hs0_0 m t).unread (iblk m c 0 t)) = b0 m c t := Memref.IsWhole.read_unread (hs0_0 m t) (iblk m c 0 t)
theorem rd1 : View.read (Elt Ideal) (ms0_1 m t).view ((hs0_1 m t).unread (iblk m c 1 t)) = b1 m c t := Memref.IsWhole.read_unread (hs0_1 m t) (iblk m c 1 t)
theorem rd2 : View.read (Elt Ideal) (ms0_2 m t).view ((hs0_2 m t).unread (iblk m c 2 t)) = b2 m c t := Memref.IsWhole.read_unread (hs0_2 m t) (iblk m c 2 t)
theorem rd3 : View.read (Elt Ideal) (ms0_3 m t).view ((hs0_3 m t).unread (iblk m c 3 t)) = b3 m c t := Memref.IsWhole.read_unread (hs0_3 m t) (iblk m c 3 t)
theorem rd4 : View.read (Elt Ideal) (ms0_4 m t).view ((hs0_4 m t).unread (iblk m c 4 t)) = b4 m c t := Memref.IsWhole.read_unread (hs0_4 m t) (iblk m c 4 t)
theorem rd5 : View.read (Elt Ideal) (ms0_5 m t).view ((hs0_5 m t).unread (iblk m c 5 t)) = b5 m c t := Memref.IsWhole.read_unread (hs0_5 m t) (iblk m c 5 t)
theorem rd6 : View.read (Elt Ideal) (ms0_6 m t).view ((hs0_6 m t).unread (iblk m c 6 t)) = b6 m c t := Memref.IsWhole.read_unread (hs0_6 m t) (iblk m c 6 t)

/-- The rows' scales and codes, the projected tile, and the angles' factors. -/
def rs : FVec Ideal S512x1 .f32 := k0_pay5 (b0 m c t) (b1 m c t)
def rc : FVec Ideal S512x3584 .fp8e4m3 := k0_pay6 (b0 m c t) (b1 m c t)
def pj : FVec Ideal S512x2304 .f32 := k0_pay10 (rs m c t) (k0_pay9 (rc m c t) (b2 m c t)) (b3 m c t) (b4 m c t)
def cs : FVec Ideal S512x128 .f32 := k0_pay11 (b5 m c t)
def sn : FVec Ideal S512x128 .f32 := k0_pay12 (b6 m c t)

theorem row_eq (r : Fin 512) : normed (fun k => b0 m c t (ix3 0 r k)) (fun k => b1 m c t (ix2 0 k)) = row (args m c) (seq t) (pos t r) := by
  simp only [blk0, blk1]
  rfl
theorem rs_apply (r : Fin 512) : rs m c t (ix2 r 0) = scale (args m c) (seq t) (pos t r) := by
  rw [rs, pay5_apply, row_eq]
  rfl
theorem rc_apply (r : Fin 512) (k : Fin 3584) : rc m c t (ix2 r k) = codeAt (args m c) (seq t) (pos t r) k := by
  rw [rc, pay6_apply, row_eq]
  rfl
theorem pj_apply (r : Fin 512) (n : Fin 2304) : pj m c t (ix2 r n) = proj (args m c) (seq t) (pos t r) n := by
  rw [pj, pay10_apply, pay9_apply, rs_apply, blk3, blk4]
  simp only [rc_apply, blk2]
  rfl

/-- A rotated and scaled query. -/
theorem query_eq (h : Fin 14) (r : Fin 512) (d : Fin 128) :
    turnAt (headOf (pj m c t) h) (cs m c t) (sn m c t) r d = query (args m c) (seq t) h (pos t r) d := by
  have eq (d) : headOf (pj m c t) h (ix2 r d) = proj (args m c) (seq t) (pos t r) (col h d) := pj_apply m c t r (col h d)
  unfold turnAt query turn
  rw [eq, eq, cs, sn, pay11_apply, pay12_apply]
  simp only [blk5, blk6]
  split_ifs with hd
  · have e1 : (⟨(d.val + 128 - 64) % 128, Nat.mod_lt _ (by decide)⟩ : Fin 128) = ⟨d.val + 64, by omega⟩ := Fin.ext (by simp only; omega)
    rw [e1, add_mul_neg]
  · have e1 : (⟨(d.val + 128 - 64) % 128, Nat.mod_lt _ (by decide)⟩ : Fin 128) = ⟨d.val - 64, by omega⟩ := Fin.ext (by simp only; omega)
    rw [e1]

/-- Blocks of a tile, as blocks of the sequence: of 128 positions, -/
def blk (t : Fin grid0.N) (j : Fin 4) : Fin 32 := ⟨(grid0.coords t 1).val * 4 + j.val, by have := lt1 t; omega⟩
theorem pos_at (j : Fin 4) (x : Fin 128) : pos t ⟨j.val * 128 + x.val, by omega⟩ = at128 (blk t j) x :=
  Fin.ext (by show (grid0.coords t 1).val * 512 + (j.val * 128 + x.val) = ((grid0.coords t 1).val * 4 + j.val) * 128 + x.val; omega)
/-- and of 32 positions. -/
def sub (t : Fin grid0.N) (j : Fin 16) : Fin 128 := ⟨(grid0.coords t 1).val * 16 + j.val, by have := lt1 t; omega⟩
theorem pos_sub (j : Fin 16) (x : Fin 32) : pos t ⟨j.val * 32 + x.val, by omega⟩ = at32 (sub t j) x :=
  Fin.ext (by show (grid0.coords t 1).val * 512 + (j.val * 32 + x.val) = ((grid0.coords t 1).val * 16 + j.val) * 32 + x.val; omega)

/-- The mean of a block, -/
theorem mean_eq (h : Fin 14) (j : Fin 4) (d : Fin 128) :
    meanAt (headOf (pj m c t) h) (cs m c t) (sn m c t) j d = mean (args m c) (seq t) h (blk t j) d := by
  unfold meanAt mean
  simp only [query_eq, pos_at]
/-- a query less the mean, -/
theorem diff_eq (h : Fin 14) (j : Fin 16) (x : Fin 32) (d : Fin 128) :
    diffs (headOf (pj m c t) h) (cs m c t) (sn m c t) (ix3 j x d) = diff (args m c) (seq t) h (at32 (sub t j) x) d := by
  rw [diffs_apply, query_eq, mean_eq, pos_sub, diff]
  have e : blk t ⟨(j.val * 32 + x.val) / 128, by omega⟩ = of128 (at32 (sub t j) x) :=
    Fin.ext (by show (grid0.coords t 1).val * 4 + (j.val * 32 + x.val) / 128 = (((grid0.coords t 1).val * 16 + j.val) * 32 + x.val) / 128; omega)
  rw [e]
/-- the scale of a block, -/
theorem qscale_eq (h : Fin 14) (j : Fin 16) :
    scales (diffs (headOf (pj m c t) h) (cs m c t) (sn m c t)) (ix2 j 0) = qscale (args m c) (seq t) h (sub t j) := by
  rw [scales_apply]
  simp only [diff_eq]
  rfl
/-- and a query's code. -/
theorem qcode_eq (h : Fin 14) (r : Fin 512) (d : Fin 128) :
    codes (diffs (headOf (pj m c t) h) (cs m c t) (sn m c t)) (ix4 0 0 r d) = qcode (args m c) (seq t) h (pos t r) d := by
  obtain ⟨j, x, rfl⟩ : ∃ (j : Fin 16) (x : Fin 32), r = ⟨j.val * 32 + x.val, by omega⟩ :=
    ⟨⟨r.val / 32, by omega⟩, ⟨r.val % 32, by omega⟩, Fin.ext (by show r.val = r.val / 32 * 32 + r.val % 32; omega)⟩
  rw [codes_apply, diff_eq, qscale_eq, pos_sub, qcode]
  have e : sub t j = of32 (at32 (sub t j) x) :=
    Fin.ext (by show (grid0.coords t 1).val * 16 + j.val = (((grid0.coords t 1).val * 16 + j.val) * 32 + x.val) / 32; omega)
  rw [← e]

/-- The row codes after a point. -/
theorem codesOut_apply (y7 y8 y11) (r : Fin 512) (k : Fin 3584) : codesOut m c t y7 y8 y11 (ix3 0 r k) = codeAt (args m c) (seq t) (pos t r) k := by
  have e : codesOut m c t y7 y8 y11 = k0_pay7 (F := Ideal) (b0 m c t) (b1 m c t) := by
    unfold codesOut at_
    frame_out
    rw [rd0 m c t, rd1 m c t]
    exact View.read_writes_full _ _ _ _ _
  rw [e, pay7_apply]
  exact rc_apply m c t r k

/-- The row scales after a point: the point's rows take their scales, the rest stays. -/
theorem scalesOut_apply (y8 y11) (b : Fin 4) (s : Fin 4096) : scalesOut m c t y8 y11 (ix2 b s)
    = if b.val = (grid0.coords t 0).val ∧ s.val / 512 = (grid0.coords t 1).val then scale (args m c) b s else y8 (ix2 b s) := by
  have h0 := lt0 t
  have hb := b.isLt
  have hd := s.isLt
  unfold scalesOut at_
  frame_out
  rw [View.read_writes_cons_unit _ _ _ _ _ _ (off1_eq (grid0.coords t)), View.writes_nil, rd0 m c t, rd1 m c t]
  split_ifs with h1 h2 h2
  · obtain ⟨e0, e1⟩ := h2
    have k1 := h1 1
    simp at k1
    have e : Rect.unitLocal (s := S4x4096) (ix2 b s) h1 = ix2 (n0 := 4) (n1 := 512) b ⟨s.val % 512, by omega⟩ := by
      refine funext fun a => Fin.ext ?_
      match a with
      | ⟨0, _⟩ => rfl
      | ⟨1, _⟩ => show s.val - _ = s.val % 512; simp; omega
    refine (congrArg _ e).trans ?_
    refine (pay8_apply _ h0 (rs m c t) _ b _).trans ?_
    rw [if_pos e0, rs_apply]
    have eb : seq t = b := Fin.ext e0.symm
    have es : pos t ⟨s.val % 512, by omega⟩ = s := Fin.ext (by show (grid0.coords t 1).val * 512 + s.val % 512 = s.val; omega)
    rw [eb, es]
  · have k1 := h1 1
    simp at k1 h2
    have e : Rect.unitLocal (s := S4x4096) (ix2 b s) h1 = ix2 (n0 := 4) (n1 := 512) b ⟨s.val % 512, by omega⟩ := by
      refine funext fun a => Fin.ext ?_
      match a with
      | ⟨0, _⟩ => rfl
      | ⟨1, _⟩ => show s.val - _ = s.val % 512; simp; omega
    refine (congrArg _ e).trans ?_
    refine (pay8_apply _ h0 (rs m c t) _ b _).trans ?_
    rw [if_neg (fun hh => h2 hh (by omega))]
    refine congrArg y8 (funext fun a => Fin.ext ?_)
    match a with
    | ⟨0, _⟩ => simp [Rect.idx_unit_val, off1_eq]
    | ⟨1, _⟩ => simp [Rect.idx_unit_val, off1_eq]; omega
  · refine absurd (fun a => ?_) h1
    match a with
    | ⟨0, _⟩ => exact ⟨Nat.zero_le _, by simpa using hb⟩
    | ⟨1, _⟩ => simp; omega
  · exact congrFun (Memref.IsWhole.read_unread _ y8) _

/-- The query codes after a point. -/
theorem qcodesOut_apply (y10 y8 y11) (h : Fin 14) (r : Fin 512) (d : Fin 128) :
    qcodesOut m c t y10 y8 y11 (ix4 0 h r d) = qcode (args m c) (seq t) h (pos t r) d := by
  unfold qcodesOut at_
  frame_out
  rw [rd0 m c t, rd1 m c t, rd2 m c t, rd3 m c t, rd4 m c t, rd5 m c t, rd6 m c t]
  refine codes_heads (e := .i8) _ _ _ _ _ _ _ _ _ _ _ _ _ _ _ _ _ _ _ _ _ _ _ _ _ _ _ _ _ _ r d (fun h => qcode (args m c) (seq t) h (pos t r) d) ?_ ?_ ?_ ?_ ?_ ?_ ?_ ?_ ?_ ?_ ?_ ?_ ?_ ?_ h
  · exact (congrFun (codes_head13 (pj m c t) (cs m c t) (sn m c t)) _).trans (qcode_eq m c t 13 r d)
  · exact (congrFun (codes_head12 (pj m c t) (cs m c t) (sn m c t)) _).trans (qcode_eq m c t 12 r d)
  · exact (congrFun (codes_head11 (pj m c t) (cs m c t) (sn m c t)) _).trans (qcode_eq m c t 11 r d)
  · exact (congrFun (codes_head10 (pj m c t) (cs m c t) (sn m c t)) _).trans (qcode_eq m c t 10 r d)
  · exact (congrFun (codes_head9 (pj m c t) (cs m c t) (sn m c t)) _).trans (qcode_eq m c t 9 r d)
  · exact (congrFun (codes_head8 (pj m c t) (cs m c t) (sn m c t)) _).trans (qcode_eq m c t 8 r d)
  · exact (congrFun (codes_head7 (pj m c t) (cs m c t) (sn m c t)) _).trans (qcode_eq m c t 7 r d)
  · exact (congrFun (codes_head6 (pj m c t) (cs m c t) (sn m c t)) _).trans (qcode_eq m c t 6 r d)
  · exact (congrFun (codes_head5 (pj m c t) (cs m c t) (sn m c t)) _).trans (qcode_eq m c t 5 r d)
  · exact (congrFun (codes_head4 (pj m c t) (cs m c t) (sn m c t)) _).trans (qcode_eq m c t 4 r d)
  · exact (congrFun (codes_head3 (pj m c t) (cs m c t) (sn m c t)) _).trans (qcode_eq m c t 3 r d)
  · exact (congrFun (codes_head2 (pj m c t) (cs m c t) (sn m c t)) _).trans (qcode_eq m c t 2 r d)
  · exact (congrFun (codes_head1 (pj m c t) (cs m c t) (sn m c t)) _).trans (qcode_eq m c t 1 r d)
  · exact (congrFun (codes_head0 (pj m c t) (cs m c t) (sn m c t)) _).trans (qcode_eq m c t 0 r d)

/-- The query scales after a point: the tile's blocks take their scales, the rest stays. -/
theorem qscalesOut_apply (y8 y11) (h : Fin 14) (x : Fin 128) : qscalesOut m c t y8 y11 (ix3 0 h x)
    = if x.val / 16 = (grid0.coords t 1).val then qscale (args m c) (seq t) h x else y11 (ix3 0 h x) := by
  have hx := x.isLt
  have e (q : x.val / 16 = (grid0.coords t 1).val) : sub t ⟨x.val % 16, by omega⟩ = x :=
    Fin.ext (by show (grid0.coords t 1).val * 16 + x.val % 16 = x.val; omega)
  have g (h : Fin 14) (old : Vec Ideal S1x1x128 .f32) (ho : old (ix3 0 0 x) = y11 (ix3 0 h x)) :
      placed (k0_pay13 (BitVec.ofNat 32 (grid0.coords t 1).val)) (k0_pay17 (BitVec.ofNat 32 (grid0.coords t 1).val) k0_pay14 k0_pay15 k0_pay16)
        (scales (diffs (headOf (pj m c t) h) (cs m c t) (sn m c t))) old (ix3 0 0 x)
      = if x.val / 16 = (grid0.coords t 1).val then qscale (args m c) (seq t) h x else y11 (ix3 0 h x) := by
    rw [placed_apply _ (lt1 t)]
    split_ifs with q
    · rw [qscale_eq, e q]
    · exact ho
  unfold qscalesOut at_
  frame_out
  rw [rd0 m c t, rd1 m c t, rd2 m c t, rd3 m c t, rd4 m c t, rd5 m c t, rd6 m c t]
  refine scales_heads (e := .f32) _ _ _ _ _ _ _ _ _ _ _ _ _ _ _ _ _ _ _ _ _ _ _ _ _ _ _ _ _ _ x (fun h => if x.val / 16 = (grid0.coords t 1).val then qscale (args m c) (seq t) h x else y11 (ix3 0 h x)) ?_ ?_ ?_ ?_ ?_ ?_ ?_ ?_ ?_ ?_ ?_ ?_ ?_ ?_ h
  · exact (congrFun (scales_head13 (pj m c t) (cs m c t) (sn m c t) _ _ _) _).trans (g 13 _ (ld_scales y11 13 (by decide) _ x))
  · exact (congrFun (scales_head12 (pj m c t) (cs m c t) (sn m c t) _ _ _) _).trans (g 12 _ (ld_scales y11 12 (by decide) _ x))
  · exact (congrFun (scales_head11 (pj m c t) (cs m c t) (sn m c t) _ _ _) _).trans (g 11 _ (ld_scales y11 11 (by decide) _ x))
  · exact (congrFun (scales_head10 (pj m c t) (cs m c t) (sn m c t) _ _ _) _).trans (g 10 _ (ld_scales y11 10 (by decide) _ x))
  · exact (congrFun (scales_head9 (pj m c t) (cs m c t) (sn m c t) _ _ _) _).trans (g 9 _ (ld_scales y11 9 (by decide) _ x))
  · exact (congrFun (scales_head8 (pj m c t) (cs m c t) (sn m c t) _ _ _) _).trans (g 8 _ (ld_scales y11 8 (by decide) _ x))
  · exact (congrFun (scales_head7 (pj m c t) (cs m c t) (sn m c t) _ _ _) _).trans (g 7 _ (ld_scales y11 7 (by decide) _ x))
  · exact (congrFun (scales_head6 (pj m c t) (cs m c t) (sn m c t) _ _ _) _).trans (g 6 _ (ld_scales y11 6 (by decide) _ x))
  · exact (congrFun (scales_head5 (pj m c t) (cs m c t) (sn m c t) _ _ _) _).trans (g 5 _ (ld_scales y11 5 (by decide) _ x))
  · exact (congrFun (scales_head4 (pj m c t) (cs m c t) (sn m c t) _ _ _) _).trans (g 4 _ (ld_scales y11 4 (by decide) _ x))
  · exact (congrFun (scales_head3 (pj m c t) (cs m c t) (sn m c t) _ _ _) _).trans (g 3 _ (ld_scales y11 3 (by decide) _ x))
  · exact (congrFun (scales_head2 (pj m c t) (cs m c t) (sn m c t) _ _ _) _).trans (g 2 _ (ld_scales y11 2 (by decide) _ x))
  · exact (congrFun (scales_head1 (pj m c t) (cs m c t) (sn m c t) _ _ _) _).trans (g 1 _ (ld_scales y11 1 (by decide) _ x))
  · exact (congrFun (scales_head0 (pj m c t) (cs m c t) (sn m c t) _ _ _) _).trans (g 0 _ (ld_scales y11 0 (by decide) _ x))

/-- The mean queries after a point: the tile's blocks take their means, the rest stays. -/
theorem meanOut_apply (y9 y8 y11) (h : Fin 14) (x : Fin 32) (d : Fin 128) : meanOut m c t y9 y8 y11 (ix4 0 h x d)
    = if x.val / 4 = (grid0.coords t 1).val then mean (args m c) (seq t) h x d else y9 (ix4 0 h x d) := by
  have hx := x.isLt
  have e (q : x.val / 4 = (grid0.coords t 1).val) : blk t ⟨x.val % 4, by omega⟩ = x :=
    Fin.ext (by show (grid0.coords t 1).val * 4 + x.val % 4 = x.val; omega)
  have g (h : Fin 14) (q : x.val / 4 = (grid0.coords t 1).val) : meanBlock (headOf (pj m c t) h) (cs m c t) (sn m c t) (ix4 0 0 ⟨x.val % 4, by omega⟩ d)
      = mean (args m c) (seq t) h x d := by
    rw [meanBlock_apply, mean_eq, e q]
  unfold meanOut at_
  frame_out
  rw [rd0 m c t, rd1 m c t, rd2 m c t, rd3 m c t, rd4 m c t, rd5 m c t, rd6 m c t]
  refine (means_heads (e := .f32) _ _ (grid0.coords t 1).val _ _ _ _ _ _ _ _ _ _ _ _ _ _ (off15_eq (grid0.coords t)) (off14_eq (grid0.coords t)) (off13_eq (grid0.coords t)) (off12_eq (grid0.coords t)) (off11_eq (grid0.coords t)) (off10_eq (grid0.coords t)) (off9_eq (grid0.coords t)) (off8_eq (grid0.coords t)) (off7_eq (grid0.coords t)) (off6_eq (grid0.coords t)) (off5_eq (grid0.coords t)) (off4_eq (grid0.coords t)) (off3_eq (grid0.coords t)) (off2_eq (grid0.coords t)) _ _ _ _ _ _ _ _ _ _ _ _ _ _ _ _ _ _ _ _ _ _ _ _ _ _ _ _ x d
    (fun h => mean (args m c) (seq t) h x d) ?_ ?_ ?_ ?_ ?_ ?_ ?_ ?_ ?_ ?_ ?_ ?_ ?_ ?_ h).trans (congrArg (fun z => if x.val / 4 = (grid0.coords t 1).val then mean (args m c) (seq t) h x d else z) (congrFun (Memref.IsWhole.read_unread _ y9) _))
  · exact fun q => (congrFun (means_head13 (pj m c t) (cs m c t) (sn m c t)) _).trans (g 13 q)
  · exact fun q => (congrFun (means_head12 (pj m c t) (cs m c t) (sn m c t)) _).trans (g 12 q)
  · exact fun q => (congrFun (means_head11 (pj m c t) (cs m c t) (sn m c t)) _).trans (g 11 q)
  · exact fun q => (congrFun (means_head10 (pj m c t) (cs m c t) (sn m c t)) _).trans (g 10 q)
  · exact fun q => (congrFun (means_head9 (pj m c t) (cs m c t) (sn m c t)) _).trans (g 9 q)
  · exact fun q => (congrFun (means_head8 (pj m c t) (cs m c t) (sn m c t)) _).trans (g 8 q)
  · exact fun q => (congrFun (means_head7 (pj m c t) (cs m c t) (sn m c t)) _).trans (g 7 q)
  · exact fun q => (congrFun (means_head6 (pj m c t) (cs m c t) (sn m c t)) _).trans (g 6 q)
  · exact fun q => (congrFun (means_head5 (pj m c t) (cs m c t) (sn m c t)) _).trans (g 5 q)
  · exact fun q => (congrFun (means_head4 (pj m c t) (cs m c t) (sn m c t)) _).trans (g 4 q)
  · exact fun q => (congrFun (means_head3 (pj m c t) (cs m c t) (sn m c t)) _).trans (g 3 q)
  · exact fun q => (congrFun (means_head2 (pj m c t) (cs m c t) (sn m c t)) _).trans (g 2 q)
  · exact fun q => (congrFun (means_head1 (pj m c t) (cs m c t) (sn m c t)) _).trans (g 1 q)
  · exact fun q => (congrFun (means_head0 (pj m c t) (cs m c t) (sn m c t)) _).trans (g 0 q)

end Cert.Proof.Qkv

end
-- ==== Proof.QkvArray.lean ====
/- THE PROJECTION'S RESULTS: of the row scales it is tracked that every row already done has its scale, of the mean queries and of the queries'
   scales that every tile already done of the sequence has its blocks' values, of the codes that a point leaves its part; so the arrays end as
   `codesArr`, `scalesArr`, `meanArr`, `qcodesArr` and `qscalesArr` of the arguments. -/
module

public import proofs.«01_k».proof.Proof.QkvPoint
public import Idealize.ShloMosaic.Lib.Pipeline.ArrRel

@[expose] public section

set_option maxRecDepth 16384

noncomputable section

namespace Cert.Proof.Qkv

open Idealize.ShloMosaic Idealize.ShloMosaic.TcCoe Idealize.ShloMosaic.Pipeline Idealize.SL.Sem
open Cert.QkvIdeal Cert.QkvIdeal.Gen Cert.QkvIdeal.Hand

variable (m : (ℓ : Loc nD τ sig) → Buf (Elt Ideal) ℓ) (c : Dev nD)

/-- What is tracked. -/
def track : Track Ideal where
  codes t y := ∀ (r : Fin 512) (k : Fin 3584), y (ix3 0 r k) = codeAt (args m c) (seq t) (pos t r) k
  scales t y := ∀ (b : Fin 4) (s : Fin 4096), b.val * 8 + s.val / 512 ≤ t.val → y (ix2 b s) = scale (args m c) b s
  mean t y := ∀ (h : Fin 14) (x : Fin 32) (d : Fin 128), x.val / 4 ≤ t.val % 8 → y (ix4 0 h x d) = mean (args m c) (seq t) h x d
  qcodes t y := ∀ (h : Fin 14) (r : Fin 512) (d : Fin 128), y (ix4 0 h r d) = qcode (args m c) (seq t) h (pos t r) d
  qscales t y := ∀ (h : Fin 14) (x : Fin 128), x.val / 16 ≤ t.val % 8 → y (ix3 0 h x) = qscale (args m c) (seq t) h x

/-- Within a sequence, the point before is of the same sequence. -/
theorem seq_pred (t : Fin grid0.N) (ht : t.val % 8 ≠ 0) (lt : t.val - 1 < grid0.N) : seq (⟨t.val - 1, lt⟩ : Fin grid0.N) = seq t := Fin.ext (by
  show (grid0.coords (⟨t.val - 1, lt⟩ : Fin grid0.N) 0).val = (grid0.coords t 0).val
  rw [coord0, coord0]
  show (t.val - 1) / 8 = t.val / 8
  omega)

/-- The kernel's points keep what is tracked. -/
theorem sound : Track.Sound m (track m) where
  step c t y7 y8 y9 y10 y11 hp hm hq := by
    have lt : t.val - 1 < grid0.N := Nat.lt_of_le_of_lt (Nat.sub_le _ _) t.isLt
    refine ⟨fun r k => codesOut_apply m c t y7 y8 y11 r k, fun b s hs => ?_, fun h x d hx => ?_,
      fun h r d => qcodesOut_apply m c t y10 y8 y11 h r d, fun h x hx => ?_⟩
    · rw [scalesOut_apply, coord0, coord1]
      split_ifs with e
      · rfl
      · have ht : t.val ≠ 0 := by omega
        exact hp ht b s (by show b.val * 8 + s.val / 512 ≤ t.val - 1; omega)
    · rw [meanOut_apply, coord1]
      split_ifs with e
      · rfl
      · have ht : t.val % 8 ≠ 0 := by omega
        exact (hm ht h x d (by show x.val / 4 ≤ (t.val - 1) % 8; omega)).trans (by rw [seq_pred t ht lt])
    · rw [qscalesOut_apply, coord1]
      split_ifs with e
      · rfl
      · have ht : t.val % 8 ≠ 0 := by omega
        exact (hq ht h x (by show x.val / 16 ≤ (t.val - 1) % 8; omega)).trans (by rw [seq_pred t ht lt])

/-- The results are covered by the blocks written back: the codes at each point, the row scales at the last, the others at each sequence's last. -/
def adm0 : (pcfg0 (F := Ideal)).Adm := ⟨fun | 0 => fun _ => (0 : BitVec 32), trivial⟩
theorem covers7_0 : ((cfg0 adm0).win 7).Covers := by decide +kernel
theorem covers8_0 : ((cfg0 adm0).win 8).Covers := by decide +kernel
theorem covers9_0 : ((cfg0 adm0).win 9).Covers := by decide +kernel
theorem covers10_0 : ((cfg0 adm0).win 10).Covers := by decide +kernel
theorem covers11_0 : ((cfg0 adm0).win 11).Covers := by decide +kernel
theorem covers7 : ((cfgM m).win 7).Covers := covers7_0
theorem covers8 : ((cfgM m).win 8).Covers := covers8_0
theorem covers9 : ((cfgM m).win 9).Covers := covers9_0
theorem covers10 : ((cfgM m).win 10).Covers := covers10_0
theorem covers11 : ((cfgM m).win 11).Covers := covers11_0

section
variable (after : (w' : Fin (cfgM m).W) → Fin (cfgM m).N → ((cfgM m).win w').block.Idx → Elt Ideal ((cfgM m).win w').elt)
  (ha : ∀ (w : Fin (cfgM m).W) (u : Fin (cfgM m).N), ((cfgM m).win w).flush u = true → (rdat m (track m) c).Leaves w u (after w u))
include ha

/-- The row codes after the run. -/
theorem final7 : ((rdat m (track m) c).withAfter after).arrAt 7 (cfgM m).N = codesArr (args m c) := by
  refine ((rdat m (track m) c).withAfter after).arrAt_eq_of_covers 7 _ (covers7 m) fun t hf y => ?_
  have hc : (track m c).codes t (after 7 t) := (dat m c).toRRel_leaves (w := 7) rfl (ha 7 t hf)
  blk_simp
  obtain ⟨z, r, k, rfl⟩ : ∃ (z : Fin 1) (r : Fin 512) (k : Fin 3584), y = ix3 z r k := ⟨_, _, _, eq_ix3 (n0 := 1) (n1 := 512) (n2 := 3584) y⟩
  obtain rfl : z = 0 := Subsingleton.elim _ _
  have e : ((((cfgM m).win 7).blk t).view).emb (ix3 0 r k) = ix3 (seq t) (pos t r) k := by
    refine funext fun a => Fin.ext ?_
    match a with
    | ⟨0, _⟩ => blk_simp; exact congrArg (· + 0) (congrFun (map7 t) 0)
    | ⟨1, _⟩ => blk_simp; exact congrArg (· * 512 + r.val) (congrFun (map7 t) 1)
    | ⟨2, _⟩ => blk_simp; exact (congrArg (· * 3584 + k.val) (congrFun (map7 t) 2)).trans (by simp)
  exact (hc r k).trans (congrArg (codesArr (args m c)) e).symm

/-- The row scales after the run. -/
theorem final8 : ((rdat m (track m) c).withAfter after).arrAt 8 (cfgM m).N = scalesArr (args m c) := by
  refine ((rdat m (track m) c).withAfter after).arrAt_eq_of_covers 8 _ (covers8 m) fun t hf y => ?_
  have ht : t.val % 32 = 31 := (flush0_8 (adm m) t).mp hf
  have hc : (track m c).scales t (after 8 t) := (dat m c).toRRel_leaves (w := 8) rfl (ha 8 t hf)
  blk_simp
  obtain ⟨b, s, rfl⟩ : ∃ (b : Fin 4) (s : Fin 4096), y = ix2 b s := ⟨_, _, eq_ix2 (n0 := 4) (n1 := 4096) y⟩
  have hle : b.val * 8 + s.val / 512 ≤ t.val := by have := b.isLt; have := s.isLt; omega
  have e : ((((cfgM m).win 8).blk t).view).emb (ix2 b s) = ix2 b s := by
    refine funext fun a => Fin.ext ?_
    match a with
    | ⟨0, _⟩ => blk_simp; exact (congrArg (· * 4 + b.val) (congrFun (map8 t) 0)).trans (by simp)
    | ⟨1, _⟩ => blk_simp; exact (congrArg (· * 4096 + s.val) (congrFun (map8 t) 1)).trans (by simp)
  exact (hc b s hle).trans (congrArg (scalesArr (args m c)) e).symm

/-- The mean queries after the run. -/
theorem final9 : ((rdat m (track m) c).withAfter after).arrAt 9 (cfgM m).N = meanArr (args m c) := by
  refine ((rdat m (track m) c).withAfter after).arrAt_eq_of_covers 9 _ (covers9 m) fun t hf y => ?_
  have ht : t.val % 8 = 7 := (flush0_9 (adm m) t).mp hf
  have hc : (track m c).mean t (after 9 t) := (dat m c).toRRel_leaves (w := 9) rfl (ha 9 t hf)
  blk_simp
  obtain ⟨z, h, x, d, rfl⟩ : ∃ (z : Fin 1) (h : Fin 14) (x : Fin 32) (d : Fin 128), y = ix4 z h x d := ⟨_, _, _, _, eq_ix4 (n0 := 1) (n1 := 14) (n2 := 32) (n3 := 128) y⟩
  obtain rfl : z = 0 := Subsingleton.elim _ _
  have e : ((((cfgM m).win 9).blk t).view).emb (ix4 0 h x d) = ix4 (seq t) h x d := by
    refine funext fun a => Fin.ext ?_
    match a with
    | ⟨0, _⟩ => blk_simp; exact congrArg (· + 0) (congrFun (map9 t) 0)
    | ⟨1, _⟩ => blk_simp; exact (congrArg (· * 14 + h.val) (congrFun (map9 t) 1)).trans (by simp)
    | ⟨2, _⟩ => blk_simp; exact (congrArg (· * 32 + x.val) (congrFun (map9 t) 2)).trans (by simp)
    | ⟨3, _⟩ => blk_simp; exact (congrArg (· * 128 + d.val) (congrFun (map9 t) 3)).trans (by simp)
  exact (hc h x d (by omega)).trans (congrArg (meanArr (args m c)) e).symm

/-- The queries' codes after the run. -/
theorem final10 : ((rdat m (track m) c).withAfter after).arrAt 10 (cfgM m).N = qcodesArr (args m c) := by
  refine ((rdat m (track m) c).withAfter after).arrAt_eq_of_covers 10 _ (covers10 m) fun t hf y => ?_
  have hc : (track m c).qcodes t (after 10 t) := (dat m c).toRRel_leaves (w := 10) rfl (ha 10 t hf)
  blk_simp
  obtain ⟨z, h, r, d, rfl⟩ : ∃ (z : Fin 1) (h : Fin 14) (r : Fin 512) (d : Fin 128), y = ix4 z h r d := ⟨_, _, _, _, eq_ix4 (n0 := 1) (n1 := 14) (n2 := 512) (n3 := 128) y⟩
  obtain rfl : z = 0 := Subsingleton.elim _ _
  have e : ((((cfgM m).win 10).blk t).view).emb (ix4 0 h r d) = ix4 (seq t) h (pos t r) d := by
    refine funext fun a => Fin.ext ?_
    match a with
    | ⟨0, _⟩ => blk_simp; exact congrArg (· + 0) (congrFun (map10 t) 0)
    | ⟨1, _⟩ => blk_simp; exact (congrArg (· * 14 + h.val) (congrFun (map10 t) 1)).trans (by simp)
    | ⟨2, _⟩ => blk_simp; exact congrArg (· * 512 + r.val) (congrFun (map10 t) 2)
    | ⟨3, _⟩ => blk_simp; exact (congrArg (· * 128 + d.val) (congrFun (map10 t) 3)).trans (by simp)
  exact (hc h r d).trans (congrArg (qcodesArr (args m c)) e).symm

/-- The queries' scales after the run. -/
theorem final11 : ((rdat m (track m) c).withAfter after).arrAt 11 (cfgM m).N = qscalesArr (args m c) := by
  refine ((rdat m (track m) c).withAfter after).arrAt_eq_of_covers 11 _ (covers11 m) fun t hf y => ?_
  have ht : t.val % 8 = 7 := (flush0_11 (adm m) t).mp hf
  have hc : (track m c).qscales t (after 11 t) := (dat m c).toRRel_leaves (w := 11) rfl (ha 11 t hf)
  blk_simp
  obtain ⟨z, h, x, rfl⟩ : ∃ (z : Fin 1) (h : Fin 14) (x : Fin 128), y = ix3 z h x := ⟨_, _, _, eq_ix3 (n0 := 1) (n1 := 14) (n2 := 128) y⟩
  obtain rfl : z = 0 := Subsingleton.elim _ _
  have e : ((((cfgM m).win 11).blk t).view).emb (ix3 0 h x) = ix3 (seq t) h x := by
    refine funext fun a => Fin.ext ?_
    match a with
    | ⟨0, _⟩ => blk_simp; exact congrArg (· + 0) (congrFun (map11 t) 0)
    | ⟨1, _⟩ => blk_simp; exact (congrArg (· * 14 + h.val) (congrFun (map11 t) 1)).trans (by simp)
    | ⟨2, _⟩ => blk_simp; exact (congrArg (· * 128 + x.val) (congrFun (map11 t) 2)).trans (by simp)
  exact (hc h x (by omega)).trans (congrArg (qscalesArr (args m c)) e).symm

end

/-- The run of the kernel, read: its results are the arrays of QkvMath.lean, and its arguments stay as they were. -/
theorem run (ρ : Dev nD → PrngReg) : θ_run defs (onTc (τ := τ) (main (F := Ideal))) ⟨m, fun _ => 0, ρ⟩ fun r => ∀ c : Dev nD,
      r.2.mem ((c : Thread nD τ).loc main_v0_0) = codesArr (args m c)
      ∧ r.2.mem ((c : Thread nD τ).loc main_v0_1) = scalesArr (args m c)
      ∧ r.2.mem ((c : Thread nD τ).loc main_v0_2) = meanArr (args m c)
      ∧ r.2.mem ((c : Thread nD τ).loc main_v0_3) = qcodesArr (args m c)
      ∧ r.2.mem ((c : Thread nD τ).loc main_v0_4) = qscalesArr (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ?_) (run_track m ρ (track m) (sound m))
  obtain ⟨after, ha, hA⟩ := h.1.exists_exact c
  exact ⟨(hA 7).trans (final7 m c after ha), (hA 8).trans (final8 m c after ha), (hA 9).trans (final9 m c after ha), (hA 10).trans (final10 m c after ha),
    (hA 11).trans (final11 m c after ha), args_of m (track m) h.1 c⟩

end Cert.Proof.Qkv

end
-- ==== Proof.QkvRefRun.lean ====
/- THE REFERENCE OF THE PROJECTION, RUN: it has one grid point and every window's block is its whole array, so each result is what its one store
   leaves, `G7` to `G11` of the arguments. -/
module

public import proofs.«01_k».proof.Proof.QkvMath
public import proofs.«01_k».proof.Proof.Gen.QkvRefIdeal.Frame
public import Idealize.ShloMosaic.Lib.Pipeline.Value

@[expose] public section

noncomputable section

namespace Cert.QkvRefIdeal.Value

open Cert.QkvRefIdeal Cert.QkvRefIdeal.Gen Idealize.ShloMosaic Idealize.ShloMosaic.TcCoe Idealize.SL.Sem
open Cert.Proof.Qkv (Args)

variable (m : (ℓ : Loc nD τ sig) → Buf (Elt Ideal) ℓ) (ρ : Dev nD → PrngReg) (c : Dev nD)

/-- The argument arrays, as the launch finds them. -/
def args : Args where
  len := m ((c : Thread nD τ).loc main_arg0)
  x := m ((c : Thread nD τ).loc main_arg1)
  ln := m ((c : Thread nD τ).loc main_arg2)
  w := m ((c : Thread nD τ).loc main_arg3)
  ws := m ((c : Thread nD τ).loc main_arg4)
  bias := m ((c : Thread nD τ).loc main_arg5)
  cos := m ((c : Thread nD τ).loc main_arg6)
  sin := m ((c : Thread nD τ).loc main_arg7)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Each window's block is its whole array: an index of the block is the same index of the array. -/
theorem emb0 (t : Fin cfg0.N) (j : S4x4096x3584.Idx) : ((cfg0.win 0).blk t).view.emb j = j := by
  obtain ⟨e0, e1, e2⟩ := (by decide +kernel : ∀ t : Fin grid0.N, win0_0.index t (0 : Fin 3) = 0 ∧ win0_0.index t (1 : Fin 3) = 0 ∧ win0_0.index t (2 : Fin 3) = 0) t
  funext a; apply Fin.ext
  match a with
  | ⟨0, _⟩ => show win0_0.index t (0 : Fin 3) * 4 + 1 * (j 0).val = (j 0).val; omega
  | ⟨1, _⟩ => show win0_0.index t (1 : Fin 3) * 4096 + 1 * (j 1).val = (j 1).val; omega
  | ⟨2, _⟩ => show win0_0.index t (2 : Fin 3) * 3584 + 1 * (j 2).val = (j 2).val; omega
theorem emb1 (t : Fin cfg0.N) (j : S1x3584.Idx) : ((cfg0.win 1).blk t).view.emb j = j := by
  obtain ⟨e0, e1⟩ := (by decide +kernel : ∀ t : Fin grid0.N, win0_1.index t (0 : Fin 2) = 0 ∧ win0_1.index t (1 : Fin 2) = 0) t
  funext a; apply Fin.ext
  match a with
  | ⟨0, _⟩ => show win0_1.index t (0 : Fin 2) * 1 + 1 * (j 0).val = (j 0).val; omega
  | ⟨1, _⟩ => show win0_1.index t (1 : Fin 2) * 3584 + 1 * (j 1).val = (j 1).val; omega
theorem emb2 (t : Fin cfg0.N) (j : S3584x2304.Idx) : ((cfg0.win 2).blk t).view.emb j = j := by
  obtain ⟨e0, e1⟩ := (by decide +kernel : ∀ t : Fin grid0.N, win0_2.index t (0 : Fin 2) = 0 ∧ win0_2.index t (1 : Fin 2) = 0) t
  funext a; apply Fin.ext
  match a with
  | ⟨0, _⟩ => show win0_2.index t (0 : Fin 2) * 3584 + 1 * (j 0).val = (j 0).val; omega
  | ⟨1, _⟩ => show win0_2.index t (1 : Fin 2) * 2304 + 1 * (j 1).val = (j 1).val; omega
theorem emb3 (t : Fin cfg0.N) (j : S1x2304.Idx) : ((cfg0.win 3).blk t).view.emb j = j := by
  obtain ⟨e0, e1⟩ := (by decide +kernel : ∀ t : Fin grid0.N, win0_3.index t (0 : Fin 2) = 0 ∧ win0_3.index t (1 : Fin 2) = 0) t
  funext a; apply Fin.ext
  match a with
  | ⟨0, _⟩ => show win0_3.index t (0 : Fin 2) * 1 + 1 * (j 0).val = (j 0).val; omega
  | ⟨1, _⟩ => show win0_3.index t (1 : Fin 2) * 2304 + 1 * (j 1).val = (j 1).val; omega
theorem emb4 (t : Fin cfg0.N) (j : S1x2304.Idx) : ((cfg0.win 4).blk t).view.emb j = j := by
  obtain ⟨e0, e1⟩ := (by decide +kernel : ∀ t : Fin grid0.N, win0_4.index t (0 : Fin 2) = 0 ∧ win0_4.index t (1 : Fin 2) = 0) t
  funext a; apply Fin.ext
  match a with
  | ⟨0, _⟩ => show win0_4.index t (0 : Fin 2) * 1 + 1 * (j 0).val = (j 0).val; omega
  | ⟨1, _⟩ => show win0_4.index t (1 : Fin 2) * 2304 + 1 * (j 1).val = (j 1).val; omega
theorem emb5 (t : Fin cfg0.N) (j : S4x64x4096.Idx) : ((cfg0.win 5).blk t).view.emb j = j := by
  obtain ⟨e0, e1, e2⟩ := (by decide +kernel : ∀ t : Fin grid0.N, win0_5.index t (0 : Fin 3) = 0 ∧ win0_5.index t (1 : Fin 3) = 0 ∧ win0_5.index t (2 : Fin 3) = 0) t
  funext a; apply Fin.ext
  match a with
  | ⟨0, _⟩ => show win0_5.index t (0 : Fin 3) * 4 + 1 * (j 0).val = (j 0).val; omega
  | ⟨1, _⟩ => show win0_5.index t (1 : Fin 3) * 64 + 1 * (j 1).val = (j 1).val; omega
  | ⟨2, _⟩ => show win0_5.index t (2 : Fin 3) * 4096 + 1 * (j 2).val = (j 2).val; omega
theorem emb6 (t : Fin cfg0.N) (j : S4x64x4096.Idx) : ((cfg0.win 6).blk t).view.emb j = j := by
  obtain ⟨e0, e1, e2⟩ := (by decide +kernel : ∀ t : Fin grid0.N, win0_6.index t (0 : Fin 3) = 0 ∧ win0_6.index t (1 : Fin 3) = 0 ∧ win0_6.index t (2 : Fin 3) = 0) t
  funext a; apply Fin.ext
  match a with
  | ⟨0, _⟩ => show win0_6.index t (0 : Fin 3) * 4 + 1 * (j 0).val = (j 0).val; omega
  | ⟨1, _⟩ => show win0_6.index t (1 : Fin 3) * 64 + 1 * (j 1).val = (j 1).val; omega
  | ⟨2, _⟩ => show win0_6.index t (2 : Fin 3) * 4096 + 1 * (j 2).val = (j 2).val; omega
theorem emb7 (t : Fin cfg0.N) (j : S4x4096x3584.Idx) : ((cfg0.win 7).blk t).view.emb j = j := by
  obtain ⟨e0, e1, e2⟩ := (by decide +kernel : ∀ t : Fin grid0.N, win0_7.index t (0 : Fin 3) = 0 ∧ win0_7.index t (1 : Fin 3) = 0 ∧ win0_7.index t (2 : Fin 3) = 0) t
  funext a; apply Fin.ext
  match a with
  | ⟨0, _⟩ => show win0_7.index t (0 : Fin 3) * 4 + 1 * (j 0).val = (j 0).val; omega
  | ⟨1, _⟩ => show win0_7.index t (1 : Fin 3) * 4096 + 1 * (j 1).val = (j 1).val; omega
  | ⟨2, _⟩ => show win0_7.index t (2 : Fin 3) * 3584 + 1 * (j 2).val = (j 2).val; omega
theorem emb8 (t : Fin cfg0.N) (j : S4x4096.Idx) : ((cfg0.win 8).blk t).view.emb j = j := by
  obtain ⟨e0, e1⟩ := (by decide +kernel : ∀ t : Fin grid0.N, win0_8.index t (0 : Fin 2) = 0 ∧ win0_8.index t (1 : Fin 2) = 0) t
  funext a; apply Fin.ext
  match a with
  | ⟨0, _⟩ => show win0_8.index t (0 : Fin 2) * 4 + 1 * (j 0).val = (j 0).val; omega
  | ⟨1, _⟩ => show win0_8.index t (1 : Fin 2) * 4096 + 1 * (j 1).val = (j 1).val; omega
theorem emb9 (t : Fin cfg0.N) (j : S4x14x32x128.Idx) : ((cfg0.win 9).blk t).view.emb j = j := by
  obtain ⟨e0, e1, e2, e3⟩ := (by decide +kernel : ∀ t : Fin grid0.N, win0_9.index t (0 : Fin 4) = 0 ∧ win0_9.index t (1 : Fin 4) = 0 ∧ win0_9.index t (2 : Fin 4) = 0 ∧ win0_9.index t (3 : Fin 4) = 0) t
  funext a; apply Fin.ext
  match a with
  | ⟨0, _⟩ => show win0_9.index t (0 : Fin 4) * 4 + 1 * (j 0).val = (j 0).val; omega
  | ⟨1, _⟩ => show win0_9.index t (1 : Fin 4) * 14 + 1 * (j 1).val = (j 1).val; omega
  | ⟨2, _⟩ => show win0_9.index t (2 : Fin 4) * 32 + 1 * (j 2).val = (j 2).val; omega
  | ⟨3, _⟩ => show win0_9.index t (3 : Fin 4) * 128 + 1 * (j 3).val = (j 3).val; omega
theorem emb10 (t : Fin cfg0.N) (j : S4x14x4096x128.Idx) : ((cfg0.win 10).blk t).view.emb j = j := by
  obtain ⟨e0, e1, e2, e3⟩ := (by decide +kernel : ∀ t : Fin grid0.N, win0_10.index t (0 : Fin 4) = 0 ∧ win0_10.index t (1 : Fin 4) = 0 ∧ win0_10.index t (2 : Fin 4) = 0 ∧ win0_10.index t (3 : Fin 4) = 0) t
  funext a; apply Fin.ext
  match a with
  | ⟨0, _⟩ => show win0_10.index t (0 : Fin 4) * 4 + 1 * (j 0).val = (j 0).val; omega
  | ⟨1, _⟩ => show win0_10.index t (1 : Fin 4) * 14 + 1 * (j 1).val = (j 1).val; omega
  | ⟨2, _⟩ => show win0_10.index t (2 : Fin 4) * 4096 + 1 * (j 2).val = (j 2).val; omega
  | ⟨3, _⟩ => show win0_10.index t (3 : Fin 4) * 128 + 1 * (j 3).val = (j 3).val; omega
theorem emb11 (t : Fin cfg0.N) (j : S4x14x128.Idx) : ((cfg0.win 11).blk t).view.emb j = j := by
  obtain ⟨e0, e1, e2⟩ := (by decide +kernel : ∀ t : Fin grid0.N, win0_11.index t (0 : Fin 3) = 0 ∧ win0_11.index t (1 : Fin 3) = 0 ∧ win0_11.index t (2 : Fin 3) = 0) t
  funext a; apply Fin.ext
  match a with
  | ⟨0, _⟩ => show win0_11.index t (0 : Fin 3) * 4 + 1 * (j 0).val = (j 0).val; omega
  | ⟨1, _⟩ => show win0_11.index t (1 : Fin 3) * 14 + 1 * (j 1).val = (j 1).val; omega
  | ⟨2, _⟩ => show win0_11.index t (2 : Fin 3) * 128 + 1 * (j 2).val = (j 2).val; omega

/-- So the input blocks are the argument arrays. -/
theorem iblk0_eq (t : Fin cfg0.N) : iblk m c 0 t = (args m c).x := by
  funext j; show V m c main_arg1 (((cfg0.win 0).blk t).view.emb j) = _; rw [emb0, V_main_arg1]; rfl
theorem iblk1_eq (t : Fin cfg0.N) : iblk m c 1 t = (args m c).ln := by
  funext j; show V m c main_arg2 (((cfg0.win 1).blk t).view.emb j) = _; rw [emb1, V_main_arg2]; rfl
theorem iblk2_eq (t : Fin cfg0.N) : iblk m c 2 t = (args m c).w := by
  funext j; show V m c main_arg3 (((cfg0.win 2).blk t).view.emb j) = _; rw [emb2, V_main_arg3]; rfl
theorem iblk3_eq (t : Fin cfg0.N) : iblk m c 3 t = (args m c).ws := by
  funext j; show V m c main_arg4 (((cfg0.win 3).blk t).view.emb j) = _; rw [emb3, V_main_arg4]; rfl
theorem iblk4_eq (t : Fin cfg0.N) : iblk m c 4 t = (args m c).bias := by
  funext j; show V m c main_arg5 (((cfg0.win 4).blk t).view.emb j) = _; rw [emb4, V_main_arg5]; rfl
theorem iblk5_eq (t : Fin cfg0.N) : iblk m c 5 t = (args m c).cos := by
  funext j; show V m c main_arg6 (((cfg0.win 5).blk t).view.emb j) = _; rw [emb5, V_main_arg6]; rfl
theorem iblk6_eq (t : Fin cfg0.N) : iblk m c 6 t = (args m c).sin := by
  funext j; show V m c main_arg7 (((cfg0.win 6).blk t).view.emb j) = _; rw [emb6, V_main_arg7]; rfl

variable (A : Args)

/-- The five results: the row codes, the row scales, the mean queries, the queries' codes and their scales. -/
def pr : FVec Ideal S4x4096x2304 .f32 := k0_pay6 A.x A.ln A.w
def G7 : Vec Ideal S4x4096x3584 .fp8e4m3 := k0_pay5 A.x A.ln
def G8 : Vec Ideal S4x4096 .f32 := k0_pay4 A.x A.ln
def G9 : Vec Ideal S4x14x32x128 .f32 := k0_pay9 (pr A) (k0_pay7 A.ws) A.bias A.cos A.sin
def G11 : Vec Ideal S4x14x128 .f32 :=
  k0_pay1 (k0_pay12 (pr A) (k0_pay7 A.ws) A.bias A.cos A.sin) (k0_pay13 (pr A) (k0_pay7 A.ws) A.bias A.cos A.sin)
def G10 : Vec Ideal S4x14x4096x128 .i8 :=
  k0_pay2 (k0_pay10 (pr A) (k0_pay7 A.ws) A.bias A.cos A.sin) (k0_pay12 (pr A) (k0_pay7 A.ws) A.bias A.cos A.sin)
    (k0_pay13 (pr A) (k0_pay7 A.ws) A.bias A.cos A.sin)

/-- A load of the whole of a block reads the block, and the one store through the whole rectangle leaves its payload. -/
theorem pay14_eq : k0_pay14 (F := Ideal) A.x A.ln A.w A.ws A.bias A.cos A.sin = pr A := by
  unfold k0_pay14 pr
  rw [View.ld_unit_zero (S := S4x4096x3584) hz3 _ A.x, View.ld_unit_zero (S := S1x3584) hz2 _ A.ln, View.ld_unit_zero (S := S3584x2304) hz2 _ A.w]
theorem pay15_eq : k0_pay15 (F := Ideal) A.x A.ln A.w A.ws A.bias A.cos A.sin = k0_pay7 A.ws := by
  unfold k0_pay15
  rw [View.ld_unit_zero (S := S1x2304) hz2 _ A.ws]
theorem pay16_eq : k0_pay16 (F := Ideal) A.x A.ln A.w A.ws A.bias A.cos A.sin = k0_pay12 (pr A) (k0_pay7 A.ws) A.bias A.cos A.sin := by
  unfold k0_pay16
  rw [pay14_eq, pay15_eq, View.ld_unit_zero (S := S1x2304) hz2 _ A.bias, View.ld_unit_zero (S := S4x64x4096) hz3 _ A.cos, View.ld_unit_zero (S := S4x64x4096) hz3 _ A.sin]
theorem pay17_eq : k0_pay17 (F := Ideal) A.x A.ln A.w A.ws A.bias A.cos A.sin = k0_pay13 (pr A) (k0_pay7 A.ws) A.bias A.cos A.sin := by
  unfold k0_pay17
  rw [pay14_eq, pay15_eq, View.ld_unit_zero (S := S1x2304) hz2 _ A.bias, View.ld_unit_zero (S := S4x64x4096) hz3 _ A.cos, View.ld_unit_zero (S := S4x64x4096) hz3 _ A.sin]
theorem out7_eq : out0_7 (F := Ideal) A.x A.ln A.w A.ws A.bias A.cos A.sin = G7 A := by
  unfold out0_7 G7
  rw [View.canon_unit_zero hz3, View.ld_unit_zero (S := S4x4096x3584) hz3 _ A.x, View.ld_unit_zero (S := S1x3584) hz2 _ A.ln]
theorem out8_eq : out0_8 (F := Ideal) A.x A.ln A.w A.ws A.bias A.cos A.sin = G8 A := by
  unfold out0_8 G8
  rw [View.canon_unit_zero hz2, View.ld_unit_zero (S := S4x4096x3584) hz3 _ A.x, View.ld_unit_zero (S := S1x3584) hz2 _ A.ln]
theorem out9_eq : out0_9 (F := Ideal) A.x A.ln A.w A.ws A.bias A.cos A.sin = G9 A := by
  unfold out0_9 G9
  rw [View.canon_unit_zero hz4, pay14_eq, pay15_eq, View.ld_unit_zero (S := S1x2304) hz2 _ A.bias, View.ld_unit_zero (S := S4x64x4096) hz3 _ A.cos, View.ld_unit_zero (S := S4x64x4096) hz3 _ A.sin]
theorem out10_eq : out0_10 (F := Ideal) A.x A.ln A.w A.ws A.bias A.cos A.sin = G10 A := by
  unfold out0_10 G10
  rw [View.canon_unit_zero hz4, pay14_eq, pay15_eq, pay16_eq, pay17_eq, View.ld_unit_zero (S := S1x2304) hz2 _ A.bias, View.ld_unit_zero (S := S4x64x4096) hz3 _ A.cos, View.ld_unit_zero (S := S4x64x4096) hz3 _ A.sin]
theorem out11_eq : out0_11 (F := Ideal) A.x A.ln A.w A.ws A.bias A.cos A.sin = G11 A := by
  unfold out0_11 G11
  rw [View.canon_unit_zero hz3, pay16_eq, pay17_eq]

/-- Cutting the point's block out of an array and reading the array through the block's view give the same. -/
theorem cut7_eq (t : Fin cfg0.N) (X : Vec Ideal S4x4096x3584 .fp8e4m3) :
    (cfg0.win 7).cut (grid0.coords t) X = ((cfg0.win 7).blk t).view.read (Elt Ideal) X := by
  funext j
  show X j = X (((cfg0.win 7).blk t).view.emb j)
  rw [emb7]
theorem cut8_eq (t : Fin cfg0.N) (X : Vec Ideal S4x4096 .f32) :
    (cfg0.win 8).cut (grid0.coords t) X = ((cfg0.win 8).blk t).view.read (Elt Ideal) X := by
  funext j
  show X j = X (((cfg0.win 8).blk t).view.emb j)
  rw [emb8]
theorem cut9_eq (t : Fin cfg0.N) (X : Vec Ideal S4x14x32x128 .f32) :
    (cfg0.win 9).cut (grid0.coords t) X = ((cfg0.win 9).blk t).view.read (Elt Ideal) X := by
  funext j
  show X j = X (((cfg0.win 9).blk t).view.emb j)
  rw [emb9]
theorem cut10_eq (t : Fin cfg0.N) (X : Vec Ideal S4x14x4096x128 .i8) :
    (cfg0.win 10).cut (grid0.coords t) X = ((cfg0.win 10).blk t).view.read (Elt Ideal) X := by
  funext j
  show X j = X (((cfg0.win 10).blk t).view.emb j)
  rw [emb10]
theorem cut11_eq (t : Fin cfg0.N) (X : Vec Ideal S4x14x128 .f32) :
    (cfg0.win 11).cut (grid0.coords t) X = ((cfg0.win 11).blk t).view.read (Elt Ideal) X := by
  funext j
  show X j = X (((cfg0.win 11).blk t).view.emb j)
  rw [emb11]

/-- What the point writes back is the result. -/
theorem flushed7_eq (t : Fin cfg0.N) : (dats m 0 c).flushed 7 t = ((cfg0.win 7).blk t).view.read (Elt Ideal) (G7 (args m c)) := by
  show (cfg0.win 7).cut (grid0.coords t) ((dats m 0 c).after 7 t) = _
  rw [after0_7, iblk0_eq, iblk1_eq, iblk2_eq, iblk3_eq, iblk4_eq, iblk5_eq, iblk6_eq, out7_eq]
  exact cut7_eq t _
theorem flushed8_eq (t : Fin cfg0.N) : (dats m 0 c).flushed 8 t = ((cfg0.win 8).blk t).view.read (Elt Ideal) (G8 (args m c)) := by
  show (cfg0.win 8).cut (grid0.coords t) ((dats m 0 c).after 8 t) = _
  rw [after0_8, iblk0_eq, iblk1_eq, iblk2_eq, iblk3_eq, iblk4_eq, iblk5_eq, iblk6_eq, out8_eq]
  exact cut8_eq t _
theorem flushed9_eq (t : Fin cfg0.N) : (dats m 0 c).flushed 9 t = ((cfg0.win 9).blk t).view.read (Elt Ideal) (G9 (args m c)) := by
  show (cfg0.win 9).cut (grid0.coords t) ((dats m 0 c).after 9 t) = _
  rw [after0_9, iblk0_eq, iblk1_eq, iblk2_eq, iblk3_eq, iblk4_eq, iblk5_eq, iblk6_eq, out9_eq]
  exact cut9_eq t _
theorem flushed10_eq (t : Fin cfg0.N) : (dats m 0 c).flushed 10 t = ((cfg0.win 10).blk t).view.read (Elt Ideal) (G10 (args m c)) := by
  show (cfg0.win 10).cut (grid0.coords t) ((dats m 0 c).after 10 t) = _
  rw [after0_10, iblk0_eq, iblk1_eq, iblk2_eq, iblk3_eq, iblk4_eq, iblk5_eq, iblk6_eq, out10_eq]
  exact cut10_eq t _
theorem flushed11_eq (t : Fin cfg0.N) : (dats m 0 c).flushed 11 t = ((cfg0.win 11).blk t).view.read (Elt Ideal) (G11 (args m c)) := by
  show (cfg0.win 11).cut (grid0.coords t) ((dats m 0 c).after 11 t) = _
  rw [after0_11, iblk0_eq, iblk1_eq, iblk2_eq, iblk3_eq, iblk4_eq, iblk5_eq, iblk6_eq, out11_eq]
  exact cut11_eq t _

/-- Every index is in the point's block. -/
theorem covered7 (i : S4x4096x3584.Idx) : ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩
theorem covered8 (i : S4x4096.Idx) : ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩
theorem covered9 (i : S4x14x32x128.Idx) : ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩
theorem covered10 (i : S4x14x4096x128.Idx) : ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩
theorem covered11 (i : S4x14x128.Idx) : ∃ t : Fin cfg0.N, (cfg0.win 11).flush t = true ∧ i ∈ ((cfg0.win 11).blk t).view.set :=
  ⟨(⟨0, by decide⟩ : Fin cfg0.N), flush0_11 _, by have h := ((cfg0.win 11).blk (⟨0, by decide⟩ : Fin cfg0.N)).view.emb_mem_set i; rwa [emb11] at h⟩

/-- The arrays after the run. -/
theorem final7 : (dats m 0 c).arrAt 7 cfg0.N = G7 (args m c) :=
  (dats m 0 c).arrAt_eq_of_cover 7 (G7 (args m c)) (fun t _ => flushed7_eq m c t) covered7
theorem final8 : (dats m 0 c).arrAt 8 cfg0.N = G8 (args m c) :=
  (dats m 0 c).arrAt_eq_of_cover 8 (G8 (args m c)) (fun t _ => flushed8_eq m c t) covered8
theorem final9 : (dats m 0 c).arrAt 9 cfg0.N = G9 (args m c) :=
  (dats m 0 c).arrAt_eq_of_cover 9 (G9 (args m c)) (fun t _ => flushed9_eq m c t) covered9
theorem final10 : (dats m 0 c).arrAt 10 cfg0.N = G10 (args m c) :=
  (dats m 0 c).arrAt_eq_of_cover 10 (G10 (args m c)) (fun t _ => flushed10_eq m c t) covered10
theorem final11 : (dats m 0 c).arrAt 11 cfg0.N = G11 (args m c) :=
  (dats m 0 c).arrAt_eq_of_cover 11 (G11 (args m c)) (fun t _ => flushed11_eq m c t) covered11

/-- The run, read. -/
theorem run : θ_run defs (onTc (τ := τ) (main (F := Ideal))) ⟨m, fun _ => 0, ρ⟩ fun r => ∀ c : Dev nD,
      r.2.mem ((c : Thread nD τ).loc main_v0_0) = G7 (args m c)
      ∧ r.2.mem ((c : Thread nD τ).loc main_v0_1) = G8 (args m c)
      ∧ r.2.mem ((c : Thread nD τ).loc main_v0_2) = G9 (args m c)
      ∧ r.2.mem ((c : Thread nD τ).loc main_v0_3) = G10 (args m c)
      ∧ r.2.mem ((c : Thread nD τ).loc main_v0_4) = G11 (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1 7).trans (final7 m c), ((h c).1 8).trans (final8 m c), ((h c).1 9).trans (final9 m c), ((h c).1 10).trans (final10 m c), ((h c).1 11).trans (final11 m c),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c)))⟩)
    (run_main m ρ)

end Cert.QkvRefIdeal.Value

end
-- ==== Proof.QkvRef.lean ====
/- THE REFERENCE OF THE QUERY, KEY AND VALUE PROJECTION computes the functions of QkvMath.lean, and so does the kernel: the claim. -/
module

public import proofs.«01_k».proof.Proof.QkvArray
public import proofs.«01_k».proof.Proof.QkvRefRun
public import proofs.«01_k».proof.Defs

@[expose] public section

set_option maxRecDepth 16384

noncomputable section

namespace Cert.Proof.Qkv

open Cert.QkvRefIdeal Cert.QkvRefIdeal.Gen Idealize.ShloMosaic
open Cert.Proof.KvCodes (scale8 code8)
open scoped BigOperators

/-- The largest of each row. -/
theorem row_max (v : FVec Ideal S4x4096x3584 .f32) (b : Fin 4) (s : Fin 4096) :
    multiReduction (F := Ideal) .maximumf [2] S4x4096 v 0xFF800000#32 reduces_S4x4096x3584_S4x4096 (.inl rfl) rfl (ix2 b s)
      = Finset.fold max (Ideal.ofBits FTy.f32 0xFF800000#32) (fun x => v (ix3 b s x)) Finset.univ := by
  pointwise []
/-- The sum of each row. -/
theorem row_sum (v : FVec Ideal S4x4096x3584 .f32) (b : Fin 4) (s : Fin 4096) :
    multiReduction (F := Ideal) .add [2] S4x4096 v 0x00000000#32 reduces_S4x4096x3584_S4x4096 (.inl rfl) rfl (ix2 b s) = ∑ x, v (ix3 b s x) := by
  pointwise []
/-- The scale of each maximum. -/
theorem scale_apply (M : FVec Ideal S4x4096 .f32) (b : Fin 4) (s : Fin 4096) :
    select (cmpf .oeq M (broadcast S4x4096 (Scalar.ofBits .f32 0x00000000#32))) (broadcast S4x4096 (Scalar.ofBits .f32 0x3F800000#32)) (divf M (broadcast S4x4096 (Scalar.ofBits .f32 0x43E00000#32))) (ix2 b s)
    = scaleOf (M (ix2 b s)) := by
  pointwise [scaleOf]
/-- A value per row, spread over the row. -/
theorem spread_apply (M : FVec Ideal S4x4096 .f32) (b : Fin 4) (s : Fin 4096) (k : Fin 3584) :
    broadcastTo S4x4096x3584 (shapeCast S4x4096x1 M shapeCasts_S4x4096_S4x4096x1) broadcasts_S4x4096x1_S4x4096x3584 (ix3 b s k) = M (ix2 b s) := by
  pointwise []
/-- A value per column, spread over the rows. -/
theorem cols_apply (v : Vec Ideal S1x3584 .f32) (b : Fin 4) (s : Fin 4096) (k : Fin 3584) :
    broadcastTo S4x4096x3584 (shapeCast S1x1x3584 (shapeCast S3584 v shapeCasts_S1x3584_S3584) shapeCasts_S3584_S1x1x3584) broadcasts_S1x1x3584_S4x4096x3584 (ix3 b s k)
      = v (ix2 0 k) := by
  pointwise []
/-- The rows' roots, spread over the rows. -/
theorem root_apply (M : FVec Ideal S4x4096 .f32) (b : Fin 4) (s : Fin 4096) (k : Fin 3584) :
    broadcastTo S4x4096x3584 (sqrt (addf (divf (shapeCast S4x4096x1 M shapeCasts_S4x4096_S4x4096x1) (broadcast S4x4096x1 (Scalar.ofBits .f32 0x45600000#32))) (broadcast S4x4096x1 (Scalar.ofBits .f32 0x358637BD#32)))) broadcasts_S4x4096x1_S4x4096x3584 (ix3 b s k)
      = Ideal.sqrt (Ideal.div (M (ix2 b s)) (Ideal.ofBits .f32 0x45600000#32) + Ideal.ofBits .f32 0x358637BD#32) := by
  pointwise []
/-- Codes: the quotient, clipped. -/
theorem clip_div {s : Shape} (A B : FVec Ideal s .f32) (y : s.Idx) :
    (truncf .fp8e4m3 (minimumf (broadcast s (Scalar.ofBits .f32 0x43E00000#32)) (maximumf (broadcast s (Scalar.ofBits .f32 0xC3E00000#32)) (divf A B))) bitsLt_fp8e4m3_f32 : FVec Ideal s .fp8e4m3) y
      = code (A y) (B y) := by
  pointwise [code]
/-- The quotient of a product. -/
theorem mul_div_apply {s : Shape} (A B C : FVec Ideal s .f32) (y : s.Idx) : divf (mulf A B) C y = Ideal.div (A y * B y) (C y) := by
  pointwise []
/-- The product of codes and weights, by the rows' scales. -/
theorem product_apply (C : FVec Ideal S4x4096x3584 .fp8e4m3) (w : Vec Ideal S3584x2304 .fp8e4m3) (M : FVec Ideal S4x4096 .f32) (b : Fin 4) (s : Fin 4096) (n : Fin 2304) :
    mulf (matmul (φ₂ := .fp8e4m3) dot_S4x4096x3584_S3584x2304_S4x4096x2304_2_0_01_1_n_n none C w (constant S4x4096x2304 .f32 0x00000000#32))
      (broadcastTo S4x4096x2304 (shapeCast S4x4096x1 M shapeCasts_S4x4096_S4x4096x1) broadcasts_S4x4096x1_S4x4096x2304) (ix3 b s n)
    = (∑ k : Fin 3584, C (ix3 b s k) * w (ix2 k n)) * M (ix2 b s) := by
  pointwise []
/-- The weights' scales and the bias. -/
theorem affine_apply (P : FVec Ideal S4x4096x2304 .f32) (ws bias : Vec Ideal S1x2304 .f32) (b : Fin 4) (s : Fin 4096) (n : Fin 2304) :
    addf (mulf P (broadcastTo S4x4096x2304 (k0_pay7 ws) broadcasts_S1x1x2304_S4x4096x2304))
      (broadcastTo S4x4096x2304 (shapeCast S1x1x2304 (shapeCast S2304 bias shapeCasts_S1x2304_S2304) shapeCasts_S2304_S1x1x2304) broadcasts_S1x1x2304_S4x4096x2304) (ix3 b s n)
    = P (ix3 b s n) * ws (ix2 0 n) + bias (ix2 0 n) := by
  pointwise [k0_pay7]
/-- The heads' queries. -/
theorem heads_apply (v : FVec Ideal S4x4096x2304 .f32) (b : Fin 4) (h : Fin 14) (s : Fin 4096) (d : Fin 128) :
    transpose S4x14x4096x128 [0, 2, 1, 3] (extractStridedSlice S4x4096x14x128 ![0, 0, 0, 0] (shapeCast S4x4096x18x128 v shapeCasts_S4x4096x2304_S4x4096x18x128) slices_S4x4096x18x128_o0_0_0_0_S4x4096x14x128) transposes_S4x4096x14x128_p0_2_1_3_S4x14x4096x128 (ix4 b h s d)
      = v (ix3 b s (col h d)) := by
  pointwise [col]
/-- The factors of the angles, by sequence, position and frequency. -/
theorem angle_apply (v : Vec Ideal S4x64x4096 .f32) (b : Fin 4) (h : Fin 14) (s : Fin 4096) (f : Fin 64) :
    broadcastTo S4x14x4096x64 (shapeCast S4x1x4096x64 (transpose S4x4096x64 [0, 2, 1] v transposes_S4x64x4096_p0_2_1_S4x4096x64) shapeCasts_S4x4096x64_S4x1x4096x64) broadcasts_S4x1x4096x64_S4x14x4096x64 (ix4 b h s f)
      = v (ix3 b f s) := by
  pointwise []
/-- Two halves turned by the angles' factors, and scaled, by block. -/
theorem turn_apply (q : FVec Ideal S4x14x4096x128 .f32) (c s : FVec Ideal S4x14x4096x64 .f32) (b : Fin 4) (h : Fin 14) (j : Fin 32) (x d : Fin 128) :
    shapeCast S4x14x32x128x128 (mulf (concatenate S4x14x4096x128 3
      [⟨S4x14x4096x64, subf (mulf (extractStridedSlice S4x14x4096x64 ![0, 0, 0, 0] q slices_S4x14x4096x128_o0_0_0_0_S4x14x4096x64) c) (mulf (extractStridedSlice S4x14x4096x64 ![0, 0, 0, 64] q slices_S4x14x4096x128_o0_0_0_64_S4x14x4096x64) s)⟩,
       ⟨S4x14x4096x64, addf (mulf (extractStridedSlice S4x14x4096x64 ![0, 0, 0, 64] q slices_S4x14x4096x128_o0_0_0_64_S4x14x4096x64) c) (mulf (extractStridedSlice S4x14x4096x64 ![0, 0, 0, 0] q slices_S4x14x4096x128_o0_0_0_0_S4x14x4096x64) s)⟩]
      concatenates_S4x14x4096x64_S4x14x4096x64_S4x14x4096x128_d3) (broadcast S4x14x4096x128 (Scalar.ofBits .f32 0x3DB504F3#32))) shapeCasts_S4x14x4096x128_S4x14x32x128x128 (ix5 b h j x d)
    = turn (fun d => q (ix4 b h (at128 j x) d)) (fun f => c (ix4 b h (at128 j x) f)) (fun f => s (ix4 b h (at128 j x) f)) d * Ideal.ofBits .f32 0x3DB504F3#32 := by
  pointwise [turn, at128, low]
  by_cases hd : d.val < 64
  · have e : (⟨64 + d.val, by omega⟩ : Fin 128) = ⟨d.val + 64, by omega⟩ := Fin.ext (Nat.add_comm _ _)
    simp only [dif_pos hd, e]
  · have e : (⟨64 + (d.val - 64), by omega⟩ : Fin 128) = d := Fin.ext (by show 64 + (d.val - 64) = d.val; omega)
    simp only [dif_neg hd, e]
/-- A turn depends on its vectors' values only. -/
theorem turn_congr {q q' : Fin 128 → EReal} {c c' s s' : Fin 64 → EReal} (hq : ∀ d, q d = q' d) (hc : ∀ f, c f = c' f) (hs : ∀ f, s f = s' f) (d : Fin 128) :
    turn q c s d = turn q' c' s' d := by
  rw [funext hq, funext hc, funext hs]
/-- The mean of each block. -/
theorem mean_apply (g : FVec Ideal S4x14x32x128x128 .f32) (b : Fin 4) (h : Fin 14) (j : Fin 32) (d : Fin 128) :
    divf (multiReduction .add [3] S4x14x32x128 g 0x00000000#32 reduces_S4x14x32x128x128_S4x14x32x128 (.inl rfl) rfl) (broadcast S4x14x32x128 (Scalar.ofBits .f32 0x43000000#32)) (ix4 b h j d)
      = Ideal.div (∑ x : Fin 128, g (ix5 b h j x d)) (Ideal.ofBits .f32 0x43000000#32) := by
  pointwise []
/-- Blocks less their means, by blocks of 32 positions. -/
theorem diff_apply (g : FVec Ideal S4x14x32x128x128 .f32) (M : FVec Ideal S4x14x32x128 .f32) (b : Fin 4) (h : Fin 14) (j : Fin 128) (x : Fin 32) (d : Fin 128) :
    shapeCast S4x14x128x32x128 (shapeCast S4x14x4096x128 (subf g (broadcastTo S4x14x32x128x128 (shapeCast S4x14x32x1x128 M shapeCasts_S4x14x32x128_S4x14x32x1x128) broadcasts_S4x14x32x1x128_S4x14x32x128x128)) shapeCasts_S4x14x32x128x128_S4x14x4096x128) shapeCasts_S4x14x4096x128_S4x14x128x32x128 (ix5 b h j x d)
      = g (ix5 b h ⟨j.val / 4, by omega⟩ ⟨j.val % 4 * 32 + x.val, by omega⟩ d) - M (ix4 b h ⟨j.val / 4, by omega⟩ d) := by
  have hx := x.isLt
  have hj := j.isLt
  pointwise []

/-- Dropping a block's two axes. -/
theorem drop5 (b : Fin 4) (h : Fin 14) (j : Fin 128) (r : Fin 32) (d : Fin 128) : reduces_S4x14x128x32x128_S4x14x128.drop (ix5 b h j r d) = ix3 b h j :=
  funext fun a => match a with
    | ⟨0, _⟩ => rfl
    | ⟨1, _⟩ => rfl
    | ⟨2, _⟩ => rfl

/-- The largest magnitude of each block of 32 positions, taken over both axes at once. -/
theorem block_top (g : FVec Ideal S4x14x128x32x128 .f32) (b : Fin 4) (h : Fin 14) (j : Fin 128) :
    multiReduction (F := Ideal) .maximumf [3, 4] S4x14x128 (absf g) 0xFF800000#32 reduces_S4x14x128x32x128_S4x14x128 (.inl rfl) rfl (ix3 b h j)
      = top32 fun r d => g (ix5 b h j r d) := by
  have e : multiReduction (F := Ideal) .maximumf [3, 4] S4x14x128 (absf g) 0xFF800000#32 reduces_S4x14x128x32x128_S4x14x128 (.inl rfl) rfl (ix3 b h j)
      = Finset.fold max (Ideal.ofBits FTy.f32 0xFF800000#32) (fun x => mag (g x)) {i | reduces_S4x14x128x32x128_S4x14x128.drop i = ix3 b h j} := by
    pointwise [mag]
    rfl
  rw [e]
  refine eq_of_forall_ge_iff fun c => ?_
  unfold top32
  simp only [Finset.fold_max_le, Finset.mem_univ, true_implies, Finset.mem_filter, true_and]
  constructor
  · exact fun H => ⟨H.1, fun d => ⟨H.1, fun r => H.2 _ (drop5 b h j r d)⟩⟩
  · refine fun H => ⟨H.1, fun y hy => ?_⟩
    obtain ⟨b', h', j', r, d, rfl⟩ : ∃ (b' : Fin 4) (h' : Fin 14) (j' : Fin 128) (r : Fin 32) (d : Fin 128), y = ix5 b' h' j' r d :=
      ⟨y 0, y 1, y 2, y 3, y 4, eq_ix5 y⟩
    rw [drop5] at hy
    obtain rfl : b' = b := congrFun hy 0
    obtain rfl : h' = h := congrFun hy 1
    obtain rfl : j' = j := congrFun hy 2
    exact (H.2 d).2 r

/-- The scale of each maximum. -/
theorem scale8_apply (M : FVec Ideal S4x14x128 .f32) (b : Fin 4) (h : Fin 14) (j : Fin 128) :
    select (cmpf .oeq M (broadcast S4x14x128 (Scalar.ofBits .f32 0x00000000#32))) (broadcast S4x14x128 (Scalar.ofBits .f32 0x3F800000#32)) (divf M (broadcast S4x14x128 (Scalar.ofBits .f32 0x42FE0000#32))) (ix3 b h j)
      = scale8 (M (ix3 b h j)) := by
  pointwise [scale8]
/-- Codes: the quotients by the blocks' scales, rounded and clipped, by position. -/
theorem code8_apply (g : FVec Ideal S4x14x128x32x128 .f32) (w : FVec Ideal S4x14x128 .f32) (b : Fin 4) (h : Fin 14) (s : Fin 4096) (d : Fin 128) :
    shapeCast S4x14x4096x128 (fptosi 8 (minimumf (broadcast S4x14x128x32x128 (Scalar.ofBits .f32 0x42FE0000#32)) (maximumf (broadcast S4x14x128x32x128 (Scalar.ofBits .f32 0xC2FE0000#32))
      (roundeven (divf g (broadcastTo S4x14x128x32x128 (shapeCast S4x14x128x1x1 w shapeCasts_S4x14x128_S4x14x128x1x1) broadcasts_S4x14x128x1x1_S4x14x128x32x128)))))) shapeCasts_S4x14x128x32x128_S4x14x4096x128 (ix4 b h s d)
    = code8 (g (ix5 b h ⟨s.val / 32, by omega⟩ ⟨s.val % 32, by omega⟩ d)) (w (ix3 b h ⟨s.val / 32, by omega⟩)) := by
  have hs := s.isLt
  pointwise [code8]

variable (A : Args) (b : Fin 4) (h : Fin 14)

/-- The normalised rows, -/
theorem ref_row (s : Fin 4096) (k : Fin 3584) : k0_pay3 (F := Ideal) A.x A.ln (ix3 b s k) = row A b s k := by
  unfold k0_pay3
  refine (mul_div_apply _ _ _ _).trans ?_
  rw [cols_apply, root_apply, row_sum]
  rfl
/-- their scales -/
theorem ref_scale (s : Fin 4096) : k0_pay4 (F := Ideal) A.x A.ln (ix2 b s) = scale A b s := by
  have e := ref_row A b s
  unfold k0_pay4
  generalize k0_pay3 (F := Ideal) A.x A.ln = g at e
  refine (scale_apply _ b s).trans ?_
  rw [row_max]
  unfold scale top mag
  simp only [← e]
  rfl
/-- and codes, -/
theorem ref_code (s : Fin 4096) (k : Fin 3584) : k0_pay5 (F := Ideal) A.x A.ln (ix3 b s k) = codeAt A b s k := by
  unfold k0_pay5
  refine (clip_div _ _ _).trans ?_
  rw [spread_apply, ref_scale, ref_row]
  rfl
/-- the queries, rotated and scaled, -/
theorem ref_query (j : Fin 32) (x d : Fin 128) : k0_pay8 (F := Ideal) (Value.pr A) (k0_pay7 A.ws) A.bias A.cos A.sin (ix5 b h j x d) = query A b h (at128 j x) d := by
  have e (s n) : Value.pr A (ix3 b s n) = (∑ k : Fin 3584, codeAt A b s k * A.w (ix2 k n)) * scale A b s := by
    unfold Value.pr k0_pay6
    refine (product_apply _ _ _ _ _ _).trans ?_
    rw [ref_scale]
    simp only [ref_code]
  unfold k0_pay8
  generalize Value.pr A = P at e
  refine (turn_apply _ _ _ b h j x d).trans ?_
  refine congrArg (· * Ideal.ofBits .f32 0x3DB504F3#32) (turn_congr (fun d => ?_) (fun f => angle_apply A.cos b h _ f) (fun f => angle_apply A.sin b h _ f) d)
  refine (heads_apply _ b h _ d).trans ((affine_apply P A.ws A.bias b _ _).trans ?_)
  rw [e]
  rfl
/-- their means, -/
theorem ref_mean (j : Fin 32) (d : Fin 128) : k0_pay9 (F := Ideal) (Value.pr A) (k0_pay7 A.ws) A.bias A.cos A.sin (ix4 b h j d) = mean A b h j d := by
  have e := ref_query A b h j
  unfold k0_pay9
  generalize k0_pay8 (F := Ideal) (Value.pr A) (k0_pay7 A.ws) A.bias A.cos A.sin = g at e
  refine (mean_apply _ b h j d).trans ?_
  simp only [e]
  rfl
/-- the queries less their means, by block, -/
theorem ref_diff (j : Fin 128) (x : Fin 32) (d : Fin 128) :
    k0_pay10 (F := Ideal) (Value.pr A) (k0_pay7 A.ws) A.bias A.cos A.sin (ix5 b h j x d) = diff A b h (at32 j x) d := by
  have e := ref_query A b h
  have e' := ref_mean A b h
  unfold k0_pay10
  generalize k0_pay8 (F := Ideal) (Value.pr A) (k0_pay7 A.ws) A.bias A.cos A.sin = g at e
  generalize k0_pay9 (F := Ideal) (Value.pr A) (k0_pay7 A.ws) A.bias A.cos A.sin = M at e'
  refine (diff_apply _ _ b h j x d).trans ?_
  rw [e, e', diff]
  have e1 : at128 ⟨j.val / 4, by omega⟩ ⟨j.val % 4 * 32 + x.val, by omega⟩ = at32 j x :=
    Fin.ext (by show j.val / 4 * 128 + (j.val % 4 * 32 + x.val) = j.val * 32 + x.val; omega)
  have e2 : (⟨j.val / 4, by omega⟩ : Fin 32) = of128 (at32 j x) :=
    Fin.ext (by show j.val / 4 = (j.val * 32 + x.val) / 128; omega)
  rw [e1, e2]
/-- the blocks' scales, -/
theorem ref_qscale (j : Fin 128) : Value.G11 A (ix3 b h j) = qscale A b h j := by
  have e := ref_diff A b h j
  unfold Value.G11 k0_pay1 k0_pay12 k0_pay13 k0_pay11
  generalize k0_pay10 (F := Ideal) (Value.pr A) (k0_pay7 A.ws) A.bias A.cos A.sin = g at e
  refine (scale8_apply _ b h j).trans ?_
  rw [block_top]
  unfold qscale
  simp only [← e]
/-- and the queries' codes. -/
theorem ref_qcode (s : Fin 4096) (d : Fin 128) : Value.G10 A (ix4 b h s d) = qcode A b h s d := by
  have hs := s.isLt
  have e := ref_diff A b h
  have e2 := ref_qscale A b h
  have e' : at32 (of32 s) ⟨s.val % 32, by omega⟩ = s := Fin.ext (by show s.val / 32 * 32 + s.val % 32 = s.val; omega)
  unfold Value.G10 k0_pay2
  unfold Value.G11 at e2
  generalize k0_pay10 (F := Ideal) (Value.pr A) (k0_pay7 A.ws) A.bias A.cos A.sin = g at e
  generalize k0_pay1 (F := Ideal) (k0_pay12 (Value.pr A) (k0_pay7 A.ws) A.bias A.cos A.sin) (k0_pay13 (Value.pr A) (k0_pay7 A.ws) A.bias A.cos A.sin) = w at e2
  refine (code8_apply _ _ b h s d).trans ?_
  rw [e, e2]
  unfold qcode
  rw [← of32, e']

/-- The reference's five results. -/
theorem ref_codesArr : Value.G7 A = codesArr A := by
  funext y
  obtain ⟨b, s, k, rfl⟩ : ∃ (b : Fin 4) (s : Fin 4096) (k : Fin 3584), y = ix3 b s k := ⟨y 0, y 1, y 2, eq_ix3 y⟩
  exact ref_code A b s k
theorem ref_scalesArr : Value.G8 A = scalesArr A := by
  funext y
  obtain ⟨b, s, rfl⟩ : ∃ (b : Fin 4) (s : Fin 4096), y = ix2 b s := ⟨y 0, y 1, eq_ix2 y⟩
  exact ref_scale A b s
theorem ref_meanArr : Value.G9 A = meanArr A := by
  funext y
  obtain ⟨b, h, j, d, rfl⟩ : ∃ (b : Fin 4) (h : Fin 14) (j : Fin 32) (d : Fin 128), y = ix4 b h j d := ⟨y 0, y 1, y 2, y 3, eq_ix4 y⟩
  exact ref_mean A b h j d
theorem ref_qcodesArr : Value.G10 A = qcodesArr A := by
  funext y
  obtain ⟨b, h, s, d, rfl⟩ : ∃ (b : Fin 4) (h : Fin 14) (s : Fin 4096) (d : Fin 128), y = ix4 b h s d := ⟨y 0, y 1, y 2, y 3, eq_ix4 y⟩
  exact ref_qcode A b h s d
theorem ref_qscalesArr : Value.G11 A = qscalesArr A := by
  funext y
  obtain ⟨b, h, j, rfl⟩ : ∃ (b : Fin 4) (h : Fin 14) (j : Fin 128), y = ix3 b h j := ⟨y 0, y 1, y 2, eq_ix3 y⟩
  exact ref_qscale A b h j

open Idealize.ShloMosaic.TcCoe Idealize.SL.Sem in
/-- The kernel and the reference compute the same extended reals. -/
theorem algebraic : Cert.algebraic_QkvIdeal_QkvRefIdeal := by
  intro m ρ m' ρ' _ hagree
  refine ⟨_, _, _, _, _, run m ρ, ?_⟩
  have ha (c : Dev Cert.QkvIdeal.nD) : Value.args m' c = args m c := by
    obtain ⟨e0, e1, e2, e3, e4, e5, e6, e7⟩ := hagree c
    unfold Value.args args
    rw [e0, e1, e2, e3, e4, e5, e6, e7]
  refine (θ_run Cert.QkvRefIdeal.defs _ _).mono (fun _ h c => ⟨(h c).1.trans ?_, (h c).2.1.trans ?_, (h c).2.2.1.trans ?_, (h c).2.2.2.1.trans ?_,
    (h c).2.2.2.2.1.trans ?_, (h c).2.2.2.2.2⟩) (Value.run m' ρ')
  · rw [ha c]
    exact ref_codesArr (args m c)
  · rw [ha c]
    exact ref_scalesArr (args m c)
  · rw [ha c]
    exact ref_meanArr (args m c)
  · rw [ha c]
    exact ref_qcodesArr (args m c)
  · rw [ha c]
    exact ref_qscalesArr (args m c)

end Cert.Proof.Qkv

end
-- ==== Proof.lean ====
/- The proof of the claim. Every conjunct is one theorem of a module under `Proof/`. -/
module

public import proofs.«01_k».proof.Defs
public import proofs.«01_k».proof.Proof.OProjFrame
public import proofs.«01_k».proof.Proof.OProjIdealFrame
public import proofs.«01_k».proof.Proof.Gen.OProjRefIdeal.Value
public import proofs.«01_k».proof.Proof.OProjRef
public import proofs.«01_k».proof.Proof.GateUpFrame
public import proofs.«01_k».proof.Proof.GateUpIdealFrame
public import proofs.«01_k».proof.Proof.Gen.GateUpRefIdeal.Value
public import proofs.«01_k».proof.Proof.GateUpRef
public import proofs.«01_k».proof.Proof.Gen.Down.Frame
public import proofs.«01_k».proof.Proof.Gen.DownIdeal.Value
public import proofs.«01_k».proof.Proof.Gen.DownRefIdeal.Value
public import proofs.«01_k».proof.Proof.DownRef
public import proofs.«01_k».proof.Proof.KvCodesFrame
public import proofs.«01_k».proof.Proof.KvCodesIdealFrame
public import proofs.«01_k».proof.Proof.Gen.KvCodesRefIdeal.Frame
public import proofs.«01_k».proof.Proof.KvCodesRef
public import proofs.«01_k».proof.Proof.QkvFrame
public import proofs.«01_k».proof.Proof.QkvIdealFrame
public import proofs.«01_k».proof.Proof.Gen.QkvRefIdeal.Frame
public import proofs.«01_k».proof.Proof.QkvRef

@[expose] public section

noncomputable section

namespace Cert.Proof

open Idealize.ShloMosaic Idealize.SL.Sem

theorem claim : Cert.Claim := ⟨Cert.OProj.Gen.facts, Cert.OProjIdeal.Gen.facts, Cert.OProjRefIdeal.Gen.facts,
  Cert.GateUp.Gen.facts, Cert.GateUpIdeal.Gen.facts, Cert.GateUpRefIdeal.Gen.facts,
  Cert.Down.Gen.facts, Cert.DownIdeal.Gen.facts, Cert.DownRefIdeal.Gen.facts,
  Cert.KvCodes.Gen.facts, Cert.KvCodesIdeal.Gen.facts, Cert.KvCodesRefIdeal.Gen.facts,
  Cert.Qkv.Gen.facts, Cert.QkvIdeal.Gen.facts, Cert.QkvRefIdeal.Gen.facts,
  fun m ρ _ => Cert.OProj.Hand.frame m ρ,
  fun m ρ _ => Cert.OProjIdeal.Hand.frame m ρ,
  fun m ρ _ => Cert.OProjRefIdeal.Gen.frame m ρ,
  fun m ρ _ => Cert.GateUp.Hand.frame m ρ,
  fun m ρ _ => Cert.GateUpIdeal.Hand.frame m ρ,
  fun m ρ _ => Cert.GateUpRefIdeal.Gen.frame m ρ,
  fun m ρ _ => Cert.Down.Gen.frame m ρ,
  fun m ρ _ => Cert.DownIdeal.Gen.frame m ρ,
  fun m ρ _ => Cert.DownRefIdeal.Gen.frame m ρ,
  fun m ρ _ => Cert.KvCodes.Hand.frame m ρ,
  fun m ρ _ => Cert.KvCodesIdeal.Hand.frame m ρ,
  fun m ρ _ => Cert.KvCodesRefIdeal.Gen.frame m ρ,
  fun m ρ _ => Cert.Qkv.Hand.frame m ρ,
  fun m ρ _ => Cert.QkvIdeal.Hand.frame m ρ,
  fun m ρ _ => Cert.QkvRefIdeal.Gen.frame m ρ,
  trivial, OProj.algebraic, trivial, GateUp.algebraic, trivial, Down.algebraic, trivial, KvCodes.algebraic, trivial, Qkv.algebraic⟩

end Cert.Proof

end
